-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_v233) = v1 c
          ∧ r.2.mem ((c.tc : Thread Cert.ReferenceIdeal.nD Cert.ReferenceIdeal.τ).loc Cert.ReferenceIdeal.main_v235) = v2 c
          ∧ r.2.mem ((c.tc : Thread Cert.ReferenceIdeal.nD Cert.ReferenceIdeal.τ).loc Cert.ReferenceIdeal.main_v237) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v35) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v32) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel6 : Cert.Kernel6.Facts) (hKernel6Ideal : Cert.Kernel6Ideal.Facts) (hReference6Ideal : Cert.Reference6Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel6_Kernel6Ideal
    ∧ algebraic_Kernel6Ideal_Reference6Ideal (hKernel6Ideal := hKernel6Ideal) (hReference6Ideal := hReference6Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4x4096x16x128 : Shape := ⟨4, ![4, 4096, 16, 128]⟩
abbrev S4x4096x2x16 : Shape := ⟨4, ![4, 4096, 2, 16]⟩
abbrev S4x16x128x128 : Shape := ⟨4, ![4, 16, 128, 128]⟩
abbrev S_ : Shape := ⟨0, ![]⟩

class Facts : Prop where
  bitsLt_bf16_f32 : FTy.bits .bf16 < FTy.bits .f32
  bcast_S_S4x4096x16x128 : S_.BroadcastsInDim S4x4096x16x128 (![] : Fin 0 → Fin S4x4096x16x128.rank)
  reducesTo_S4x4096x16x128_S_d0_1_2_3 : S4x4096x16x128.ReducesTo [0, 1, 2, 3] S_
  h_S_ : 0 < S_.numel
  bcast_S_S4x4096x2x16 : S_.BroadcastsInDim S4x4096x2x16 (![] : Fin 0 → Fin S4x4096x2x16.rank)
  reducesTo_S4x4096x2x16_S_d0_1_2_3 : S4x4096x2x16.ReducesTo [0, 1, 2, 3] S_
  bcast_S_S4x16x128x128 : S_.BroadcastsInDim S4x16x128x128 (![] : Fin 0 → Fin S4x16x128x128.rank)
  reducesTo_S4x16x128x128_S_d0_1_2_3 : S4x16x128x128.ReducesTo [0, 1, 2, 3] S_

variable [Facts]

def fn_part2 {F : FTy → Type} [FloatOps F] (main_v31 : IVec S_ 1) (main_v34 : IVec S4x16x128x128 1) : IVec S_ 1 :=
  let main_c_11 : IVec S_ 1 := constantI S_ 1 1#1
  let main_v35 : IVec S_ 1 := (fun x v => Host.reduce IntOp.andi x v reducesTo_S4x16x128x128_S_d0_1_2_3 h_S_) main_v34 main_c_11
  let main_v36 : IVec S_ 1 := andi main_v31 main_v35
  main_v36

def fn_part1 {F : FTy → Type} [FloatOps F] (main_arg4 : FVec F S4x4096x2x16 .f32) (main_arg5 : FVec F S4x16x128x128 .f32) (main_arg6 : FVec F S4x16x128x128 .f32) (main_v16 : IVec S_ 1) (main_v17 : FVec F S4x4096x2x16 .f32) : IVec S_ 1 :=
  let main_cst_4 : FVec F S_ .f32 := constant S_ .f32 0x7F800000#32
  let main_v18 : FVec F S4x4096x2x16 .f32 := broadcastInDim S4x4096x2x16 ![] bcast_S_S4x4096x2x16 main_cst_4
  let main_v19 : IVec S4x4096x2x16 1 := cmpf .olt main_v17 main_v18
  let main_c_5 : IVec S_ 1 := constantI S_ 1 1#1
  let main_v20 : IVec S_ 1 := (fun x v => Host.reduce IntOp.andi x v reducesTo_S4x4096x2x16_S_d0_1_2_3 h_S_) main_v19 main_c_5
  let main_v21 : IVec S_ 1 := andi main_v16 main_v20
  let main_v22 : FVec F S4x4096x2x16 .f32 := Host.absf main_arg4
  let main_cst_6 : FVec F S_ .f32 := constant S_ .f32 0x7F800000#32
  let main_v23 : FVec F S4x4096x2x16 .f32 := broadcastInDim S4x4096x2x16 ![] bcast_S_S4x4096x2x16 main_cst_6
  let main_v24 : IVec S4x4096x2x16 1 := cmpf .olt main_v22 main_v23
  let main_c_7 : IVec S_ 1 := constantI S_ 1 1#1
  let main_v25 : IVec S_ 1 := (fun x v => Host.reduce IntOp.andi x v reducesTo_S4x4096x2x16_S_d0_1_2_3 h_S_) main_v24 main_c_7
  let main_v26 : IVec S_ 1 := andi main_v21 main_v25
  let main_v27 : FVec F S4x16x128x128 .f32 := Host.absf main_arg5
  let main_cst_8 : FVec F S_ .f32 := constant S_ .f32 0x7F800000#32
  let main_v28 : FVec F S4x16x128x128 .f32 := broadcastInDim S4x16x128x128 ![] bcast_S_S4x16x128x128 main_cst_8
  let main_v29 : IVec S4x16x128x128 1 := cmpf .olt main_v27 main_v28
  let main_c_9 : IVec S_ 1 := constantI S_ 1 1#1
  let main_v30 : IVec S_ 1 := (fun x v => Host.reduce IntOp.andi x v reducesTo_S4x16x128x128_S_d0_1_2_3 h_S_) main_v29 main_c_9
  let main_v31 : IVec S_ 1 := andi main_v26 main_v30
  let main_v32 : FVec F S4x16x128x128 .f32 := Host.absf main_arg6
  let main_cst_10 : FVec F S_ .f32 := constant S_ .f32 0x7F800000#32
  let main_v33 : FVec F S4x16x128x128 .f32 := broadcastInDim S4x16x128x128 ![] bcast_S_S4x16x128x128 main_cst_10
  let main_v34 : IVec S4x16x128x128 1 := cmpf .olt main_v32 main_v33
  fn_part2 (F := F) main_v31 main_v34

def fn {F : FTy → Type} [FloatOps F] (main_arg0 : FVec F S4x4096x16x128 .bf16) (main_arg1 : FVec F S4x4096x16x128 .bf16) (main_arg2 : FVec F S4x4096x16x128 .bf16) (main_arg3 : FVec F S4x4096x2x16 .f32) (main_arg4 : FVec F S4x4096x2x16 .f32) (main_arg5 : FVec F S4x16x128x128 .f32) (main_arg6 : FVec F S4x16x128x128 .f32) : IVec S_ 1 :=
  let main_v0 : FVec F S4x4096x16x128 .f32 := (extf .f32 · bitsLt_bf16_f32) main_arg0
  let main_v1 : FVec F S4x4096x16x128 .f32 := Host.absf main_v0
  let main_cst : FVec F S_ .f32 := constant S_ .f32 0x7F800000#32
  let main_v2 : FVec F S4x4096x16x128 .f32 := broadcastInDim S4x4096x16x128 ![] bcast_S_S4x4096x16x128 main_cst
  let main_v3 : IVec S4x4096x16x128 1 := cmpf .olt main_v1 main_v2
  let main_c : IVec S_ 1 := constantI S_ 1 1#1
  let main_v4 : IVec S_ 1 := (fun x v => Host.reduce IntOp.andi x v reducesTo_S4x4096x16x128_S_d0_1_2_3 h_S_) main_v3 main_c
  let main_v5 : FVec F S4x4096x16x128 .f32 := (extf .f32 · bitsLt_bf16_f32) main_arg1
  let main_v6 : FVec F S4x4096x16x128 .f32 := Host.absf main_v5
  let main_cst_0 : FVec F S_ .f32 := constant S_ .f32 0x7F800000#32
  let main_v7 : FVec F S4x4096x16x128 .f32 := broadcastInDim S4x4096x16x128 ![] bcast_S_S4x4096x16x128 main_cst_0
  let main_v8 : IVec S4x4096x16x128 1 := cmpf .olt main_v6 main_v7
  let main_c_1 : IVec S_ 1 := constantI S_ 1 1#1
  let main_v9 : IVec S_ 1 := (fun x v => Host.reduce IntOp.andi x v reducesTo_S4x4096x16x128_S_d0_1_2_3 h_S_) main_v8 main_c_1
  let main_v10 : IVec S_ 1 := andi main_v4 main_v9
  let main_v11 : FVec F S4x4096x16x128 .f32 := (extf .f32 · bitsLt_bf16_f32) main_arg2
  let main_v12 : FVec F S4x4096x16x128 .f32 := Host.absf main_v11
  let main_cst_2 : FVec F S_ .f32 := constant S_ .f32 0x7F800000#32
  let main_v13 : FVec F S4x4096x16x128 .f32 := broadcastInDim S4x4096x16x128 ![] bcast_S_S4x4096x16x128 main_cst_2
  let main_v14 : IVec S4x4096x16x128 1 := cmpf .olt main_v12 main_v13
  let main_c_3 : IVec S_ 1 := constantI S_ 1 1#1
  let main_v15 : IVec S_ 1 := (fun x v => Host.reduce IntOp.andi x v reducesTo_S4x4096x16x128_S_d0_1_2_3 h_S_) main_v14 main_c_3
  let main_v16 : IVec S_ 1 := andi main_v10 main_v15
  let main_v17 : FVec F S4x4096x2x16 .f32 := Host.absf main_arg3
  fn_part1 (F := F) main_arg4 main_arg5 main_arg6 main_v16 main_v17
-- ==== Kernel.lean ====
abbrev S4x4096x16x128 : Shape := ⟨4, ![4, 4096, 16, 128]⟩
abbrev S4x4096x2x16 : Shape := ⟨4, ![4, 4096, 2, 16]⟩
abbrev S4x16x128x128 : Shape := ⟨4, ![4, 16, 128, 128]⟩
abbrev S16384x2048 : Shape := ⟨2, ![16384, 2048]⟩
abbrev S16384x4096 : Shape := ⟨2, ![16384, 4096]⟩
abbrev S16384x32 : Shape := ⟨2, ![16384, 32]⟩
abbrev S16384x64 : Shape := ⟨2, ![16384, 64]⟩
abbrev S_ : Shape := ⟨0, ![]⟩
abbrev S16384x128 : Shape := ⟨2, ![16384, 128]⟩
abbrev S256x64x1x128 : Shape := ⟨4, ![256, 64, 1, 128]⟩
abbrev S256x1x128x64 : Shape := ⟨4, ![256, 1, 128, 64]⟩
abbrev S64x2048 : Shape := ⟨2, ![64, 2048]⟩
abbrev S64x128 : Shape := ⟨2, ![64, 128]⟩
abbrev S1x1x128x64 : Shape := ⟨4, ![1, 1, 128, 64]⟩
abbrev S1x16x128x128 : Shape := ⟨4, ![1, 16, 128, 128]⟩
abbrev S2x16x128x128 : Shape := ⟨4, ![2, 16, 128, 128]⟩
abbrev S16x128x128 : Shape := ⟨3, ![16, 128, 128]⟩
abbrev S128x64 : Shape := ⟨2, ![128, 64]⟩
abbrev S64x64 : Shape := ⟨2, ![64, 64]⟩
abbrev S64x1 : Shape := ⟨2, ![64, 1]⟩
abbrev S1x64 : Shape := ⟨2, ![1, 64]⟩
abbrev S1x1 : Shape := ⟨2, ![1, 1]⟩
abbrev S64x256 : Shape := ⟨2, ![64, 256]⟩
abbrev S128x128 : Shape := ⟨2, ![128, 128]⟩
abbrev S16x64 : Shape := ⟨2, ![16, 64]⟩
abbrev S1x1x128x128 : Shape := ⟨4, ![1, 1, 128, 128]⟩

abbrev nBuf : Space → Nat
  | .hbm => 23
  | .vmem => 33
  | .smem => 0
  | _ => 0

abbrev bufTy : (tb : Table) → Fin (tcTables nBuf tb) → BufTy
  | .hbm, ⟨0, _⟩ => ⟨S4x4096x16x128, .bf16⟩
  | .hbm, ⟨1, _⟩ => ⟨S4x4096x16x128, .bf16⟩
  | .hbm, ⟨2, _⟩ => ⟨S4x4096x16x128, .bf16⟩
  | .hbm, ⟨3, _⟩ => ⟨S4x4096x2x16, .f32⟩
  | .hbm, ⟨4, _⟩ => ⟨S4x4096x2x16, .f32⟩
  | .hbm, ⟨5, _⟩ => ⟨S4x16x128x128, .f32⟩
  | .hbm, ⟨6, _⟩ => ⟨S4x16x128x128, .f32⟩
  | .hbm, ⟨7, _⟩ => ⟨S16384x2048, .bf16⟩
  | .hbm, ⟨8, _⟩ => ⟨S16384x2048, .bf16⟩
  | .hbm, ⟨9, _⟩ => ⟨S16384x4096, .bf16⟩
  | .hbm, ⟨10, _⟩ => ⟨S16384x32, .f32⟩
  | .hbm, ⟨11, _⟩ => ⟨S16384x32, .f32⟩
  | .hbm, ⟨12, _⟩ => ⟨S16384x64, .f32⟩
  | .hbm, ⟨13, _⟩ => ⟨S_, .i32⟩
  | .hbm, ⟨14, _⟩ => ⟨S_, .f32⟩
  | .hbm, ⟨15, _⟩ => ⟨S16384x128, .f32⟩
  | .hbm, ⟨16, _⟩ => ⟨S256x64x1x128, .f32⟩
  | .hbm, ⟨17, _⟩ => ⟨S256x1x128x64, .f32⟩
  | .hbm, ⟨18, _⟩ => ⟨S16384x2048, .bf16⟩
  | .hbm, ⟨19, _⟩ => ⟨S16384x2048, .bf16⟩
  | .hbm, ⟨20, _⟩ => ⟨S16384x2048, .bf16⟩
  | .hbm, ⟨21, _⟩ => ⟨S4x16x128x128, .f32⟩
  | .hbm, ⟨22, _⟩ => ⟨S4x16x128x128, .f32⟩
  | .local _ .vmem, ⟨0, _⟩ => ⟨S64x2048, .bf16⟩
  | .local _ .vmem, ⟨1, _⟩ => ⟨S64x2048, .bf16⟩
  | .local _ .vmem, ⟨2, _⟩ => ⟨S64x2048, .bf16⟩
  | .local _ .vmem, ⟨3, _⟩ => ⟨S64x2048, .bf16⟩
  | .local _ .vmem, ⟨4, _⟩ => ⟨S64x2048, .bf16⟩
  | .local _ .vmem, ⟨5, _⟩ => ⟨S64x2048, .bf16⟩
  | .local _ .vmem, ⟨6, _⟩ => ⟨S64x2048, .bf16⟩
  | .local _ .vmem, ⟨7, _⟩ => ⟨S64x2048, .bf16⟩
  | .local _ .vmem, ⟨8, _⟩ => ⟨S64x2048, .bf16⟩
  | .local _ .vmem, ⟨9, _⟩ => ⟨S64x2048, .bf16⟩
  | .local _ .vmem, ⟨10, _⟩ => ⟨S64x2048, .bf16⟩
  | .local _ .vmem, ⟨11, _⟩ => ⟨S64x2048, .bf16⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S1x1x128x64, .f32⟩
  | .local _ .vmem, ⟨17, _⟩ => ⟨S1x1x128x64, .f32⟩
  | .local _ .vmem, ⟨18, _⟩ => ⟨S1x1x128x64, .f32⟩
  | .local _ .vmem, ⟨19, _⟩ => ⟨S1x1x128x64, .f32⟩
  | .local _ .vmem, ⟨20, _⟩ => ⟨S1x16x128x128, .f32⟩
  | .local _ .vmem, ⟨21, _⟩ => ⟨S1x16x128x128, .f32⟩
  | .local _ .vmem, ⟨22, _⟩ => ⟨S1x16x128x128, .f32⟩
  | .local _ .vmem, ⟨23, _⟩ => ⟨S1x16x128x128, .f32⟩
  | .local _ .vmem, ⟨24, _⟩ => ⟨S64x2048, .bf16⟩
  | .local _ .vmem, ⟨25, _⟩ => ⟨S64x2048, .bf16⟩
  | .local _ .vmem, ⟨26, _⟩ => ⟨S64x2048, .bf16⟩
  | .local _ .vmem, ⟨27, _⟩ => ⟨S64x2048, .bf16⟩
  | .local _ .vmem, ⟨28, _⟩ => ⟨S1x16x128x128, .f32⟩
  | .local _ .vmem, ⟨29, _⟩ => ⟨S1x16x128x128, .f32⟩
  | .local _ .vmem, ⟨30, _⟩ => ⟨S1x16x128x128, .f32⟩
  | .local _ .vmem, ⟨31, _⟩ => ⟨S1x16x128x128, .f32⟩
  | .local _ .vmem, ⟨32, _⟩ => ⟨S2x16x128x128, .f32⟩
  | _, _ => ⟨S4x4096x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 1, 64], ![false, false, false]⟩

def k0_cond2 (i : grid0.Coords) : BitVec 1 :=
  let arg2 : BitVec 32 := BitVec.ofNat 32 (i 2).val
  let c63_i32 : BitVec 32 := 63#32
  let v5300 : BitVec 1 := Scalar.cmpi .eq arg2 c63_i32
  let v5301 : BitVec 32 := Scalar.extui v5300
  let c0_i32_1771 : BitVec 32 := 0#32
  let v5302 : BitVec 1 := Scalar.cmpi .ne v5301 c0_i32_1771
  v5302

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg2
  let c0_i32 : BitVec 32 := 0#32
  let v4 : BitVec 32 := Scalar.addi c0_i32 arg1
  let c0_i32_1 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg2
  let c1_i32_1 : BitVec 32 := 1#32
  let v4 : BitVec 32 := Scalar.addi c1_i32_1 arg1
  let c0_i32 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg2
  let c0_i32 : BitVec 32 := 0#32
  let v4 : BitVec 32 := Scalar.addi c0_i32 arg1
  let c0_i32_1 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg2
  let c0_i32 : BitVec 32 := 0#32
  let v4 : BitVec 32 := Scalar.addi c0_i32 arg1
  let c0_i32_1 : BitVec 32 := 0#32
  ![v3.toNat, v4.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg2
  let c0_i32 : BitVec 32 := 0#32
  let c0_i32_1 : BitVec 32 := 0#32
  let c0_i32_2 : BitVec 32 := 0#32
  ![v3.toNat, arg1.toNat, c0_i32.toNat, c0_i32_1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg2
  let c0_i32 : BitVec 32 := 0#32
  let v4 : BitVec 32 := Scalar.addi c0_i32 arg1
  let c0_i32_1 : BitVec 32 := 0#32
  ![v3.toNat, v4.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x16x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x16x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x16x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1x16x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]
-- ==== ReferenceIdeal.lean ====
abbrev S4x4096x16x128 : Shape := ⟨4, ![4, 4096, 16, 128]⟩
abbrev S4x4096x2x16 : Shape := ⟨4, ![4, 4096, 2, 16]⟩
abbrev S4x16x128x128 : Shape := ⟨4, ![4, 16, 128, 128]⟩
abbrev S1x4x4096x16x128 : Shape := ⟨5, ![1, 4, 4096, 16, 128]⟩
abbrev S2x4x4096x16x128 : Shape := ⟨5, ![2, 4, 4096, 16, 128]⟩
abbrev S2x4x64x64x16x128 : Shape := ⟨6, ![2, 4, 64, 64, 16, 128]⟩
abbrev S2x4x16x64x64x128 : Shape := ⟨6, ![2, 4, 16, 64, 64, 128]⟩
abbrev S4x4096x1x16 : Shape := ⟨4, ![4, 4096, 1, 16]⟩
abbrev S4x4096x16 : Shape := ⟨3, ![4, 4096, 16]⟩
abbrev S1x4x4096x16 : Shape := ⟨4, ![1, 4, 4096, 16]⟩
abbrev S2x4x4096x16 : Shape := ⟨4, ![2, 4, 4096, 16]⟩
abbrev S2x4x64x64x16 : Shape := ⟨5, ![2, 4, 64, 64, 16]⟩
abbrev S2x4x16x64x64 : Shape := ⟨5, ![2, 4, 16, 64, 64]⟩
abbrev S_ : Shape := ⟨0, ![]⟩
abbrev S64x64 : Shape := ⟨2, ![64, 64]⟩
abbrev S2x4x16x64x64x1 : Shape := ⟨6, ![2, 4, 16, 64, 64, 1]⟩
abbrev S2x4x16x64x1x64 : Shape := ⟨6, ![2, 4, 16, 64, 1, 64]⟩
abbrev S2x4x16x64x64x64 : Shape := ⟨6, ![2, 4, 16, 64, 64, 64]⟩
abbrev S2x4x16x64x64x256 : Shape := ⟨6, ![2, 4, 16, 64, 64, 256]⟩
abbrev S2x4x16x64x1 : Shape := ⟨5, ![2, 4, 16, 64, 1]⟩
abbrev S2x4x16x64 : Shape := ⟨4, ![2, 4, 16, 64]⟩
abbrev S64x2x4x16x64x128 : Shape := ⟨6, ![64, 2, 4, 16, 64, 128]⟩
abbrev S64x2x4x16x64x64 : Shape := ⟨6, ![64, 2, 4, 16, 64, 64]⟩
abbrev S64x2x4x16 : Shape := ⟨4, ![64, 2, 4, 16]⟩
abbrev S1x4x16x128x128 : Shape := ⟨5, ![1, 4, 16, 128, 128]⟩
abbrev S2x4x16x128x128 : Shape := ⟨5, ![2, 4, 16, 128, 128]⟩
abbrev S1x2x4x16x64x128 : Shape := ⟨6, ![1, 2, 4, 16, 64, 128]⟩
abbrev S2x4x16x64x128 : Shape := ⟨5, ![2, 4, 16, 64, 128]⟩
abbrev S1x2x4x16x64x64 : Shape := ⟨6, ![1, 2, 4, 16, 64, 64]⟩
abbrev S1x2x4x16 : Shape := ⟨4, ![1, 2, 4, 16]⟩
abbrev S2x4x16 : Shape := ⟨3, ![2, 4, 16]⟩
abbrev S2x4x16x1x1 : Shape := ⟨5, ![2, 4, 16, 1, 1]⟩
abbrev S2x4x4096x2048 : Shape := ⟨4, ![2, 4, 4096, 2048]⟩
abbrev S1x4x4096x2048 : Shape := ⟨4, ![1, 4, 4096, 2048]⟩
abbrev S4x4096x2048 : Shape := ⟨3, ![4, 4096, 2048]⟩
abbrev S16384x2048 : Shape := ⟨2, ![16384, 2048]⟩

abbrev nBuf : Space → Nat
  | .hbm => 330
  | .vmem => 0
  | .smem => 0
  | _ => 0

abbrev hbmTy0_0 (i : Nat) : BufTy := match i % 128 with
  | 0 => ⟨S4x4096x16x128, .bf16⟩
  | 1 => ⟨S4x4096x16x128, .bf16⟩
  | 2 => ⟨S4x4096x16x128, .bf16⟩
  | 3 => ⟨S4x4096x2x16, .f32⟩
  | 4 => ⟨S4x4096x2x16, .f32⟩
  | 5 => ⟨S4x16x128x128, .f32⟩
  | 6 => ⟨S4x16x128x128, .f32⟩
  | 7 => ⟨S4x4096x16x128, .bf16⟩
  | 8 => ⟨S1x4x4096x16x128, .bf16⟩
  | 9 => ⟨S1x4x4096x16x128, .bf16⟩
  | 10 => ⟨S2x4x4096x16x128, .bf16⟩
  | 11 => ⟨S2x4x4096x16x128, .f32⟩
  | 12 => ⟨S2x4x64x64x16x128, .f32⟩
  | 13 => ⟨S2x4x16x64x64x128, .f32⟩
  | 14 => ⟨S4x4096x16x128, .bf16⟩
  | 15 => ⟨S1x4x4096x16x128, .bf16⟩
  | 16 => ⟨S1x4x4096x16x128, .bf16⟩
  | 17 => ⟨S2x4x4096x16x128, .bf16⟩
  | 18 => ⟨S2x4x4096x16x128, .f32⟩
  | 19 => ⟨S2x4x64x64x16x128, .f32⟩
  | 20 => ⟨S2x4x16x64x64x128, .f32⟩
  | 21 => ⟨S4x4096x16x128, .bf16⟩
  | 22 => ⟨S1x4x4096x16x128, .bf16⟩
  | 23 => ⟨S1x4x4096x16x128, .bf16⟩
  | 24 => ⟨S2x4x4096x16x128, .bf16⟩
  | 25 => ⟨S2x4x4096x16x128, .f32⟩
  | 26 => ⟨S2x4x64x64x16x128, .f32⟩
  | 27 => ⟨S2x4x16x64x64x128, .f32⟩
  | 28 => ⟨S4x4096x1x16, .f32⟩
  | 29 => ⟨S4x4096x16, .f32⟩
  | 30 => ⟨S4x4096x1x16, .f32⟩
  | 31 => ⟨S4x4096x16, .f32⟩
  | 32 => ⟨S4x4096x16, .f32⟩
  | 33 => ⟨S1x4x4096x16, .f32⟩
  | 34 => ⟨S1x4x4096x16, .f32⟩
  | 35 => ⟨S2x4x4096x16, .f32⟩
  | 36 => ⟨S2x4x64x64x16, .f32⟩
  | 37 => ⟨S2x4x16x64x64, .f32⟩
  | 38 => ⟨S4x4096x1x16, .f32⟩
  | 39 => ⟨S4x4096x16, .f32⟩
  | 40 => ⟨S4x4096x1x16, .f32⟩
  | 41 => ⟨S4x4096x16, .f32⟩
  | 42 => ⟨S4x4096x16, .f32⟩
  | 43 => ⟨S1x4x4096x16, .f32⟩
  | 44 => ⟨S1x4x4096x16, .f32⟩
  | 45 => ⟨S2x4x4096x16, .f32⟩
  | 46 => ⟨S2x4x64x64x16, .f32⟩
  | 47 => ⟨S2x4x16x64x64, .f32⟩
  | 48 => ⟨S_, .f32⟩
  | 49 => ⟨S2x4x16x64x64x128, .f32⟩
  | 50 => ⟨S2x4x16x64x64x128, .f32⟩
  | 51 => ⟨S64x64, .i32⟩
  | 52 => ⟨S64x64, .i32⟩
  | 53 => ⟨S64x64, .i1⟩
  | 54 => ⟨S64x64, .i1⟩
  | 55 => ⟨S2x4x16x64x64x1, .f32⟩
  | 56 => ⟨S2x4x16x64x1x64, .f32⟩
  | 57 => ⟨S2x4x16x64x64x64, .f32⟩
  | 58 => ⟨S2x4x16x64x64x64, .f32⟩
  | 59 => ⟨S2x4x16x64x64x64, .f32⟩
  | 60 => ⟨S_, .f32⟩
  | 61 => ⟨S_, .f32⟩
  | 62 => ⟨S2x4x16x64x64x64, .i1⟩
  | 63 => ⟨S2x4x16x64x64x64, .f32⟩
  | 64 => ⟨S2x4x16x64x64x64, .f32⟩
  | 65 => ⟨S2x4x16x64x64x64, .f32⟩
  | 66 => ⟨S2x4x16x64x64x1, .f32⟩
  | 67 => ⟨S2x4x16x64x64x128, .f32⟩
  | 68 => ⟨S2x4x16x64x64x128, .f32⟩
  | 69 => ⟨S2x4x16x64x64x64, .f32⟩
  | 70 => ⟨S2x4x16x64x64x64, .f32⟩
  | 71 => ⟨S_, .f32⟩
  | 72 => ⟨S_, .f32⟩
  | 73 => ⟨S2x4x16x64x64x64, .i1⟩
  | 74 => ⟨S2x4x16x64x64x64, .f32⟩
  | 75 => ⟨S2x4x16x64x64x64, .f32⟩
  | 76 => ⟨S2x4x16x64x64x1, .f32⟩
  | 77 => ⟨S2x4x16x64x64x128, .f32⟩
  | 78 => ⟨S2x4x16x64x64x128, .f32⟩
  | 79 => ⟨S2x4x16x64x64, .f32⟩
  | 80 => ⟨S2x4x16x64x64x1, .f32⟩
  | 81 => ⟨S2x4x16x64x64x128, .f32⟩
  | 82 => ⟨S2x4x16x64x64x128, .f32⟩
  | 83 => ⟨S2x4x16x64x64x256, .f32⟩
  | 84 => ⟨S2x4x16x64x64x256, .f32⟩
  | 85 => ⟨S2x4x16x64x64x256, .f32⟩
  | 86 => ⟨S2x4x16x64x64x256, .f32⟩
  | 87 => ⟨S2x4x16x64x64x256, .f32⟩
  | 88 => ⟨S2x4x16x64x64x256, .f32⟩
  | 89 => ⟨S2x4x16x64x64x256, .f32⟩
  | 90 => ⟨S2x4x16x64x64x256, .f32⟩
  | 91 => ⟨S2x4x16x64x64x256, .f32⟩
  | 92 => ⟨S2x4x16x64x64x256, .f32⟩
  | 93 => ⟨S2x4x16x64x64x256, .f32⟩
  | 94 => ⟨S2x4x16x64x64x256, .f32⟩
  | 95 => ⟨S2x4x16x64x64x256, .f32⟩
  | 96 => ⟨S2x4x16x64x64x256, .f32⟩
  | 97 => ⟨S2x4x16x64x64x256, .f32⟩
  | 98 => ⟨S2x4x16x64x64x256, .f32⟩
  | 99 => ⟨S2x4x16x64x64x256, .f32⟩
  | 100 => ⟨S2x4x16x64x64x256, .f32⟩
  | 101 => ⟨S2x4x16x64x64x256, .f32⟩
  | 102 => ⟨S2x4x16x64x64x256, .f32⟩
  | 103 => ⟨S2x4x16x64x64x256, .f32⟩
  | 104 => ⟨S2x4x16x64x64x256, .f32⟩
  | 105 => ⟨S2x4x16x64x64x256, .f32⟩
  | 106 => ⟨S2x4x16x64x64x256, .f32⟩
  | 107 => ⟨S2x4x16x64x64x256, .f32⟩
  | 108 => ⟨S2x4x16x64x64x256, .f32⟩
  | 109 => ⟨S2x4x16x64x64x256, .f32⟩
  | 110 => ⟨S2x4x16x64x64x256, .f32⟩
  | 111 => ⟨S2x4x16x64x64x256, .f32⟩
  | 112 => ⟨S2x4x16x64x64x256, .f32⟩
  | 113 => ⟨S2x4x16x64x64x256, .f32⟩
  | 114 => ⟨S2x4x16x64x64x256, .f32⟩
  | 115 => ⟨S2x4x16x64x64x256, .f32⟩
  | 116 => ⟨S2x4x16x64x64x256, .f32⟩
  | 117 => ⟨S2x4x16x64x64x256, .f32⟩
  | 118 => ⟨S2x4x16x64x64x256, .f32⟩
  | 119 => ⟨S2x4x16x64x64x256, .f32⟩
  | 120 => ⟨S2x4x16x64x64x256, .f32⟩
  | 121 => ⟨S2x4x16x64x64x256, .f32⟩
  | 122 => ⟨S2x4x16x64x64x256, .f32⟩
  | 123 => ⟨S2x4x16x64x64x256, .f32⟩
  | 124 => ⟨S2x4x16x64x64x256, .f32⟩
  | 125 => ⟨S2x4x16x64x64x256, .f32⟩
  | 126 => ⟨S2x4x16x64x64x256, .f32⟩
  | 127 => ⟨S2x4x16x64x64x256, .f32⟩
  | _ => ⟨S4x4096x16x128, .bf16⟩

abbrev hbmTy0_1 (i : Nat) : BufTy := match i % 128 with
  | 0 => ⟨S2x4x16x64x64x256, .f32⟩
  | 1 => ⟨S2x4x16x64x64x256, .f32⟩
  | 2 => ⟨S2x4x16x64x64x256, .f32⟩
  | 3 => ⟨S2x4x16x64x64x256, .f32⟩
  | 4 => ⟨S2x4x16x64x64x256, .f32⟩
  | 5 => ⟨S2x4x16x64x64x256, .f32⟩
  | 6 => ⟨S2x4x16x64x64x256, .f32⟩
  | 7 => ⟨S2x4x16x64x64x256, .f32⟩
  | 8 => ⟨S2x4x16x64x64x256, .f32⟩
  | 9 => ⟨S2x4x16x64x64x256, .f32⟩
  | 10 => ⟨S2x4x16x64x64x256, .f32⟩
  | 11 => ⟨S2x4x16x64x64x256, .f32⟩
  | 12 => ⟨S2x4x16x64x64x256, .f32⟩
  | 13 => ⟨S2x4x16x64x64x256, .f32⟩
  | 14 => ⟨S2x4x16x64x64x256, .f32⟩
  | 15 => ⟨S2x4x16x64x64x256, .f32⟩
  | 16 => ⟨S2x4x16x64x64x256, .f32⟩
  | 17 => ⟨S2x4x16x64x64x256, .f32⟩
  | 18 => ⟨S2x4x16x64x64x256, .f32⟩
  | 19 => ⟨S2x4x16x64x64x256, .f32⟩
  | 20 => ⟨S2x4x16x64x64x256, .f32⟩
  | 21 => ⟨S2x4x16x64x64x256, .f32⟩
  | 22 => ⟨S2x4x16x64x64x256, .f32⟩
  | 23 => ⟨S2x4x16x64x64x256, .f32⟩
  | 24 => ⟨S2x4x16x64x64x256, .f32⟩
  | 25 => ⟨S2x4x16x64x64x256, .f32⟩
  | 26 => ⟨S2x4x16x64x64x256, .f32⟩
  | 27 => ⟨S2x4x16x64x64x256, .f32⟩
  | 28 => ⟨S2x4x16x64x64x256, .f32⟩
  | 29 => ⟨S2x4x16x64x64x256, .f32⟩
  | 30 => ⟨S2x4x16x64x64x256, .f32⟩
  | 31 => ⟨S2x4x16x64x64x256, .f32⟩
  | 32 => ⟨S2x4x16x64x64x256, .f32⟩
  | 33 => ⟨S2x4x16x64x64x256, .f32⟩
  | 34 => ⟨S2x4x16x64x64x256, .f32⟩
  | 35 => ⟨S2x4x16x64x64x256, .f32⟩
  | 36 => ⟨S2x4x16x64x64x256, .f32⟩
  | 37 => ⟨S2x4x16x64x64x256, .f32⟩
  | 38 => ⟨S2x4x16x64x64x256, .f32⟩
  | 39 => ⟨S2x4x16x64x64x256, .f32⟩
  | 40 => ⟨S2x4x16x64x64x256, .f32⟩
  | 41 => ⟨S2x4x16x64x64x256, .f32⟩
  | 42 => ⟨S2x4x16x64x64x256, .f32⟩
  | 43 => ⟨S2x4x16x64x64x256, .f32⟩
  | 44 => ⟨S2x4x16x64x64x256, .f32⟩
  | 45 => ⟨S2x4x16x64x64x256, .f32⟩
  | 46 => ⟨S2x4x16x64x64x256, .f32⟩
  | 47 => ⟨S2x4x16x64x64x256, .f32⟩
  | 48 => ⟨S2x4x16x64x64x256, .f32⟩
  | 49 => ⟨S2x4x16x64x64x256, .f32⟩
  | 50 => ⟨S2x4x16x64x64x256, .f32⟩
  | 51 => ⟨S2x4x16x64x64x256, .f32⟩
  | 52 => ⟨S2x4x16x64x64x256, .f32⟩
  | 53 => ⟨S2x4x16x64x64x256, .f32⟩
  | 54 => ⟨S2x4x16x64x64x256, .f32⟩
  | 55 => ⟨S2x4x16x64x64x256, .f32⟩
  | 56 => ⟨S2x4x16x64x64x256, .f32⟩
  | 57 => ⟨S2x4x16x64x64x256, .f32⟩
  | 58 => ⟨S2x4x16x64x64x256, .f32⟩
  | 59 => ⟨S2x4x16x64x64x256, .f32⟩
  | 60 => ⟨S2x4x16x64x64x256, .f32⟩
  | 61 => ⟨S2x4x16x64x64x256, .f32⟩
  | 62 => ⟨S2x4x16x64x64x256, .f32⟩
  | 63 => ⟨S2x4x16x64x64x256, .f32⟩
  | 64 => ⟨S2x4x16x64x64x256, .f32⟩
  | 65 => ⟨S2x4x16x64x64x256, .f32⟩
  | 66 => ⟨S2x4x16x64x64x256, .f32⟩
  | 67 => ⟨S2x4x16x64x64x256, .f32⟩
  | 68 => ⟨S2x4x16x64x64x256, .f32⟩
  | 69 => ⟨S2x4x16x64x64x256, .f32⟩
  | 70 => ⟨S2x4x16x64x64x256, .f32⟩
  | 71 => ⟨S2x4x16x64x64x256, .f32⟩
  | 72 => ⟨S2x4x16x64x64x256, .f32⟩
  | 73 => ⟨S2x4x16x64x64x256, .f32⟩
  | 74 => ⟨S2x4x16x64x64x256, .f32⟩
  | 75 => ⟨S2x4x16x64x64x256, .f32⟩
  | 76 => ⟨S2x4x16x64x64x256, .f32⟩
  | 77 => ⟨S2x4x16x64x64x256, .f32⟩
  | 78 => ⟨S2x4x16x64x64x256, .f32⟩
  | 79 => ⟨S2x4x16x64x64x256, .f32⟩
  | 80 => ⟨S2x4x16x64x64x256, .f32⟩
  | 81 => ⟨S2x4x16x64x64x256, .f32⟩
  | 82 => ⟨S2x4x16x64x64x128, .f32⟩
  | 83 => ⟨S2x4x16x64x64x128, .f32⟩
  | 84 => ⟨S2x4x16x64x64x64, .f32⟩
  | 85 => ⟨S2x4x16x64x64x64, .f32⟩
  | 86 => ⟨S_, .f32⟩
  | 87 => ⟨S_, .f32⟩
  | 88 => ⟨S2x4x16x64x64x64, .i1⟩
  | 89 => ⟨S2x4x16x64x64x64, .f32⟩
  | 90 => ⟨S2x4x16x64x64x64, .f32⟩
  | 91 => ⟨S2x4x16x64x64, .f32⟩
  | 92 => ⟨S2x4x16x64x64x1, .f32⟩
  | 93 => ⟨S2x4x16x64x64x128, .f32⟩
  | 94 => ⟨S2x4x16x64x64x128, .f32⟩
  | 95 => ⟨S2x4x16x64x1, .f32⟩
  | 96 => ⟨S2x4x16x64, .f32⟩
  | 97 => ⟨S2x4x16x64x1, .f32⟩
  | 98 => ⟨S2x4x16x64x64, .f32⟩
  | 99 => ⟨S2x4x16x64x64, .f32⟩
  | 100 => ⟨S2x4x16x64x64, .f32⟩
  | 101 => ⟨S2x4x16x64x64x1, .f32⟩
  | 102 => ⟨S2x4x16x64x64x128, .f32⟩
  | 103 => ⟨S2x4x16x64x64x128, .f32⟩
  | 104 => ⟨S64x2x4x16x64x128, .f32⟩
  | 105 => ⟨S64x2x4x16x64x128, .f32⟩
  | 106 => ⟨S64x2x4x16x64x128, .f32⟩
  | 107 => ⟨S64x2x4x16x64x128, .f32⟩
  | 108 => ⟨S64x2x4x16x64x64, .f32⟩
  | 109 => ⟨S64x2x4x16, .f32⟩
  | 110 => ⟨S1x4x16x128x128, .f32⟩
  | 111 => ⟨S1x4x16x128x128, .f32⟩
  | 112 => ⟨S2x4x16x128x128, .f32⟩
  | 113 => ⟨S_, .f32⟩
  | 114 => ⟨S64x2x4x16x64x128, .f32⟩
  | 115 => ⟨S_, .i32⟩
  | 116 => ⟨S64x2x4x16x64x128, .f32⟩
  | 117 => ⟨S64x2x4x16x64x128, .f32⟩
  | 118 => ⟨S64x2x4x16x64x128, .f32⟩
  | 119 => ⟨S64x2x4x16x64x128, .f32⟩
  | 120 => ⟨S64x2x4x16x64x64, .f32⟩
  | 121 => ⟨S64x2x4x16, .f32⟩
  | 122 => ⟨S_, .i32⟩
  | 123 => ⟨S2x4x16x128x128, .f32⟩
  | 124 => ⟨S64x2x4x16x64x128, .f32⟩
  | 125 => ⟨S_, .i32⟩
  | 126 => ⟨S_, .i1⟩
  | 127 => ⟨S_, .i32⟩
  | _ => ⟨S4x4096x16x128, .bf16⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S1x2x4x16x64x128, .f32⟩
  | 5 => ⟨S2x4x16x64x128, .f32⟩
  | 6 => ⟨S_, .i32⟩
  | 7 => ⟨S_, .i32⟩
  | 8 => ⟨S_, .i32⟩
  | 9 => ⟨S_, .i32⟩
  | 10 => ⟨S_, .i32⟩
  | 11 => ⟨S1x2x4x16x64x128, .f32⟩
  | 12 => ⟨S2x4x16x64x128, .f32⟩
  | 13 => ⟨S_, .i32⟩
  | 14 => ⟨S_, .i32⟩
  | 15 => ⟨S_, .i32⟩
  | 16 => ⟨S_, .i32⟩
  | 17 => ⟨S_, .i32⟩
  | 18 => ⟨S1x2x4x16x64x128, .f32⟩
  | 19 => ⟨S2x4x16x64x128, .f32⟩
  | 20 => ⟨S_, .i32⟩
  | 21 => ⟨S_, .i32⟩
  | 22 => ⟨S_, .i32⟩
  | 23 => ⟨S_, .i32⟩
  | 24 => ⟨S_, .i32⟩
  | 25 => ⟨S1x2x4x16x64x128, .f32⟩
  | 26 => ⟨S2x4x16x64x128, .f32⟩
  | 27 => ⟨S_, .i32⟩
  | 28 => ⟨S_, .i32⟩
  | 29 => ⟨S_, .i32⟩
  | 30 => ⟨S_, .i32⟩
  | 31 => ⟨S_, .i32⟩
  | 32 => ⟨S1x2x4x16x64x64, .f32⟩
  | 33 => ⟨S2x4x16x64x64, .f32⟩
  | 34 => ⟨S_, .i32⟩
  | 35 => ⟨S_, .i32⟩
  | 36 => ⟨S_, .i32⟩
  | 37 => ⟨S1x2x4x16, .f32⟩
  | 38 => ⟨S2x4x16, .f32⟩
  | 39 => ⟨S2x4x16x64x128, .f32⟩
  | 40 => ⟨S2x4x16x64x128, .f32⟩
  | 41 => ⟨S2x4x16x64x128, .f32⟩
  | 42 => ⟨S2x4x16x64x128, .f32⟩
  | 43 => ⟨S2x4x16x64x128, .f32⟩
  | 44 => ⟨S2x4x16, .f32⟩
  | 45 => ⟨S2x4x16x1x1, .f32⟩
  | 46 => ⟨S2x4x16x128x128, .f32⟩
  | 47 => ⟨S2x4x16x128x128, .f32⟩
  | 48 => ⟨S2x4x16x128x128, .f32⟩
  | 49 => ⟨S2x4x16x128x128, .f32⟩
  | 50 => ⟨S1x2x4x16x64x128, .f32⟩
  | 51 => ⟨S_, .i32⟩
  | 52 => ⟨S_, .i32⟩
  | 53 => ⟨S_, .i32⟩
  | 54 => ⟨S_, .i32⟩
  | 55 => ⟨S_, .i32⟩
  | 56 => ⟨S64x2x4x16x64x128, .f32⟩
  | 57 => ⟨S_, .i32⟩
  | 58 => ⟨S_, .i32⟩
  | 59 => ⟨S2x4x64x64x16x128, .f32⟩
  | 60 => ⟨S2x4x4096x2048, .f32⟩
  | 61 => ⟨S1x4x4096x2048, .f32⟩
  | 62 => ⟨S4x4096x2048, .f32⟩
  | 63 => ⟨S16384x2048, .f32⟩
  | 64 => ⟨S16384x2048, .bf16⟩
  | 65 => ⟨S1x4x4096x2048, .f32⟩
  | 66 => ⟨S4x4096x2048, .f32⟩
  | 67 => ⟨S4x4096x2048, .f32⟩
  | 68 => ⟨S16384x2048, .f32⟩
  | 69 => ⟨S16384x2048, .bf16⟩
  | 70 => ⟨S1x4x16x128x128, .f32⟩
  | 71 => ⟨S4x16x128x128, .f32⟩
  | 72 => ⟨S1x4x16x128x128, .f32⟩
  | 73 => ⟨S4x16x128x128, .f32⟩
  | _ => ⟨S4x4096x16x128, .bf16⟩

abbrev hbmTy (i : Nat) : BufTy := match i / 128 with
  | 0 => hbmTy0_0 i
  | 1 => hbmTy0_1 i
  | 2 => hbmTy0_2 i
  | _ => ⟨S4x4096x16x128, .bf16⟩

abbrev bufTy : (tb : Table) → Fin (tcTables nBuf tb) → BufTy
  | .hbm, ⟨i, _⟩ => hbmTy i
  | _, _ => ⟨S4x4096x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_0 : Ref sig .tc := ⟨.hbm, 60, rfl⟩
abbrev main_call5_v0 : Ref sig .tc := ⟨.hbm, 61, rfl⟩
abbrev main_call5_v1 : Ref sig .tc := ⟨.hbm, 62, rfl⟩
abbrev main_call5_v2 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_1 : Ref sig .tc := ⟨.hbm, 71, rfl⟩
abbrev main_call6_v0 : Ref sig .tc := ⟨.hbm, 72, rfl⟩
abbrev main_call6_v1 : Ref sig .tc := ⟨.hbm, 73, rfl⟩
abbrev main_call6_v2 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_cst_2 : Ref sig .tc := ⟨.hbm, 214, rfl⟩
abbrev main_call7_v0 : Ref sig .tc := ⟨.hbm, 215, rfl⟩
abbrev main_call7_v1 : Ref sig .tc := ⟨.hbm, 216, rfl⟩
abbrev main_call7_v2 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_cst_3 : Ref sig .tc := ⟨.hbm, 241, rfl⟩
abbrev main_v221 : Ref sig .tc := ⟨.hbm, 242, rfl⟩
abbrev main_c : Ref sig .tc := ⟨.hbm, 243, rfl⟩
abbrev main_v222_0 : Ref sig .tc := ⟨.hbm, 244, rfl⟩
abbrev main_v222_1 : Ref sig .tc := ⟨.hbm, 245, rfl⟩
abbrev main_v222_2 : Ref sig .tc := ⟨.hbm, 246, rfl⟩
abbrev main_v222_3 : Ref sig .tc := ⟨.hbm, 247, rfl⟩
abbrev main_v222_4 : Ref sig .tc := ⟨.hbm, 248, rfl⟩
abbrev main_v222_5 : Ref sig .tc := ⟨.hbm, 249, rfl⟩
abbrev main_v222_6 : Ref sig .tc := ⟨.hbm, 250, rfl⟩
abbrev main_v222_7 : Ref sig .tc := ⟨.hbm, 251, rfl⟩
abbrev main_v222_8 : Ref sig .tc := ⟨.hbm, 252, rfl⟩
abbrev main_while0c_c_12 : Ref sig .tc := ⟨.hbm, 253, rfl⟩
abbrev main_while0c_v238 : Ref sig .tc := ⟨.hbm, 254, rfl⟩
abbrev main_while0b_call8_c : Ref sig .tc := ⟨.hbm, 255, rfl⟩
abbrev main_while0b_call8_c_0 : Ref sig .tc := ⟨.hbm, 256, rfl⟩
abbrev main_while0b_call8_c_1 : Ref sig .tc := ⟨.hbm, 257, rfl⟩
abbrev main_while0b_call8_c_2 : Ref sig .tc := ⟨.hbm, 258, rfl⟩
abbrev main_while0b_call8_c_3 : Ref sig .tc := ⟨.hbm, 259, rfl⟩
abbrev main_while0b_call8_v0 : Ref sig .tc := ⟨.hbm, 260, rfl⟩
abbrev main_while0b_v238 : Ref sig .tc := ⟨.hbm, 261, rfl⟩
abbrev main_while0b_call9_c : Ref sig .tc := ⟨.hbm, 262, rfl⟩
abbrev main_while0b_call9_c_0 : Ref sig .tc := ⟨.hbm, 263, rfl⟩
abbrev main_while0b_call9_c_1 : Ref sig .tc := ⟨.hbm, 264, rfl⟩
abbrev main_while0b_call9_c_2 : Ref sig .tc := ⟨.hbm, 265, rfl⟩
abbrev main_while0b_call9_c_3 : Ref sig .tc := ⟨.hbm, 266, rfl⟩
abbrev main_while0b_call9_v0 : Ref sig .tc := ⟨.hbm, 267, rfl⟩
abbrev main_while0b_v239 : Ref sig .tc := ⟨.hbm, 268, rfl⟩
abbrev main_while0b_call10_c : Ref sig .tc := ⟨.hbm, 269, rfl⟩
abbrev main_while0b_call10_c_0 : Ref sig .tc := ⟨.hbm, 270, rfl⟩
abbrev main_while0b_call10_c_1 : Ref sig .tc := ⟨.hbm, 271, rfl⟩
abbrev main_while0b_call10_c_2 : Ref sig .tc := ⟨.hbm, 272, rfl⟩
abbrev main_while0b_call10_c_3 : Ref sig .tc := ⟨.hbm, 273, rfl⟩
abbrev main_while0b_call10_v0 : Ref sig .tc := ⟨.hbm, 274, rfl⟩
abbrev main_while0b_v240 : Ref sig .tc := ⟨.hbm, 275, rfl⟩
abbrev main_while0b_call11_c : Ref sig .tc := ⟨.hbm, 276, rfl⟩
abbrev main_while0b_call11_c_0 : Ref sig .tc := ⟨.hbm, 277, rfl⟩
abbrev main_while0b_call11_c_1 : Ref sig .tc := ⟨.hbm, 278, rfl⟩
abbrev main_while0b_call11_c_2 : Ref sig .tc := ⟨.hbm, 279, rfl⟩
abbrev main_while0b_call11_c_3 : Ref sig .tc := ⟨.hbm, 280, rfl⟩
abbrev main_while0b_call11_v0 : Ref sig .tc := ⟨.hbm, 281, rfl⟩
abbrev main_while0b_v241 : Ref sig .tc := ⟨.hbm, 282, rfl⟩
abbrev main_while0b_call12_c : Ref sig .tc := ⟨.hbm, 283, rfl⟩
abbrev main_while0b_call12_c_0 : Ref sig .tc := ⟨.hbm, 284, rfl⟩
abbrev main_while0b_call12_c_1 : Ref sig .tc := ⟨.hbm, 285, rfl⟩
abbrev main_while0b_call12_c_2 : Ref sig .tc := ⟨.hbm, 286, rfl⟩
abbrev main_while0b_call12_c_3 : Ref sig .tc := ⟨.hbm, 287, rfl⟩
abbrev main_while0b_call12_v0 : Ref sig .tc := ⟨.hbm, 288, rfl⟩
abbrev main_while0b_v242 : Ref sig .tc := ⟨.hbm, 289, rfl⟩
abbrev main_while0b_call13_c : Ref sig .tc := ⟨.hbm, 290, rfl⟩
abbrev main_while0b_call13_c_0 : Ref sig .tc := ⟨.hbm, 291, rfl⟩
abbrev main_while0b_call13_c_1 : Ref sig .tc := ⟨.hbm, 292, rfl⟩
abbrev main_while0b_call13_v0 : Ref sig .tc := ⟨.hbm, 293, rfl⟩
abbrev main_while0b_v243 : Ref sig .tc := ⟨.hbm, 294, rfl⟩
abbrev main_while0b_v244 : Ref sig .tc := ⟨.hbm, 295, rfl⟩
abbrev main_while0b_v245 : Ref sig .tc := ⟨.hbm, 296, rfl⟩
abbrev main_while0b_v246 : Ref sig .tc := ⟨.hbm, 297, rfl⟩
abbrev main_while0b_v247 : Ref sig .tc := ⟨.hbm, 298, rfl⟩
abbrev main_while0b_v248 : Ref sig .tc := ⟨.hbm, 299, rfl⟩
abbrev main_while0b_v249 : Ref sig .tc := ⟨.hbm, 300, rfl⟩
abbrev main_while0b_v250 : Ref sig .tc := ⟨.hbm, 301, rfl⟩
abbrev main_while0b_v251 : Ref sig .tc := ⟨.hbm, 302, rfl⟩
abbrev main_while0b_v252 : Ref sig .tc := ⟨.hbm, 303, rfl⟩
abbrev main_while0b_v253 : Ref sig .tc := ⟨.hbm, 304, rfl⟩
abbrev main_while0b_v254 : Ref sig .tc := ⟨.hbm, 305, rfl⟩
abbrev main_while0b_call14_v0 : Ref sig .tc := ⟨.hbm, 306, rfl⟩
abbrev main_while0b_call14_c : Ref sig .tc := ⟨.hbm, 307, rfl⟩
abbrev main_while0b_call14_c_0 : Ref sig .tc := ⟨.hbm, 308, rfl⟩
abbrev main_while0b_call14_c_1 : Ref sig .tc := ⟨.hbm, 309, rfl⟩
abbrev main_while0b_call14_c_2 : Ref sig .tc := ⟨.hbm, 310, rfl⟩
abbrev main_while0b_call14_c_3 : Ref sig .tc := ⟨.hbm, 311, rfl⟩
abbrev main_while0b_v255 : Ref sig .tc := ⟨.hbm, 312, rfl⟩
abbrev main_while0b_c_12 : Ref sig .tc := ⟨.hbm, 313, rfl⟩
abbrev main_while0b_v256 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x5632 : Shape := ⟨2, ![16384, 5632]⟩
abbrev S4x4096x2048 : Shape := ⟨3, ![4, 4096, 2048]⟩
abbrev S8x12288 : Shape := ⟨2, ![8, 12288]⟩
abbrev S5632x2048 : Shape := ⟨2, ![5632, 2048]⟩
abbrev S2048 : Shape := ⟨1, ![2048]⟩
abbrev S16384x2048 : Shape := ⟨2, ![16384, 2048]⟩
abbrev S8x1x12288 : Shape := ⟨3, ![8, 1, 12288]⟩
abbrev S1x2048 : Shape := ⟨2, ![1, 2048]⟩
abbrev S512x5632 : Shape := ⟨2, ![512, 5632]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S4x4096x2048, .f32⟩
  | .hbm, ⟨2, _⟩ => ⟨S8x12288, .f32⟩
  | .hbm, ⟨3, _⟩ => ⟨S5632x2048, .f32⟩
  | .hbm, ⟨4, _⟩ => ⟨S2048, .f32⟩
  | .hbm, ⟨5, _⟩ => ⟨S5632x2048, .bf16⟩
  | .hbm, ⟨6, _⟩ => ⟨S16384x2048, .f32⟩
  | .hbm, ⟨7, _⟩ => ⟨S8x1x12288, .f32⟩
  | .hbm, ⟨8, _⟩ => ⟨S1x2048, .f32⟩
  | .hbm, ⟨9, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x5632 : Shape := ⟨2, ![16384, 5632]⟩
abbrev S4x4096x2048 : Shape := ⟨3, ![4, 4096, 2048]⟩
abbrev S8x12288 : Shape := ⟨2, ![8, 12288]⟩
abbrev S5632x2048 : Shape := ⟨2, ![5632, 2048]⟩
abbrev S2048 : Shape := ⟨1, ![2048]⟩
abbrev S4x12288 : Shape := ⟨2, ![4, 12288]⟩
abbrev S4x1x12288 : Shape := ⟨3, ![4, 1, 12288]⟩
abbrev S4x1x2048 : Shape := ⟨3, ![4, 1, 2048]⟩
abbrev S4x4096x5632 : Shape := ⟨3, ![4, 4096, 5632]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S4x4096x2048, .f32⟩
  | .hbm, ⟨2, _⟩ => ⟨S8x12288, .f32⟩
  | .hbm, ⟨3, _⟩ => ⟨S5632x2048, .f32⟩
  | .hbm, ⟨4, _⟩ => ⟨S2048, .f32⟩
  | .hbm, ⟨5, _⟩ => ⟨S4x12288, .f32⟩
  | .hbm, ⟨6, _⟩ => ⟨S4x1x12288, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x4096x5632, .bf16⟩
  | .hbm, ⟨14, _⟩ => ⟨S4x4096x5632, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x2048, .f32⟩
  | .hbm, ⟨31, _⟩ => ⟨S4x4096x2048, .f32⟩
  | .hbm, ⟨32, _⟩ => ⟨S1x1x2048, .f32⟩
  | .hbm, ⟨33, _⟩ => ⟨S4x4096x2048, .f32⟩
  | .hbm, ⟨34, _⟩ => ⟨S4x4096x2048, .f32⟩
  | .hbm, ⟨35, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel3.lean ====
abbrev S4x4096x2048 : Shape := ⟨3, ![4, 4096, 2048]⟩
abbrev S8x12288 : Shape := ⟨2, ![8, 12288]⟩
abbrev S2048 : Shape := ⟨1, ![2048]⟩
abbrev S2048x11264 : Shape := ⟨2, ![2048, 11264]⟩
abbrev S16384x2048 : Shape := ⟨2, ![16384, 2048]⟩
abbrev S1x2048 : Shape := ⟨2, ![1, 2048]⟩
abbrev S8x1x12288 : Shape := ⟨3, ![8, 1, 12288]⟩
abbrev S16384x5632 : Shape := ⟨2, ![16384, 5632]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩
abbrev S512x2048 : Shape := ⟨2, ![512, 2048]⟩
abbrev S2048x256 : Shape := ⟨2, ![2048, 256]⟩
abbrev S512x256 : Shape := ⟨2, ![512, 256]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S8x12288, .f32⟩
  | .hbm, ⟨2, _⟩ => ⟨S2048, .f32⟩
  | .hbm, ⟨3, _⟩ => ⟨S2048x11264, .f32⟩
  | .hbm, ⟨4, _⟩ => ⟨S16384x2048, .f32⟩
  | .hbm, ⟨5, _⟩ => ⟨S1x2048, .f32⟩
  | .hbm, ⟨6, _⟩ => ⟨S8x1x12288, .f32⟩
  | .hbm, ⟨7, _⟩ => ⟨S2048x11264, .bf16⟩
  | .hbm, ⟨8, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S1024x512, .bf16⟩
  | .local _ .vmem, ⟨12, _⟩ => ⟨S1024x512, .bf16⟩
  | .local _ .vmem, ⟨13, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x4096x2048 : Shape := ⟨3, ![4, 4096, 2048]⟩
abbrev S8x12288 : Shape := ⟨2, ![8, 12288]⟩
abbrev S2048 : Shape := ⟨1, ![2048]⟩
abbrev S2048x11264 : Shape := ⟨2, ![2048, 11264]⟩
abbrev S4x12288 : Shape := ⟨2, ![4, 12288]⟩
abbrev S4x1x12288 : Shape := ⟨3, ![4, 1, 12288]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11264 : Shape := ⟨3, ![4, 4096, 11264]⟩
abbrev S4x4096x5632 : Shape := ⟨3, ![4, 4096, 5632]⟩
abbrev S16384x5632 : Shape := ⟨2, ![16384, 5632]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8x12288, .f32⟩
  | .hbm, ⟨2, _⟩ => ⟨S2048, .f32⟩
  | .hbm, ⟨3, _⟩ => ⟨S2048x11264, .f32⟩
  | .hbm, ⟨4, _⟩ => ⟨S4x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x11264, .f32⟩
  | .hbm, ⟨36, _⟩ => ⟨S4x4096x5632, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S_, .f32⟩
  | .hbm, ⟨41, _⟩ => ⟨S4x4096x5632, .f32⟩
  | .hbm, ⟨42, _⟩ => ⟨S4x4096x5632, .f32⟩
  | .hbm, ⟨43, _⟩ => ⟨S_, .f32⟩
  | .hbm, ⟨44, _⟩ => ⟨S4x4096x5632, .f32⟩
  | .hbm, ⟨45, _⟩ => ⟨S4x4096x5632, .f32⟩
  | .hbm, ⟨46, _⟩ => ⟨S4x4096x5632, .f32⟩
  | .hbm, ⟨47, _⟩ => ⟨S4x4096x5632, .f32⟩
  | .hbm, ⟨48, _⟩ => ⟨S16384x5632, .f32⟩
  | .hbm, ⟨49, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel4.lean ====
abbrev S16384x2048 : Shape := ⟨2, ![16384, 2048]⟩
abbrev S4x4096x2048 : Shape := ⟨3, ![4, 4096, 2048]⟩
abbrev S8x12288 : Shape := ⟨2, ![8, 12288]⟩
abbrev S2048x2048 : Shape := ⟨2, ![2048, 2048]⟩
abbrev S8x1x12288 : Shape := ⟨3, ![8, 1, 12288]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 8
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S4x4096x2048, .f32⟩
  | .hbm, ⟨2, _⟩ => ⟨S8x12288, .f32⟩
  | .hbm, ⟨3, _⟩ => ⟨S2048x2048, .f32⟩
  | .hbm, ⟨4, _⟩ => ⟨S2048x2048, .bf16⟩
  | .hbm, ⟨5, _⟩ => ⟨S16384x2048, .f32⟩
  | .hbm, ⟨6, _⟩ => ⟨S8x1x12288, .f32⟩
  | .hbm, ⟨7, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x2048 : Shape := ⟨2, ![16384, 2048]⟩
abbrev S4x4096x2048 : Shape := ⟨3, ![4, 4096, 2048]⟩
abbrev S8x12288 : Shape := ⟨2, ![8, 12288]⟩
abbrev S2048x2048 : Shape := ⟨2, ![2048, 2048]⟩
abbrev S4x12288 : Shape := ⟨2, ![4, 12288]⟩
abbrev S4x1x12288 : Shape := ⟨3, ![4, 1, 12288]⟩
abbrev S4x1x2048 : Shape := ⟨3, ![4, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x4096x2048, .f32⟩
  | .hbm, ⟨2, _⟩ => ⟨S8x12288, .f32⟩
  | .hbm, ⟨3, _⟩ => ⟨S2048x2048, .f32⟩
  | .hbm, ⟨4, _⟩ => ⟨S4x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x4096x2048, .bf16⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel5.lean ====
abbrev S16384x2048 : Shape := ⟨2, ![16384, 2048]⟩
abbrev S2048x18496 : Shape := ⟨2, ![2048, 18496]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S128x2048 : Shape := ⟨2, ![128, 2048]⟩
abbrev S2048x256 : Shape := ⟨2, ![2048, 256]⟩
abbrev S128x256 : Shape := ⟨2, ![128, 256]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x18496, .f32⟩
  | .hbm, ⟨2, _⟩ => ⟨S2048x18496, .bf16⟩
  | .hbm, ⟨3, _⟩ => ⟨S2048x4096, .bf16⟩
  | .hbm, ⟨4, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x2048 : Shape := ⟨2, ![16384, 2048]⟩
abbrev S2048x18496 : Shape := ⟨2, ![2048, 18496]⟩
abbrev S16384x18496 : Shape := ⟨2, ![16384, 18496]⟩
abbrev S16384x6144 : Shape := ⟨2, ![16384, 6144]⟩
abbrev S16384x64 : Shape := ⟨2, ![16384, 64]⟩
abbrev S16384x4096 : Shape := ⟨2, ![16384, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x18496, .f32⟩
  | .hbm, ⟨2, _⟩ => ⟨S16384x2048, .f32⟩
  | .hbm, ⟨3, _⟩ => ⟨S16384x18496, .f32⟩
  | .hbm, ⟨4, _⟩ => ⟨S16384x6144, .f32⟩
  | .hbm, ⟨5, _⟩ => ⟨S16384x6144, .f32⟩
  | .hbm, ⟨6, _⟩ => ⟨S16384x2048, .f32⟩
  | .hbm, ⟨7, _⟩ => ⟨S16384x64, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel7.lean ====
abbrev S16384x2048 : Shape := ⟨2, ![16384, 2048]⟩
abbrev S2048 : Shape := ⟨1, ![2048]⟩
abbrev S128 : Shape := ⟨1, ![128]⟩
abbrev S16384x4096 : Shape := ⟨2, ![16384, 4096]⟩
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S128x2048 : Shape := ⟨2, ![128, 2048]⟩
abbrev S128x128 : Shape := ⟨2, ![128, 128]⟩
abbrev S128x1 : Shape := ⟨2, ![128, 1]⟩

abbrev nBuf : Space → Nat
  | .hbm => 16
  | .vmem => 22
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S2048, .f32⟩
  | .hbm, ⟨4, _⟩ => ⟨S16384x2048, .bf16⟩
  | .hbm, ⟨5, _⟩ => ⟨S16384x2048, .bf16⟩
  | .hbm, ⟨6, _⟩ => ⟨S16384x2048, .bf16⟩
  | .hbm, ⟨7, _⟩ => ⟨S128, .f32⟩
  | .hbm, ⟨8, _⟩ => ⟨S16384x4096, .bf16⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S1x128, .f32⟩
  | .hbm, ⟨13, _⟩ => ⟨S2048x2048, .bf16⟩
  | .hbm, ⟨14, _⟩ => ⟨S2048x2048, .bf16⟩
  | .hbm, ⟨15, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S1x128, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S2048x2048, .bf16⟩
  | .local _ .vmem, ⟨19, _⟩ => ⟨S2048x2048, .bf16⟩
  | .local _ .vmem, ⟨20, _⟩ => ⟨S256x2048, .bf16⟩
  | .local _ .vmem, ⟨21, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S16384x2048 : Shape := ⟨2, ![16384, 2048]⟩
abbrev S2048 : Shape := ⟨1, ![2048]⟩
abbrev S128 : Shape := ⟨1, ![128]⟩
abbrev S16384x4096 : Shape := ⟨2, ![16384, 4096]⟩
abbrev S2048x2048 : Shape := ⟨2, ![2048, 2048]⟩
abbrev S1x2048 : Shape := ⟨2, ![1, 2048]⟩
abbrev S16384x16x128 : Shape := ⟨3, ![16384, 16, 128]⟩
abbrev S_ : Shape := ⟨0, ![]⟩
abbrev S16384x16 : Shape := ⟨2, ![16384, 16]⟩
abbrev S16384x16x1 : Shape := ⟨3, ![16384, 16, 1]⟩
abbrev S1x1x128 : Shape := ⟨3, ![1, 1, 128]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S2048, .f32⟩
  | .hbm, ⟨4, _⟩ => ⟨S16384x2048, .bf16⟩
  | .hbm, ⟨5, _⟩ => ⟨S16384x2048, .bf16⟩
  | .hbm, ⟨6, _⟩ => ⟨S16384x2048, .bf16⟩
  | .hbm, ⟨7, _⟩ => ⟨S128, .f32⟩
  | .hbm, ⟨8, _⟩ => ⟨S16384x4096, .bf16⟩
  | .hbm, ⟨9, _⟩ => ⟨S2048x2048, .f32⟩
  | .hbm, ⟨10, _⟩ => ⟨S2048x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x4096, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x16x128, .f32⟩
  | .hbm, ⟨26, _⟩ => ⟨S16384x16x128, .f32⟩
  | .hbm, ⟨27, _⟩ => ⟨S_, .f32⟩
  | .hbm, ⟨28, _⟩ => ⟨S16384x16, .f32⟩
  | .hbm, ⟨29, _⟩ => ⟨S16384x16x1, .f32⟩
  | .hbm, ⟨30, _⟩ => ⟨S_, .f32⟩
  | .hbm, ⟨31, _⟩ => ⟨S16384x16x1, .f32⟩
  | .hbm, ⟨32, _⟩ => ⟨S16384x16x1, .f32⟩
  | .hbm, ⟨33, _⟩ => ⟨S_, .f32⟩
  | .hbm, ⟨34, _⟩ => ⟨S16384x16x1, .f32⟩
  | .hbm, ⟨35, _⟩ => ⟨S16384x16x1, .f32⟩
  | .hbm, ⟨36, _⟩ => ⟨S16384x16x1, .f32⟩
  | .hbm, ⟨37, _⟩ => ⟨S16384x16x128, .f32⟩
  | .hbm, ⟨38, _⟩ => ⟨S16384x16x128, .f32⟩
  | .hbm, ⟨39, _⟩ => ⟨S1x1x128, .f32⟩
  | .hbm, ⟨40, _⟩ => ⟨S16384x16x128, .f32⟩
  | .hbm, ⟨41, _⟩ => ⟨S16384x16x128, .f32⟩
  | .hbm, ⟨42, _⟩ => ⟨S16384x16x128, .f32⟩
  | .hbm, ⟨43, _⟩ => ⟨S16384x16x128, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel8.lean ====
abbrev S16384x2048 : Shape := ⟨2, ![16384, 2048]⟩
abbrev S2048x18496 : Shape := ⟨2, ![2048, 18496]⟩
abbrev S3x6144 : Shape := ⟨2, ![3, 6144]⟩
abbrev S1024x2048 : Shape := ⟨2, ![1024, 2048]⟩
abbrev S2048x512 : Shape := ⟨2, ![2048, 512]⟩
abbrev S3x512 : Shape := ⟨2, ![3, 512]⟩
abbrev S1024x512 : Shape := ⟨2, ![1024, 512]⟩
abbrev S2x3x272x256 : Shape := ⟨4, ![2, 3, 272, 256]⟩
abbrev S256x2048 : Shape := ⟨2, ![256, 2048]⟩
abbrev S2048x256 : Shape := ⟨2, ![2048, 256]⟩
abbrev S256x256 : Shape := ⟨2, ![256, 256]⟩
abbrev S1x256 : Shape := ⟨2, ![1, 256]⟩
abbrev S1x1x1x256 : Shape := ⟨4, ![1, 1, 1, 256]⟩
abbrev S1x1x256x256 : Shape := ⟨4, ![1, 1, 256, 256]⟩
abbrev S3x256 : Shape := ⟨2, ![3, 256]⟩
abbrev S256x1 : Shape := ⟨2, ![256, 1]⟩

abbrev nBuf : Space → Nat
  | .hbm => 6
  | .vmem => 19
  | .smem => 0
  | _ => 0

abbrev bufTy : (tb : Table) → Fin (tcTables nBuf tb) → BufTy
  | .hbm, ⟨0, _⟩ => ⟨S16384x2048, .bf16⟩
  | .hbm, ⟨1, _⟩ => ⟨S2048x18496, .f32⟩
  | .hbm, ⟨2, _⟩ => ⟨S3x6144, .f32⟩
  | .hbm, ⟨3, _⟩ => ⟨S2048x18496, .bf16⟩
  | .hbm, ⟨4, _⟩ => ⟨S16384x2048, .bf16⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S2x3x272x256, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S16384x2048 : Shape := ⟨2, ![16384, 2048]⟩
abbrev S2048x18496 : Shape := ⟨2, ![2048, 18496]⟩
abbrev S3x6144 : Shape := ⟨2, ![3, 6144]⟩
abbrev S16384x18496 : Shape := ⟨2, ![16384, 18496]⟩
abbrev S16384x6144 : Shape := ⟨2, ![16384, 6144]⟩
abbrev S16384x64 : Shape := ⟨2, ![16384, 64]⟩
abbrev S16384x4096 : Shape := ⟨2, ![16384, 4096]⟩
abbrev S256x64x6144 : Shape := ⟨3, ![256, 64, 6144]⟩
abbrev S_ : Shape := ⟨0, ![]⟩
abbrev S256x66x6144 : Shape := ⟨3, ![256, 66, 6144]⟩
abbrev S1x6144 : Shape := ⟨2, ![1, 6144]⟩
abbrev S6144 : Shape := ⟨1, ![6144]⟩
abbrev S1x1x6144 : Shape := ⟨3, ![1, 1, 6144]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x18496, .f32⟩
  | .hbm, ⟨2, _⟩ => ⟨S3x6144, .f32⟩
  | .hbm, ⟨3, _⟩ => ⟨S16384x2048, .f32⟩
  | .hbm, ⟨4, _⟩ => ⟨S16384x18496, .f32⟩
  | .hbm, ⟨5, _⟩ => ⟨S16384x6144, .f32⟩
  | .hbm, ⟨6, _⟩ => ⟨S16384x6144, .f32⟩
  | .hbm, ⟨7, _⟩ => ⟨S16384x2048, .f32⟩
  | .hbm, ⟨8, _⟩ => ⟨S16384x64, .f32⟩
  | .hbm, ⟨9, _⟩ => ⟨S16384x4096, .f32⟩
  | .hbm, ⟨10, _⟩ => ⟨S256x64x6144, .f32⟩
  | .hbm, ⟨11, _⟩ => ⟨S_, .i32⟩
  | .hbm, ⟨12, _⟩ => ⟨S_, .f32⟩
  | .hbm, ⟨13, _⟩ => ⟨S256x66x6144, .f32⟩
  | .hbm, ⟨14, _⟩ => ⟨S256x64x6144, .f32⟩
  | .hbm, ⟨15, _⟩ => ⟨S1x6144, .f32⟩
  | .hbm, ⟨16, _⟩ => ⟨S6144, .f32⟩
  | .hbm, ⟨17, _⟩ => ⟨S1x1x6144, .f32⟩
  | .hbm, ⟨18, _⟩ => ⟨S256x64x6144, .f32⟩
  | .hbm, ⟨19, _⟩ => ⟨S256x64x6144, .f32⟩
  | .hbm, ⟨20, _⟩ => ⟨S256x64x6144, .f32⟩
  | .hbm, ⟨21, _⟩ => ⟨S1x6144, .f32⟩
  | .hbm, ⟨22, _⟩ => ⟨S6144, .f32⟩
  | .hbm, ⟨23, _⟩ => ⟨S1x1x6144, .f32⟩
  | .hbm, ⟨24, _⟩ => ⟨S256x64x6144, .f32⟩
  | .hbm, ⟨25, _⟩ => ⟨S256x64x6144, .f32⟩
  | .hbm, ⟨26, _⟩ => ⟨S256x64x6144, .f32⟩
  | .hbm, ⟨27, _⟩ => ⟨S256x64x6144, .f32⟩
  | .hbm, ⟨28, _⟩ => ⟨S1x6144, .f32⟩
  | .hbm, ⟨29, _⟩ => ⟨S6144, .f32⟩
  | .hbm, ⟨30, _⟩ => ⟨S1x1x6144, .f32⟩
  | .hbm, ⟨31, _⟩ => ⟨S256x64x6144, .f32⟩
  | .hbm, ⟨32, _⟩ => ⟨S256x64x6144, .f32⟩
  | .hbm, ⟨33, _⟩ => ⟨S256x64x6144, .f32⟩
  | .hbm, ⟨34, _⟩ => ⟨S16384x6144, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .bf16⟩
  | .hbm, ⟨39, _⟩ => ⟨S16384x2048, .f32⟩
  | .hbm, ⟨40, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== Kernel6.lean ====
abbrev S16384x2048 : Shape := ⟨2, ![16384, 2048]⟩
abbrev S2048x18496 : Shape := ⟨2, ![2048, 18496]⟩
abbrev S1024x2048 : Shape := ⟨2, ![1024, 2048]⟩
abbrev S2048x1024 : Shape := ⟨2, ![2048, 1024]⟩
abbrev S1024x1024 : Shape := ⟨2, ![1024, 1024]⟩
abbrev S128x2048 : Shape := ⟨2, ![128, 2048]⟩
abbrev S2048x256 : Shape := ⟨2, ![2048, 256]⟩
abbrev S128x256 : Shape := ⟨2, ![128, 256]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x18496, .f32⟩
  | .hbm, ⟨2, _⟩ => ⟨S2048x18496, .bf16⟩
  | .hbm, ⟨3, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x2048 : Shape := ⟨2, ![16384, 2048]⟩
abbrev S2048x18496 : Shape := ⟨2, ![2048, 18496]⟩
abbrev S16384x18496 : Shape := ⟨2, ![16384, 18496]⟩
abbrev S16384x6144 : Shape := ⟨2, ![16384, 6144]⟩
abbrev S16384x64 : Shape := ⟨2, ![16384, 64]⟩
abbrev S16384x4096 : Shape := ⟨2, ![16384, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x18496, .f32⟩
  | .hbm, ⟨2, _⟩ => ⟨S16384x2048, .f32⟩
  | .hbm, ⟨3, _⟩ => ⟨S16384x18496, .f32⟩
  | .hbm, ⟨4, _⟩ => ⟨S16384x6144, .f32⟩
  | .hbm, ⟨5, _⟩ => ⟨S16384x6144, .f32⟩
  | .hbm, ⟨6, _⟩ => ⟨S16384x2048, .f32⟩
  | .hbm, ⟨7, _⟩ => ⟨S16384x64, .f32⟩
  | .hbm, ⟨8, _⟩ => ⟨S16384x4096, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel9.lean ====
abbrev S16384x2048 : Shape := ⟨2, ![16384, 2048]⟩
abbrev S2048x18496 : Shape := ⟨2, ![2048, 18496]⟩
abbrev S3x6144 : Shape := ⟨2, ![3, 6144]⟩
abbrev S16384x4096 : Shape := ⟨2, ![16384, 4096]⟩
abbrev S1024x2048 : Shape := ⟨2, ![1024, 2048]⟩
abbrev S2048x512 : Shape := ⟨2, ![2048, 512]⟩
abbrev S3x512 : Shape := ⟨2, ![3, 512]⟩
abbrev S1024x512 : Shape := ⟨2, ![1024, 512]⟩
abbrev S2x1x144x256 : Shape := ⟨4, ![2, 1, 144, 256]⟩
abbrev S128x2048 : Shape := ⟨2, ![128, 2048]⟩
abbrev S2048x256 : Shape := ⟨2, ![2048, 256]⟩
abbrev S128x256 : Shape := ⟨2, ![128, 256]⟩
abbrev S1x256 : Shape := ⟨2, ![1, 256]⟩
abbrev S1x1x1x256 : Shape := ⟨4, ![1, 1, 1, 256]⟩
abbrev S1x1x128x256 : Shape := ⟨4, ![1, 1, 128, 256]⟩
abbrev S3x256 : Shape := ⟨2, ![3, 256]⟩
abbrev S128x1 : Shape := ⟨2, ![128, 1]⟩
abbrev S128x128 : Shape := ⟨2, ![128, 128]⟩
abbrev S128 : Shape := ⟨1, ![128]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x18496, .f32⟩
  | .hbm, ⟨2, _⟩ => ⟨S3x6144, .f32⟩
  | .hbm, ⟨3, _⟩ => ⟨S2048x18496, .bf16⟩
  | .hbm, ⟨4, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S3x512, .f32⟩
  | .local _ .vmem, ⟨5, _⟩ => ⟨S3x512, .f32⟩
  | .local _ .vmem, ⟨6, _⟩ => ⟨S1024x512, .bf16⟩
  | .local _ .vmem, ⟨7, _⟩ => ⟨S1024x512, .bf16⟩
  | .local _ .vmem, ⟨8, _⟩ => ⟨S2x1x144x256, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16384x2048 : Shape := ⟨2, ![16384, 2048]⟩
abbrev S2048x18496 : Shape := ⟨2, ![2048, 18496]⟩
abbrev S3x6144 : Shape := ⟨2, ![3, 6144]⟩
abbrev S16384x18496 : Shape := ⟨2, ![16384, 18496]⟩
abbrev S16384x6144 : Shape := ⟨2, ![16384, 6144]⟩
abbrev S16384x64 : Shape := ⟨2, ![16384, 64]⟩
abbrev S16384x4096 : Shape := ⟨2, ![16384, 4096]⟩
abbrev S256x64x6144 : Shape := ⟨3, ![256, 64, 6144]⟩
abbrev S_ : Shape := ⟨0, ![]⟩
abbrev S256x66x6144 : Shape := ⟨3, ![256, 66, 6144]⟩
abbrev S1x6144 : Shape := ⟨2, ![1, 6144]⟩
abbrev S6144 : Shape := ⟨1, ![6144]⟩
abbrev S1x1x6144 : Shape := ⟨3, ![1, 1, 6144]⟩
abbrev S256x64x4096 : Shape := ⟨3, ![256, 64, 4096]⟩
abbrev S16384x32x128 : Shape := ⟨3, ![16384, 32, 128]⟩
abbrev S16384x32 : Shape := ⟨2, ![16384, 32]⟩
abbrev S16384x32x1 : Shape := ⟨3, ![16384, 32, 1]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x18496, .f32⟩
  | .hbm, ⟨2, _⟩ => ⟨S3x6144, .f32⟩
  | .hbm, ⟨3, _⟩ => ⟨S16384x2048, .f32⟩
  | .hbm, ⟨4, _⟩ => ⟨S16384x18496, .f32⟩
  | .hbm, ⟨5, _⟩ => ⟨S16384x6144, .f32⟩
  | .hbm, ⟨6, _⟩ => ⟨S16384x6144, .f32⟩
  | .hbm, ⟨7, _⟩ => ⟨S16384x2048, .f32⟩
  | .hbm, ⟨8, _⟩ => ⟨S16384x64, .f32⟩
  | .hbm, ⟨9, _⟩ => ⟨S16384x4096, .f32⟩
  | .hbm, ⟨10, _⟩ => ⟨S256x64x6144, .f32⟩
  | .hbm, ⟨11, _⟩ => ⟨S_, .i32⟩
  | .hbm, ⟨12, _⟩ => ⟨S_, .f32⟩
  | .hbm, ⟨13, _⟩ => ⟨S256x66x6144, .f32⟩
  | .hbm, ⟨14, _⟩ => ⟨S256x64x6144, .f32⟩
  | .hbm, ⟨15, _⟩ => ⟨S1x6144, .f32⟩
  | .hbm, ⟨16, _⟩ => ⟨S6144, .f32⟩
  | .hbm, ⟨17, _⟩ => ⟨S1x1x6144, .f32⟩
  | .hbm, ⟨18, _⟩ => ⟨S256x64x6144, .f32⟩
  | .hbm, ⟨19, _⟩ => ⟨S256x64x6144, .f32⟩
  | .hbm, ⟨20, _⟩ => ⟨S256x64x6144, .f32⟩
  | .hbm, ⟨21, _⟩ => ⟨S1x6144, .f32⟩
  | .hbm, ⟨22, _⟩ => ⟨S6144, .f32⟩
  | .hbm, ⟨23, _⟩ => ⟨S1x1x6144, .f32⟩
  | .hbm, ⟨24, _⟩ => ⟨S256x64x6144, .f32⟩
  | .hbm, ⟨25, _⟩ => ⟨S256x64x6144, .f32⟩
  | .hbm, ⟨26, _⟩ => ⟨S256x64x6144, .f32⟩
  | .hbm, ⟨27, _⟩ => ⟨S256x64x6144, .f32⟩
  | .hbm, ⟨28, _⟩ => ⟨S1x6144, .f32⟩
  | .hbm, ⟨29, _⟩ => ⟨S6144, .f32⟩
  | .hbm, ⟨30, _⟩ => ⟨S1x1x6144, .f32⟩
  | .hbm, ⟨31, _⟩ => ⟨S256x64x6144, .f32⟩
  | .hbm, ⟨32, _⟩ => ⟨S256x64x6144, .f32⟩
  | .hbm, ⟨33, _⟩ => ⟨S256x64x6144, .f32⟩
  | .hbm, ⟨34, _⟩ => ⟨S256x64x6144, .f32⟩
  | .hbm, ⟨35, _⟩ => ⟨S256x64x6144, .f32⟩
  | .hbm, ⟨36, _⟩ => ⟨S_, .f32⟩
  | .hbm, ⟨37, _⟩ => ⟨S256x64x6144, .f32⟩
  | .hbm, ⟨38, _⟩ => ⟨S256x64x6144, .f32⟩
  | .hbm, ⟨39, _⟩ => ⟨S_, .f32⟩
  | .hbm, ⟨40, _⟩ => ⟨S256x64x6144, .f32⟩
  | .hbm, ⟨41, _⟩ => ⟨S256x64x6144, .f32⟩
  | .hbm, ⟨42, _⟩ => ⟨S256x64x6144, .f32⟩
  | .hbm, ⟨43, _⟩ => ⟨S256x64x4096, .f32⟩
  | .hbm, ⟨44, _⟩ => ⟨S16384x32x128, .f32⟩
  | .hbm, ⟨45, _⟩ => ⟨S16384x32x128, .f32⟩
  | .hbm, ⟨46, _⟩ => ⟨S_, .f32⟩
  | .hbm, ⟨47, _⟩ => ⟨S16384x32, .f32⟩
  | .hbm, ⟨48, _⟩ => ⟨S16384x32x1, .f32⟩
  | .hbm, ⟨49, _⟩ => ⟨S_, .f32⟩
  | .hbm, ⟨50, _⟩ => ⟨S16384x32x1, .f32⟩
  | .hbm, ⟨51, _⟩ => ⟨S16384x32x1, .f32⟩
  | .hbm, ⟨52, _⟩ => ⟨S16384x32x1, .f32⟩
  | .hbm, ⟨53, _⟩ => ⟨S16384x32x128, .f32⟩
  | .hbm, ⟨54, _⟩ => ⟨S16384x32x128, .f32⟩
  | .hbm, ⟨55, _⟩ => ⟨S16384x4096, .f32⟩
  | .hbm, ⟨56, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_v33 : Ref sig .tc := ⟨.hbm, 47, rfl⟩
abbrev main_v34 : Ref sig .tc := ⟨.hbm, 48, rfl⟩
abbrev main_cst_0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel10.lean ====
abbrev S16384x2048 : Shape := ⟨2, ![16384, 2048]⟩
abbrev S2048x18496 : Shape := ⟨2, ![2048, 18496]⟩
abbrev S3x6144 : Shape := ⟨2, ![3, 6144]⟩
abbrev S1024x2048 : Shape := ⟨2, ![1024, 2048]⟩
abbrev S2048x512 : Shape := ⟨2, ![2048, 512]⟩
abbrev S3x512 : Shape := ⟨2, ![3, 512]⟩
abbrev S1024x512 : Shape := ⟨2, ![1024, 512]⟩
abbrev S2x1x144x256 : Shape := ⟨4, ![2, 1, 144, 256]⟩
abbrev S128x2048 : Shape := ⟨2, ![128, 2048]⟩
abbrev S2048x256 : Shape := ⟨2, ![2048, 256]⟩
abbrev S128x256 : Shape := ⟨2, ![128, 256]⟩
abbrev S1x256 : Shape := ⟨2, ![1, 256]⟩
abbrev S1x1x1x256 : Shape := ⟨4, ![1, 1, 1, 256]⟩
abbrev S1x1x128x256 : Shape := ⟨4, ![1, 1, 128, 256]⟩
abbrev S3x256 : Shape := ⟨2, ![3, 256]⟩
abbrev S128x1 : Shape := ⟨2, ![128, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x18496, .f32⟩
  | .hbm, ⟨2, _⟩ => ⟨S3x6144, .f32⟩
  | .hbm, ⟨3, _⟩ => ⟨S2048x18496, .bf16⟩
  | .hbm, ⟨4, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S3x512, .f32⟩
  | .local _ .vmem, ⟨5, _⟩ => ⟨S3x512, .f32⟩
  | .local _ .vmem, ⟨6, _⟩ => ⟨S1024x512, .bf16⟩
  | .local _ .vmem, ⟨7, _⟩ => ⟨S1024x512, .bf16⟩
  | .local _ .vmem, ⟨8, _⟩ => ⟨S2x1x144x256, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S16384x2048 : Shape := ⟨2, ![16384, 2048]⟩
abbrev S2048x18496 : Shape := ⟨2, ![2048, 18496]⟩
abbrev S3x6144 : Shape := ⟨2, ![3, 6144]⟩
abbrev S16384x18496 : Shape := ⟨2, ![16384, 18496]⟩
abbrev S16384x6144 : Shape := ⟨2, ![16384, 6144]⟩
abbrev S16384x64 : Shape := ⟨2, ![16384, 64]⟩
abbrev S16384x4096 : Shape := ⟨2, ![16384, 4096]⟩
abbrev S256x64x6144 : Shape := ⟨3, ![256, 64, 6144]⟩
abbrev S_ : Shape := ⟨0, ![]⟩
abbrev S256x66x6144 : Shape := ⟨3, ![256, 66, 6144]⟩
abbrev S1x6144 : Shape := ⟨2, ![1, 6144]⟩
abbrev S6144 : Shape := ⟨1, ![6144]⟩
abbrev S1x1x6144 : Shape := ⟨3, ![1, 1, 6144]⟩
abbrev S256x64x2048 : Shape := ⟨3, ![256, 64, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x18496, .f32⟩
  | .hbm, ⟨2, _⟩ => ⟨S3x6144, .f32⟩
  | .hbm, ⟨3, _⟩ => ⟨S16384x2048, .f32⟩
  | .hbm, ⟨4, _⟩ => ⟨S16384x18496, .f32⟩
  | .hbm, ⟨5, _⟩ => ⟨S16384x6144, .f32⟩
  | .hbm, ⟨6, _⟩ => ⟨S16384x6144, .f32⟩
  | .hbm, ⟨7, _⟩ => ⟨S16384x2048, .f32⟩
  | .hbm, ⟨8, _⟩ => ⟨S16384x64, .f32⟩
  | .hbm, ⟨9, _⟩ => ⟨S16384x4096, .f32⟩
  | .hbm, ⟨10, _⟩ => ⟨S256x64x6144, .f32⟩
  | .hbm, ⟨11, _⟩ => ⟨S_, .i32⟩
  | .hbm, ⟨12, _⟩ => ⟨S_, .f32⟩
  | .hbm, ⟨13, _⟩ => ⟨S256x66x6144, .f32⟩
  | .hbm, ⟨14, _⟩ => ⟨S256x64x6144, .f32⟩
  | .hbm, ⟨15, _⟩ => ⟨S1x6144, .f32⟩
  | .hbm, ⟨16, _⟩ => ⟨S6144, .f32⟩
  | .hbm, ⟨17, _⟩ => ⟨S1x1x6144, .f32⟩
  | .hbm, ⟨18, _⟩ => ⟨S256x64x6144, .f32⟩
  | .hbm, ⟨19, _⟩ => ⟨S256x64x6144, .f32⟩
  | .hbm, ⟨20, _⟩ => ⟨S256x64x6144, .f32⟩
  | .hbm, ⟨21, _⟩ => ⟨S1x6144, .f32⟩
  | .hbm, ⟨22, _⟩ => ⟨S6144, .f32⟩
  | .hbm, ⟨23, _⟩ => ⟨S1x1x6144, .f32⟩
  | .hbm, ⟨24, _⟩ => ⟨S256x64x6144, .f32⟩
  | .hbm, ⟨25, _⟩ => ⟨S256x64x6144, .f32⟩
  | .hbm, ⟨26, _⟩ => ⟨S256x64x6144, .f32⟩
  | .hbm, ⟨27, _⟩ => ⟨S256x64x6144, .f32⟩
  | .hbm, ⟨28, _⟩ => ⟨S1x6144, .f32⟩
  | .hbm, ⟨29, _⟩ => ⟨S6144, .f32⟩
  | .hbm, ⟨30, _⟩ => ⟨S1x1x6144, .f32⟩
  | .hbm, ⟨31, _⟩ => ⟨S256x64x6144, .f32⟩
  | .hbm, ⟨32, _⟩ => ⟨S256x64x6144, .f32⟩
  | .hbm, ⟨33, _⟩ => ⟨S256x64x6144, .f32⟩
  | .hbm, ⟨34, _⟩ => ⟨S256x64x6144, .f32⟩
  | .hbm, ⟨35, _⟩ => ⟨S256x64x6144, .f32⟩
  | .hbm, ⟨36, _⟩ => ⟨S_, .f32⟩
  | .hbm, ⟨37, _⟩ => ⟨S256x64x6144, .f32⟩
  | .hbm, ⟨38, _⟩ => ⟨S256x64x6144, .f32⟩
  | .hbm, ⟨39, _⟩ => ⟨S_, .f32⟩
  | .hbm, ⟨40, _⟩ => ⟨S256x64x6144, .f32⟩
  | .hbm, ⟨41, _⟩ => ⟨S256x64x6144, .f32⟩
  | .hbm, ⟨42, _⟩ => ⟨S256x64x6144, .f32⟩
  | .hbm, ⟨43, _⟩ => ⟨S256x64x2048, .f32⟩
  | .hbm, ⟨44, _⟩ => ⟨S16384x2048, .f32⟩
  | .hbm, ⟨45, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Chain.lean ====
/- One chunk of one head, as the kernel computes it: the vector operations that take a chunk's query, key and value
   rows, its scales and decays, and the state before the chunk, to the chunk's output rows and the state after it.
   Every head of both directions runs these operations; the directions differ in the masks and in the row whose decay
   is the chunk's last. -/
module

public import proofs.«01_k».proof.Proof.Gen.KernelIdeal

@[expose] public section

noncomputable section

namespace Cert.KernelIdeal.Chain

open Cert.KernelIdeal Cert.KernelIdeal.Facts₀ Cert.KernelIdeal.Facts Idealize.ShloMosaic Idealize.SL.Sem

variable {F : FTy → Type} [FloatOps F]

/-- The quotient by `d`, rounded down, of each entry of `x`, as the kernel spells it. -/
def floorDiv (x : IVec S64x64 32) (d : BitVec 32) : IVec S64x64 32 :=
  select
    (andi
      (cmpi .ne
        (subi (extui 32 (cmpi .sgt x (broadcast S64x64 0#32)) natLt_1_32)
          (extui 32 (cmpi .slt x (broadcast S64x64 0#32)) natLt_1_32))
        (broadcast S64x64
          (Scalar.subi (Scalar.extui (Scalar.cmpi .sgt d 0#32)) (Scalar.extui (Scalar.cmpi .slt d 0#32)))))
      (cmpi .ne (remsi x (broadcast S64x64 d)) (broadcast S64x64 0#32)))
    (subi (divsi x (broadcast S64x64 d)) (broadcast S64x64 1#32))
    (divsi x (broadcast S64x64 d))

/-- The row and the column of each entry. -/
def rowIx : IVec S64x64 32 := iota .tc S64x64 32 [0] iota_S64x64_d0_w32
def colIx : IVec S64x64 32 := iota .tc S64x64 32 [1] iota_S64x64_d1_w32

/-- The entries of the diagonal blocks of width sixteen. -/
def same : IVec S64x64 1 := cmpi .eq (floorDiv rowIx 16#32) (floorDiv colIx 16#32)

/-- The entries of a block of width `2 s` that lie outside its two diagonal blocks of width `s`. -/
def between (s s2 : BitVec 32) : IVec S64x64 1 :=
  andi (cmpi .eq (floorDiv rowIx s2) (floorDiv colIx s2)) (cmpi .ne (floorDiv rowIx s) (floorDiv colIx s))

/-- The entries of sixteen rows that lie in their row's column of each block. -/
def place : IVec S16x64 1 :=
  let cs : IVec S16x64 32 := iota .tc S16x64 32 [1] iota_S16x64_d1_w32
  let d : BitVec 32 := Scalar.select (Scalar.cmpi .eq 16#32 0#32) 1#32 16#32
  let r : IVec S16x64 32 := remsi cs (broadcast S16x64 d)
  cmpi .eq (iota .tc S16x64 32 [0] iota_S16x64_d0_w32)
    (select
      (andi
        (xori (cmpi .slt r (broadcast S16x64 0#32))
          (broadcastTo S16x64 (broadcast S16x64 (Scalar.cmpi .slt d 0#32)) broadcasts_S16x64_S16x64))
        (cmpi .ne r (broadcast S16x64 0#32)))
      (addi r (broadcast S16x64 d)) r)

/-- Sixteen rows, each holding a one in its column of every block. -/
def eye : FVec F S16x64 .f32 :=
  select place
    (broadcast S16x64 (Scalar.ofBits .f32 0x3F800000#32)) (broadcast S16x64 (Scalar.ofBits .f32 0x00000000#32))

/-- The rows a direction's row takes from: those not after it, and those strictly before it. -/
def upTo (lo : Bool) : IVec S64x64 1 := if lo then cmpi .sge rowIx colIx else cmpi .sle rowIx colIx
def before (lo : Bool) : IVec S64x64 1 := if lo then cmpi .sgt rowIx colIx else cmpi .slt rowIx colIx

/-- Zeros. -/
def zero64 : FVec F S64x64 .f32 := broadcast S64x64 (Scalar.ofBits .f32 0x00000000#32)

/-- The diagonal blocks that sixteen packed rows stand for. -/
def blockDiag (x : FVec F S16x64 .f32) : FVec F S64x64 .f32 :=
  select same
    (concatenate S64x64 0 [⟨S16x64, x⟩, ⟨S16x64, x⟩, ⟨S16x64, x⟩, ⟨S16x64, x⟩]
      concatenates_S16x64_S16x64_S16x64_S16x64_S64x64_d0)
    zero64

/-- The product of sixteen packed rows with the blocks another sixteen stand for. -/
def packMul (x y : FVec F S16x64 .f32) : FVec F S16x64 .f32 :=
  matmul dot_S16x64_S64x64_S16x64_1_0_0_1_n_n none (truncf .bf16 x bitsLt_bf16_f32)
    (truncf .bf16 (blockDiag y) bitsLt_bf16_f32) (constant S16x64 .f32 0x00000000#32)

/-- The four diagonal blocks of `- a`, packed. -/
def packNeg (a : FVec F S64x64 .f32) : FVec F S16x64 .f32 :=
  let n : FVec F S64x64 .f32 := select same (subf zero64 a) zero64
  addf (addf (addf (addf (broadcast S16x64 (Scalar.ofBits .f32 0x00000000#32))
    (extractStridedSlice S16x64 ![0, 0] n slices_S64x64_o0_0_S16x64))
    (extractStridedSlice S16x64 ![16, 0] n slices_S64x64_o16_0_S16x64))
    (extractStridedSlice S16x64 ![32, 0] n slices_S64x64_o32_0_S16x64))
    (extractStridedSlice S16x64 ![48, 0] n slices_S64x64_o48_0_S16x64)

/-- One round of the inverse: blocks of width `s` joined in pairs. -/
def joined (m : IVec S64x64 1) (a p : FVec F S64x64 .f32) : FVec F S64x64 .f32 :=
  subf p
    (matmul dot_S64x64_S64x64_S64x64_1_0_0_1_n_n none
      (truncf .bf16
        (matmul dot_S64x64_S64x64_S64x64_1_0_0_1_n_n none (truncf .bf16 p bitsLt_bf16_f32)
          (truncf .bf16 (select m a zero64) bitsLt_bf16_f32) (constant S64x64 .f32 0x00000000#32))
        bitsLt_bf16_f32)
      (truncf .bf16 p bitsLt_bf16_f32) (constant S64x64 .f32 0x00000000#32))

/-- The packed powers and the packed product after one doubling more. -/
def power (x : FVec F S16x64 .f32) : FVec F S16x64 .f32 := packMul x x
def product (p x : FVec F S16x64 .f32) : FVec F S16x64 .f32 := addf p (packMul p x)

/-- The inverse of `1 + a`. -/
def inverse (a : FVec F S64x64 .f32) : FVec F S64x64 .f32 :=
  let x := packNeg a
  let x2 := power x
  let x4 := power x2
  let x8 := power x4
  joined (between 32#32 64#32) a (joined (between 16#32 32#32) a
    (blockDiag (product (product (product (addf eye x) x2) x4) x8)))

/-- The decay from each row to each other, on the rows `inc` lets in. -/
def decay (inc : IVec S64x64 1) (gcol : FVec F S64x1 .f32) (grow : FVec F S1x64 .f32) : FVec F S64x64 .f32 :=
  exp (select inc
    (subf (broadcastTo S64x64 gcol broadcasts_S64x1_S64x64) (broadcastTo S64x64 grow broadcasts_S1x64_S64x64))
    (broadcast S64x64 (Scalar.ofBits .f32 0xFF800000#32)))

/-- The keys, scaled. -/
def scaledKeys (k : FVec F S64x128 .bf16) (beta : FVec F S64x1 .f32) : FVec F S64x128 .f32 :=
  mulf (extf .f32 k bitsLt_bf16_f32) (broadcastTo S64x128 beta broadcasts_S64x1_S64x128)

/-- The products of the scaled keys, then of the queries, with the keys. -/
def keyProducts (q k : FVec F S64x128 .bf16) (beta : FVec F S64x1 .f32) : FVec F S128x64 .f32 :=
  matmul dot_S128x128_S64x128_S128x64_1_1_0_0_n_n none
    (concatenate S128x128 0 [⟨S64x128, truncf .bf16 (scaledKeys k beta) bitsLt_bf16_f32⟩, ⟨S64x128, q⟩]
      concatenates_S64x128_S64x128_S128x128_d0) k (constant S128x64 .f32 0x00000000#32)

/-- The triangular system's matrix, less the identity. -/
def system (inc str : IVec S64x64 1) (q k : FVec F S64x128 .bf16) (beta gcol : FVec F S64x1 .f32)
    (grow : FVec F S1x64 .f32) : FVec F S64x64 .f32 :=
  select str (mulf (extractStridedSlice S64x64 ![0, 0] (keyProducts q k beta) slices_S128x64_o0_0_S64x64)
    (decay inc gcol grow)) zero64

/-- The queries' weights on the chunk's own rows. -/
def weights (inc : IVec S64x64 1) (q k : FVec F S64x128 .bf16) (beta gcol : FVec F S64x1 .f32)
    (grow : FVec F S1x64 .f32) : FVec F S64x64 .bf16 :=
  truncf .bf16 (mulf
    (select inc (mulf (extractStridedSlice S64x64 ![64, 0] (keyProducts q k beta) slices_S128x64_o64_0_S64x64)
      (decay inc gcol grow)) zero64)
    (broadcast S64x64 (Scalar.ofBits .f32 0x3DB504F3#32))) bitsLt_bf16_f32

/-- The system's right-hand sides: the scaled values, and the scaled keys decayed from the chunk's start. -/
def sides (k v : FVec F S64x128 .bf16) (beta gcol : FVec F S64x1 .f32) : FVec F S64x256 .bf16 :=
  truncf .bf16 (concatenate S64x256 1
    [⟨S64x128, mulf (extf .f32 v bitsLt_bf16_f32) (broadcastTo S64x128 beta broadcasts_S64x1_S64x128)⟩,
     ⟨S64x128, mulf (scaledKeys k beta) (broadcastTo S64x128 (exp gcol) broadcasts_S64x1_S64x128)⟩]
    concatenates_S64x128_S64x128_S64x256_d1) bitsLt_bf16_f32

/-- The system's solutions. -/
def solution (inc str : IVec S64x64 1) (q k v : FVec F S64x128 .bf16) (beta gcol : FVec F S64x1 .f32)
    (grow : FVec F S1x64 .f32) : FVec F S64x256 .f32 :=
  matmul dot_S64x64_S64x256_S64x256_1_0_0_1_n_n none
    (truncf .bf16 (inverse (system inc str q k beta gcol grow)) bitsLt_bf16_f32) (sides k v beta gcol)
    (constant S64x256 .f32 0x00000000#32)

/-- The queries, scaled and decayed from the chunk's start. -/
def decayedQueries (q : FVec F S64x128 .bf16) (gcol : FVec F S64x1 .f32) : FVec F S64x128 .bf16 :=
  truncf .bf16 (mulf (extf .f32 q bitsLt_bf16_f32)
    (broadcastTo S64x128 (mulf (exp gcol) (broadcast S64x1 (Scalar.ofBits .f32 0x3DB504F3#32)))
      broadcasts_S64x1_S64x128)) bitsLt_bf16_f32

/-- The keys, decayed to the chunk's end. -/
def decayedKeys (k : FVec F S64x128 .bf16) (gcol : FVec F S64x1 .f32) (glast : FVec F S1x1 .f32) :
    FVec F S64x128 .bf16 :=
  truncf .bf16 (mulf (extf .f32 k bitsLt_bf16_f32)
    (broadcastTo S64x128 (exp (subf (broadcastTo S64x1 glast broadcasts_S1x1_S64x1) gcol))
      broadcasts_S64x1_S64x128)) bitsLt_bf16_f32

/-- The decayed keys' and the decayed queries' readings of the state. -/
def readings (inc str : IVec S64x64 1) (q k v : FVec F S64x128 .bf16) (beta gcol : FVec F S64x1 .f32)
    (grow : FVec F S1x64 .f32) (s : FVec F S128x128 .f32) : FVec F S128x128 .f32 :=
  matmul dot_S128x128_S128x128_S128x128_1_0_0_1_n_n none
    (concatenate S128x128 0
      [⟨S64x128, truncf .bf16 (extractStridedSlice S64x128 ![0, 128] (solution inc str q k v beta gcol grow)
          slices_S64x256_o0_128_S64x128) bitsLt_bf16_f32⟩, ⟨S64x128, decayedQueries q gcol⟩]
      concatenates_S64x128_S64x128_S128x128_d0)
    (truncf .bf16 s bitsLt_bf16_f32) (constant S128x128 .f32 0x00000000#32)

/-- The chunk's new values. -/
def newValues (inc str : IVec S64x64 1) (q k v : FVec F S64x128 .bf16) (beta gcol : FVec F S64x1 .f32)
    (grow : FVec F S1x64 .f32) (s : FVec F S128x128 .f32) : FVec F S64x128 .bf16 :=
  truncf .bf16 (subf
    (extractStridedSlice S64x128 ![0, 0] (solution inc str q k v beta gcol grow) slices_S64x256_o0_0_S64x128)
    (extractStridedSlice S64x128 ![0, 0] (readings inc str q k v beta gcol grow s) slices_S128x128_o0_0_S64x128))
    bitsLt_bf16_f32

/-- The chunk's output rows. -/
def output (inc str : IVec S64x64 1) (q k v : FVec F S64x128 .bf16) (beta gcol : FVec F S64x1 .f32)
    (grow : FVec F S1x64 .f32) (s : FVec F S128x128 .f32) : FVec F S64x128 .bf16 :=
  truncf .bf16 (addf
    (extractStridedSlice S64x128 ![64, 0] (readings inc str q k v beta gcol grow s) slices_S128x128_o64_0_S64x128)
    (matmul dot_S64x64_S64x128_S64x128_1_0_0_1_n_n none (weights inc q k beta gcol grow)
      (newValues inc str q k v beta gcol grow s) (constant S64x128 .f32 0x00000000#32))) bitsLt_bf16_f32

/-- The state after the chunk. -/
def next (inc str : IVec S64x64 1) (q k v : FVec F S64x128 .bf16) (beta gcol : FVec F S64x1 .f32)
    (grow : FVec F S1x64 .f32) (glast : FVec F S1x1 .f32) (s : FVec F S128x128 .f32) : FVec F S128x128 .f32 :=
  addf (mulf s (broadcastTo S128x128 (exp glast) broadcasts_S1x1_S128x128))
    (matmul dot_S64x128_S64x128_S128x128_0_0_1_1_n_n none (decayedKeys k gcol glast)
      (newValues inc str q k v beta gcol grow s) (constant S128x128 .f32 0x00000000#32))

end Cert.KernelIdeal.Chain

end
-- ==== Proof.Heads.lean ====
/- One grid point's stores: the sixteen heads of a direction, each a chain (Chain.lean) of its columns of the point's
   blocks, and the lists of pieces that the run of the body finds. -/
module

public import proofs.«01_k».proof.Proof.Chain
public import Idealize.ShloMosaic.Lib.Pipeline.FrameBody

@[expose] public section

set_option maxRecDepth 16384

noncomputable section

namespace Cert.KernelIdeal.Heads

open Cert.KernelIdeal Cert.KernelIdeal.Facts₀ Cert.KernelIdeal.Facts Idealize.ShloMosaic Idealize.SL.Sem
open Cert.KernelIdeal.Chain

variable {F : FTy → Type} [FloatOps F]

theorem slab_inb (j : Fin 16) : ∀ a : Fin 2, ![0, 128 * j.val] a + S64x128.size a ≤ S64x2048.size a := by
  revert j; decide

theorem column_inb (o : Fin 128) : S64x128.Slices ![0, o.val] S64x1 := by
  revert o; decide

theorem row_inb (o : Fin 128) : S128x64.Slices ![o.val, 0] S1x64 := by
  revert o; decide

theorem last_inb (lo : Bool) : S64x1.Slices ![cond lo 63 0, 0] S1x1 := by
  revert lo; decide

theorem block_inb : ∀ a : Fin 2, ![0, 0] a + S64x128.size a ≤ S64x128.size a := by decide

theorem rows_inb : ∀ a : Fin 4, ![0, 0, 0, 0] a + S1x1x128x64.size a ≤ S1x1x128x64.size a := by decide

theorem half_inb : ∀ a : Fin 4, ![0, 0, 0, 0] a + S1x16x128x128.size a ≤ S1x16x128x128.size a := by decide

/-- Head `j`'s 128 columns of a block of rows. -/
def slab (x : Vec F S64x2048 .bf16) (j : Fin 16) : FVec F S64x128 .bf16 :=
  shapeCast S64x128 (View.ld x (Rect.unit ![0, 128 * j.val] S64x128.size (slab_inb j))) shapeCasts_S64x128_S64x128

/-- Column `o` of a block of scalars. -/
def column (x : Vec F S64x128 .f32) (o : Fin 128) : FVec F S64x1 .f32 :=
  extractStridedSlice S64x1 ![0, o.val]
    (shapeCast S64x128 (View.ld x (Rect.unit ![0, 0] S64x128.size block_inb)) shapeCasts_S64x128_S64x128)
    (column_inb o)

/-- Row `o` of a transposed block of scalars. -/
def row (x : Vec F S1x1x128x64 .f32) (o : Fin 128) : FVec F S1x64 .f32 :=
  extractStridedSlice S1x64 ![o.val, 0]
    (shapeCast S128x64 (View.ld x (Rect.unit ![0, 0, 0, 0] S1x1x128x64.size rows_inb)) shapeCasts_S1x1x128x64_S128x64)
    (row_inb o)

/-- The columns of head `j`'s scales and of its decays. -/
def scaleCol (lo : Bool) (j : Fin 16) : Fin 128 := ⟨cond lo 0 16 + j.val, by cases lo <;> simp <;> omega⟩
def decayCol (lo : Bool) (j : Fin 16) : Fin 128 := ⟨cond lo 32 48 + j.val, by cases lo <;> simp <;> omega⟩

/-- Head `j`'s output rows from the state `s`. -/
def outputAt (lo : Bool) (q k v : Vec F S64x2048 .bf16) (sc : Vec F S64x128 .f32) (sr : Vec F S1x1x128x64 .f32)
    (s : FVec F S128x128 .f32) (j : Fin 16) : FVec F S64x128 .bf16 :=
  output (upTo lo) (before lo) (slab q j) (slab k j) (slab v j) (column sc (scaleCol lo j)) (column sc (decayCol lo j))
    (row sr (decayCol lo j)) s

/-- Head `j`'s state after the chunk. -/
def nextAt (lo : Bool) (q k v : Vec F S64x2048 .bf16) (sc : Vec F S64x128 .f32) (sr : Vec F S1x1x128x64 .f32)
    (s : FVec F S128x128 .f32) (j : Fin 16) : FVec F S128x128 .f32 :=
  next (upTo lo) (before lo) (slab q j) (slab k j) (slab v j) (column sc (scaleCol lo j)) (column sc (decayCol lo j))
    (row sr (decayCol lo j)) (extractStridedSlice S1x1 ![cond lo 63 0, 0] (column sc (decayCol lo j)) (last_inb lo)) s

theorem state_inb (lo : Bool) (j : Fin 16) :
    ∀ a : Fin 4, ![cond lo 0 1, j.val, 0, 0] a + S1x1x128x128.size a ≤ S2x16x128x128.size a := by
  revert lo j; decide

theorem side_inb (lo : Bool) :
    ∀ a : Fin 4, ![cond lo 0 1, 0, 0, 0] a + S1x16x128x128.size a ≤ S2x16x128x128.size a := by
  revert lo; decide

/-- The rectangle of a direction's head in the scratch that carries the states. -/
abbrev stateRect (lo : Bool) (j : Fin 16) : Rect S2x16x128x128 :=
  Rect.unit ![cond lo 0 1, j.val, 0, 0] S1x1x128x128.size (state_inb lo j)

/-- The rectangle of a direction in the scratch that carries the states. -/
abbrev sideRect (lo : Bool) : Rect S2x16x128x128 :=
  Rect.unit ![cond lo 0 1, 0, 0, 0] S1x16x128x128.size (side_inb lo)

/-- A head's state as a matrix. -/
def asMatrix (w : Vec F S1x1x128x128 .f32) : FVec F S128x128 .f32 :=
  shapeCast S128x128 w shapeCasts_S1x1x128x128_S128x128

/-- The stores of a direction's output rows, the last head's first. -/
def outPieces (lo : Bool) (q k v : Vec F S64x2048 .bf16) (sc : Vec F S64x128 .f32) (sr : Vec F S1x1x128x64 .f32)
    (s : Bool → Fin 16 → FVec F S128x128 .f32) : List (View.Piece (Elt F) S64x2048 .bf16) :=
  List.ofFn fun n : Fin 16 =>
    ⟨Rect.unit ![0, 128 * n.rev.val] S64x128.size (slab_inb n.rev), outputAt lo q k v sc sr (s lo n.rev) n.rev⟩

/-- The direction and the head of the `n`-th of the 32 stores of states. -/
def isLo (n : Fin 32) : Bool := Nat.beq (n.val % 2) 0
def head (n : Fin 32) : Fin 16 := ⟨n.val / 2, by omega⟩

/-- The stores of the states, the last one's first. -/
def statePieces (q k v q' k' v' : Vec F S64x2048 .bf16) (sc sc' : Vec F S64x128 .f32) (sr sr' : Vec F S1x1x128x64 .f32)
    (s : Bool → Fin 16 → FVec F S128x128 .f32) : List (View.Piece (Elt F) S2x16x128x128 .f32) :=
  List.ofFn fun n : Fin 32 =>
    ⟨stateRect (isLo n.rev) (head n.rev), shapeCast S1x1x128x128
      (match isLo n.rev with
        | true => nextAt true q k v sc sr (s true (head n.rev)) (head n.rev)
        | false => nextAt false q' k' v' sc' sr' (s false (head n.rev)) (head n.rev))
      shapeCasts_S128x128_S1x1x128x128⟩

/-- A direction's states, as the kernel spells them when it writes them whole. -/
def refold (x : Vec F S1x16x128x128 .f32) : Vec F S1x16x128x128 .f32 :=
  shapeCast S1x16x128x128 (shapeCast S16x128x128 x shapeCasts_S1x16x128x128_S16x128x128)
    shapeCasts_S16x128x128_S1x16x128x128

/-- The same of a block read whole. -/
def asSide (x : Vec F S1x16x128x128 .f32) : Vec F S1x16x128x128 .f32 :=
  refold (View.ld x (Rect.unit ![0, 0, 0, 0] S1x16x128x128.size half_inb))

/-- The two stores that set the states at a sequence's first chunk. -/
def firstPieces (x x' : Vec F S1x16x128x128 .f32) : List (View.Piece (Elt F) S2x16x128x128 .f32) :=
  [⟨sideRect false, asSide x'⟩, ⟨sideRect true, asSide x⟩]

end Cert.KernelIdeal.Heads

end
-- ==== Proof.Cover.lean ====
/- What a grid point's stores leave: a block of output rows and the scratch's states, entry by entry. -/
module

public import proofs.«01_k».proof.Proof.Heads
public import Idealize.ShloMosaic.Lib.Pipeline.ValueKit
public import Idealize.ShloMosaic.Lib.Pipeline.CanonAppend

@[expose] public section

set_option maxRecDepth 16384

noncomputable section

namespace Cert.KernelIdeal.Heads

open Cert.KernelIdeal Cert.KernelIdeal.Facts₀ Cert.KernelIdeal.Facts Idealize.ShloMosaic Idealize.SL.Sem
open Cert.KernelIdeal.Chain

variable {F : FTy → Type} [FloatOps F]

/-- The head and the lane of a column. -/
def headOf (c : Fin 2048) : Fin 16 := ⟨c.val / 128, by omega⟩
def laneOf (c : Fin 2048) : Fin 128 := ⟨c.val % 128, by omega⟩

/-- A direction's block of output rows. -/
def outBlock (lo : Bool) (q k v : Vec F S64x2048 .bf16) (sc : Vec F S64x128 .f32) (sr : Vec F S1x1x128x64 .f32)
    (s : Bool → Fin 16 → FVec F S128x128 .f32) : Vec F S64x2048 .bf16 := fun y =>
  outputAt lo q k v sc sr (s lo (headOf (y 1))) (headOf (y 1)) (ix2 (y 0) (laneOf (y 1)))

/-- The states of both directions, as the scratch holds them. -/
def states (w : Bool → Fin 16 → FVec F S128x128 .f32) : Vec F S2x16x128x128 .f32 := fun y =>
  w (Nat.beq (y 0).val 0) (y 1) (ix2 (y 2) (y 3))

/-- The states after the point's chunks. -/
def nextStates (q k v q' k' v' : Vec F S64x2048 .bf16) (sc sc' : Vec F S64x128 .f32) (sr sr' : Vec F S1x1x128x64 .f32)
    (s : Bool → Fin 16 → FVec F S128x128 .f32) (lo : Bool) (j : Fin 16) : FVec F S128x128 .f32 :=
  match lo with
  | true => nextAt true q k v sc sr (s true j) j
  | false => nextAt false q' k' v' sc' sr' (s false j) j

/-- The states that a sequence starts from. -/
def firstStates (x x' : Vec F S1x16x128x128 .f32) (lo : Bool) (j : Fin 16) : FVec F S128x128 .f32 := fun y =>
  cond lo x x' (ix4 0 j (y 0) (y 1))

theorem canon_outPieces [∀ e, Nonempty (Elt F e)] (lo : Bool) (q k v : Vec F S64x2048 .bf16) (sc : Vec F S64x128 .f32)
    (sr : Vec F S1x1x128x64 .f32) (s : Bool → Fin 16 → FVec F S128x128 .f32) :
    View.canon (outPieces lo q k v sc sr s) = outBlock lo q k v sc sr s := by
  funext y
  refine View.canon_ofFn_unit_eq_of_forall (S := S64x2048) (e := .bf16) (Val := Elt F)
    (fun n : Fin 16 => ![0, 128 * n.rev.val]) S64x128.size
    (fun n => slab_inb n.rev) (fun n => outputAt lo q k v sc sr (s lo n.rev) n.rev) y _ ?_ ?_
  · refine ⟨(headOf (y 1)).rev, fun a => ?_⟩
    have h1 : (y 1).val < 2048 := (y 1).isLt
    have h0 : (y 0).val < 64 := (y 0).isLt
    match a with
    | ⟨0, _⟩ => exact ⟨Nat.zero_le _, by show (y 0).val < 0 + 64; omega⟩
    | ⟨1, _⟩ =>
      rw [Fin.rev_rev]
      refine ⟨?_, ?_⟩
      · show 128 * ((y 1).val / 128) ≤ (y 1).val; omega
      · show (y 1).val < 128 * ((y 1).val / 128) + 128; omega
  · intro n x hx
    have h0 : (y 0).val = 0 + (x 0).val := hx 0
    have h1 : (y 1).val = 128 * n.rev.val + (x 1).val := hx 1
    have hl : (x 1).val < 128 := (x 1).isLt
    have e1 : headOf (y 1) = n.rev := Fin.ext (by show (y 1).val / 128 = _; omega)
    have e2 : (ix2 (y 0) (laneOf (y 1)) : S64x128.Idx) = x := by
      funext a
      match a with
      | ⟨0, _⟩ => exact Fin.ext (h0.trans (Nat.zero_add _))
      | ⟨1, _⟩ => exact Fin.ext (by show (y 1).val % 128 = (x 1).val; omega)
    show _ = outputAt lo q k v sc sr (s lo (headOf (y 1))) (headOf (y 1)) (ix2 (y 0) (laneOf (y 1)))
    rw [e1]
    exact congrArg (outputAt lo q k v sc sr (s lo n.rev) n.rev) e2.symm

theorem cast_unit (w : FVec F S128x128 .f32) (x : S1x1x128x128.Idx) :
    shapeCast S1x1x128x128 w shapeCasts_S128x128_S1x1x128x128 x = w (ix2 (x 2) (x 3)) := by
  have e : x = ix4 0 0 (x 2) (x 3) := funext fun a => match a with
    | ⟨0, _⟩ => Fin.ext (by have h : (x 0).val < 1 := (x 0).isLt; show (x 0).val = 0; omega)
    | ⟨1, _⟩ => Fin.ext (by have h : (x 1).val < 1 := (x 1).isLt; show (x 1).val = 0; omega)
    | ⟨2, _⟩ => rfl
    | ⟨3, _⟩ => rfl
  rw [e]
  pointwise

theorem asMatrix_at (w : Vec F S1x1x128x128 .f32) (r c : Fin 128) : asMatrix w (ix2 r c) = w (ix4 0 0 r c) := by
  unfold asMatrix
  pointwise

theorem canon_statePieces [∀ e, Nonempty (Elt F e)] (q k v q' k' v' : Vec F S64x2048 .bf16) (sc sc' : Vec F S64x128 .f32)
    (sr sr' : Vec F S1x1x128x64 .f32) (s : Bool → Fin 16 → FVec F S128x128 .f32)
    (L : List (View.Piece (Elt F) S2x16x128x128 .f32)) :
    View.canon (statePieces q k v q' k' v' sc sc' sr sr' s ++ L) =
      states (nextStates q k v q' k' v' sc sc' sr sr' s) := by
  funext y
  have h0 : (y 0).val < 2 := (y 0).isLt
  have h1 : (y 1).val < 16 := (y 1).isLt
  have h2 : (y 2).val < 128 := (y 2).isLt
  have h3 : (y 3).val < 128 := (y 3).isLt
  refine View.canon_append_of_pieces _ L _ ?_ y ?_
  · intro p hp x
    obtain ⟨n, rfl⟩ := (List.mem_ofFn).mp hp
    show shapeCast S1x1x128x128 _ shapeCasts_S128x128_S1x1x128x128 x = _
    rw [cast_unit]
    have e0 : Nat.beq (((stateRect (isLo n.rev) (head n.rev)).emb x) 0).val 0 = isLo n.rev := by
      have hx : (x 0).val < 1 := (x 0).isLt
      rw [Rect.emb_apply]
      show Nat.beq (cond (isLo n.rev) 0 1 + 1 * (x 0).val) 0 = _
      rw [show (x 0).val = 0 by omega]
      cases isLo n.rev <;> rfl
    have e1 : ((stateRect (isLo n.rev) (head n.rev)).emb x) 1 = head n.rev := Fin.ext (by
      have hx : (x 1).val < 1 := (x 1).isLt
      rw [Rect.emb_apply]
      show (head n.rev).val + 1 * (x 1).val = _
      omega)
    have e2 : ((stateRect (isLo n.rev) (head n.rev)).emb x) 2 = x 2 := Fin.ext (by
      rw [Rect.emb_apply]; show 0 + 1 * (x 2).val = (x 2).val; omega)
    have e3 : ((stateRect (isLo n.rev) (head n.rev)).emb x) 3 = x 3 := Fin.ext (by
      rw [Rect.emb_apply]; show 0 + 1 * (x 3).val = (x 3).val; omega)
    unfold states
    rw [e0, e1, e2, e3]
    cases isLo n.rev <;> rfl
  · have hm : ∀ n : Fin 32, (cond (isLo n) 0 1 : ℕ) = (y 0).val → (head n).val = (y 1).val →
        y ∈ (stateRect (isLo n) (head n)).set := fun n h h' => by
      refine Rect.mem_set_unit.mpr fun a => ?_
      match a with
      | ⟨0, _⟩ => exact ⟨le_of_eq h, by show (y 0).val < cond (isLo n) 0 1 + 1; rw [h]; omega⟩
      | ⟨1, _⟩ => exact ⟨le_of_eq h', by show (y 1).val < (head n).val + 1; rw [h']; omega⟩
      | ⟨2, _⟩ => exact ⟨Nat.zero_le _, by show (y 2).val < 0 + 128; omega⟩
      | ⟨3, _⟩ => exact ⟨Nat.zero_le _, by show (y 3).val < 0 + 128; omega⟩
    let n : Fin 32 := ⟨2 * (y 1).val + (y 0).val, by omega⟩
    refine ⟨_, (List.mem_ofFn).mpr ⟨n.rev, rfl⟩, ?_⟩
    show y ∈ (stateRect (isLo n.rev.rev) (head n.rev.rev)).set
    rw [Fin.rev_rev]
    refine hm n ?_ ?_
    · have hm : (2 * (y 1).val + (y 0).val) % 2 = (y 0).val := by omega
      show cond (Nat.beq ((2 * (y 1).val + (y 0).val) % 2) 0) 0 1 = (y 0).val
      rw [hm]
      rcases (show (y 0).val = 0 ∨ (y 0).val = 1 by omega) with h | h <;> rw [h] <;> rfl
    · show (2 * (y 1).val + (y 0).val) / 2 = _
      omega

theorem ld_half (x : Vec F S1x16x128x128 .f32) : View.ld x (Rect.unit ![0, 0, 0, 0] S1x16x128x128.size half_inb) = x :=
  View.ld_unit_zero (by funext a; fin_cases a <;> rfl) half_inb x

theorem first_zero (y : S1x16x128x128.Idx) : y = ix4 0 (y 1) (y 2) (y 3) := funext fun a => match a with
  | ⟨0, _⟩ => Fin.ext (by have h : (y 0).val < 1 := (y 0).isLt; show (y 0).val = 0; omega)
  | ⟨1, _⟩ => rfl
  | ⟨2, _⟩ => rfl
  | ⟨3, _⟩ => rfl

theorem refold_eq (x : Vec F S1x16x128x128 .f32) : refold x = x := by
  unfold refold
  funext y
  rw [first_zero y]
  generalize (y 1 : Fin 16) = a, (y 2 : Fin 128) = b, (y 3 : Fin 128) = d
  pointwise

theorem asSide_eq (x : Vec F S1x16x128x128 .f32) : asSide x = x := by
  unfold asSide
  rw [refold_eq, ld_half]

theorem canon_firstPieces [∀ e, Nonempty (Elt F e)] (x x' : Vec F S1x16x128x128 .f32) :
    View.canon (firstPieces x x') = states (firstStates x x') := by
  funext y
  have h0 : (y 0).val < 2 := (y 0).isLt
  have h1 : (y 1).val < 16 := (y 1).isLt
  have h2 : (y 2).val < 128 := (y 2).isLt
  have h3 : (y 3).val < 128 := (y 3).isLt
  have key : ∀ (lo : Bool) (z : (sideRect lo).shape.Idx),
      asSide (cond lo x x') z = states (firstStates x x') ((sideRect lo).emb z) := by
    intro lo z
    have hz : (z 0).val < 1 := (z 0).isLt
    rw [asSide_eq]
    have e0 : Nat.beq (((sideRect lo).emb z) 0).val 0 = lo := by
      rw [Rect.emb_apply]
      show Nat.beq (cond lo 0 1 + 1 * (z 0).val) 0 = _
      rw [show (z 0).val = 0 by omega]
      cases lo <;> rfl
    have e1 : ((sideRect lo).emb z) 1 = z 1 := Fin.ext (by
      rw [Rect.emb_apply]; show 0 + 1 * (z 1).val = (z 1).val; omega)
    have e2 : ((sideRect lo).emb z) 2 = z 2 := Fin.ext (by
      rw [Rect.emb_apply]; show 0 + 1 * (z 2).val = (z 2).val; omega)
    have e3 : ((sideRect lo).emb z) 3 = z 3 := Fin.ext (by
      rw [Rect.emb_apply]; show 0 + 1 * (z 3).val = (z 3).val; omega)
    unfold states firstStates
    rw [e0, e1, e2, e3]
    exact congrArg (cond lo x x') (first_zero z)
  refine View.canon_apply_of_pieces _ _ ?_ y ?_
  · intro p hp z
    rcases List.mem_cons.mp hp with rfl | hp
    · exact key false z
    · rcases List.mem_singleton.mp hp with rfl
      exact key true z
  · have hm : ∀ lo : Bool, (cond lo 0 1 : ℕ) = (y 0).val → y ∈ (sideRect lo).set := fun lo h => by
      refine Rect.mem_set_unit.mpr fun a => ?_
      match a with
      | ⟨0, _⟩ => exact ⟨le_of_eq h, by show (y 0).val < cond lo 0 1 + 1; rw [h]; omega⟩
      | ⟨1, _⟩ => exact ⟨Nat.zero_le _, by show (y 1).val < 0 + 16; omega⟩
      | ⟨2, _⟩ => exact ⟨Nat.zero_le _, by show (y 2).val < 0 + 128; omega⟩
      | ⟨3, _⟩ => exact ⟨Nat.zero_le _, by show (y 3).val < 0 + 128; omega⟩
    rcases (show (y 0).val = 0 ∨ (y 0).val = 1 by omega) with h | h
    · exact ⟨_, List.mem_cons_of_mem _ (List.mem_singleton.mpr rfl), hm true h.symm⟩
    · exact ⟨_, List.mem_cons_self, hm false h.symm⟩

/-- The states that the scratch's contents hold. -/
def held (x : Vec F S2x16x128x128 .f32) (lo : Bool) (j : Fin 16) : FVec F S128x128 .f32 :=
  asMatrix (View.ld x (stateRect lo j))

theorem held_states (w : Bool → Fin 16 → FVec F S128x128 .f32) : held (states w) = w := by
  funext lo j y
  unfold held
  rw [eq_ix2 y]
  refine (asMatrix_at _ _ _).trans ?_
  have e0 : Nat.beq (((stateRect lo j).emb (ix4 0 0 (y 0) (y 1))) 0).val 0 = lo := by
    rw [Rect.emb_apply]
    show Nat.beq (cond lo 0 1 + 1 * 0) 0 = _
    cases lo <;> rfl
  have e1 : ((stateRect lo j).emb (ix4 0 0 (y 0) (y 1))) 1 = j := Fin.ext (by
    rw [Rect.emb_apply]; show j.val + 1 * 0 = j.val; omega)
  have e2 : ((stateRect lo j).emb (ix4 0 0 (y 0) (y 1))) 2 = y 0 := Fin.ext (by
    rw [Rect.emb_apply]; show 0 + 1 * (y 0).val = (y 0).val; omega)
  have e3 : ((stateRect lo j).emb (ix4 0 0 (y 0) (y 1))) 3 = y 1 := Fin.ext (by
    rw [Rect.emb_apply]; show 0 + 1 * (y 1).val = (y 1).val; omega)
  show states w ((stateRect lo j).emb (ix4 0 0 (y 0) (y 1))) = _
  unfold states
  rw [e0, e1, e2, e3]

/-- A direction's states, read back whole. -/
theorem side_of_states (w : Bool → Fin 16 → FVec F S128x128 .f32) (lo : Bool) (j : Fin 16) (r c : Fin 128) :
    View.ld (states w) (sideRect lo) (ix4 0 j r c) = w lo j (ix2 r c) := by
  have e0 : Nat.beq (((sideRect lo).emb (ix4 0 j r c)) 0).val 0 = lo := by
    rw [Rect.emb_apply]
    show Nat.beq (cond lo 0 1 + 1 * 0) 0 = _
    cases lo <;> rfl
  have e1 : ((sideRect lo).emb (ix4 0 j r c)) 1 = j := Fin.ext (by
    rw [Rect.emb_apply]; show 0 + 1 * j.val = j.val; omega)
  have e2 : ((sideRect lo).emb (ix4 0 j r c)) 2 = r := Fin.ext (by
    rw [Rect.emb_apply]; show 0 + 1 * r.val = r.val; omega)
  have e3 : ((sideRect lo).emb (ix4 0 j r c)) 3 = c := Fin.ext (by
    rw [Rect.emb_apply]; show 0 + 1 * c.val = c.val; omega)
  show states w ((sideRect lo).emb (ix4 0 j r c)) = _
  unfold states
  rw [e0, e1, e2, e3]

/-- The states of one direction as a block. -/
def sideBlock (w : Fin 16 → FVec F S128x128 .f32) : Vec F S1x16x128x128 .f32 := fun y => w (y 1) (ix2 (y 2) (y 3))

theorem ld_side (w : Bool → Fin 16 → FVec F S128x128 .f32) (lo : Bool) :
    View.ld (states w) (sideRect lo) = sideBlock (w lo) := by
  funext y
  have e : y = ix4 0 (y 1) (y 2) (y 3) := first_zero y
  refine (congrArg (View.ld (states w) (sideRect lo)) e).trans ((side_of_states w lo (y 1) (y 2) (y 3)).trans ?_)
  rfl

/-- A covered reading of states that a list of stores leaves. -/
theorem held_cover [∀ e, Nonempty (Elt F e)] (v : View sig .tc .vmem S2x16x128x128 .f32)
    (L : List (View.Piece (Elt F) S2x16x128x128 .f32)) (w : Bool → Fin 16 → FVec F S128x128 .f32)
    (h : View.canon L = states w) :
    (fun lo j => asMatrix (v.readCov L (stateRect lo j).toLoadRect)) = w := by
  rw [← held_states w, ← h]
  funext lo j
  exact congrArg asMatrix (View.readCov_eq_canon' v L _)

theorem side_cover [∀ e, Nonempty (Elt F e)] (v : View sig .tc .vmem S2x16x128x128 .f32)
    (L : List (View.Piece (Elt F) S2x16x128x128 .f32)) (w : Bool → Fin 16 → FVec F S128x128 .f32)
    (h : View.canon L = states w) (lo : Bool) :
    v.readCov L (sideRect lo).toLoadRect = sideBlock (w lo) := by
  rw [← ld_side w lo, ← h]
  exact View.readCov_eq_canon' v L _

theorem canon_whole [∀ e, Nonempty (Elt F e)] (x : Vec F S1x16x128x128 .f32) :
    View.canon [(⟨Rect.unit ![0, 0, 0, 0] S1x16x128x128.size half_inb, x⟩ : View.Piece (Elt F) S1x16x128x128 .f32)] = x :=
  View.canon_unit_zero (by funext a; fin_cases a <;> rfl) half_inb x

end Cert.KernelIdeal.Heads

end
-- ==== Proof.StoresA.lean ====
/- The stores of a grid point at a sequence's first chunk, as the heads' chains. -/
module

public import proofs.«01_k».proof.Proof.Cover
public import proofs.«01_k».proof.Proof.Gen.KernelIdeal.Frame.RunA

@[expose] public section

set_option maxRecDepth 16384

noncomputable section

namespace Cert.KernelIdeal.Heads

open Cert.KernelIdeal Cert.KernelIdeal.Gen Idealize.ShloMosaic Idealize.SL.Sem

variable {F : FTy → Type} [FloatOps F]

section

variable (c : Dev nD) (i : grid0.Coords) (arg3 : Memref sig .tc .vmem S64x2048 .bf16) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S64x2048 .bf16) (harg8 : arg8.IsWhole) (arg9 : Memref sig .tc .vmem S64x128 .f32) (harg9 : arg9.IsWhole) (arg10 : Memref sig .tc .vmem S64x128 .f32) (harg10 : arg10.IsWhole) (arg11 : Memref sig .tc .vmem S1x1x128x64 .f32) (harg11 : arg11.IsWhole) (arg12 : Memref sig .tc .vmem S1x1x128x64 .f32) (harg12 : arg12.IsWhole) (arg13 : Memref sig .tc .vmem S1x16x128x128 .f32) (harg13 : arg13.IsWhole) (arg14 : Memref sig .tc .vmem S1x16x128x128 .f32) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S1x16x128x128 .f32) (harg17 : arg17.IsWhole) (arg18 : Memref sig .tc .vmem S1x16x128x128 .f32) (harg18 : arg18.IsWhole) (arg19 : Memref sig .tc .vmem S2x16x128x128 .f32) (harg19 : arg19.IsWhole) (hc0 : cond0_0 i) (hc1 : ¬cond0_1 i)
      (x0 : Vec F S64x2048 .bf16) (x1 : Vec F S64x2048 .bf16) (x2 : Vec F S64x2048 .bf16) (x3 : Vec F S64x2048 .bf16) (x4 : Vec F S64x2048 .bf16) (x5 : Vec F S64x2048 .bf16) (x6 : Vec F S64x128 .f32) (x7 : Vec F S64x128 .f32) (x8 : Vec F S1x1x128x64 .f32) (x9 : Vec F S1x1x128x64 .f32) (x10 : Vec F S1x16x128x128 .f32) (x11 : Vec F S1x16x128x128 .f32)

theorem outsA_fwd : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11).1 =
    outPieces true (arg3.view.read (Elt F) (harg3.unread x0)) (arg4.view.read (Elt F) (harg4.unread x1)) (arg5.view.read (Elt F) (harg5.unread x2)) (arg9.view.read (Elt F) (harg9.unread x6)) (arg11.view.read (Elt F) (harg11.unread x8)) (fun lo j => asMatrix (arg19.view.readCov (firstPieces (arg13.view.read (Elt F) (harg13.unread x10)) (arg14.view.read (Elt F) (harg14.unread x11))) (stateRect lo j).toLoadRect)) := by
  sl_kernel_rfl

theorem outsA_bwd : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11).2.1 =
    outPieces false (arg6.view.read (Elt F) (harg6.unread x3)) (arg7.view.read (Elt F) (harg7.unread x4)) (arg8.view.read (Elt F) (harg8.unread x5)) (arg10.view.read (Elt F) (harg10.unread x7)) (arg12.view.read (Elt F) (harg12.unread x9)) (fun lo j => asMatrix (arg19.view.readCov (firstPieces (arg13.view.read (Elt F) (harg13.unread x10)) (arg14.view.read (Elt F) (harg14.unread x11))) (stateRect lo j).toLoadRect)) := by
  sl_kernel_rfl

theorem statesA : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11).2.2.2.2.1 =
    statePieces (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) (arg11.view.read (Elt F) (harg11.unread x8)) (arg12.view.read (Elt F) (harg12.unread x9)) (fun lo j => asMatrix (arg19.view.readCov (firstPieces (arg13.view.read (Elt F) (harg13.unread x10)) (arg14.view.read (Elt F) (harg14.unread x11))) (stateRect lo j).toLoadRect)) ++ (firstPieces (arg13.view.read (Elt F) (harg13.unread x10)) (arg14.view.read (Elt F) (harg14.unread x11))) := by
  sl_kernel_rfl

variable [∀ e, Nonempty (Elt F e)]

theorem blockA_fwd : View.canon (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11).1 =
    outBlock true x0 x1 x2 x6 x8 (firstStates x10 x11) := by
  have h : (fun lo j => asMatrix (arg19.view.readCov (firstPieces x10 x11) (stateRect lo j).toLoadRect)) =
      firstStates x10 x11 := held_cover _ _ _ (canon_firstPieces x10 x11)
  rw [outsA_fwd, canon_outPieces]
  simp only [harg3.read_unread, harg4.read_unread, harg5.read_unread, harg6.read_unread, harg7.read_unread, harg8.read_unread, harg9.read_unread, harg10.read_unread, harg11.read_unread, harg12.read_unread]
  simp only [harg13.read_unread, harg14.read_unread]
  rw [h]

theorem blockA_bwd : View.canon (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11).2.1 =
    outBlock false x3 x4 x5 x7 x9 (firstStates x10 x11) := by
  have h : (fun lo j => asMatrix (arg19.view.readCov (firstPieces x10 x11) (stateRect lo j).toLoadRect)) =
      firstStates x10 x11 := held_cover _ _ _ (canon_firstPieces x10 x11)
  rw [outsA_bwd, canon_outPieces]
  simp only [harg3.read_unread, harg4.read_unread, harg5.read_unread, harg6.read_unread, harg7.read_unread, harg8.read_unread, harg9.read_unread, harg10.read_unread, harg11.read_unread, harg12.read_unread]
  simp only [harg13.read_unread, harg14.read_unread]
  rw [h]

theorem afterA : View.canon (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11).2.2.2.2.1 =
    states (nextStates x0 x1 x2 x3 x4 x5 x6 x7 x8 x9 (firstStates x10 x11)) := by
  have h : (fun lo j => asMatrix (arg19.view.readCov (firstPieces x10 x11) (stateRect lo j).toLoadRect)) =
      firstStates x10 x11 := held_cover _ _ _ (canon_firstPieces x10 x11)
  rw [statesA, canon_statePieces]
  simp only [harg3.read_unread, harg4.read_unread, harg5.read_unread, harg6.read_unread, harg7.read_unread, harg8.read_unread, harg9.read_unread, harg10.read_unread, harg11.read_unread, harg12.read_unread]
  simp only [harg13.read_unread, harg14.read_unread]
  rw [h]

end

end Cert.KernelIdeal.Heads

end
-- ==== Proof.StoresB.lean ====
/- The stores of a grid point inside a sequence, as the heads' chains. -/
module

public import proofs.«01_k».proof.Proof.Cover
public import proofs.«01_k».proof.Proof.Gen.KernelIdeal.Frame.RunB

@[expose] public section

set_option maxRecDepth 16384

noncomputable section

namespace Cert.KernelIdeal.Heads

open Cert.KernelIdeal Cert.KernelIdeal.Gen Idealize.ShloMosaic Idealize.SL.Sem

variable {F : FTy → Type} [FloatOps F]

section

variable (c : Dev nD) (i : grid0.Coords) (arg3 : Memref sig .tc .vmem S64x2048 .bf16) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S64x2048 .bf16) (harg8 : arg8.IsWhole) (arg9 : Memref sig .tc .vmem S64x128 .f32) (harg9 : arg9.IsWhole) (arg10 : Memref sig .tc .vmem S64x128 .f32) (harg10 : arg10.IsWhole) (arg11 : Memref sig .tc .vmem S1x1x128x64 .f32) (harg11 : arg11.IsWhole) (arg12 : Memref sig .tc .vmem S1x1x128x64 .f32) (harg12 : arg12.IsWhole) (arg13 : Memref sig .tc .vmem S1x16x128x128 .f32) (harg13 : arg13.IsWhole) (arg14 : Memref sig .tc .vmem S1x16x128x128 .f32) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S1x16x128x128 .f32) (harg17 : arg17.IsWhole) (arg18 : Memref sig .tc .vmem S1x16x128x128 .f32) (harg18 : arg18.IsWhole) (arg19 : Memref sig .tc .vmem S2x16x128x128 .f32) (harg19 : arg19.IsWhole) (hc0 : ¬cond0_0 i) (hc1 : ¬cond0_1 i)
      (x0 : Vec F S64x2048 .bf16) (x1 : Vec F S64x2048 .bf16) (x2 : Vec F S64x2048 .bf16) (x3 : Vec F S64x2048 .bf16) (x4 : Vec F S64x2048 .bf16) (x5 : Vec F S64x2048 .bf16) (x6 : Vec F S64x128 .f32) (x7 : Vec F S64x128 .f32) (x8 : Vec F S1x1x128x64 .f32) (x9 : Vec F S1x1x128x64 .f32) (x10 : Vec F S1x16x128x128 .f32) (x11 : Vec F S1x16x128x128 .f32) (xs0 : Vec F S2x16x128x128 .f32)

theorem outsB_fwd : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).1 =
    outPieces true (arg3.view.read (Elt F) (harg3.unread x0)) (arg4.view.read (Elt F) (harg4.unread x1)) (arg5.view.read (Elt F) (harg5.unread x2)) (arg9.view.read (Elt F) (harg9.unread x6)) (arg11.view.read (Elt F) (harg11.unread x8)) (fun lo j => asMatrix (View.ld (arg19.view.read (Elt F) (harg19.unread xs0)) (stateRect lo j))) := by
  sl_kernel_rfl

theorem outsB_bwd : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.1 =
    outPieces false (arg6.view.read (Elt F) (harg6.unread x3)) (arg7.view.read (Elt F) (harg7.unread x4)) (arg8.view.read (Elt F) (harg8.unread x5)) (arg10.view.read (Elt F) (harg10.unread x7)) (arg12.view.read (Elt F) (harg12.unread x9)) (fun lo j => asMatrix (View.ld (arg19.view.read (Elt F) (harg19.unread xs0)) (stateRect lo j))) := by
  sl_kernel_rfl

theorem statesB : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.2.2.2.1 =
    statePieces (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) (arg11.view.read (Elt F) (harg11.unread x8)) (arg12.view.read (Elt F) (harg12.unread x9)) (fun lo j => asMatrix (View.ld (arg19.view.read (Elt F) (harg19.unread xs0)) (stateRect lo j))) := by
  sl_kernel_rfl

variable [∀ e, Nonempty (Elt F e)]

theorem blockB_fwd : View.canon (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).1 =
    outBlock true x0 x1 x2 x6 x8 (held xs0) := by
  rw [outsB_fwd, canon_outPieces]
  simp only [harg3.read_unread, harg4.read_unread, harg5.read_unread, harg6.read_unread, harg7.read_unread, harg8.read_unread, harg9.read_unread, harg10.read_unread, harg11.read_unread, harg12.read_unread]
  simp only [harg19.read_unread]
  rfl

theorem blockB_bwd : View.canon (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.1 =
    outBlock false x3 x4 x5 x7 x9 (held xs0) := by
  rw [outsB_bwd, canon_outPieces]
  simp only [harg3.read_unread, harg4.read_unread, harg5.read_unread, harg6.read_unread, harg7.read_unread, harg8.read_unread, harg9.read_unread, harg10.read_unread, harg11.read_unread, harg12.read_unread]
  simp only [harg19.read_unread]
  rfl

theorem afterB : View.canon (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.2.2.2.1 =
    states (nextStates x0 x1 x2 x3 x4 x5 x6 x7 x8 x9 (held xs0)) := by
  rw [statesB, ← List.append_nil (statePieces _ _ _ _ _ _ _ _ _ _ _), canon_statePieces]
  simp only [harg3.read_unread, harg4.read_unread, harg5.read_unread, harg6.read_unread, harg7.read_unread, harg8.read_unread, harg9.read_unread, harg10.read_unread, harg11.read_unread, harg12.read_unread]
  simp only [harg19.read_unread]
  rfl

end

end Cert.KernelIdeal.Heads

end
-- ==== Proof.StoresC.lean ====
/- The stores of a grid point at a sequence's last chunk, as the heads' chains. -/
module

public import proofs.«01_k».proof.Proof.Cover
public import proofs.«01_k».proof.Proof.Gen.KernelIdeal.Frame.RunC

@[expose] public section

set_option maxRecDepth 16384

noncomputable section

namespace Cert.KernelIdeal.Heads

open Cert.KernelIdeal Cert.KernelIdeal.Gen Idealize.ShloMosaic Idealize.SL.Sem

variable {F : FTy → Type} [FloatOps F]

section

variable (c : Dev nD) (i : grid0.Coords) (arg3 : Memref sig .tc .vmem S64x2048 .bf16) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S64x2048 .bf16) (harg8 : arg8.IsWhole) (arg9 : Memref sig .tc .vmem S64x128 .f32) (harg9 : arg9.IsWhole) (arg10 : Memref sig .tc .vmem S64x128 .f32) (harg10 : arg10.IsWhole) (arg11 : Memref sig .tc .vmem S1x1x128x64 .f32) (harg11 : arg11.IsWhole) (arg12 : Memref sig .tc .vmem S1x1x128x64 .f32) (harg12 : arg12.IsWhole) (arg13 : Memref sig .tc .vmem S1x16x128x128 .f32) (harg13 : arg13.IsWhole) (arg14 : Memref sig .tc .vmem S1x16x128x128 .f32) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S1x16x128x128 .f32) (harg17 : arg17.IsWhole) (arg18 : Memref sig .tc .vmem S1x16x128x128 .f32) (harg18 : arg18.IsWhole) (arg19 : Memref sig .tc .vmem S2x16x128x128 .f32) (harg19 : arg19.IsWhole) (hc0 : ¬cond0_0 i) (hc1 : cond0_1 i)
      (x0 : Vec F S64x2048 .bf16) (x1 : Vec F S64x2048 .bf16) (x2 : Vec F S64x2048 .bf16) (x3 : Vec F S64x2048 .bf16) (x4 : Vec F S64x2048 .bf16) (x5 : Vec F S64x2048 .bf16) (x6 : Vec F S64x128 .f32) (x7 : Vec F S64x128 .f32) (x8 : Vec F S1x1x128x64 .f32) (x9 : Vec F S1x1x128x64 .f32) (x10 : Vec F S1x16x128x128 .f32) (x11 : Vec F S1x16x128x128 .f32) (xs0 : Vec F S2x16x128x128 .f32)

theorem outsC_fwd : (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).1 =
    outPieces true (arg3.view.read (Elt F) (harg3.unread x0)) (arg4.view.read (Elt F) (harg4.unread x1)) (arg5.view.read (Elt F) (harg5.unread x2)) (arg9.view.read (Elt F) (harg9.unread x6)) (arg11.view.read (Elt F) (harg11.unread x8)) (fun lo j => asMatrix (View.ld (arg19.view.read (Elt F) (harg19.unread xs0)) (stateRect lo j))) := by
  sl_kernel_rfl

theorem outsC_bwd : (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.1 =
    outPieces false (arg6.view.read (Elt F) (harg6.unread x3)) (arg7.view.read (Elt F) (harg7.unread x4)) (arg8.view.read (Elt F) (harg8.unread x5)) (arg10.view.read (Elt F) (harg10.unread x7)) (arg12.view.read (Elt F) (harg12.unread x9)) (fun lo j => asMatrix (View.ld (arg19.view.read (Elt F) (harg19.unread xs0)) (stateRect lo j))) := by
  sl_kernel_rfl

theorem statesC : (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.2.2.2.1 =
    statePieces (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) (arg11.view.read (Elt F) (harg11.unread x8)) (arg12.view.read (Elt F) (harg12.unread x9)) (fun lo j => asMatrix (View.ld (arg19.view.read (Elt F) (harg19.unread xs0)) (stateRect lo j))) := by
  sl_kernel_rfl

theorem finalC_fwd : (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.2.1 =
    [⟨Rect.unit ![0, 0, 0, 0] S1x16x128x128.size half_inb, refold (arg19.view.readCov
      (statePieces (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) (arg11.view.read (Elt F) (harg11.unread x8)) (arg12.view.read (Elt F) (harg12.unread x9)) (fun lo j => asMatrix (View.ld (arg19.view.read (Elt F) (harg19.unread xs0)) (stateRect lo j))))
      (sideRect true).toLoadRect)⟩] := by
  sl_kernel_rfl

theorem finalC_bwd : (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.2.2.1 =
    [⟨Rect.unit ![0, 0, 0, 0] S1x16x128x128.size half_inb, refold (arg19.view.readCov
      (statePieces (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) (arg11.view.read (Elt F) (harg11.unread x8)) (arg12.view.read (Elt F) (harg12.unread x9)) (fun lo j => asMatrix (View.ld (arg19.view.read (Elt F) (harg19.unread xs0)) (stateRect lo j))))
      (sideRect false).toLoadRect)⟩] := by
  sl_kernel_rfl

variable [∀ e, Nonempty (Elt F e)]

theorem blockC_fwd : View.canon (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).1 =
    outBlock true x0 x1 x2 x6 x8 (held xs0) := by
  rw [outsC_fwd, canon_outPieces]
  simp only [harg3.read_unread, harg4.read_unread, harg5.read_unread, harg6.read_unread, harg7.read_unread, harg8.read_unread, harg9.read_unread, harg10.read_unread, harg11.read_unread, harg12.read_unread]
  simp only [harg19.read_unread]
  rfl

theorem blockC_bwd : View.canon (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.1 =
    outBlock false x3 x4 x5 x7 x9 (held xs0) := by
  rw [outsC_bwd, canon_outPieces]
  simp only [harg3.read_unread, harg4.read_unread, harg5.read_unread, harg6.read_unread, harg7.read_unread, harg8.read_unread, harg9.read_unread, harg10.read_unread, harg11.read_unread, harg12.read_unread]
  simp only [harg19.read_unread]
  rfl

theorem afterC : View.canon (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.2.2.2.1 =
    states (nextStates x0 x1 x2 x3 x4 x5 x6 x7 x8 x9 (held xs0)) := by
  rw [statesC, ← List.append_nil (statePieces _ _ _ _ _ _ _ _ _ _ _), canon_statePieces]
  simp only [harg3.read_unread, harg4.read_unread, harg5.read_unread, harg6.read_unread, harg7.read_unread, harg8.read_unread, harg9.read_unread, harg10.read_unread, harg11.read_unread, harg12.read_unread]
  simp only [harg19.read_unread]
  rfl

theorem canon_finalC_fwd : View.canon (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.2.1 =
    sideBlock (nextStates x0 x1 x2 x3 x4 x5 x6 x7 x8 x9 (held xs0) true) := by
  have h := afterC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0
  rw [statesC] at h
  rw [finalC_fwd, canon_whole, refold_eq]
  exact side_cover _ _ _ h true

theorem canon_finalC_bwd : View.canon (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0).2.2.2.1 =
    sideBlock (nextStates x0 x1 x2 x3 x4 x5 x6 x7 x8 x9 (held xs0) false) := by
  have h := afterC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0
  rw [statesC] at h
  rw [finalC_bwd, canon_whole, refold_eq]
  exact side_cover _ _ _ h false

end

end Cert.KernelIdeal.Heads

end
-- ==== Proof.Run.lean ====
/- The states along the grid: what each point finds in the scratch, what it leaves there, and what it writes back. -/
module

public import proofs.«01_k».proof.Proof.StoresA
public import proofs.«01_k».proof.Proof.StoresB
public import proofs.«01_k».proof.Proof.StoresC
public import proofs.«01_k».proof.Proof.Gen.KernelIdeal.Frame

@[expose] public section

set_option maxRecDepth 16384

noncomputable section

namespace Cert.KernelIdeal.Heads

open Cert.KernelIdeal Cert.KernelIdeal.Gen Idealize.ShloMosaic Idealize.SL.Sem

variable {F : FTy → Type} [FloatOps F] [∀ e, Nonempty (Elt F e)]
variable (m : (ℓ : Loc nD τ sig) → Buf (Elt F) ℓ) (c : Dev nD)

/-- The states that point `t` finds: a sequence's first ones, or what the point before left. -/
def found (t : Fin cfg0.N) : Bool → Fin 16 → FVec F S128x128 .f32 :=
  if t.val % 64 = 0 then firstStates (iblk m c 10 t) (iblk m c 11 t)
  else held (outsAt0 m c (t.val - 1) (Nat.lt_of_le_of_lt (Nat.sub_le _ _) t.isLt)).2.2.2.2

/-- The states that point `t` leaves. -/
def left (t : Fin cfg0.N) : Bool → Fin 16 → FVec F S128x128 .f32 :=
  nextStates (iblk m c 0 t) (iblk m c 1 t) (iblk m c 2 t) (iblk m c 3 t) (iblk m c 4 t) (iblk m c 5 t)
    (iblk m c 6 t) (iblk m c 7 t) (iblk m c 8 t) (iblk m c 9 t) (found m c t)

theorem outs_eq (t : Fin cfg0.N) :
    (outsAt0 m c t.val t.isLt).1 = outBlock true (iblk m c 0 t) (iblk m c 1 t) (iblk m c 2 t) (iblk m c 6 t) (iblk m c 8 t)
        (found m c t) ∧
    (outsAt0 m c t.val t.isLt).2.1 = outBlock false (iblk m c 3 t) (iblk m c 4 t) (iblk m c 5 t) (iblk m c 7 t)
        (iblk m c 9 t) (found m c t) ∧
    (outsAt0 m c t.val t.isLt).2.2.2.2 = states (left m c t) ∧
    (t.val % 64 = 63 → (outsAt0 m c t.val t.isLt).2.2.1 = sideBlock (left m c t true) ∧
      (outsAt0 m c t.val t.isLt).2.2.2.1 = sideBlock (left m c t false)) := by
  by_cases h0 : t.val % 64 = 0
  · have h1 : ¬ t.val % 64 = 63 := by omega
    have hf : found m c t = firstStates (iblk m c 10 t) (iblk m c 11 t) := if_pos h0
    unfold left
    rw [outsAt0_A m c t h0 h1, hf]
    dsimp only
    exact ⟨by
        unfold out0_A_12
        exact (View.read_writes_junk_eq_canon _ _).trans (blockA_fwd ..),
      by
        unfold out0_A_13
        exact (View.read_writes_junk_eq_canon _ _).trans (blockA_bwd ..),
      by
        unfold sout0_A_0
        exact (View.read_writes_junk_eq_canon _ _).trans (afterA ..), fun h => absurd h h1⟩
  · have hf : found m c t = held _ := if_neg h0
    by_cases h1 : t.val % 64 = 63
    · unfold left
      rw [outsAt0_C m c t h0 h1, hf]
      dsimp only
      exact ⟨by
        unfold out0_C_12
        exact (View.read_writes_junk_eq_canon _ _).trans (blockC_fwd ..),
        by
        unfold out0_C_13
        exact (View.read_writes_junk_eq_canon _ _).trans (blockC_bwd ..),
        by
        unfold sout0_C_0
        exact (View.read_writes_junk_eq_canon _ _).trans (afterC ..), fun _ =>
        ⟨by
          unfold out0_C_14
          exact (View.read_writes_junk_eq_canon _ _).trans (canon_finalC_fwd ..),
          by
          unfold out0_C_15
          exact (View.read_writes_junk_eq_canon _ _).trans (canon_finalC_bwd ..)⟩⟩
    · unfold left
      rw [outsAt0_B m c t h0 h1, hf]
      dsimp only
      exact ⟨by
        unfold out0_B_12
        exact (View.read_writes_junk_eq_canon _ _).trans (blockB_fwd ..),
        by
        unfold out0_B_13
        exact (View.read_writes_junk_eq_canon _ _).trans (blockB_bwd ..),
        by
        unfold sout0_B_0
        exact (View.read_writes_junk_eq_canon _ _).trans (afterB ..), fun h => absurd h h1⟩

/-- Inside a sequence a point finds what the point before left. -/
theorem found_succ (t t' : Fin cfg0.N) (h : t.val = t'.val + 1) (h0 : ¬ t.val % 64 = 0) : found m c t = left m c t' := by
  have hf : found m c t = held _ := if_neg h0
  have he : t.val - 1 = t'.val := by omega
  rw [hf, ← held_states (left m c t'), ← (outs_eq m c t').2.2.1]
  simp only [he]

end Cert.KernelIdeal.Heads

end
-- ==== Proof.Inverse.lean ====
/- The inverse of `1 + A` for a strictly triangular 64 x 64 real matrix, built as the kernel builds it: the sixteen
   wide diagonal blocks by a product of four factors, then two rounds that join neighbouring blocks. -/
module

public import Mathlib.LinearAlgebra.Matrix.NonsingularInverse
public import Mathlib.Data.Real.Basic
public import Mathlib.Tactic.NoncommRing

@[expose] public section

noncomputable section

namespace Cert.Delta

open Matrix

/-- A 64 x 64 real matrix. -/
abbrev Sq := Matrix (Fin 64) (Fin 64) ℝ

/-- `M` is zero outside its diagonal blocks of width `s`. -/
def Blocked (s : ℕ) (M : Sq) : Prop := ∀ i j : Fin 64, i.val / s ≠ j.val / s → M i j = 0

/-- Row `j` comes strictly before row `i`: from the top when `lo`, from the bottom otherwise. -/
def Before (lo : Bool) (j i : Fin 64) : Prop := if lo then j.val < i.val else i.val < j.val

instance (lo : Bool) (j i : Fin 64) : Decidable (Before lo j i) := by unfold Before; infer_instance

/-- `A` combines, into each row, rows strictly before it only. -/
def Strict (lo : Bool) (A : Sq) : Prop := ∀ i j : Fin 64, ¬ Before lo j i → A i j = 0

theorem Blocked.mul {s : ℕ} {M N : Sq} (hM : Blocked s M) (hN : Blocked s N) : Blocked s (M * N) := by
  intro i j hij
  rw [Matrix.mul_apply]
  refine Finset.sum_eq_zero fun k _ => ?_
  by_cases h : i.val / s = k.val / s
  · rw [hN k j (by rw [← h]; exact hij), mul_zero]
  · rw [hM i k h, zero_mul]

theorem Blocked.one (s : ℕ) : Blocked s 1 := by
  intro i j hij
  exact Matrix.one_apply_ne (fun h => hij (by rw [h]))

theorem Blocked.add {s : ℕ} {M N : Sq} (hM : Blocked s M) (hN : Blocked s N) : Blocked s (M + N) := by
  intro i j hij; simp [hM i j hij, hN i j hij]

theorem Blocked.sub {s : ℕ} {M N : Sq} (hM : Blocked s M) (hN : Blocked s N) : Blocked s (M - N) := by
  intro i j hij; simp [hM i j hij, hN i j hij]

/-- Sixteen rows, one for each row of a block: every one the sum of that row of the four blocks. -/
def Pack : Matrix (Fin 16) (Fin 64) ℝ := fun r c => if r.val = c.val % 16 then 1 else 0

/-- The diagonal blocks a packed matrix stands for. -/
def unpack (x : Matrix (Fin 16) (Fin 64) ℝ) : Sq := fun i j =>
  if i.val / 16 = j.val / 16 then x ⟨i.val % 16, Nat.mod_lt _ (by norm_num)⟩ j else 0

/-- The row of `M` that the packed row `r` holds in column `c`'s block. -/
theorem pack_mul (M : Sq) (hM : Blocked 16 M) (r : Fin 16) (c : Fin 64) :
    (Pack * M) r c = M ⟨16 * (c.val / 16) + r.val, by omega⟩ c := by
  rw [Matrix.mul_apply, Finset.sum_eq_single (⟨16 * (c.val / 16) + r.val, by omega⟩ : Fin 64)]
  · have : r.val = (16 * (c.val / 16) + r.val) % 16 := by omega
    simp only [Pack]; rw [if_pos this, one_mul]
  · intro k _ hk
    by_cases h : k.val / 16 = c.val / 16
    · have : ¬ r.val = k.val % 16 := fun h2 => hk (Fin.ext (by show k.val = 16 * (c.val / 16) + r.val; omega))
      simp only [Pack]; rw [if_neg this, zero_mul]
    · rw [hM k c h, mul_zero]
  · intro h; exact absurd (Finset.mem_univ _) h

theorem unpack_pack (M : Sq) (hM : Blocked 16 M) : unpack (Pack * M) = M := by
  ext i j
  unfold unpack
  by_cases h : i.val / 16 = j.val / 16
  · rw [if_pos h, pack_mul M hM]
    congr 1
    exact Fin.ext (by show 16 * (j.val / 16) + i.val % 16 = i.val; omega)
  · rw [if_neg h, hM i j h]

/-- The diagonal blocks of width sixteen of `- A`. -/
def negBlocks (A : Sq) : Sq := fun i j => if i.val / 16 = j.val / 16 then - A i j else 0

/-- What `A` combines between the two halves of each block of width `2 s`. -/
def halves (s : ℕ) (A : Sq) : Sq := fun i j =>
  if i.val / (2 * s) = j.val / (2 * s) ∧ i.val / s ≠ j.val / s then A i j else 0

/-- One round: from the inverses of the blocks of width `s` to those of width `2 s`. -/
def join (s : ℕ) (A P : Sq) : Sq := P - P * halves s A * P

/-- One doubling of the packed product: the next power, and the product with one more factor. -/
def double (xp : Matrix (Fin 16) (Fin 64) ℝ × Matrix (Fin 16) (Fin 64) ℝ) :
    Matrix (Fin 16) (Fin 64) ℝ × Matrix (Fin 16) (Fin 64) ℝ :=
  (xp.1 * unpack xp.1, xp.2 + xp.2 * unpack (xp.1 * unpack xp.1))

/-- The kernel's inverse of `1 + A`. -/
def inverse (A : Sq) : Sq :=
  join 32 A (join 16 A (unpack (double (double (double (Pack * negBlocks A, Pack + Pack * negBlocks A)))).2))

theorem negBlocks_blocked (A : Sq) : Blocked 16 (negBlocks A) := fun i j h => by
  unfold negBlocks; rw [if_neg h]

theorem double_pack (X P : Sq) (hX : Blocked 16 X) :
    double (Pack * X, Pack * P) = (Pack * (X * X), Pack * (P + P * (X * X))) := by
  have h1 : unpack (Pack * X) = X := unpack_pack X hX
  unfold double
  simp only
  rw [h1, Matrix.mul_assoc Pack X X, unpack_pack (X * X) (hX.mul hX), Matrix.mul_assoc, Matrix.mul_add]

/-- A row's height, so that a row strictly before another has the smaller. -/
def height (lo : Bool) (i : Fin 64) : ℤ := if lo then (i.val : ℤ) else -(i.val : ℤ)

theorem before_height {lo : Bool} {j i : Fin 64} (h : Before lo j i) : height lo j + 1 ≤ height lo i := by
  cases lo <;> simp only [Before, height, if_true, Bool.false_eq_true, if_false] at * <;> omega

theorem neg_pow_zero (lo : Bool) (A : Sq) (hA : Strict lo A) (k : ℕ) (i j : Fin 64)
    (h : ¬ (i.val / 16 = j.val / 16 ∧ height lo j + k ≤ height lo i)) : (negBlocks A ^ k) i j = 0 := by
  induction k generalizing i with
  | zero =>
    rw [pow_zero]
    refine Matrix.one_apply_ne fun hij => h ?_
    subst hij; exact ⟨rfl, by simp⟩
  | succ k ih =>
    rw [pow_succ', Matrix.mul_apply]
    refine Finset.sum_eq_zero fun a _ => ?_
    by_cases h1 : i.val / 16 = a.val / 16
    · by_cases h2 : Before lo a i
      · rw [ih a fun h3 => h ⟨h1.trans h3.1, ?_⟩, mul_zero]
        have := before_height h2
        have h4 := h3.2
        push_cast at *; omega
      · have : negBlocks A i a = 0 := by unfold negBlocks; rw [if_pos h1, hA i a h2, neg_zero]
        rw [this, zero_mul]
    · rw [negBlocks_blocked A i a h1, zero_mul]

theorem neg_pow_sixteen (lo : Bool) (A : Sq) (hA : Strict lo A) : negBlocks A ^ 16 = 0 := by
  ext i j
  refine neg_pow_zero lo A hA 16 i j ?_
  rintro ⟨h1, h2⟩
  unfold height at h2
  cases lo <;> simp at h2 <;> omega

/-- The diagonal blocks of width `s` of `1 + A`. -/
def diag (s : ℕ) (A : Sq) : Sq := fun i j => if i.val / s = j.val / s then (1 + A) i j else 0

theorem diag_sixteen (A : Sq) : diag 16 A = 1 - negBlocks A := by
  ext i j
  rw [Matrix.sub_apply]
  unfold diag negBlocks
  by_cases h : i.val / 16 = j.val / 16
  · rw [if_pos h, if_pos h, Matrix.add_apply, sub_neg_eq_add]
  · have : i ≠ j := fun e => h (by rw [e])
    rw [if_neg h, if_neg h, Matrix.one_apply_ne this, sub_zero]

theorem product_blocked (X : Sq) (hX : Blocked 16 X) :
    Blocked 16 ((1 + X) * (1 + X * X) * (1 + X * X * (X * X)) * (1 + X * X * (X * X) * (X * X * (X * X)))) := by
  have h1 := Blocked.one 16
  have h2 := hX.mul hX
  have h4 := h2.mul h2
  exact (((h1.add hX).mul (h1.add h2)).mul (h1.add h4)).mul (h1.add (h4.mul h4))

theorem unpack_double (A : Sq) :
    unpack (double (double (double (Pack * negBlocks A, Pack + Pack * negBlocks A)))).2 =
      (1 + negBlocks A) * (1 + negBlocks A * negBlocks A) *
        (1 + negBlocks A * negBlocks A * (negBlocks A * negBlocks A)) *
        (1 + negBlocks A * negBlocks A * (negBlocks A * negBlocks A) *
          (negBlocks A * negBlocks A * (negBlocks A * negBlocks A))) := by
  have hX := negBlocks_blocked A
  have hP := product_blocked _ hX
  generalize negBlocks A = X at *
  have h0 : Pack + Pack * X = Pack * (1 + X) := by rw [Matrix.mul_add, Matrix.mul_one]
  rw [h0, double_pack _ _ hX, double_pack _ _ (hX.mul hX), double_pack _ _ ((hX.mul hX).mul (hX.mul hX))]
  simp only
  rw [← unpack_pack _ hP]
  congr 2
  simp only [Matrix.mul_add, Matrix.mul_one]

theorem first_round (lo : Bool) (A : Sq) (hA : Strict lo A) :
    unpack (double (double (double (Pack * negBlocks A, Pack + Pack * negBlocks A)))).2 * diag 16 A = 1 := by
  rw [unpack_double, diag_sixteen]
  have h := neg_pow_sixteen lo A hA
  generalize negBlocks A = X at *
  have : (1 + X) * (1 + X * X) * (1 + X * X * (X * X)) * (1 + X * X * (X * X) * (X * X * (X * X))) * (1 - X)
      = 1 - X ^ 16 := by
    noncomm_ring
  rw [this, h, sub_zero]

theorem halves_diag (s : ℕ) (A : Sq) : diag (2 * s) A = diag s A + halves s A := by
  ext i j
  simp only [diag, halves, Matrix.add_apply]
  by_cases h : i.val / s = j.val / s
  · have h2 : i.val / (2 * s) = j.val / (2 * s) := by
      rw [mul_comm, ← Nat.div_div_eq_div_mul, ← Nat.div_div_eq_div_mul, h]
    simp [h, h2]
  · by_cases h2 : i.val / (2 * s) = j.val / (2 * s)
    · have : i ≠ j := fun e => h (by rw [e])
      simp [h, h2, Matrix.one_apply_ne this]
    · simp [h, h2]

theorem join_mul (s : ℕ) (A P : Sq) (h1 : P * diag s A = 1) (h2 : halves s A * P * halves s A = 0) :
    join s A P * diag (2 * s) A = 1 := by
  rw [halves_diag]
  unfold join
  generalize halves s A = B at *
  have : (P - P * B * P) * (diag s A + B) =
      P * diag s A + P * B - P * B * (P * diag s A) - P * (B * P * B) := by noncomm_ring
  rw [this, h1, h2]
  noncomm_ring

theorem halves_zero (lo : Bool) (s : ℕ) (hs : s = 16 ∨ s = 32) (A P : Sq) (hA : Strict lo A) (hP : Blocked s P) :
    halves s A * P * halves s A = 0 := by
  ext i j
  rw [Matrix.mul_apply]
  refine Finset.sum_eq_zero fun b _ => ?_
  rw [Matrix.mul_apply, Finset.sum_mul]
  refine Finset.sum_eq_zero fun a _ => ?_
  unfold halves
  split_ifs with h1 h2
  · by_cases h3 : a.val / s = b.val / s
    · by_cases h4 : Before lo a i
      · by_cases h5 : Before lo j b
        · exfalso
          rcases hs with rfl | rfl <;> cases lo <;> simp only [Before, if_true, Bool.false_eq_true, if_false] at h4 h5 <;> omega
        · rw [hA b j h5, mul_zero]
      · rw [hA i a h4]; simp
    · rw [hP a b h3]; simp
  all_goals simp

theorem halves_blocked (s : ℕ) (A : Sq) : Blocked (2 * s) (halves s A) := fun i j h => by
  unfold halves; rw [if_neg fun h2 => h h2.1]

theorem Blocked.wider {s : ℕ} {P : Sq} (h : Blocked s P) : Blocked (2 * s) P := fun i j hij => by
  refine h i j fun h2 => hij ?_
  rw [mul_comm, ← Nat.div_div_eq_div_mul, ← Nat.div_div_eq_div_mul, h2]

theorem join_blocked {s : ℕ} (A : Sq) {P : Sq} (h : Blocked s P) : Blocked (2 * s) (join s A P) :=
  h.wider.sub ((h.wider.mul (halves_blocked s A)).mul h.wider)

theorem diag_all (A : Sq) : diag (2 * 32) A = 1 + A := by
  ext i j
  unfold diag
  rw [if_pos (by omega)]

/-- The kernel's inverse is one: multiplied by `1 + A` it gives the identity. -/
theorem inverse_mul (lo : Bool) (A : Sq) (hA : Strict lo A) : inverse A * (1 + A) = 1 := by
  unfold inverse
  have hP : Blocked 16 (unpack (double (double (double (Pack * negBlocks A, Pack + Pack * negBlocks A)))).2) := by
    rw [unpack_double]; exact product_blocked _ (negBlocks_blocked A)
  have h1 := first_round lo A hA
  generalize (unpack (double (double (double (Pack * negBlocks A, Pack + Pack * negBlocks A)))).2) = P at *
  have h2 := join_mul 16 A P h1 (halves_zero lo 16 (Or.inl rfl) A P hA hP)
  have h3 := join_mul 32 A _ h2 (halves_zero lo 32 (Or.inr rfl) A _ hA (join_blocked A hP))
  rw [diag_all] at h3
  exact h3

theorem inverse_eq (lo : Bool) (A : Sq) (hA : Strict lo A) : inverse A = (1 + A)⁻¹ :=
  (Matrix.inv_eq_left_inv (inverse_mul lo A hA)).symm

/-- The powers of `A` go out after 64 factors. -/
theorem pow_zero_of_strict (lo : Bool) (A : Sq) (hA : Strict lo A) (k : ℕ) (i j : Fin 64)
    (h : ¬ (height lo j + k ≤ height lo i)) : (A ^ k) i j = 0 := by
  induction k generalizing i with
  | zero =>
    rw [pow_zero]
    refine Matrix.one_apply_ne fun hij => h ?_
    subst hij; simp
  | succ k ih =>
    rw [pow_succ', Matrix.mul_apply]
    refine Finset.sum_eq_zero fun a _ => ?_
    by_cases h2 : Before lo a i
    · rw [ih a fun h3 => h ?_, mul_zero]
      have := before_height h2
      push_cast at *; omega
    · rw [hA i a h2, zero_mul]

/-- One sweep: every row is the right-hand side's less what `A` combines of the rows before it. -/
def sweep {n : Type*} [Fintype n] (A : Sq) (rhs X : Matrix (Fin 64) n ℝ) : Matrix (Fin 64) n ℝ := rhs - A * X

theorem sweep_defect {n : Type*} [Fintype n] (A : Sq) (rhs : Matrix (Fin 64) n ℝ) (k : ℕ) :
    (1 + A) * (sweep A rhs)^[k] rhs = rhs + (-1 : ℝ) ^ k • (A ^ (k + 1) * rhs) := by
  induction k with
  | zero => simp [Matrix.add_mul]
  | succ k ih =>
    rw [Function.iterate_succ_apply']
    generalize (sweep A rhs)^[k] rhs = X at *
    unfold sweep
    have : (1 + A) * (rhs - A * X) = rhs + A * (rhs - (1 + A) * X) := by
      simp only [Matrix.mul_sub, Matrix.add_mul, Matrix.one_mul, Matrix.mul_add, Matrix.mul_assoc]; abel
    rw [this, ih, pow_succ' A (k + 1), Matrix.mul_assoc, pow_succ (-1 : ℝ)]
    simp [Matrix.mul_smul]

/-- Sixty-three sweeps from the right-hand side solve the system. -/
theorem sweeps_eq {n : Type*} [Fintype n] (lo : Bool) (A : Sq) (hA : Strict lo A) (rhs : Matrix (Fin 64) n ℝ) :
    (sweep A rhs)^[63] rhs = (1 + A)⁻¹ * rhs := by
  have h64 : A ^ 64 = 0 := by
    ext i j
    refine pow_zero_of_strict lo A hA 64 i j ?_
    unfold height
    cases lo <;> simp <;> omega
  have h := sweep_defect A rhs 63
  rw [h64, Matrix.zero_mul, smul_zero, add_zero] at h
  conv_rhs => rw [← h]
  rw [← inverse_eq lo A hA, ← Matrix.mul_assoc, inverse_mul lo A hA, Matrix.one_mul]

end Cert.Delta

end
-- ==== Proof.Model.lean ====
/- One chunk of the gated delta rule over the reals: 64 rows of queries, keys and values, each row with a scale and with
   the logarithm of its decay summed along the chunk, and the state the chunk starts from. The rows are taken from the
   top (`lo`) or from the bottom; taking them from the bottom is taking the reversed rows from the top. -/
module

public import proofs.«01_k».proof.Proof.Inverse
public import Mathlib.Analysis.SpecialFunctions.Exp

@[expose] public section

noncomputable section

namespace Cert.Delta

open Matrix

/-- 64 rows of width 128, and a state. -/
abbrev Rows := Matrix (Fin 64) (Fin 128) ℝ
abbrev State := Matrix (Fin 128) (Fin 128) ℝ

/-- A chunk's queries, keys, values, scales and summed log-decays. -/
structure Chunk where
  q : Rows
  k : Rows
  v : Rows
  b : Fin 64 → ℝ
  g : Fin 64 → ℝ

namespace Chunk

/-- The row a chunk ends with. -/
def last (lo : Bool) : Fin 64 := if lo then 63 else 0

variable (c : ℝ) (lo : Bool) (x : Chunk)

/-- What each row's correction takes from the rows strictly before it. -/
def system : Sq := fun i j =>
  if Before lo j i then (∑ d, x.k i d * x.b i * x.k j d) * Real.exp (x.g i - x.g j) else 0

/-- The weights of each row's query on the rows not after it, scaled by `c`. -/
def weights : Sq := fun i j =>
  if Before lo i j then 0 else (∑ d, x.q i d * x.k j d) * Real.exp (x.g i - x.g j) * c

/-- The scaled values. -/
def values : Rows := fun i d => x.v i d * x.b i

/-- The scaled keys, decayed from the chunk's start. -/
def keys : Rows := fun i d => x.k i d * x.b i * Real.exp (x.g i)

/-- The queries, scaled by `c` and decayed from the chunk's start. -/
def queries : Rows := fun i d => x.q i d * (Real.exp (x.g i) * c)

/-- The keys, decayed to the chunk's end. -/
def tails : Rows := fun i d => x.k i d * Real.exp (x.g (last lo) - x.g i)

/-- The chunk's new values, over the state `s` it starts from. -/
def fresh (s : State) : Rows :=
  (1 + x.system lo)⁻¹ * x.values - (1 + x.system lo)⁻¹ * x.keys * s

/-- The chunk's output rows. -/
def out (s : State) : Rows := x.queries c * s + x.weights c lo * x.fresh lo s

/-- The state the chunk ends with. -/
def next (s : State) : State := fun d e =>
  s d e * Real.exp (x.g (last lo)) + ((x.tails lo)ᵀ * x.fresh lo s) d e

/-- The rows in the opposite order. -/
def rev : Chunk where
  q := fun i => x.q i.rev
  k := fun i => x.k i.rev
  v := fun i => x.v i.rev
  b := fun i => x.b i.rev
  g := fun i => x.g i.rev

theorem system_strict : Strict lo (x.system lo) := fun i j h => by unfold system; rw [if_neg h]

theorem before_rev (i j : Fin 64) : Before true i j ↔ Before false i.rev j.rev := by
  simp only [Before, Fin.val_rev, if_true, Bool.false_eq_true, if_false]; omega

theorem system_rev : x.rev.system true = (x.system false).submatrix Fin.revPerm Fin.revPerm := by
  ext i j
  simp only [system, rev, Matrix.submatrix_apply, Fin.revPerm_apply, before_rev]

theorem weights_rev : x.rev.weights c true = (x.weights c false).submatrix Fin.revPerm Fin.revPerm := by
  ext i j
  simp only [weights, rev, Matrix.submatrix_apply, Fin.revPerm_apply, before_rev]

theorem inverse_rev : (1 + x.rev.system true)⁻¹ = ((1 + x.system false)⁻¹).submatrix Fin.revPerm Fin.revPerm := by
  rw [system_rev, ← Matrix.inv_submatrix_equiv]
  congr 1
  ext i j
  simp [Matrix.one_apply]

theorem last_rev : (last true).rev = last false := by decide

theorem fresh_rev (s : State) : x.rev.fresh true s = (x.fresh false s).submatrix Fin.revPerm id := by
  have hv : x.rev.values = x.values.submatrix Fin.revPerm id := rfl
  have hk : x.rev.keys = x.keys.submatrix Fin.revPerm id := rfl
  unfold fresh
  rw [inverse_rev, hv, hk, Matrix.submatrix_mul_equiv, Matrix.submatrix_mul_equiv, Matrix.submatrix_sub]
  rfl

/-- Taking the reversed rows from the top gives the reversed output rows. -/
theorem out_rev (s : State) (i : Fin 64) (d : Fin 128) : x.rev.out c true s i d = x.out c false s i.rev d := by
  have hq : x.rev.queries c = (x.queries c).submatrix Fin.revPerm id := rfl
  unfold out
  rw [fresh_rev, weights_rev, hq, Matrix.submatrix_mul_equiv]
  rfl

/-- Taking the reversed rows from the top gives the same state. -/
theorem next_rev (s : State) : x.rev.next true s = x.next false s := by
  have ht : x.rev.tails true = (x.tails false).submatrix Fin.revPerm id := by
    ext i d
    simp only [tails, rev, Matrix.submatrix_apply, Fin.revPerm_apply, last_rev, id]
  have hg : x.rev.g (last true) = x.g (last false) := by simp only [rev, last_rev]
  ext d e
  unfold next
  rw [fresh_rev, ht, Matrix.transpose_submatrix, Matrix.submatrix_mul_equiv, hg]
  rfl

end Chunk

end Cert.Delta

end
-- ==== Proof.Sequence.lean ====
/- The sequences as real arrays: four of 4096 rows, each with 16 heads and run in both directions, 64 rows at a time. -/
module

public import proofs.«01_k».proof.Proof.Model

@[expose] public section

noncomputable section

namespace Cert.Delta

/-- A direction's place on the axis of directions. -/
def side (lo : Bool) : Fin 2 := cond lo 0 1

/-- The chunk that a direction takes at step `n`: the backward one starts at the last. -/
def place (lo : Bool) (n : Fin 64) : Fin 64 := cond lo n n.rev

theorem place_place (lo : Bool) (n : Fin 64) : place lo (place lo n) = n := by cases lo <;> simp [place]

/-- Row `i` of chunk `p`. -/
def rowIn (p i : Fin 64) : Fin 4096 := ⟨64 * p.val + i.val, by omega⟩

/-- The arguments as real arrays: per sequence, row and head the query, key and value, per direction also the scale and
    the decay summed within the chunk, and per direction, sequence and head the state that it starts from. -/
structure Input where
  q : Fin 4 → Fin 4096 → Fin 16 → Fin 128 → ℝ
  k : Fin 4 → Fin 4096 → Fin 16 → Fin 128 → ℝ
  v : Fin 4 → Fin 4096 → Fin 16 → Fin 128 → ℝ
  b : Fin 4 → Fin 4096 → Fin 2 → Fin 16 → ℝ
  g : Fin 4 → Fin 4096 → Fin 2 → Fin 16 → ℝ
  s : Bool → Fin 4 → Fin 16 → State

namespace Input

variable (X : Input) (c : ℝ) (lo : Bool) (b : Fin 4) (j : Fin 16)

/-- Chunk `p` of a sequence and head, in one direction's scales and decays. -/
def chunk (p : Fin 64) : Chunk where
  q := fun i d => X.q b (rowIn p i) j d
  k := fun i d => X.k b (rowIn p i) j d
  v := fun i d => X.v b (rowIn p i) j d
  b := fun i => X.b b (rowIn p i) (side lo) j
  g := fun i => X.g b (rowIn p i) (side lo) j

/-- The state that step `n` starts from. -/
def state : ℕ → State
  | 0 => X.s lo b j
  | n + 1 => if h : n < 64 then (X.chunk lo b j (place lo ⟨n, h⟩)).next lo (state n) else 0

/-- The output rows of step `n`. -/
def rows (n : Fin 64) : Rows := (X.chunk lo b j (place lo n)).out c lo (X.state lo b j n)

theorem state_succ (n : Fin 64) :
    X.state lo b j (n.val + 1) = (X.chunk lo b j (place lo n)).next lo (X.state lo b j n) := dif_pos n.isLt

/-- A direction's output, the rows of every sequence one after the other and the heads side by side. -/
def outs (r : Fin 16384) (e : Fin 2048) : ℝ :=
  X.rows c lo ⟨r.val / 4096, by omega⟩ ⟨e.val / 128, by omega⟩ (place lo ⟨r.val % 4096 / 64, by omega⟩)
    ⟨r.val % 64, by omega⟩ ⟨e.val % 128, by omega⟩

theorem outs_at (n i : Fin 64) (d : Fin 128) (r : Fin 16384) (e : Fin 2048)
    (hr : r.val = 4096 * b.val + 64 * (place lo n).val + i.val) (he : e.val = 128 * j.val + d.val) :
    X.outs c lo r e = X.rows c lo b j n i d := by
  unfold outs
  have h1 : (⟨r.val / 4096, by omega⟩ : Fin 4) = b := Fin.ext (by dsimp only; omega)
  have h2 : (⟨e.val / 128, by omega⟩ : Fin 16) = j := Fin.ext (by dsimp only; omega)
  have h3 : (⟨r.val % 4096 / 64, by omega⟩ : Fin 64) = place lo n := Fin.ext (by dsimp only; omega)
  have h4 : (⟨r.val % 64, by omega⟩ : Fin 64) = i := Fin.ext (by dsimp only; omega)
  have h5 : (⟨e.val % 128, by omega⟩ : Fin 128) = d := Fin.ext (by dsimp only; omega)
  rw [h1, h2, h3, h4, h5, place_place]

end Input

end Cert.Delta

end
-- ==== Proof.Host.lean ====
/- The arrays that the host hands to the kernel, read at an entry: the queries and keys side by side, the values, the
   scalars side by side, and the scalars of each chunk turned over. -/
module

public import proofs.«01_k».proof.Proof.Gen.KernelIdeal.Frame
public import proofs.«01_k».proof.Proof.Heads
public import proofs.«01_k».proof.Proof.Sequence
public import Idealize.ShloMosaic.Lib.Pipeline.ValueKit
public import Idealize.ShloMosaic.Lib.ValueIdxCore
public import Idealize.ShloMosaic.Lib.StableHlo.ReadAt

@[expose] public section

set_option maxRecDepth 16384

noncomputable section

namespace Cert.KernelIdeal.Heads

open Cert.Delta Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- Row `p` of sequence `b` in the arrays whose rows are those of every sequence. -/
def rowOf (b : Fin 4) (p : Fin 4096) : Fin 16384 := ⟨4096 * b.val + p.val, by omega⟩

/-- Lane `d` of head `j` in the arrays whose columns are those of every head. -/
def laneAt (j : Fin 16) (d : Fin 128) : Fin 2048 := ⟨128 * j.val + d.val, by omega⟩

/-- The same among the columns of the keys, which stand beside the queries. -/
def besideAt (lo : Bool) (j : Fin 16) (d : Fin 128) : Fin 4096 := ⟨cond lo 0 2048 + (128 * j.val + d.val), by cases lo <;> simp <;> omega⟩

theorem host_queries (b : Fin 4) (p : Fin 4096) (j : Fin 16) (d : Fin 128) :
    V m c main_v2 (ix2 (rowOf b p) (besideAt true j d)) = m ((c : Thread nD τ).loc main_arg0) (ix4 b p j d) := by
  unfold V rowOf besideAt
  simp only [hostOps0, hostOps0_1, hostOps0_2, List.flatten_cons, List.flatten_nil, List.append_nil, List.cons_append, List.nil_append]
  after_reads_at
  simp only [cond_true]
  rw [dif_pos (by omega)]
  blk_ext

theorem host_keys (b : Fin 4) (p : Fin 4096) (j : Fin 16) (d : Fin 128) :
    V m c main_v2 (ix2 (rowOf b p) (besideAt false j d)) = m ((c : Thread nD τ).loc main_arg1) (ix4 b p j d) := by
  unfold V rowOf besideAt
  simp only [hostOps0, hostOps0_1, hostOps0_2, List.flatten_cons, List.flatten_nil, List.append_nil, List.cons_append, List.nil_append]
  after_reads_at
  simp only [cond_false]
  rw [dif_neg (by omega)]
  blk_ext

theorem host_values (b : Fin 4) (p : Fin 4096) (j : Fin 16) (d : Fin 128) :
    V m c main_v9 (ix2 (rowOf b p) (laneAt j d)) = m ((c : Thread nD τ).loc main_arg2) (ix4 b p j d) := by
  unfold V rowOf laneAt
  simp only [hostOps0, hostOps0_1, hostOps0_2, List.flatten_cons, List.flatten_nil, List.append_nil, List.cons_append, List.nil_append]
  after_reads_at

theorem host_scales (b : Fin 4) (p : Fin 4096) (lo : Bool) (j : Fin 16) :
    V m c main_v6 (ix2 (rowOf b p) (scaleCol lo j)) = m ((c : Thread nD τ).loc main_arg3) (ix4 b p (side lo) j) := by
  unfold V rowOf
  simp only [hostOps0, hostOps0_1, hostOps0_2, List.flatten_cons, List.flatten_nil, List.append_nil, List.cons_append, List.nil_append]
  after_reads_at
  unfold scaleCol side
  cases lo <;> simp only [cond_true, cond_false]
  · rw [dif_pos (by omega), dif_pos (by omega)]
    after_reads_at
    blk_ext
  · rw [dif_pos (by omega), dif_pos (by omega)]
    after_reads_at
    blk_ext

theorem host_decays (b : Fin 4) (p : Fin 4096) (lo : Bool) (j : Fin 16) :
    V m c main_v6 (ix2 (rowOf b p) (decayCol lo j)) = m ((c : Thread nD τ).loc main_arg4) (ix4 b p (side lo) j) := by
  unfold V rowOf
  simp only [hostOps0, hostOps0_1, hostOps0_2, List.flatten_cons, List.flatten_nil, List.append_nil, List.cons_append, List.nil_append]
  after_reads_at
  unfold decayCol side
  cases lo <;> simp only [cond_true, cond_false]
  · rw [dif_pos (by omega), dif_neg (by omega)]
    after_reads_at
    blk_ext
  · rw [dif_pos (by omega), dif_neg (by omega)]
    after_reads_at
    blk_ext

theorem host_turned (b : Fin 4) (n : Fin 64) (i : Fin 64) (o : Fin 128) :
    V m c main_v8 (ix4 (⟨64 * b.val + n.val, by omega⟩ : Fin 256) (0 : Fin 1) o i) =
      V m c main_v6 (ix2 (rowOf b ⟨64 * n.val + i.val, by omega⟩) o) := by
  have h : V m c main_v8 = transpose S256x1x128x64 [0, 2, 3, 1] (shapeCast S256x64x1x128 (V m c main_v6) shapeCasts_S16384x128_S256x64x1x128)
      transposes_S256x64x1x128_S256x1x128x64_0_2_3_1 := by
    unfold V
    simp only [hostOps0, hostOps0_1, hostOps0_2, List.flatten_cons, List.flatten_nil, List.append_nil, List.cons_append, List.nil_append]
    after_reads_simp
    rfl
  rw [h]
  generalize V m c main_v6 = x
  unfold rowOf
  clean_types
  pointwise
  blk_ext

end Cert.KernelIdeal.Heads

end
-- ==== Proof.Windows.lean ====
/- What each grid point stages, head by head, as entries of the arguments: a point is a sequence and a step, and the
   backward direction takes the sequence's chunks from the last to the first. -/
module

public import proofs.«01_k».proof.Proof.Host
public import proofs.«01_k».proof.Proof.Cover

@[expose] public section

set_option maxRecDepth 16384

noncomputable section

namespace Cert.KernelIdeal.Heads

open Cert.Delta Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- The grid point of sequence `b` and step `n`. -/
def pt (b : Fin 4) (n : Fin 64) : Fin cfg0.N := ⟨64 * b.val + n.val, lt_of_lt_of_eq (by omega : 64 * b.val + n.val < 256) N_0.symm⟩

theorem index_fwd : ∀ (b : Fin 4) (n : Fin 64),
    win0_0.index (pt b n) = ![64 * b.val + n.val, 0] ∧ win0_1.index (pt b n) = ![64 * b.val + n.val, 1] ∧
    win0_2.index (pt b n) = ![64 * b.val + n.val, 0] ∧ win0_6.index (pt b n) = ![64 * b.val + n.val, 0] ∧
    win0_8.index (pt b n) = ![64 * b.val + n.val, 0, 0, 0] := by decide +kernel

theorem index_bwd : ∀ (b : Fin 4) (n : Fin 64),
    win0_3.index (pt b n) = ![64 * b.val + n.rev.val, 0] ∧ win0_4.index (pt b n) = ![64 * b.val + n.rev.val, 1] ∧
    win0_5.index (pt b n) = ![64 * b.val + n.rev.val, 0] ∧ win0_7.index (pt b n) = ![64 * b.val + n.rev.val, 0] ∧
    win0_9.index (pt b n) = ![64 * b.val + n.rev.val, 0, 0, 0] := by decide +kernel

theorem index_state : ∀ (b : Fin 4) (n : Fin 64),
    win0_10.index (pt b n) = ![b.val, 0, 0, 0] ∧ win0_11.index (pt b n) = ![b.val, 0, 0, 0] := by decide +kernel

theorem slab_at (x : Vec F S64x2048 .bf16) (j : Fin 16) (i : Fin 64) (d : Fin 128) :
    slab x j (ix2 i d) = x (ix2 i (laneAt j d)) := by
  unfold slab laneAt
  pointwise

theorem column_at (x : Vec F S64x128 .f32) (o : Fin 128) (i : Fin 64) :
    column x o (ix2 i (0 : Fin 1)) = x (ix2 i o) := by
  unfold column
  pointwise

theorem row_at (x : Vec F S1x1x128x64 .f32) (o : Fin 128) (i : Fin 64) :
    row x o (ix2 (0 : Fin 1) i) = x (ix4 (0 : Fin 1) (0 : Fin 1) o i) := by
  unfold row
  pointwise

variable (b : Fin 4) (n i : Fin 64) (j : Fin 16) (d : Fin 128)

theorem queries_fwd : slab (iblk m c 0 (pt b n)) j (ix2 i d) =
    m ((c : Thread nD τ).loc main_arg0) (ix4 b (rowIn n i) j d) := by
  refine (slab_at _ j i d).trans (.trans ?_ (host_queries m c b (rowIn n i) j d))
  unfold rowOf rowIn besideAt laneAt
  simp only [cond_true]
  blk_ext [iblk, (index_fwd b n).1]

theorem keys_fwd : slab (iblk m c 1 (pt b n)) j (ix2 i d) =
    m ((c : Thread nD τ).loc main_arg1) (ix4 b (rowIn n i) j d) := by
  refine (slab_at _ j i d).trans (.trans ?_ (host_keys m c b (rowIn n i) j d))
  unfold rowOf rowIn besideAt laneAt
  simp only [cond_false]
  blk_ext [iblk, (index_fwd b n).2.1]

theorem values_fwd : slab (iblk m c 2 (pt b n)) j (ix2 i d) =
    m ((c : Thread nD τ).loc main_arg2) (ix4 b (rowIn n i) j d) := by
  refine (slab_at _ j i d).trans (.trans ?_ (host_values m c b (rowIn n i) j d))
  unfold rowOf rowIn laneAt
  blk_ext [iblk, (index_fwd b n).2.2.1]

theorem scales_fwd : column (iblk m c 6 (pt b n)) (scaleCol true j) (ix2 i (0 : Fin 1)) =
    m ((c : Thread nD τ).loc main_arg3) (ix4 b (rowIn n i) (side true) j) := by
  refine (column_at _ _ i).trans (.trans ?_ (host_scales m c b (rowIn n i) true j))
  unfold rowOf rowIn
  blk_ext [iblk, (index_fwd b n).2.2.2.1]

theorem decays_fwd : column (iblk m c 6 (pt b n)) (decayCol true j) (ix2 i (0 : Fin 1)) =
    m ((c : Thread nD τ).loc main_arg4) (ix4 b (rowIn n i) (side true) j) := by
  refine (column_at _ _ i).trans (.trans ?_ (host_decays m c b (rowIn n i) true j))
  unfold rowOf rowIn
  blk_ext [iblk, (index_fwd b n).2.2.2.1]

theorem turned_fwd : row (iblk m c 8 (pt b n)) (decayCol true j) (ix2 (0 : Fin 1) i) =
    m ((c : Thread nD τ).loc main_arg4) (ix4 b (rowIn n i) (side true) j) := by
  refine (row_at _ _ i).trans (.trans ?_ ((host_turned m c b n i _).trans (host_decays m c b (rowIn n i) true j)))
  blk_ext [iblk, (index_fwd b n).2.2.2.2]

theorem queries_bwd : slab (iblk m c 3 (pt b n)) j (ix2 i d) =
    m ((c : Thread nD τ).loc main_arg0) (ix4 b (rowIn n.rev i) j d) := by
  refine (slab_at _ j i d).trans (.trans ?_ (host_queries m c b (rowIn n.rev i) j d))
  unfold rowOf rowIn besideAt laneAt
  simp only [cond_true]
  blk_ext [iblk, (index_bwd b n).1]

theorem keys_bwd : slab (iblk m c 4 (pt b n)) j (ix2 i d) =
    m ((c : Thread nD τ).loc main_arg1) (ix4 b (rowIn n.rev i) j d) := by
  refine (slab_at _ j i d).trans (.trans ?_ (host_keys m c b (rowIn n.rev i) j d))
  unfold rowOf rowIn besideAt laneAt
  simp only [cond_false]
  blk_ext [iblk, (index_bwd b n).2.1]

theorem values_bwd : slab (iblk m c 5 (pt b n)) j (ix2 i d) =
    m ((c : Thread nD τ).loc main_arg2) (ix4 b (rowIn n.rev i) j d) := by
  refine (slab_at _ j i d).trans (.trans ?_ (host_values m c b (rowIn n.rev i) j d))
  unfold rowOf rowIn laneAt
  blk_ext [iblk, (index_bwd b n).2.2.1]

theorem scales_bwd : column (iblk m c 7 (pt b n)) (scaleCol false j) (ix2 i (0 : Fin 1)) =
    m ((c : Thread nD τ).loc main_arg3) (ix4 b (rowIn n.rev i) (side false) j) := by
  refine (column_at _ _ i).trans (.trans ?_ (host_scales m c b (rowIn n.rev i) false j))
  unfold rowOf rowIn
  blk_ext [iblk, (index_bwd b n).2.2.2.1]

theorem decays_bwd : column (iblk m c 7 (pt b n)) (decayCol false j) (ix2 i (0 : Fin 1)) =
    m ((c : Thread nD τ).loc main_arg4) (ix4 b (rowIn n.rev i) (side false) j) := by
  refine (column_at _ _ i).trans (.trans ?_ (host_decays m c b (rowIn n.rev i) false j))
  unfold rowOf rowIn
  blk_ext [iblk, (index_bwd b n).2.2.2.1]

theorem turned_bwd : row (iblk m c 9 (pt b n)) (decayCol false j) (ix2 (0 : Fin 1) i) =
    m ((c : Thread nD τ).loc main_arg4) (ix4 b (rowIn n.rev i) (side false) j) := by
  refine (row_at _ _ i).trans (.trans ?_ ((host_turned m c b n.rev i _).trans (host_decays m c b (rowIn n.rev i) false j)))
  blk_ext [iblk, (index_bwd b n).2.2.2.2]

theorem first_true (d e : Fin 128) : (iblk m c 10 (pt b n) : Vec F S1x16x128x128 .f32) (ix4 (0 : Fin 1) j d e) =
    m ((c : Thread nD τ).loc main_arg5) (ix4 b j d e) := by
  refine .trans ?_ (congrFun (V_main_arg5 m c) (ix4 b j d e))
  blk_ext [iblk, (index_state b n).1]

theorem first_false (d e : Fin 128) : (iblk m c 11 (pt b n) : Vec F S1x16x128x128 .f32) (ix4 (0 : Fin 1) j d e) =
    m ((c : Thread nD τ).loc main_arg6) (ix4 b j d e) := by
  refine .trans ?_ (congrFun (V_main_arg6 m c) (ix4 b j d e))
  blk_ext [iblk, (index_state b n).2]

end Cert.KernelIdeal.Heads

end
-- ==== Proof.Masks.lean ====
/- The masks of one chunk's vector operations, read at an entry, and the vocabulary of vectors with real entries. -/
module

public import proofs.«01_k».proof.Proof.Chain
public import proofs.«01_k».proof.Proof.Model
public import Idealize.ShloMosaic.Lib.Pointwise

@[expose] public section

set_option maxRecDepth 16384

noncomputable section

namespace Cert.KernelIdeal.Chain

open Cert.KernelIdeal Cert.KernelIdeal.Facts₀ Cert.KernelIdeal.Facts Idealize.ShloMosaic Idealize.SL.Sem
open Cert.Delta

/-- The entries of `x` are the reals `M`. -/
def Is {n m : ℕ} {φ : FTy} (x : FVec Ideal ⟨2, ![n, m]⟩ φ) (M : Matrix (Fin n) (Fin m) ℝ) : Prop :=
  ∀ i k, x (ix2 i k) = ((M i k : ℝ) : EReal)

theorem coe_sum {n : ℕ} (f : Fin n → ℝ) : (∑ k, ((f k : ℝ) : EReal)) = ((∑ k, f k : ℝ) : EReal) := by
  induction (Finset.univ : Finset (Fin n)) using Finset.cons_induction with
  | empty => simp
  | cons a s ha ih => rw [Finset.sum_cons, Finset.sum_cons, ih, EReal.coe_add]

theorem coe_dot {n : ℕ} (f g : Fin n → ℝ) :
    (∑ k, ((f k : ℝ) : EReal) * ((g k : ℝ) : EReal)) = ((∑ k, f k * g k : ℝ) : EReal) := by
  rw [← coe_sum]; exact Finset.sum_congr rfl fun k _ => (EReal.coe_mul _ _).symm

/-- The scale of the queries. -/
def scale : ℝ := (Ideal.ofBits .f32 0x3DB504F3#32).toReal

theorem scale_coe : Ideal.ofBits .f32 0x3DB504F3#32 = ((scale : ℝ) : EReal) := by
  unfold scale
  refine (EReal.coe_toReal ?_ ?_).symm <;> simp [Ideal.ofBits, Ideal.ieee] <;> rw [← EReal.coe_mul]
  · exact EReal.coe_ne_top _
  · exact EReal.coe_ne_bot _

/-! ## The masks -/

theorem quot16 : ∀ i : Fin 64, floorDiv (fun _ => BitVec.ofNat 32 i.val) 16#32 (ix2 0 0) = BitVec.ofNat 32 (i.val / 16) := by
  decide +kernel
theorem quot32 : ∀ i : Fin 64, floorDiv (fun _ => BitVec.ofNat 32 i.val) 32#32 (ix2 0 0) = BitVec.ofNat 32 (i.val / 32) := by
  decide +kernel
theorem quot64 : ∀ i : Fin 64, floorDiv (fun _ => BitVec.ofNat 32 i.val) 64#32 (ix2 0 0) = BitVec.ofNat 32 (i.val / 64) := by
  decide +kernel

theorem ofNat_inj (a b : Fin 64) (s : ℕ) :
    BitVec.ofNat 32 (a.val / s) = BitVec.ofNat 32 (b.val / s) ↔ a.val / s = b.val / s := by
  have h1 := Nat.div_le_self a.val s
  have h2 := Nat.div_le_self b.val s
  refine ⟨fun e => ?_, fun h => by rw [h]⟩
  have := congrArg BitVec.toNat e
  simp only [BitVec.toNat_ofNat] at this
  rwa [Nat.mod_eq_of_lt (by omega), Nat.mod_eq_of_lt (by omega)] at this

theorem cmpi_eq (a b : BitVec 32) : IntOp.cmpi .eq a b = if a = b then 1#1 else 0#1 := by
  by_cases h : a = b
  · subst h; simp [IntOp.cmpi]
  · rw [if_neg h]; change BitVec.ofBool (a == b) = 0#1; rw [beq_eq_false_iff_ne.2 h]; rfl

theorem cmpi_ne (a b : BitVec 32) : IntOp.cmpi .ne a b = if a = b then 0#1 else 1#1 := by
  by_cases h : a = b
  · subst h; simp [IntOp.cmpi]
  · rw [if_neg h]; change BitVec.ofBool (a != b) = 1#1; rw [bne_iff_ne.2 h]; rfl

theorem rowIx_at (i k : Fin 64) : rowIx (ix2 i k) = BitVec.ofNat 32 i.val := by pointwise [rowIx]
theorem colIx_at (i k : Fin 64) : colIx (ix2 i k) = BitVec.ofNat 32 k.val := by pointwise [colIx]

theorem row16 (i k : Fin 64) : floorDiv rowIx 16#32 (ix2 i k) = BitVec.ofNat 32 (i.val / 16) := by
  rw [← quot16 i, ← rowIx_at i k]; rfl
theorem col16 (i k : Fin 64) : floorDiv colIx 16#32 (ix2 i k) = BitVec.ofNat 32 (k.val / 16) := by
  rw [← quot16 k, ← colIx_at i k]; rfl
theorem row32 (i k : Fin 64) : floorDiv rowIx 32#32 (ix2 i k) = BitVec.ofNat 32 (i.val / 32) := by
  rw [← quot32 i, ← rowIx_at i k]; rfl
theorem col32 (i k : Fin 64) : floorDiv colIx 32#32 (ix2 i k) = BitVec.ofNat 32 (k.val / 32) := by
  rw [← quot32 k, ← colIx_at i k]; rfl
theorem row64 (i k : Fin 64) : floorDiv rowIx 64#32 (ix2 i k) = BitVec.ofNat 32 (i.val / 64) := by
  rw [← quot64 i, ← rowIx_at i k]; rfl
theorem col64 (i k : Fin 64) : floorDiv colIx 64#32 (ix2 i k) = BitVec.ofNat 32 (k.val / 64) := by
  rw [← quot64 k, ← colIx_at i k]; rfl

theorem same_at (i k : Fin 64) : same (ix2 i k) = if i.val / 16 = k.val / 16 then 1#1 else 0#1 := by
  change IntOp.cmpi .eq (floorDiv rowIx 16#32 (ix2 i k)) (floorDiv colIx 16#32 (ix2 i k)) = _
  rw [row16, col16, cmpi_eq]
  exact if_congr (ofNat_inj i k 16) rfl rfl

theorem between16_at (i k : Fin 64) : between 16#32 32#32 (ix2 i k) =
    if i.val / (2 * 16) = k.val / (2 * 16) ∧ i.val / 16 ≠ k.val / 16 then 1#1 else 0#1 := by
  change IntOp.andi (IntOp.cmpi .eq (floorDiv rowIx 32#32 (ix2 i k)) (floorDiv colIx 32#32 (ix2 i k)))
    (IntOp.cmpi .ne (floorDiv rowIx 16#32 (ix2 i k)) (floorDiv colIx 16#32 (ix2 i k))) = _
  rw [row16, col16, row32, col32, cmpi_eq, cmpi_ne]
  simp only [ofNat_inj]
  by_cases h : i.val / 32 = k.val / 32 <;> by_cases h' : i.val / 16 = k.val / 16 <;> simp [h, h', IntOp.andi]

theorem between32_at (i k : Fin 64) : between 32#32 64#32 (ix2 i k) =
    if i.val / (2 * 32) = k.val / (2 * 32) ∧ i.val / 32 ≠ k.val / 32 then 1#1 else 0#1 := by
  change IntOp.andi (IntOp.cmpi .eq (floorDiv rowIx 64#32 (ix2 i k)) (floorDiv colIx 64#32 (ix2 i k)))
    (IntOp.cmpi .ne (floorDiv rowIx 32#32 (ix2 i k)) (floorDiv colIx 32#32 (ix2 i k))) = _
  rw [row64, col64, row32, col32, cmpi_eq, cmpi_ne]
  simp only [ofNat_inj]
  by_cases h : i.val / 64 = k.val / 64 <;> by_cases h' : i.val / 32 = k.val / 32 <;> simp [h, h', IntOp.andi]

theorem sle_ofNat (a b : Fin 64) : (BitVec.ofNat 32 a.val).sle (BitVec.ofNat 32 b.val) = decide (a.val ≤ b.val) := by
  have h (i : Fin 64) : (BitVec.ofNat 32 i.val).toInt = i.val := by
    rw [BitVec.toInt_eq_toNat_of_lt] <;> simp only [BitVec.toNat_ofNat] <;> omega
  rw [BitVec.sle_eq_decide, h, h]; simp

theorem slt_ofNat (a b : Fin 64) : (BitVec.ofNat 32 a.val).slt (BitVec.ofNat 32 b.val) = decide (a.val < b.val) := by
  have h (i : Fin 64) : (BitVec.ofNat 32 i.val).toInt = i.val := by
    rw [BitVec.toInt_eq_toNat_of_lt] <;> simp only [BitVec.toNat_ofNat] <;> omega
  rw [BitVec.slt_eq_decide, h, h]; simp

theorem upTo_at (lo : Bool) (i k : Fin 64) : upTo lo (ix2 i k) = if Before lo i k then 0#1 else 1#1 := by
  cases lo
  · change IntOp.cmpi .sle (rowIx (ix2 i k)) (colIx (ix2 i k)) = _
    rw [rowIx_at, colIx_at]
    change BitVec.ofBool ((BitVec.ofNat 32 i.val).sle (BitVec.ofNat 32 k.val)) = _
    rw [sle_ofNat]
    by_cases h : i.val ≤ k.val <;> simp [Before, h] <;> omega
  · change IntOp.cmpi .sge (rowIx (ix2 i k)) (colIx (ix2 i k)) = _
    rw [rowIx_at, colIx_at]
    change BitVec.ofBool ((BitVec.ofNat 32 k.val).sle (BitVec.ofNat 32 i.val)) = _
    rw [sle_ofNat]
    by_cases h : k.val ≤ i.val <;> simp [Before, h] <;> omega

theorem before_at (lo : Bool) (i k : Fin 64) : before lo (ix2 i k) = if Before lo k i then 1#1 else 0#1 := by
  cases lo
  · change IntOp.cmpi .slt (rowIx (ix2 i k)) (colIx (ix2 i k)) = _
    rw [rowIx_at, colIx_at]
    change BitVec.ofBool ((BitVec.ofNat 32 i.val).slt (BitVec.ofNat 32 k.val)) = _
    rw [slt_ofNat]
    by_cases h : i.val < k.val <;> simp [Before, h]
  · change IntOp.cmpi .sgt (rowIx (ix2 i k)) (colIx (ix2 i k)) = _
    rw [rowIx_at, colIx_at]
    change BitVec.ofBool ((BitVec.ofNat 32 k.val).slt (BitVec.ofNat 32 i.val)) = _
    rw [slt_ofNat]
    by_cases h : k.val < i.val <;> simp [Before, h]

theorem place_at (r : Fin 16) (k : Fin 64) : place (ix2 r k) = if r.val = k.val % 16 then 1#1 else 0#1 := by
  revert r k; decide +kernel

end Cert.KernelIdeal.Chain

end
-- ==== Proof.Reading.lean ====
/- What the vector operations of one chunk compute, over real entries: the chunk of `Model`. -/
module

public import proofs.«01_k».proof.Proof.Masks

@[expose] public section

set_option maxRecDepth 16384

noncomputable section

namespace Cert.KernelIdeal.Chain

open Cert.KernelIdeal Cert.KernelIdeal.Facts₀ Cert.KernelIdeal.Facts Idealize.ShloMosaic Idealize.SL.Sem
open Cert.Delta

theorem select_if {α : Type} (p : Prop) [Decidable p] (a b : α) :
    Scalar.select (if p then (1#1 : BitVec 1) else 0#1) a b = if p then a else b := by
  by_cases h : p
  · rw [if_pos h, if_pos h]; exact if_pos rfl
  · rw [if_neg h, if_neg h]; exact if_neg (by decide)

theorem select_if' {α : Type} (p : Prop) [Decidable p] (a b : α) :
    Scalar.select (if p then (0#1 : BitVec 1) else 1#1) a b = if p then b else a := by
  by_cases h : p
  · rw [if_pos h, if_pos h]; exact if_neg (by decide)
  · rw [if_neg h, if_neg h]; exact if_pos rfl

theorem select_apply {s : Shape} {α : Type} (c : IVec s 1) (a b : s.Idx → α) (j : s.Idx) :
    select c a b j = Scalar.select (c j) (a j) (b j) := rfl

/-! ## The operations -/

section ops
variable {n m l : ℕ} {φ : FTy}

theorem Is.at {x : FVec Ideal ⟨2, ![n, m]⟩ φ} {X : Matrix (Fin n) (Fin m) ℝ} (h : Is x X)
    (j : (⟨2, ![n, m]⟩ : Shape).Idx) (i : Fin n) (k : Fin m) (h0 : (j 0).val = i.val) (h1 : (j 1).val = k.val) :
    x j = ((X i k : ℝ) : EReal) := by
  have : j = ix2 i k := funext fun a => match a with
    | ⟨0, _⟩ => Fin.ext h0
    | ⟨1, _⟩ => Fin.ext h1
  rw [this, h]

theorem Is.add {x y : FVec Ideal ⟨2, ![n, m]⟩ φ} {X Y : Matrix (Fin n) (Fin m) ℝ} (hx : Is x X) (hy : Is y Y) :
    Is (addf x y) (X + Y) := fun i k => by
  change x (ix2 i k) + y (ix2 i k) = _
  rw [hx, hy, ← EReal.coe_add]; rfl

theorem Is.sub {x y : FVec Ideal ⟨2, ![n, m]⟩ φ} {X Y : Matrix (Fin n) (Fin m) ℝ} (hx : Is x X) (hy : Is y Y) :
    Is (subf x y) (X - Y) := fun i k => by
  change x (ix2 i k) - y (ix2 i k) = _
  rw [hx, hy, ← EReal.coe_sub]; rfl

theorem Is.mul {x y : FVec Ideal ⟨2, ![n, m]⟩ φ} {X Y : Matrix (Fin n) (Fin m) ℝ} (hx : Is x X) (hy : Is y Y) :
    Is (mulf x y) (Matrix.of fun i k => X i k * Y i k) := fun i k => by
  change x (ix2 i k) * y (ix2 i k) = _
  rw [hx, hy, ← EReal.coe_mul]; rfl

theorem Is.exp {x : FVec Ideal ⟨2, ![n, m]⟩ φ} {X : Matrix (Fin n) (Fin m) ℝ} (hx : Is x X) :
    Is (exp x) (Matrix.of fun i k => Real.exp (X i k)) := fun i k => by
  change Ideal.exp (x (ix2 i k)) = _
  rw [hx]; rfl

theorem Is.congr {x : FVec Ideal ⟨2, ![n, m]⟩ φ} {X Y : Matrix (Fin n) (Fin m) ℝ} (hx : Is x X) (h : X = Y) : Is x Y :=
  h ▸ hx

theorem Is.trunc {x : FVec Ideal ⟨2, ![n, m]⟩ .f32} {X : Matrix (Fin n) (Fin m) ℝ} (hx : Is x X)
    (h : FTy.bf16.bits < FTy.f32.bits) : Is (truncf .bf16 x h) X := hx

theorem Is.ext {x : FVec Ideal ⟨2, ![n, m]⟩ .bf16} {X : Matrix (Fin n) (Fin m) ℝ} (hx : Is x X)
    (h : FTy.bf16.bits < FTy.f32.bits) : Is (extf .f32 x h) X := hx

theorem Is.select {x y : FVec Ideal ⟨2, ![n, m]⟩ φ} {X Y : Matrix (Fin n) (Fin m) ℝ} {c : IVec ⟨2, ![n, m]⟩ 1}
    {p : Fin n → Fin m → Prop} [∀ i k, Decidable (p i k)] (hc : ∀ i k, c (ix2 i k) = if p i k then 1#1 else 0#1)
    (hx : Is x X) (hy : Is y Y) : Is (select c x y) (Matrix.of fun i k => if p i k then X i k else Y i k) := fun i k => by
  rw [select_apply, hc, select_if, hx, hy]
  change _ = (((if p i k then X i k else Y i k) : ℝ) : EReal)
  split <;> rfl

theorem is_zero : Is (broadcast ⟨2, ![n, m]⟩ (Scalar.ofBits (F := Ideal) .f32 0x00000000#32)) 0 := fun i k =>
  Ideal.ofBits_zero_f32

theorem is_one : Is (broadcast ⟨2, ![n, m]⟩ (Scalar.ofBits (F := Ideal) .f32 0x3F800000#32)) (Matrix.of fun _ _ => 1) :=
  fun i k => Ideal.ofBits_one_f32

theorem is_scale : Is (broadcast ⟨2, ![n, m]⟩ (Scalar.ofBits (F := Ideal) .f32 0x3DB504F3#32))
    (Matrix.of fun _ _ => scale) := fun i k => scale_coe

end ops

section products
variable {φ : FTy}

theorem is_mm_16 {x : FVec Ideal S16x64 .bf16} {y : FVec Ideal S64x64 .bf16} {X : Matrix (Fin 16) (Fin 64) ℝ} {Y : Sq}
    (hx : Is x X) (hy : Is y Y) :
    Is (matmul dot_S16x64_S64x64_S16x64_1_0_0_1_n_n none x y (constant S16x64 .f32 0x00000000#32)) (X * Y) := fun i k => by
  pointwise []
  simp only [hx i, hy _ k, coe_dot, zero_add]; rfl

theorem is_mm_64 {x : FVec Ideal S64x64 .bf16} {y : FVec Ideal S64x64 .bf16} {X : Sq} {Y : Sq}
    (hx : Is x X) (hy : Is y Y) :
    Is (matmul dot_S64x64_S64x64_S64x64_1_0_0_1_n_n none x y (constant S64x64 .f32 0x00000000#32)) (X * Y) := fun i k => by
  pointwise []
  simp only [hx i, hy _ k, coe_dot, zero_add]; rfl

theorem is_mm_sides {x : FVec Ideal S64x64 .bf16} {y : FVec Ideal S64x256 .bf16} {X : Sq}
    {Y : Matrix (Fin 64) (Fin 256) ℝ} (hx : Is x X) (hy : Is y Y) :
    Is (matmul dot_S64x64_S64x256_S64x256_1_0_0_1_n_n none x y (constant S64x256 .f32 0x00000000#32)) (X * Y) :=
  fun i k => by
  pointwise []
  simp only [hx i, hy _ k, coe_dot, zero_add]; rfl

theorem is_mm_rows {x : FVec Ideal S64x64 .bf16} {y : FVec Ideal S64x128 .bf16} {X : Sq} {Y : Rows}
    (hx : Is x X) (hy : Is y Y) :
    Is (matmul dot_S64x64_S64x128_S64x128_1_0_0_1_n_n none x y (constant S64x128 .f32 0x00000000#32)) (X * Y) :=
  fun i k => by
  pointwise []
  simp only [hx i, hy _ k, coe_dot, zero_add]; rfl

theorem is_mm_state {x y : FVec Ideal S128x128 .bf16} {X Y : State} (hx : Is x X) (hy : Is y Y) :
    Is (matmul dot_S128x128_S128x128_S128x128_1_0_0_1_n_n none x y (constant S128x128 .f32 0x00000000#32)) (X * Y) :=
  fun i k => by
  pointwise []
  simp only [hx i, hy _ k, coe_dot, zero_add]; rfl

theorem is_mm_keys {x : FVec Ideal S128x128 .bf16} {y : FVec Ideal S64x128 .bf16} {X : State} {Y : Rows}
    (hx : Is x X) (hy : Is y Y) :
    Is (matmul dot_S128x128_S64x128_S128x64_1_1_0_0_n_n none x y (constant S128x64 .f32 0x00000000#32))
      (Matrix.of fun i k => ∑ d, X i d * Y k d) := fun i k => by
  pointwise []
  simp only [hx i, hy k, coe_dot, zero_add]; rfl

theorem is_mm_tails {x y : FVec Ideal S64x128 .bf16} {X Y : Rows} (hx : Is x X) (hy : Is y Y) :
    Is (matmul dot_S64x128_S64x128_S128x128_0_0_1_1_n_n none x y (constant S128x128 .f32 0x00000000#32))
      (X.transpose * Y) := fun i k => by
  pointwise []
  simp only [hx _ i, hy _ k, coe_dot, zero_add]; rfl

end products

/-! ## The inverse -/

theorem is_eye : Is (eye (F := Ideal)) Pack :=
  (Is.select (p := fun (r : Fin 16) (k : Fin 64) => r.val = k.val % 16) place_at is_one is_zero).congr rfl

theorem is_stack {x : FVec Ideal S16x64 .f32} {X : Matrix (Fin 16) (Fin 64) ℝ} (h : Is x X) :
    Is (concatenate S64x64 0 [⟨S16x64, x⟩, ⟨S16x64, x⟩, ⟨S16x64, x⟩, ⟨S16x64, x⟩]
      concatenates_S16x64_S16x64_S16x64_S16x64_S64x64_d0)
      (Matrix.of fun (i k : Fin 64) => X ⟨i.val % 16, Nat.mod_lt _ (by norm_num)⟩ k) := fun i k => by
  pointwise []
  split_ifs <;> exact h.at _ _ _ (by simp; omega) rfl

theorem is_blockDiag {x : FVec Ideal S16x64 .f32} {X : Matrix (Fin 16) (Fin 64) ℝ} (h : Is x X) :
    Is (blockDiag x) (unpack X) :=
  (Is.select (p := fun i k : Fin 64 => i.val / 16 = k.val / 16) same_at (is_stack h) is_zero).congr rfl

theorem is_packMul {x y : FVec Ideal S16x64 .f32} {X Y : Matrix (Fin 16) (Fin 64) ℝ} (hx : Is x X) (hy : Is y Y) :
    Is (packMul x y) (X * unpack Y) :=
  is_mm_16 (hx.trunc _) ((is_blockDiag hy).trunc _)

theorem is_cut {x : FVec Ideal S64x64 .f32} {X : Sq} (h : Is x X) (o : ℕ) (ho : o + 16 ≤ 64)
    (hs : S64x64.Slices ![o, 0] S16x64) :
    Is (extractStridedSlice S16x64 ![o, 0] x hs)
      (Matrix.of fun (r : Fin 16) (k : Fin 64) => X ⟨o + r.val, by omega⟩ k) := fun i k => by
  pointwise []
  exact h.at _ _ _ (by simp; try rfl) (by simp; try rfl)

theorem is_joined {m : IVec S64x64 1} {a p : FVec Ideal S64x64 .f32} {A P : Sq} (s : ℕ)
    (hm : ∀ i k : Fin 64, m (ix2 i k) = if i.val / (2 * s) = k.val / (2 * s) ∧ i.val / s ≠ k.val / s then 1#1 else 0#1)
    (ha : Is a A) (hp : Is p P) : Is (joined m a p) (join s A P) :=
  hp.sub (is_mm_64 ((is_mm_64 (hp.trunc _) ((Is.select hm ha is_zero).trunc _)).trunc _) (hp.trunc _))

theorem is_packNeg {a : FVec Ideal S64x64 .f32} {A : Sq} (h : Is a A) : Is (packNeg a) (Pack * negBlocks A) := by
  have hn : Is (select same (subf zero64 a) zero64) (negBlocks A) :=
    (Is.select (p := fun i k : Fin 64 => i.val / 16 = k.val / 16) same_at (is_zero.sub h) is_zero).congr (by
      ext i k; unfold negBlocks; simp)
  have hb : Blocked 16 (negBlocks A) := negBlocks_blocked A
  refine ((((is_zero.add (is_cut hn 0 (by norm_num) _)).add (is_cut hn 16 (by norm_num) _)).add
    (is_cut hn 32 (by norm_num) _)).add (is_cut hn 48 (by norm_num) _)).congr ?_
  ext r k
  rw [pack_mul _ hb]
  simp only [Matrix.add_apply, Matrix.of_apply, Matrix.zero_apply, zero_add]
  have hz (i : Fin 64) (hk : i.val / 16 ≠ k.val / 16) : negBlocks A i k = 0 := hb _ _ hk
  have hr := r.isLt
  rcases (by omega : k.val / 16 = 0 ∨ k.val / 16 = 1 ∨ k.val / 16 = 2 ∨ k.val / 16 = 3) with e | e | e | e
  · have h1 := hz ⟨16 + r.val, by omega⟩ (by simp only; omega)
    have h2 := hz ⟨32 + r.val, by omega⟩ (by simp only; omega)
    have h3 := hz ⟨48 + r.val, by omega⟩ (by simp only; omega)
    rw [h1, h2, h3, add_zero, add_zero, add_zero]
    exact congrArg (fun i => negBlocks A i k) (Fin.ext (by simp only; omega))
  · have h1 := hz ⟨r.val, by omega⟩ (by simp only; omega)
    have h2 := hz ⟨32 + r.val, by omega⟩ (by simp only; omega)
    have h3 := hz ⟨48 + r.val, by omega⟩ (by simp only; omega)
    rw [h1, h2, h3, add_zero, add_zero, zero_add]
    exact congrArg (fun i => negBlocks A i k) (Fin.ext (by simp only; omega))
  · have h1 := hz ⟨r.val, by omega⟩ (by simp only; omega)
    have h2 := hz ⟨16 + r.val, by omega⟩ (by simp only; omega)
    have h3 := hz ⟨48 + r.val, by omega⟩ (by simp only; omega)
    rw [h1, h2, h3, add_zero, add_zero, zero_add]
    exact congrArg (fun i => negBlocks A i k) (Fin.ext (by simp only; omega))
  · have h1 := hz ⟨r.val, by omega⟩ (by simp only; omega)
    have h2 := hz ⟨16 + r.val, by omega⟩ (by simp only; omega)
    have h3 := hz ⟨32 + r.val, by omega⟩ (by simp only; omega)
    rw [h1, h2, h3, add_zero, add_zero, zero_add]
    exact congrArg (fun i => negBlocks A i k) (Fin.ext (by simp only; omega))

/-- The inverse the kernel computes. -/
theorem is_inverse {a : FVec Ideal S64x64 .f32} {A : Sq} (lo : Bool) (hA : Strict lo A) (h : Is a A) :
    Is (inverse a) ((1 + A)⁻¹) := by
  have hx := is_packNeg h
  have hx2 := is_packMul hx hx
  have hx4 := is_packMul hx2 hx2
  have hx8 := is_packMul hx4 hx4
  have hp := is_eye.add hx
  have hp2 := hp.add (is_packMul hp hx2)
  have hp4 := hp2.add (is_packMul hp2 hx4)
  have hp8 := hp4.add (is_packMul hp4 hx8)
  exact (is_joined 32 between32_at h (is_joined 16 between16_at h (is_blockDiag hp8))).congr (inverse_eq lo A hA)

/-! ## The chunk -/

theorem is_col {n m : ℕ} {φ : FTy} {x : FVec Ideal ⟨2, ![n, 1]⟩ φ} {X : Matrix (Fin n) (Fin 1) ℝ} (h : Is x X)
    (hb : (⟨2, ![n, 1]⟩ : Shape).Broadcasts ⟨2, ![n, m]⟩) :
    Is (broadcastTo ⟨2, ![n, m]⟩ x hb) (Matrix.of fun (i : Fin n) (_ : Fin m) => X i 0) := fun i k => by
  pointwise []
  refine h.at _ i 0 ?_ ?_
  · change (if h : n = 1 then (⟨0, _⟩ : Fin n) else ⟨i.val, _⟩).val = i.val
    split
    · have := i.isLt; simp only; omega
    · rfl
  · exact Nat.lt_one_iff.1 (Fin.isLt (n := 1) _)

theorem is_row {n m : ℕ} {φ : FTy} {x : FVec Ideal ⟨2, ![1, m]⟩ φ} {X : Matrix (Fin 1) (Fin m) ℝ} (h : Is x X)
    (hb : (⟨2, ![1, m]⟩ : Shape).Broadcasts ⟨2, ![n, m]⟩) :
    Is (broadcastTo ⟨2, ![n, m]⟩ x hb) (Matrix.of fun (_ : Fin n) (k : Fin m) => X 0 k) := fun i k => by
  pointwise []
  refine h.at _ 0 k ?_ ?_
  · exact Nat.lt_one_iff.1 (Fin.isLt (n := 1) _)
  · change (if h : m = 1 then (⟨0, _⟩ : Fin m) else ⟨k.val, _⟩).val = k.val
    split
    · have := k.isLt; simp only; omega
    · rfl

theorem is_cell {n m : ℕ} {φ : FTy} {x : FVec Ideal ⟨2, ![1, 1]⟩ φ} {X : Matrix (Fin 1) (Fin 1) ℝ} (h : Is x X)
    (hb : (⟨2, ![1, 1]⟩ : Shape).Broadcasts ⟨2, ![n, m]⟩) :
    Is (broadcastTo ⟨2, ![n, m]⟩ x hb) (Matrix.of fun (_ : Fin n) (_ : Fin m) => X 0 0) := fun i k => by
  pointwise []
  exact h.at _ 0 0 (Nat.lt_one_iff.1 (Fin.isLt (n := 1) _)) (Nat.lt_one_iff.1 (Fin.isLt (n := 1) _))

theorem is_over {φ : FTy} {x y : FVec Ideal S64x128 φ} {X Y : Rows} (hx : Is x X) (hy : Is y Y) :
    Is (concatenate S128x128 0 [⟨S64x128, x⟩, ⟨S64x128, y⟩] concatenates_S64x128_S64x128_S128x128_d0)
      (Matrix.of fun (i : Fin 128) (d : Fin 128) =>
        if h : i.val < 64 then X ⟨i.val, h⟩ d else Y ⟨i.val - 64, by omega⟩ d) := fun i k => by
  pointwise []
  by_cases hi : i.val < 64
  · rw [dif_pos hi, hx, Matrix.of_apply, dif_pos hi]
  · rw [dif_neg hi, hy, Matrix.of_apply, dif_neg hi]

theorem is_beside {φ : FTy} {x y : FVec Ideal S64x128 φ} {X Y : Rows} (hx : Is x X) (hy : Is y Y) :
    Is (concatenate S64x256 1 [⟨S64x128, x⟩, ⟨S64x128, y⟩] concatenates_S64x128_S64x128_S64x256_d1)
      (Matrix.of fun (i : Fin 64) (d : Fin 256) =>
        if h : d.val < 128 then X i ⟨d.val, h⟩ else Y i ⟨d.val - 128, by omega⟩) := fun i k => by
  pointwise []
  by_cases hi : k.val < 128
  · rw [dif_pos hi, hx, Matrix.of_apply, dif_pos hi]
  · rw [dif_neg hi, hy, Matrix.of_apply, dif_neg hi]

theorem is_window {n m n' m' : ℕ} {φ : FTy} {x : FVec Ideal ⟨2, ![n, m]⟩ φ} {X : Matrix (Fin n) (Fin m) ℝ} (h : Is x X)
    (a b : ℕ) (ha : a + n' ≤ n) (hb : b + m' ≤ m) (hs : (⟨2, ![n, m]⟩ : Shape).Slices ![a, b] ⟨2, ![n', m']⟩) :
    Is (extractStridedSlice ⟨2, ![n', m']⟩ ![a, b] x hs)
      (Matrix.of fun (i : Fin n') (k : Fin m') => X ⟨a + i.val, by omega⟩ ⟨b + k.val, by omega⟩) := fun i k => by
  pointwise []
  exact h.at _ _ _ rfl rfl

theorem minus_infinity : Ideal.ofBits .f32 0xFF800000#32 = ⊥ := by simp [Ideal.ofBits, Ideal.ieee]

theorem not_before {lo : Bool} {i j : Fin 64} (h : Before lo j i) : ¬ Before lo i j := by
  cases lo <;> simp only [Before, if_true, Bool.false_eq_true, if_false] at * <;> omega

section chunk
variable {lo : Bool} {x : Chunk} {st : State}
  {q k v : FVec Ideal S64x128 .bf16} {beta gcol : FVec Ideal S64x1 .f32} {grow : FVec Ideal S1x64 .f32}
  {glast : FVec Ideal S1x1 .f32} {s : FVec Ideal S128x128 .f32}
  (hq : Is q x.q) (hk : Is k x.k) (hv : Is v x.v) (hb : Is beta (Matrix.of fun i _ => x.b i))
  (hg : Is gcol (Matrix.of fun i _ => x.g i)) (hr : Is grow (Matrix.of fun _ j => x.g j))
  (hl : Is glast (Matrix.of fun _ _ => x.g (Chunk.last lo))) (hs : Is s st)

include hg hr in
theorem is_decay : Is (decay (upTo lo) gcol grow)
    (Matrix.of fun i j => if Before lo i j then 0 else Real.exp (x.g i - x.g j)) := fun i j => by
  have hd := (is_col hg broadcasts_S64x1_S64x64).sub (is_row hr broadcasts_S1x64_S64x64)
  unfold decay
  change Ideal.exp (Scalar.select (upTo lo (ix2 i j)) _ (Ideal.ofBits .f32 0xFF800000#32)) = _
  rw [upTo_at, select_if', minus_infinity, hd i j]
  by_cases h : Before lo i j
  · rw [if_pos h, Matrix.of_apply, if_pos h]; simp
  · rw [if_neg h, Matrix.of_apply, if_neg h]; rfl

include hk hb in
theorem is_scaledKeys : Is (scaledKeys k beta) (Matrix.of fun i d => x.k i d * x.b i) :=
  (hk.ext _).mul (is_col hb _)

include hq hk hb in
theorem is_keyProducts : Is (keyProducts q k beta) (Matrix.of fun (i : Fin 128) (j : Fin 64) =>
    ∑ d, (if h : i.val < 64 then x.k ⟨i.val, h⟩ d * x.b ⟨i.val, h⟩ else x.q ⟨i.val - 64, by omega⟩ d) * x.k j d) :=
  is_mm_keys (is_over ((is_scaledKeys hk hb).trunc _) hq) hk

include hq hk hb hg hr in
theorem is_system : Is (system (upTo lo) (before lo) q k beta gcol grow) (x.system lo) :=
  (Is.select (p := fun i j : Fin 64 => Before lo j i) (before_at lo)
    ((is_window (is_keyProducts hq hk hb) 0 0 (by norm_num) (by norm_num) _).mul (is_decay hg hr)) is_zero).congr (by
      ext i j
      have hi := i.isLt
      simp only [Matrix.of_apply, Chunk.system, Matrix.zero_apply, zero_add]
      by_cases h : Before lo j i
      · rw [if_pos h, if_pos h, if_neg (not_before h)]
        simp only [hi, dite_true, Fin.eta]
      · rw [if_neg h, if_neg h])

include hq hk hb hg hr in
theorem is_weights : Is (weights (upTo lo) q k beta gcol grow) (x.weights scale lo) := by
  have hc : ∀ i j : Fin 64, upTo lo (ix2 i j) = if ¬ Before lo i j then 1#1 else 0#1 := fun i j => by
    rw [upTo_at]; by_cases h : Before lo i j <;> simp [h]
  exact (((Is.select (p := fun i j : Fin 64 => ¬ Before lo i j) hc
    ((is_window (is_keyProducts hq hk hb) 64 0 (by norm_num) (by norm_num) _).mul (is_decay hg hr)) is_zero).mul
      is_scale).congr (by
      ext i j
      have hi := i.isLt
      simp only [Matrix.of_apply, Chunk.weights, Matrix.zero_apply, zero_add]
      by_cases h : Before lo i j
      · rw [if_neg (not_not.2 h), if_pos h, zero_mul]
      · have h64 : ¬ (64 + i.val < 64) := by omega
        rw [if_pos h, if_neg h, if_neg h]
        simp only [h64, dite_false, Nat.add_sub_cancel_left, Fin.eta])).trunc _

include hk hv hb hg in
theorem is_sides : Is (sides k v beta gcol) (Matrix.of fun (i : Fin 64) (d : Fin 256) =>
    if h : d.val < 128 then x.values i ⟨d.val, h⟩ else x.keys i ⟨d.val - 128, by omega⟩) :=
  (is_beside ((hv.ext _).mul (is_col hb _)) ((is_scaledKeys hk hb).mul (is_col hg.exp _))).trunc _

include hq hk hv hb hg hr in
theorem is_solution : Is (solution (upTo lo) (before lo) q k v beta gcol grow)
    (Matrix.of fun (i : Fin 64) (d : Fin 256) =>
      if h : d.val < 128 then ((1 + x.system lo)⁻¹ * x.values) i ⟨d.val, h⟩
      else ((1 + x.system lo)⁻¹ * x.keys) i ⟨d.val - 128, by omega⟩) :=
  (is_mm_sides ((is_inverse lo (x.system_strict lo) (is_system hq hk hb hg hr)).trunc _) (is_sides hk hv hb hg)).congr (by
    ext i d
    simp only [Matrix.mul_apply, Matrix.of_apply]
    by_cases h : d.val < 128
    · simp only [h, dite_true]
    · simp only [h, dite_false])

include hq hg in
theorem is_decayedQueries : Is (decayedQueries q gcol) (x.queries scale) :=
  ((hq.ext _).mul (is_col (hg.exp.mul is_scale) _)).trunc _

include hk hg hl in
theorem is_decayedKeys : Is (decayedKeys k gcol glast) (x.tails lo) :=
  ((hk.ext _).mul (is_col ((is_row hl _).sub hg).exp _)).trunc _

include hq hk hv hb hg hr hs in
theorem is_readings : Is (readings (upTo lo) (before lo) q k v beta gcol grow s)
    (Matrix.of fun (i : Fin 128) (e : Fin 128) =>
      if h : i.val < 64 then ((1 + x.system lo)⁻¹ * x.keys * st) ⟨i.val, h⟩ e
      else (x.queries scale * st) ⟨i.val - 64, by omega⟩ e) :=
  (is_mm_state (is_over ((is_window (is_solution hq hk hv hb hg hr) 0 128 (by norm_num) (by norm_num) _).trunc _)
    (is_decayedQueries hq hg)) (hs.trunc _)).congr (by
    ext i e
    rw [Matrix.mul_apply, Matrix.of_apply]
    by_cases h : i.val < 64
    · rw [dif_pos h, Matrix.mul_apply]
      refine Finset.sum_congr rfl fun d _ => ?_
      have h' : ¬ (128 + d.val < 128) := by omega
      simp only [Matrix.of_apply, h, h', dite_true, dite_false, zero_add, Nat.add_sub_cancel_left, Fin.eta]
    · rw [dif_neg h, Matrix.mul_apply]
      refine Finset.sum_congr rfl fun d _ => ?_
      simp only [Matrix.of_apply, h, dite_false])

include hq hk hv hb hg hr hs in
theorem is_newValues : Is (newValues (upTo lo) (before lo) q k v beta gcol grow s) (x.fresh lo st) :=
  (((is_window (is_solution hq hk hv hb hg hr) 0 0 (by norm_num) (by norm_num) _).sub
    (is_window (is_readings hq hk hv hb hg hr hs) 0 0 (by norm_num) (by norm_num) _)).congr (by
      ext i e
      have hi := i.isLt
      have he := e.isLt
      simp only [Matrix.sub_apply, Matrix.of_apply, Chunk.fresh, zero_add, hi, he, dite_true, Fin.eta])).trunc _

include hq hk hv hb hg hr hs in
/-- The chunk's output rows. -/
theorem is_output : Is (output (upTo lo) (before lo) q k v beta gcol grow s) (x.out scale lo st) :=
  (((is_window (is_readings hq hk hv hb hg hr hs) 64 0 (by norm_num) (by norm_num) _).add
    (is_mm_rows (is_weights hq hk hb hg hr) (is_newValues hq hk hv hb hg hr hs))).congr (by
      ext i e
      have h' : ¬ (64 + i.val < 64) := by omega
      simp only [Matrix.add_apply, Matrix.of_apply, Chunk.out, zero_add, h', dite_false, Nat.add_sub_cancel_left,
        Fin.eta])).trunc _

include hq hk hv hb hg hr hl hs in
/-- The state after the chunk. -/
theorem is_next : Is (next (upTo lo) (before lo) q k v beta gcol grow glast s) (x.next lo st) :=
  ((hs.mul (is_cell hl.exp broadcasts_S1x1_S128x128)).add
    (is_mm_tails (is_decayedKeys hk hg hl) (is_newValues hq hk hv hb hg hr hs))).congr (by
      ext d e
      simp only [Matrix.add_apply, Matrix.of_apply, Chunk.next])

end chunk

end Cert.KernelIdeal.Chain

end
-- ==== Proof.KernelValue.lean ====
/- The kernel's results as real numbers: the induction along a sequence's steps, then the arrays block by block. -/
module

public import proofs.«01_k».proof.Proof.Run
public import proofs.«01_k».proof.Proof.Windows
public import proofs.«01_k».proof.Proof.Reading
public import proofs.«01_k».proof.Proof.Gen.KernelIdeal.Value

@[expose] public section

set_option maxRecDepth 16384

noncomputable section

namespace Cert.KernelIdeal.Heads

open Cert.Delta Cert.KernelIdeal Cert.KernelIdeal.Gen Idealize.ShloMosaic Idealize.ShloMosaic.TcCoe Idealize.SL.Sem
open Cert.KernelIdeal.Chain Matrix

/-- The last row of a column of decays. -/
theorem last_at (lo : Bool) (x : FVec Ideal S64x1 .f32) (y z : Fin 1) :
    extractStridedSlice S1x1 ![cond lo 63 0, 0] x (last_inb lo) (ix2 y z) = x (ix2 (Chunk.last lo) (0 : Fin 1)) := by
  cases lo
  · pointwise
    blk_ext [Chunk.last]
    simp
  · pointwise
    blk_ext [Chunk.last]
    simp

variable (m : (ℓ : Loc nD τ sig) → Buf (Elt Ideal) ℓ) (c : Dev nD) (X : Input)

/-- The arguments are these real arrays. -/
structure Holds : Prop where
  q : ∀ b p j d, m ((c : Thread nD τ).loc main_arg0) (ix4 b p j d) = ((X.q b p j d : ℝ) : EReal)
  k : ∀ b p j d, m ((c : Thread nD τ).loc main_arg1) (ix4 b p j d) = ((X.k b p j d : ℝ) : EReal)
  v : ∀ b p j d, m ((c : Thread nD τ).loc main_arg2) (ix4 b p j d) = ((X.v b p j d : ℝ) : EReal)
  b : ∀ b p l j, m ((c : Thread nD τ).loc main_arg3) (ix4 b p l j) = ((X.b b p l j : ℝ) : EReal)
  g : ∀ b p l j, m ((c : Thread nD τ).loc main_arg4) (ix4 b p l j) = ((X.g b p l j : ℝ) : EReal)
  fwd : ∀ b j d e, m ((c : Thread nD τ).loc main_arg5) (ix4 b j d e) = ((X.s true b j d e : ℝ) : EReal)
  bwd : ∀ b j d e, m ((c : Thread nD τ).loc main_arg6) (ix4 b j d e) = ((X.s false b j d e : ℝ) : EReal)

variable {m c X} (h : Holds m c X)
include h

variable (b : Fin 4) (n : Fin 64) (j : Fin 16)

theorem output_fwd {s : FVec Ideal S128x128 .f32} {st : State} (hs : Is s st) :
    Is (outputAt true (iblk m c 0 (pt b n)) (iblk m c 1 (pt b n)) (iblk m c 2 (pt b n)) (iblk m c 6 (pt b n)) (iblk m c 8 (pt b n)) s j)
      ((X.chunk true b j (place true n)).out scale true st) :=
  is_output (x := X.chunk true b j (place true n)) (st := st)
    (fun i d => (queries_fwd m c b n i j d).trans (h.q ..)) (fun i d => (keys_fwd m c b n i j d).trans (h.k ..))
    (fun i d => (values_fwd m c b n i j d).trans (h.v ..))
    (fun i z => by rw [Subsingleton.elim z 0]; exact (scales_fwd m c b n i j).trans (h.b ..))
    (fun i z => by rw [Subsingleton.elim z 0]; exact (decays_fwd m c b n i j).trans (h.g ..))
    (fun z i => by rw [Subsingleton.elim z 0]; exact (turned_fwd m c b n i j).trans (h.g ..)) hs

theorem next_fwd {s : FVec Ideal S128x128 .f32} {st : State} (hs : Is s st) :
    Is (nextAt true (iblk m c 0 (pt b n)) (iblk m c 1 (pt b n)) (iblk m c 2 (pt b n)) (iblk m c 6 (pt b n)) (iblk m c 8 (pt b n)) s j)
      ((X.chunk true b j (place true n)).next true st) :=
  is_next (x := X.chunk true b j (place true n)) (st := st)
    (fun i d => (queries_fwd m c b n i j d).trans (h.q ..)) (fun i d => (keys_fwd m c b n i j d).trans (h.k ..))
    (fun i d => (values_fwd m c b n i j d).trans (h.v ..))
    (fun i z => by rw [Subsingleton.elim z 0]; exact (scales_fwd m c b n i j).trans (h.b ..))
    (fun i z => by rw [Subsingleton.elim z 0]; exact (decays_fwd m c b n i j).trans (h.g ..))
    (fun z i => by rw [Subsingleton.elim z 0]; exact (turned_fwd m c b n i j).trans (h.g ..))
    (fun y z => (last_at true _ y z).trans ((decays_fwd m c b n (Chunk.last true) j).trans (h.g ..))) hs

theorem output_bwd {s : FVec Ideal S128x128 .f32} {st : State} (hs : Is s st) :
    Is (outputAt false (iblk m c 3 (pt b n)) (iblk m c 4 (pt b n)) (iblk m c 5 (pt b n)) (iblk m c 7 (pt b n)) (iblk m c 9 (pt b n)) s j)
      ((X.chunk false b j (place false n)).out scale false st) :=
  is_output (x := X.chunk false b j (place false n)) (st := st)
    (fun i d => (queries_bwd m c b n i j d).trans (h.q ..)) (fun i d => (keys_bwd m c b n i j d).trans (h.k ..))
    (fun i d => (values_bwd m c b n i j d).trans (h.v ..))
    (fun i z => by rw [Subsingleton.elim z 0]; exact (scales_bwd m c b n i j).trans (h.b ..))
    (fun i z => by rw [Subsingleton.elim z 0]; exact (decays_bwd m c b n i j).trans (h.g ..))
    (fun z i => by rw [Subsingleton.elim z 0]; exact (turned_bwd m c b n i j).trans (h.g ..)) hs

theorem next_bwd {s : FVec Ideal S128x128 .f32} {st : State} (hs : Is s st) :
    Is (nextAt false (iblk m c 3 (pt b n)) (iblk m c 4 (pt b n)) (iblk m c 5 (pt b n)) (iblk m c 7 (pt b n)) (iblk m c 9 (pt b n)) s j)
      ((X.chunk false b j (place false n)).next false st) :=
  is_next (x := X.chunk false b j (place false n)) (st := st)
    (fun i d => (queries_bwd m c b n i j d).trans (h.q ..)) (fun i d => (keys_bwd m c b n i j d).trans (h.k ..))
    (fun i d => (values_bwd m c b n i j d).trans (h.v ..))
    (fun i z => by rw [Subsingleton.elim z 0]; exact (scales_bwd m c b n i j).trans (h.b ..))
    (fun i z => by rw [Subsingleton.elim z 0]; exact (decays_bwd m c b n i j).trans (h.g ..))
    (fun z i => by rw [Subsingleton.elim z 0]; exact (turned_bwd m c b n i j).trans (h.g ..))
    (fun y z => (last_at false _ y z).trans ((decays_bwd m c b n (Chunk.last false) j).trans (h.g ..))) hs

/-- What a step leaves, over what it finds. -/
theorem is_left (lo : Bool) {st : State} (hs : Is (found m c (pt b n) lo j) st) :
    Is (left m c (pt b n) lo j) ((X.chunk lo b j (place lo n)).next lo st) := by
  cases lo
  · exact next_bwd h b n j hs
  · exact next_fwd h b n j hs

/-- What a step finds: the state that the model's step starts from. -/
theorem is_found (lo : Bool) : ∀ (k : ℕ) (hk : k < 64), Is (found m c (pt b ⟨k, hk⟩) lo j) (X.state lo b j k)
  | 0, hk => by
    have e : found m c (pt b ⟨0, hk⟩) = firstStates (iblk m c 10 (pt b ⟨0, hk⟩)) (iblk m c 11 (pt b ⟨0, hk⟩)) :=
      if_pos (by show (64 * b.val + 0) % 64 = 0; omega)
    rw [e]
    intro d e
    cases lo
    · exact (first_false m c b ⟨0, hk⟩ j d e).trans (h.bwd ..)
    · exact (first_true m c b ⟨0, hk⟩ j d e).trans (h.fwd ..)
  | k + 1, hk => by
    have e : found m c (pt b ⟨k + 1, hk⟩) = left m c (pt b ⟨k, by omega⟩) :=
      found_succ m c _ _ (by show 64 * b.val + (k + 1) = 64 * b.val + k + 1; omega)
        (by show ¬ (64 * b.val + (k + 1)) % 64 = 0; omega)
    rw [e, X.state_succ lo b j ⟨k, by omega⟩]
    exact is_left h b _ j lo (is_found lo k (by omega))

end Cert.KernelIdeal.Heads

end
-- ==== Proof.KernelArrays.lean ====
/- The kernel's four result arrays, each the model's. -/
module

public import proofs.«01_k».proof.Proof.KernelValue
public import Idealize.ShloMosaic.Lib.Claim

@[expose] public section

set_option maxRecDepth 16384

noncomputable section

namespace Cert.KernelIdeal.Heads

open Cert.Delta Cert.KernelIdeal Cert.KernelIdeal.Gen Idealize.ShloMosaic Idealize.ShloMosaic.TcCoe Idealize.SL.Sem
open Cert.KernelIdeal.Chain Cert.KernelIdeal.Value Matrix

variable {m : (ℓ : Loc nD τ sig) → Buf (Elt Ideal) ℓ} {c : Dev nD} {X : Input} (h : Holds m c X)

theorem point_eq (t : Fin cfg0.N) : ∃ (b : Fin 4) (n : Fin 64), t = pt b n :=
  have ht : t.val < 256 := lt_of_lt_of_eq t.isLt N_0
  ⟨⟨t.val / 64, by omega⟩, ⟨t.val % 64, by omega⟩, Fin.ext (by show t.val = 64 * (t.val / 64) + t.val % 64; omega)⟩

theorem index_out : ∀ (b : Fin 4) (n : Fin 64),
    win0_12.index (pt b n) = ![64 * b.val + n.val, 0] ∧ win0_13.index (pt b n) = ![64 * b.val + n.rev.val, 0] ∧
    win0_14.index (pt b n) = ![b.val, 0, 0, 0] ∧ win0_15.index (pt b n) = ![b.val, 0, 0, 0] := by decide +kernel

theorem flush_last : ∀ (b : Fin 4) (n : Fin 64),
    (win0_14.flush (pt b n) = true → n = 63) ∧ (win0_15.flush (pt b n) = true → n = 63) := by decide +kernel

theorem lanes (e : Fin 2048) : e.val = 128 * (headOf e).val + (laneOf e).val := by
  show e.val = 128 * (e.val / 128) + e.val % 128
  omega

include h

theorem block_fwd (b : Fin 4) (n : Fin 64) (y : S64x2048.Idx) :
    (outsAt0 m c (pt b n).val (pt b n).isLt).1 y =
      ((X.rows scale true b (headOf (y 1)) n (y 0) (laneOf (y 1)) : ℝ) : EReal) := by
  rw [(outs_eq m c (pt b n)).1]
  exact output_fwd h b n _ (is_found h b _ true n.val n.isLt) (y 0) (laneOf (y 1))

theorem block_bwd (b : Fin 4) (n : Fin 64) (y : S64x2048.Idx) :
    (outsAt0 m c (pt b n).val (pt b n).isLt).2.1 y =
      ((X.rows scale false b (headOf (y 1)) n (y 0) (laneOf (y 1)) : ℝ) : EReal) := by
  rw [(outs_eq m c (pt b n)).2.1]
  exact output_bwd h b n _ (is_found h b _ false n.val n.isLt) (y 0) (laneOf (y 1))

theorem array_fwd : (dats m 0 c).arrAt 12 cfg0.N = fun y => ((X.outs scale true (y 0) (y 1) : ℝ) : EReal) := by
  refine (dats m 0 c).arrAt_eq_of_covers 12 _ (by decide +kernel) fun t hf y => ?_
  obtain ⟨b, n, rfl⟩ := point_eq t
  rw [after0_12]
  refine (block_fwd h b n y).trans (congrArg _ (X.outs_at scale true b (headOf (y 1)) n (y 0) (laneOf (y 1)) _ _ ?_ ?_).symm)
  · blk_simp [(index_out b n).1]
    simp only [Delta.place, cond_true, cond_false]
    omega
  · blk_simp [(index_out b n).1]
    exact lanes (y 1)

theorem array_bwd : (dats m 0 c).arrAt 13 cfg0.N = fun y => ((X.outs scale false (y 0) (y 1) : ℝ) : EReal) := by
  refine (dats m 0 c).arrAt_eq_of_covers 13 _ (by decide +kernel) fun t hf y => ?_
  obtain ⟨b, n, rfl⟩ := point_eq t
  rw [after0_13]
  refine (block_bwd h b n y).trans (congrArg _ (X.outs_at scale false b (headOf (y 1)) n (y 0) (laneOf (y 1)) _ _ ?_ ?_).symm)
  · blk_simp [(index_out b n).2.1]
    simp only [Delta.place, cond_true, cond_false]
    omega
  · blk_simp [(index_out b n).2.1]
    exact lanes (y 1)

theorem last_fwd (b : Fin 4) (y : S1x16x128x128.Idx) :
    (outsAt0 m c (pt b 63).val (pt b 63).isLt).2.2.1 y = ((X.state true b (y 1) 64 (y 2) (y 3) : ℝ) : EReal) := by
  rw [((outs_eq m c (pt b 63)).2.2.2 (by show (64 * b.val + 63) % 64 = 63; omega)).1]
  refine (is_left h b 63 (y 1) true (is_found h b (y 1) true 63 (by norm_num)) (y 2) (y 3)).trans ?_
  exact congrArg (fun s : State => ((s (y 2) (y 3) : ℝ) : EReal)) (X.state_succ true b (y 1) 63).symm

theorem state_fwd : (dats m 0 c).arrAt 14 cfg0.N =
    fun y => ((X.state true (y 0) (y 1) 64 (y 2) (y 3) : ℝ) : EReal) := by
  refine (dats m 0 c).arrAt_eq_of_covers 14 _ (by decide +kernel) fun t hf y => ?_
  obtain ⟨b, n, rfl⟩ := point_eq t
  obtain rfl := (flush_last b n).1 hf
  rw [after0_14]
  have e0 : ((cfg0.win 14).blk (pt b 63)).view.emb y 0 = b := by
    apply Fin.ext
    blk_simp [(index_out b 63).2.2.1]
  have e1 : ((cfg0.win 14).blk (pt b 63)).view.emb y 1 = y 1 := by
    apply Fin.ext
    blk_simp [(index_out b 63).2.2.1]
  have e2 : ((cfg0.win 14).blk (pt b 63)).view.emb y 2 = y 2 := by
    apply Fin.ext
    blk_simp [(index_out b 63).2.2.1]
  have e3 : ((cfg0.win 14).blk (pt b 63)).view.emb y 3 = y 3 := by
    apply Fin.ext
    blk_simp [(index_out b 63).2.2.1]
  refine (last_fwd h b y).trans ?_
  dsimp only
  rw [e0, e1, e2, e3]

theorem last_bwd (b : Fin 4) (y : S1x16x128x128.Idx) :
    (outsAt0 m c (pt b 63).val (pt b 63).isLt).2.2.2.1 y = ((X.state false b (y 1) 64 (y 2) (y 3) : ℝ) : EReal) := by
  rw [((outs_eq m c (pt b 63)).2.2.2 (by show (64 * b.val + 63) % 64 = 63; omega)).2]
  refine (is_left h b 63 (y 1) false (is_found h b (y 1) false 63 (by norm_num)) (y 2) (y 3)).trans ?_
  exact congrArg (fun s : State => ((s (y 2) (y 3) : ℝ) : EReal)) (X.state_succ false b (y 1) 63).symm

theorem state_bwd : (dats m 0 c).arrAt 15 cfg0.N =
    fun y => ((X.state false (y 0) (y 1) 64 (y 2) (y 3) : ℝ) : EReal) := by
  refine (dats m 0 c).arrAt_eq_of_covers 15 _ (by decide +kernel) fun t hf y => ?_
  obtain ⟨b, n, rfl⟩ := point_eq t
  obtain rfl := (flush_last b n).2 hf
  rw [after0_15]
  have e0 : ((cfg0.win 15).blk (pt b 63)).view.emb y 0 = b := by
    apply Fin.ext
    blk_simp [(index_out b 63).2.2.2]
  have e1 : ((cfg0.win 15).blk (pt b 63)).view.emb y 1 = y 1 := by
    apply Fin.ext
    blk_simp [(index_out b 63).2.2.2]
  have e2 : ((cfg0.win 15).blk (pt b 63)).view.emb y 2 = y 2 := by
    apply Fin.ext
    blk_simp [(index_out b 63).2.2.2]
  have e3 : ((cfg0.win 15).blk (pt b 63)).view.emb y 3 = y 3 := by
    apply Fin.ext
    blk_simp [(index_out b 63).2.2.2]
  refine (last_bwd h b y).trans ?_
  dsimp only
  rw [e0, e1, e2, e3]

end Cert.KernelIdeal.Heads

end
-- ==== Proof.RefChunks.lean ====
/- The reference's arrays cut into chunks, read at an entry: the two directions stand on the leading axis, the second one
   flipped. -/
module

public import proofs.«01_k».proof.Proof.Gen.ReferenceIdeal.Run
public import proofs.«01_k».proof.Proof.Sequence
public import proofs.«01_k».proof.Proof.Masks
public import Idealize.ShloMosaic.Lib.Pipeline.ValueKit
public import Idealize.ShloMosaic.Lib.ValueIdxCore
public import Idealize.ShloMosaic.Lib.StableHlo.ReadAt

@[expose] public section

set_option maxRecDepth 16384

noncomputable section

namespace Cert.ReferenceIdeal.Parts

open Cert.KernelIdeal.Chain (scale scale_coe)
open Cert.Delta Cert.ReferenceIdeal Cert.ReferenceIdeal.Gen Cert.ReferenceIdeal.Value
open Idealize.ShloMosaic Idealize.ShloMosaic.TcCoe Idealize.ShloMosaic.StableHlo Idealize.SL.Sem

/-- The operations up to the chunks. -/
abbrev opsChunks {F : FTy → Type} [FloatOps F] : List (HloOp τ sig (Elt F)) :=
  hostOps0 ++ hostOps0_1 ++ hostOps0_2 ++ hostOps0_3 ++ hostOps0_4 ++ hostOps0_5 ++ hostOps0_6 ++ hostOps0_7 ++ hostOps0_8 ++ hostOps0_9

variable (V : Valuation τ sig (Elt Ideal))

/-- Row `i` of chunk `n` along a direction. -/
def rowAlong (lo : Bool) (n i : Fin 64) : Fin 4096 := cond lo (rowIn n i) (rowIn n.rev i.rev)

theorem flipped_row (n i : Fin 64) (h : n.val * 64 + i.val < 4096) :
    (⟨n.val * 64 + i.val, h⟩ : Fin 4096).rev = rowAlong false n i :=
  Fin.ext (by simp only [rowAlong, rowIn, cond_false, Fin.val_rev]; omega)

theorem straight_row (n i : Fin 64) (h : n.val * 64 + i.val < 4096) :
    (⟨n.val * 64 + i.val, h⟩ : Fin 4096) = rowAlong true n i :=
  Fin.ext (by simp only [rowAlong, rowIn, cond_true]; omega)

/-- The arguments hold the real arrays `X`. -/
structure Entry (V : Valuation τ sig (Elt Ideal)) (X : Input) : Prop where
  q : ∀ b r h d, V (Proc.devRef .tc main_arg0) (ix4 b r h d) = ((X.q b r h d : ℝ) : EReal)
  k : ∀ b r h d, V (Proc.devRef .tc main_arg1) (ix4 b r h d) = ((X.k b r h d : ℝ) : EReal)
  v : ∀ b r h d, V (Proc.devRef .tc main_arg2) (ix4 b r h d) = ((X.v b r h d : ℝ) : EReal)
  b : ∀ b r t h, V (Proc.devRef .tc main_arg3) (ix4 b r t h) = ((X.b b r t h : ℝ) : EReal)
  g : ∀ b r t h, V (Proc.devRef .tc main_arg4) (ix4 b r t h) = ((X.g b r t h : ℝ) : EReal)
  fwd : ∀ b h d e, V (Proc.devRef .tc main_arg5) (ix4 b h d e) = ((X.s true b h d e : ℝ) : EReal)
  bwd : ∀ b h d e, V (Proc.devRef .tc main_arg6) (ix4 b h d e) = ((X.s false b h d e : ℝ) : EReal)

/-- Chunk `n` along a direction: the backward one's rows are in the opposite order. -/
def along (X : Input) (lo : Bool) (b : Fin 4) (h : Fin 16) (n : Fin 64) : Chunk where
  q := fun i d => X.q b (rowAlong lo n i) h d
  k := fun i d => X.k b (rowAlong lo n i) h d
  v := fun i d => X.v b (rowAlong lo n i) h d
  b := fun i => X.b b (rowAlong lo n i) (side lo) h
  g := fun i => X.g b (rowAlong lo n i) (side lo) h

theorem along_true (X : Input) (b : Fin 4) (h : Fin 16) (n : Fin 64) :
    along X true b h n = X.chunk true b h (Delta.place true n) := rfl

theorem along_false (X : Input) (b : Fin 4) (h : Fin 16) (n : Fin 64) :
    along X false b h n = (X.chunk false b h (Delta.place false n)).rev := rfl

variable {X : Input} (E : Entry V X) (lo : Bool) (b : Fin 4) (h : Fin 16) (n i j : Fin 64) (d : Fin 128)

include E

theorem chunks_queries : after opsChunks V (Proc.devRef .tc main_v6) (ix6 (side lo) b h n i d) =
    (((along X lo b h n).q i d : ℝ) : EReal) := by
  simp only [opsChunks, hostOps0, hostOps0_1, hostOps0_2, hostOps0_3, hostOps0_4, hostOps0_5, hostOps0_6, hostOps0_7,
    hostOps0_8, hostOps0_9, List.cons_append, List.nil_append]
  cases lo <;> simp only [side, cond_true, cond_false]
  · after_reads_at
    after_reads_at
    exact (congrArg (fun p => V (Proc.devRef .tc main_arg0) (ix4 b p h d)) (flipped_row n i _)).trans (E.q b _ h d)
  · after_reads_at
    after_reads_at
    exact (congrArg (fun p => V (Proc.devRef .tc main_arg0) (ix4 b p h d)) (straight_row n i _)).trans (E.q b _ h d)

theorem chunks_keys : after opsChunks V (Proc.devRef .tc main_v13) (ix6 (side lo) b h n i d) =
    (((along X lo b h n).k i d : ℝ) : EReal) := by
  simp only [opsChunks, hostOps0, hostOps0_1, hostOps0_2, hostOps0_3, hostOps0_4, hostOps0_5, hostOps0_6, hostOps0_7,
    hostOps0_8, hostOps0_9, List.cons_append, List.nil_append]
  cases lo <;> simp only [side, cond_true, cond_false]
  · after_reads_at
    after_reads_at
    exact (congrArg (fun p => V (Proc.devRef .tc main_arg1) (ix4 b p h d)) (flipped_row n i _)).trans (E.k b _ h d)
  · after_reads_at
    after_reads_at
    exact (congrArg (fun p => V (Proc.devRef .tc main_arg1) (ix4 b p h d)) (straight_row n i _)).trans (E.k b _ h d)

theorem chunks_values : after opsChunks V (Proc.devRef .tc main_v20) (ix6 (side lo) b h n i d) =
    (((along X lo b h n).v i d : ℝ) : EReal) := by
  simp only [opsChunks, hostOps0, hostOps0_1, hostOps0_2, hostOps0_3, hostOps0_4, hostOps0_5, hostOps0_6, hostOps0_7,
    hostOps0_8, hostOps0_9, List.cons_append, List.nil_append]
  cases lo <;> simp only [side, cond_true, cond_false]
  · after_reads_at
    after_reads_at
    exact (congrArg (fun p => V (Proc.devRef .tc main_arg2) (ix4 b p h d)) (flipped_row n i _)).trans (E.v b _ h d)
  · after_reads_at
    after_reads_at
    exact (congrArg (fun p => V (Proc.devRef .tc main_arg2) (ix4 b p h d)) (straight_row n i _)).trans (E.v b _ h d)

theorem chunks_decays : after opsChunks V (Proc.devRef .tc main_v30) (ix5 (side lo) b h n i) =
    (((along X lo b h n).g i : ℝ) : EReal) := by
  simp only [opsChunks, hostOps0, hostOps0_1, hostOps0_2, hostOps0_3, hostOps0_4, hostOps0_5, hostOps0_6, hostOps0_7,
    hostOps0_8, hostOps0_9, List.cons_append, List.nil_append]
  cases lo <;> simp only [side, cond_true, cond_false]
  · after_reads_at
    after_reads_at
    exact (congrArg (fun p => V (Proc.devRef .tc main_arg4) (ix4 b p (side false) h)) (flipped_row n i _)).trans (E.g b _ (side false) h)
  · after_reads_at
    after_reads_at
    exact (congrArg (fun p => V (Proc.devRef .tc main_arg4) (ix4 b p (side true) h)) (straight_row n i _)).trans (E.g b _ (side true) h)

theorem chunks_scales : after opsChunks V (Proc.devRef .tc main_v40) (ix5 (side lo) b h n i) =
    (((along X lo b h n).b i : ℝ) : EReal) := by
  simp only [opsChunks, hostOps0, hostOps0_1, hostOps0_2, hostOps0_3, hostOps0_4, hostOps0_5, hostOps0_6, hostOps0_7,
    hostOps0_8, hostOps0_9, List.cons_append, List.nil_append]
  cases lo <;> simp only [side, cond_true, cond_false]
  · after_reads_at
    after_reads_at
    exact (congrArg (fun p => V (Proc.devRef .tc main_arg3) (ix4 b p (side false) h)) (flipped_row n i _)).trans (E.b b _ (side false) h)
  · after_reads_at
    after_reads_at
    exact (congrArg (fun p => V (Proc.devRef .tc main_arg3) (ix4 b p (side true) h)) (straight_row n i _)).trans (E.b b _ (side true) h)

theorem chunks_scaled : after opsChunks V (Proc.devRef .tc main_v42) (ix6 (side lo) b h n i d) =
    (((along X lo b h n).q i d * scale : ℝ) : EReal) := by
  simp only [opsChunks, hostOps0, hostOps0_1, hostOps0_2, hostOps0_3, hostOps0_4, hostOps0_5, hostOps0_6, hostOps0_7,
    hostOps0_8, hostOps0_9, List.cons_append, List.nil_append]
  cases lo <;> simp only [side, cond_true, cond_false]
  · after_reads_at
    after_reads_at
    rw [flipped_row n i]
    exact (congrArg₂ (fun x y : EReal => x * y) (E.q b (rowAlong false n i) h d) scale_coe).trans (EReal.coe_mul _ _).symm
  · after_reads_at
    after_reads_at
    rw [straight_row n i]
    exact (congrArg₂ (fun x y : EReal => x * y) (E.q b (rowAlong true n i) h d) scale_coe).trans (EReal.coe_mul _ _).symm

theorem chunks_differences : after opsChunks V (Proc.devRef .tc main_v51) (ix6 (side lo) b h n i j) =
    (((along X lo b h n).g i - (along X lo b h n).g j : ℝ) : EReal) := by
  simp only [opsChunks, hostOps0, hostOps0_1, hostOps0_2, hostOps0_3, hostOps0_4, hostOps0_5, hostOps0_6, hostOps0_7,
    hostOps0_8, hostOps0_9, List.cons_append, List.nil_append]
  cases lo <;> simp only [side, cond_true, cond_false]
  · after_reads_at
    after_reads_at
    refine (congrArg₂ (fun p p' : Fin 4096 => (fun x y : EReal => x - y)
      (V (Proc.devRef .tc main_arg4) (ix4 b p (side false) h)) (V (Proc.devRef .tc main_arg4) (ix4 b p' (side false) h)))
      (flipped_row n i _) (flipped_row n j _)).trans ?_
    exact (congrArg₂ (fun x y : EReal => x - y) (E.g b (rowAlong false n i) (side false) h) (E.g b (rowAlong false n j) (side false) h)).trans
      (EReal.coe_sub _ _).symm
  · after_reads_at
    after_reads_at
    refine (congrArg₂ (fun p p' : Fin 4096 => (fun x y : EReal => x - y)
      (V (Proc.devRef .tc main_arg4) (ix4 b p (side true) h)) (V (Proc.devRef .tc main_arg4) (ix4 b p' (side true) h)))
      (straight_row n i _) (straight_row n j _)).trans ?_
    exact (congrArg₂ (fun x y : EReal => x - y) (E.g b (rowAlong true n i) (side true) h) (E.g b (rowAlong true n j) (side true) h)).trans
      (EReal.coe_sub _ _).symm

omit E

theorem chunks_lower : after opsChunks V (Proc.devRef .tc main_v45) (ix2 i j) = if j ≤ i then 1#1 else 0#1 := by
  simp only [opsChunks, hostOps0, hostOps0_1, hostOps0_2, hostOps0_3, hostOps0_4, hostOps0_5, hostOps0_6, hostOps0_7,
    hostOps0_8, hostOps0_9, List.cons_append, List.nil_append]
  after_reads_at
  revert i j
  decide +kernel

theorem chunks_strict : after opsChunks V (Proc.devRef .tc main_v46) (ix2 i j) = if j < i then 1#1 else 0#1 := by
  simp only [opsChunks, hostOps0, hostOps0_1, hostOps0_2, hostOps0_3, hostOps0_4, hostOps0_5, hostOps0_6, hostOps0_7,
    hostOps0_8, hostOps0_9, List.cons_append, List.nil_append]
  after_reads_at
  revert i j
  decide +kernel

theorem chunks_floor (y : S_.Idx) : after opsChunks V (Proc.devRef .tc main_cst_0) y = (⊥ : EReal) := by
  simp only [opsChunks, hostOps0, hostOps0_1, hostOps0_2, hostOps0_3, hostOps0_4, hostOps0_5, hostOps0_6, hostOps0_7,
    hostOps0_8, hostOps0_9, List.cons_append, List.nil_append]
  after_reads_simp
  change Ideal.ofBits .f32 0xFF800000#32 = ⊥
  simp [Ideal.ofBits, Ideal.ieee]

/-- What the operations up to the chunks leave. -/
structure Cut (W : Valuation τ sig (Elt Ideal)) (X : Input) : Prop where
  k : ∀ lo b h n i d, W (Proc.devRef .tc main_v13) (ix6 (side lo) b h n i d) = (((along X lo b h n).k i d : ℝ) : EReal)
  v : ∀ lo b h n i d, W (Proc.devRef .tc main_v20) (ix6 (side lo) b h n i d) = (((along X lo b h n).v i d : ℝ) : EReal)
  g : ∀ lo b h n i, W (Proc.devRef .tc main_v30) (ix5 (side lo) b h n i) = (((along X lo b h n).g i : ℝ) : EReal)
  b : ∀ lo b h n i, W (Proc.devRef .tc main_v40) (ix5 (side lo) b h n i) = (((along X lo b h n).b i : ℝ) : EReal)
  scaled : ∀ lo b h n i d, W (Proc.devRef .tc main_v42) (ix6 (side lo) b h n i d) =
    (((along X lo b h n).q i d * scale : ℝ) : EReal)
  differences : ∀ lo b h n i j, W (Proc.devRef .tc main_v51) (ix6 (side lo) b h n i j) =
    (((along X lo b h n).g i - (along X lo b h n).g j : ℝ) : EReal)
  lower : ∀ i j, W (Proc.devRef .tc main_v45) (ix2 i j) = if j ≤ i then 1#1 else 0#1
  strict : ∀ i j, W (Proc.devRef .tc main_v46) (ix2 i j) = if j < i then 1#1 else 0#1
  floor : ∀ y : S_.Idx, W (Proc.devRef .tc main_cst_0) y = (⊥ : EReal)
  fwd : ∀ b h d e, W (Proc.devRef .tc main_arg5) (ix4 b h d e) = ((X.s true b h d e : ℝ) : EReal)
  bwd : ∀ b h d e, W (Proc.devRef .tc main_arg6) (ix4 b h d e) = ((X.s false b h d e : ℝ) : EReal)

theorem keeps_fwd : after opsChunks V (Proc.devRef .tc main_arg5) = V (Proc.devRef .tc main_arg5) := by
  simp only [opsChunks, hostOps0, hostOps0_1, hostOps0_2, hostOps0_3, hostOps0_4, hostOps0_5, hostOps0_6, hostOps0_7,
    hostOps0_8, hostOps0_9, List.cons_append, List.nil_append]
  after_reads_simp

theorem keeps_bwd : after opsChunks V (Proc.devRef .tc main_arg6) = V (Proc.devRef .tc main_arg6) := by
  simp only [opsChunks, hostOps0, hostOps0_1, hostOps0_2, hostOps0_3, hostOps0_4, hostOps0_5, hostOps0_6, hostOps0_7,
    hostOps0_8, hostOps0_9, List.cons_append, List.nil_append]
  after_reads_simp

theorem cut (E : Entry V X) : Cut (after opsChunks V) X where
  k := chunks_keys V E
  v := chunks_values V E
  g := chunks_decays V E
  b := chunks_scales V E
  scaled := chunks_scaled V E
  differences := chunks_differences V E
  lower := chunks_lower V
  strict := chunks_strict V
  floor := chunks_floor V
  fwd := fun b h d e => (congrFun (keeps_fwd V) _).trans (E.fwd b h d e)
  bwd := fun b h d e => (congrFun (keeps_bwd V) _).trans (E.bwd b h d e)

end Cert.ReferenceIdeal.Parts

end
-- ==== Proof.RefSystem.lean ====
/- The reference's system of each chunk, the weights of its queries and its right-hand sides, read at an entry. -/
module

public import proofs.«01_k».proof.Proof.RefChunks

@[expose] public section

set_option maxRecDepth 16384

noncomputable section

namespace Cert.ReferenceIdeal.Parts

open Cert.KernelIdeal.Chain (scale scale_coe coe_sum)
open Cert.Delta Cert.ReferenceIdeal Cert.ReferenceIdeal.Gen Cert.ReferenceIdeal.Value
open Idealize.ShloMosaic Idealize.ShloMosaic.TcCoe Idealize.ShloMosaic.StableHlo Idealize.SL.Sem

/-- The decay between two rows, nothing above the diagonal. -/
theorem decay_value (i j : Fin 64) {m : BitVec 1} {x low : EReal} {r : ℝ} (hm : m = if j ≤ i then 1#1 else 0#1)
    (hx : x = r) (hl : low = ⊥) :
    Ideal.exp (Scalar.select m x low) = ((if i < j then 0 else Real.exp r : ℝ) : EReal) := by
  subst hm hx hl
  by_cases e : i < j
  · rw [if_neg (not_le.2 e), if_pos e]; rfl
  · rw [if_pos (not_lt.1 e), if_neg e]; rfl

/-- One entry of a chunk's system. -/
theorem system_value (i j : Fin 64) {m m' : BitVec 1} {k k' : Fin 128 → EReal} {x low zero b : EReal} {r rb : ℝ}
    {rk rk' : Fin 128 → ℝ} (hm : m = if j ≤ i then 1#1 else 0#1) (hm' : m' = if j < i then 1#1 else 0#1)
    (hx : x = r) (hl : low = ⊥) (hb : b = rb) (hk : ∀ d, k d = rk d) (hk' : ∀ d, k' d = rk' d) (hz : zero = 0) :
    Scalar.select m' ((∑ d, k d * b * k' d) * Ideal.exp (Scalar.select m x low)) zero =
      ((if j < i then (∑ d, rk d * rb * rk' d) * Real.exp r else 0 : ℝ) : EReal) := by
  rw [decay_value i j hm hx hl]
  subst hm' hb hz
  by_cases e : j < i
  · rw [if_pos e, if_pos e, if_neg (not_lt.2 e.le), EReal.coe_mul, ← coe_sum]
    change _ * _ = _
    congr 1
    exact Finset.sum_congr rfl fun d _ => by rw [hk, hk', EReal.coe_mul, EReal.coe_mul]
  · rw [if_neg e, if_neg e]; rfl

/-- The operations from the chunks to the systems. -/
abbrev opsSystem {F : FTy → Type} [FloatOps F] : List (HloOp τ sig (Elt F)) := hostOps0_10 ++ hostOps0_11 ++ hostOps0_12

variable {W : Valuation τ sig (Elt Ideal)} {X : Input} (H : Cut W X) (lo : Bool) (b : Fin 4) (h : Fin 16) (n i j : Fin 64)
  (d : Fin 128)

include H

theorem system_decays : after opsSystem W (Proc.devRef .tc main_v53) (ix6 (side lo) b h n i j) =
    ((if i < j then 0 else Real.exp ((along X lo b h n).g i - (along X lo b h n).g j) : ℝ) : EReal) := by
  simp only [opsSystem, hostOps0_10, hostOps0_11, hostOps0_12, List.cons_append, List.nil_append]
  after_reads_at
  exact decay_value i j (H.lower i j) (H.differences lo b h n i j) (H.floor _)

theorem system_keys : after opsSystem W (Proc.devRef .tc main_v56) (ix6 (side lo) b h n i d) =
    (((along X lo b h n).k i d * (along X lo b h n).b i : ℝ) : EReal) := by
  simp only [opsSystem, hostOps0_10, hostOps0_11, hostOps0_12, List.cons_append, List.nil_append]
  after_reads_at
  exact (congrArg₂ (fun x y : EReal => x * y) (H.k lo b h n i d) (H.b lo b h n i)).trans (EReal.coe_mul _ _).symm

theorem system_matrix : after opsSystem W (Proc.devRef .tc main_v59) (ix6 (side lo) b h n i j) =
    (((along X lo b h n).system true i j : ℝ) : EReal) := by
  simp only [opsSystem, hostOps0_10, hostOps0_11, hostOps0_12, List.cons_append, List.nil_append]
  after_reads_at
  refine (system_value i j (H.lower i j) (H.strict i j) (H.differences lo b h n i j) (H.floor _) (H.b lo b h n i)
    (fun x => H.k lo b h n i x) (fun x => H.k lo b h n j x) ?_).trans ?_
  · change Ideal.ofBits .f32 0#32 = 0
    simp [Ideal.ofBits, Ideal.ieee]
  · rfl

/-- What the operations up to the systems leave. -/
structure Systems (W : Valuation τ sig (Elt Ideal)) (X : Input) : Prop where
  k : ∀ lo b h n i d, W (Proc.devRef .tc main_v13) (ix6 (side lo) b h n i d) = (((along X lo b h n).k i d : ℝ) : EReal)
  v : ∀ lo b h n i d, W (Proc.devRef .tc main_v20) (ix6 (side lo) b h n i d) = (((along X lo b h n).v i d : ℝ) : EReal)
  g : ∀ lo b h n i, W (Proc.devRef .tc main_v30) (ix5 (side lo) b h n i) = (((along X lo b h n).g i : ℝ) : EReal)
  b : ∀ lo b h n i, W (Proc.devRef .tc main_v40) (ix5 (side lo) b h n i) = (((along X lo b h n).b i : ℝ) : EReal)
  scaled : ∀ lo b h n i d, W (Proc.devRef .tc main_v42) (ix6 (side lo) b h n i d) =
    (((along X lo b h n).q i d * scale : ℝ) : EReal)
  lower : ∀ i j, W (Proc.devRef .tc main_v45) (ix2 i j) = if j ≤ i then 1#1 else 0#1
  fwd : ∀ b h d e, W (Proc.devRef .tc main_arg5) (ix4 b h d e) = ((X.s true b h d e : ℝ) : EReal)
  bwd : ∀ b h d e, W (Proc.devRef .tc main_arg6) (ix4 b h d e) = ((X.s false b h d e : ℝ) : EReal)
  decays : ∀ lo b h n i j, W (Proc.devRef .tc main_v53) (ix6 (side lo) b h n i j) =
    ((if i < j then 0 else Real.exp ((along X lo b h n).g i - (along X lo b h n).g j) : ℝ) : EReal)
  keys : ∀ lo b h n i d, W (Proc.devRef .tc main_v56) (ix6 (side lo) b h n i d) =
    (((along X lo b h n).k i d * (along X lo b h n).b i : ℝ) : EReal)
  matrix : ∀ lo b h n i j, W (Proc.devRef .tc main_v59) (ix6 (side lo) b h n i j) =
    (((along X lo b h n).system true i j : ℝ) : EReal)

theorem systems : Systems (after opsSystem W) X where
  k := fun lo b h n i d => by
    simp only [opsSystem, hostOps0_10, hostOps0_11, hostOps0_12, List.cons_append, List.nil_append]
    after_reads_at
    exact H.k lo b h n i d
  v := fun lo b h n i d => by
    simp only [opsSystem, hostOps0_10, hostOps0_11, hostOps0_12, List.cons_append, List.nil_append]
    after_reads_at
    exact H.v lo b h n i d
  g := fun lo b h n i => by
    simp only [opsSystem, hostOps0_10, hostOps0_11, hostOps0_12, List.cons_append, List.nil_append]
    after_reads_at
    exact H.g lo b h n i
  b := fun lo b h n i => by
    simp only [opsSystem, hostOps0_10, hostOps0_11, hostOps0_12, List.cons_append, List.nil_append]
    after_reads_at
    exact H.b lo b h n i
  scaled := fun lo b h n i d => by
    simp only [opsSystem, hostOps0_10, hostOps0_11, hostOps0_12, List.cons_append, List.nil_append]
    after_reads_at
    exact H.scaled lo b h n i d
  lower := fun i j => by
    simp only [opsSystem, hostOps0_10, hostOps0_11, hostOps0_12, List.cons_append, List.nil_append]
    after_reads_at
    exact H.lower i j
  fwd := fun b h d e => by
    simp only [opsSystem, hostOps0_10, hostOps0_11, hostOps0_12, List.cons_append, List.nil_append]
    after_reads_at
    exact H.fwd b h d e
  bwd := fun b h d e => by
    simp only [opsSystem, hostOps0_10, hostOps0_11, hostOps0_12, List.cons_append, List.nil_append]
    after_reads_at
    exact H.bwd b h d e
  decays := system_decays H
  keys := system_keys H
  matrix := system_matrix H

end Cert.ReferenceIdeal.Parts

end
-- ==== Proof.RefSolve.lean ====
/- The reference's solution of each chunk's system: 63 sweeps from the right-hand side. -/
module

public import proofs.«01_k».proof.Proof.RefSystem

@[expose] public section

set_option maxRecDepth 16384

noncomputable section

namespace Cert.ReferenceIdeal.Parts

open Cert.KernelIdeal.Chain (scale scale_coe coe_sum coe_dot)
open Cert.Delta Cert.ReferenceIdeal Cert.ReferenceIdeal.Gen Cert.ReferenceIdeal.Value
open Idealize.ShloMosaic Idealize.ShloMosaic.TcCoe Idealize.ShloMosaic.StableHlo Idealize.SL.Sem

/-- One sweep over all chunks. -/
def sweepAll (a : FVec Ideal S2x4x16x64x64x64 .f32) (r s : FVec Ideal S2x4x16x64x64x256 .f32) :
    FVec Ideal S2x4x16x64x64x256 .f32 :=
  subf r (Host.dotGeneral dot_S2x4x16x64x64x64_S2x4x16x64x64x256_S2x4x16x64x64x256_5_4_4_5_0123_0123 none a s)

/-- The operations that give the right-hand sides, the sweeps, and those after them. -/
abbrev opsRight {F : FTy → Type} [FloatOps F] : List (HloOp τ sig (Elt F)) := hostOps0_13.take 8
abbrev opsSweeps {F : FTy → Type} [FloatOps F] : List (HloOp τ sig (Elt F)) := (hostOps0_13.drop 8).take 126
abbrev opsParts {F : FTy → Type} [FloatOps F] : List (HloOp τ sig (Elt F)) := (hostOps0_13.drop 8).drop 126

theorem solve_split (W : Valuation τ sig (Elt Ideal)) :
    after hostOps0_13 W = after opsParts (after opsSweeps (after opsRight W)) := by
  rw [← after_append, ← after_append, List.take_append_drop, List.take_append_drop]

section Sweeps

variable (U : Valuation τ sig (Elt Ideal))

theorem sweeps_all : after opsSweeps U (Proc.devRef .tc main_v193) =
    (sweepAll (U (Proc.devRef .tc main_v59)) (U (Proc.devRef .tc main_v67)))^[63] (U (Proc.devRef .tc main_v67)) := by
  simp only [opsSweeps, hostOps0_13, List.drop_succ_cons, List.drop_zero, List.take_succ_cons, List.take_zero]
  after_reads_simp
  rfl

/-- Chunk by chunk, the sweeps are those over the reals. -/
theorem sweep_at {A : Bool → Fin 4 → Fin 16 → Fin 64 → Sq} {R S : Bool → Fin 4 → Fin 16 → Fin 64 → Matrix (Fin 64) (Fin 256) ℝ}
    {a : FVec Ideal S2x4x16x64x64x64 .f32} {r s : FVec Ideal S2x4x16x64x64x256 .f32}
    (ha : ∀ lo b h n i j, a (ix6 (side lo) b h n i j) = ((A lo b h n i j : ℝ) : EReal))
    (hr : ∀ lo b h n i e, r (ix6 (side lo) b h n i e) = ((R lo b h n i e : ℝ) : EReal))
    (hs : ∀ lo b h n i e, s (ix6 (side lo) b h n i e) = ((S lo b h n i e : ℝ) : EReal)) (lo b h n i e) :
    sweepAll a r s (ix6 (side lo) b h n i e) = ((sweep (A lo b h n) (R lo b h n) (S lo b h n) i e : ℝ) : EReal) := by
  unfold sweepAll
  pointwise
  rw [hr]
  refine (congrArg (fun x : EReal => ((R lo b h n i e : ℝ) : EReal) - x) ((Finset.sum_congr rfl fun k _ =>
    congrArg₂ (fun x y : EReal => x * y) (ha lo b h n i k) (hs lo b h n k e)).trans (coe_dot _ _))).trans ?_
  rw [← EReal.coe_sub]
  rfl

theorem sweeps_at {A : Bool → Fin 4 → Fin 16 → Fin 64 → Sq} {R : Bool → Fin 4 → Fin 16 → Fin 64 → Matrix (Fin 64) (Fin 256) ℝ}
    {a : FVec Ideal S2x4x16x64x64x64 .f32} {r : FVec Ideal S2x4x16x64x64x256 .f32}
    (ha : ∀ lo b h n i j, a (ix6 (side lo) b h n i j) = ((A lo b h n i j : ℝ) : EReal))
    (hr : ∀ lo b h n i e, r (ix6 (side lo) b h n i e) = ((R lo b h n i e : ℝ) : EReal)) (t : ℕ) :
    ∀ lo b h n i e, (sweepAll a r)^[t] r (ix6 (side lo) b h n i e) =
      (((sweep (A lo b h n) (R lo b h n))^[t] (R lo b h n) i e : ℝ) : EReal) := by
  induction t with
  | zero => exact hr
  | succ t ih =>
    intro lo b h n i e
    rw [Function.iterate_succ_apply', Function.iterate_succ_apply']
    exact sweep_at (S := fun lo b h n => (sweep (A lo b h n) (R lo b h n))^[t] (R lo b h n)) ha hr ih lo b h n i e

end Sweeps

/-- The two right-hand sides of a chunk, side by side. -/
def both (c : Chunk) : Matrix (Fin 64) (Fin 256) ℝ := fun i e =>
  if he : e.val < 128 then c.values i ⟨e.val, he⟩ else c.keys i ⟨e.val - 128, by omega⟩

variable {W : Valuation τ sig (Elt Ideal)} {X : Input} (H : Systems W X) (lo : Bool) (b : Fin 4) (h : Fin 16)
  (n i j : Fin 64) (e : Fin 256) (d : Fin 128)

include H

theorem right_both : after opsRight W (Proc.devRef .tc main_v67) (ix6 (side lo) b h n i e) =
    ((both (along X lo b h n) i e : ℝ) : EReal) := by
  simp only [opsRight, hostOps0_13, List.take_succ_cons, List.take_zero]
  after_reads_at
  unfold both
  split
  · exact (congrArg₂ (fun x y : EReal => x * y) (H.v lo b h n i _) (H.b lo b h n i)).trans (EReal.coe_mul _ _).symm
  · refine (congrArg₂ (fun x y : EReal => x * y) (H.keys lo b h n i _) (congrArg Ideal.exp (H.g lo b h n i))).trans ?_
    exact (EReal.coe_mul _ (Real.exp _)).symm

theorem right_matrix : after opsRight W (Proc.devRef .tc main_v59) (ix6 (side lo) b h n i j) =
    (((along X lo b h n).system true i j : ℝ) : EReal) := by
  simp only [opsRight, hostOps0_13, List.take_succ_cons, List.take_zero]
  after_reads_at
  exact H.matrix lo b h n i j

theorem solved_both : after opsSweeps (after opsRight W) (Proc.devRef .tc main_v193) (ix6 (side lo) b h n i e) =
    ((((1 + (along X lo b h n).system true)⁻¹ * both (along X lo b h n)) i e : ℝ) : EReal) := by
  rw [sweeps_all]
  refine (sweeps_at (A := fun lo b h n => (along X lo b h n).system true) (R := fun lo b h n => both (along X lo b h n))
    (right_matrix H) (right_both H) 63 lo b h n i e).trans ?_
  rw [sweeps_eq true _ (Chunk.system_strict true _)]

/-- The solution for the values. -/
theorem solved_values : after hostOps0_13 W (Proc.devRef .tc main_v194) (ix6 (side lo) b h n i d) =
    ((((1 + (along X lo b h n).system true)⁻¹ * (along X lo b h n).values) i d : ℝ) : EReal) := by
  rw [solve_split]
  have e := solved_both H lo b h n i ⟨d.val, by omega⟩
  generalize after opsSweeps (after opsRight W) = U at e ⊢
  simp only [opsParts, hostOps0_13, List.drop_succ_cons, List.drop_zero]
  after_reads_at
  refine e.trans (congrArg _ ?_)
  rw [Matrix.mul_apply, Matrix.mul_apply]
  refine Finset.sum_congr rfl fun k _ => ?_
  rw [both, dif_pos d.isLt]

/-- The solution for the keys. -/
theorem solved_keys : after hostOps0_13 W (Proc.devRef .tc main_v195) (ix6 (side lo) b h n i d) =
    ((((1 + (along X lo b h n).system true)⁻¹ * (along X lo b h n).keys) i d : ℝ) : EReal) := by
  rw [solve_split]
  have e := solved_both H lo b h n i ⟨128 + d.val, by omega⟩
  generalize after opsSweeps (after opsRight W) = U at e ⊢
  simp only [opsParts, hostOps0_13, List.drop_succ_cons, List.drop_zero]
  after_reads_at
  refine e.trans (congrArg _ ?_)
  rw [Matrix.mul_apply, Matrix.mul_apply]
  refine Finset.sum_congr rfl fun k _ => ?_
  rw [both, dif_neg (by simp)]
  congr 2
  exact Fin.ext (by simp)

omit H in
theorem solve_keep (V : Valuation τ sig (Elt Ideal)) (r : Ref sig .tc) (hr : r ∉ hostOps0_13_W) :
    after hostOps0_13 V (Proc.devRef .tc r) = V (Proc.devRef .tc r) := after_of_writes_sub _ V hostOps0_13_writes hr

omit H in
theorem sweeps_keep (V : Valuation τ sig (Elt Ideal)) (r : Ref sig .tc) (hr : r ∉ hostOps0_13_W) :
    after opsSweeps (after opsRight V) (Proc.devRef .tc r) = V (Proc.devRef .tc r) := by
  have hw := List.forall_iff_forall_mem.mp (hostOps0_13_writes (F := Ideal))
  rw [after_of_writes_sub (W := hostOps0_13_W) opsSweeps _ (List.forall_iff_forall_mem.mpr fun op ho =>
      hw op (List.mem_of_mem_drop (List.mem_of_mem_take ho))) hr,
    after_of_writes_sub (W := hostOps0_13_W) opsRight _ (List.forall_iff_forall_mem.mpr fun op ho =>
      hw op (List.mem_of_mem_take ho)) hr]

/-- The decayed products of the queries and the keys. -/
theorem solved_products : after hostOps0_13 W (Proc.devRef .tc main_v197) (ix6 (side lo) b h n i j) =
    (((∑ d, (along X lo b h n).q i d * scale * (along X lo b h n).k j d) *
      (if i < j then 0 else Real.exp ((along X lo b h n).g i - (along X lo b h n).g j)) : ℝ) : EReal) := by
  rw [solve_split]
  have e1 := sweeps_keep W main_v42 (by decide +kernel)
  have e2 := sweeps_keep W main_v13 (by decide +kernel)
  have e3 := sweeps_keep W main_v53 (by decide +kernel)
  generalize after opsSweeps (after opsRight W) = U at e1 e2 e3 ⊢
  simp only [opsParts, hostOps0_13, List.drop_succ_cons, List.drop_zero]
  after_reads_at
  rw [e1, e2, e3]
  refine (congrArg₂ (fun x y : EReal => x * y) ((Finset.sum_congr rfl fun d _ => congrArg₂ (fun x y : EReal => x * y)
    (H.scaled lo b h n i d) (H.k lo b h n j d)).trans (coe_dot _ _)) (H.decays lo b h n i j)).trans ?_
  exact (EReal.coe_mul _ _).symm

omit H in
theorem solved_zero (y : S_.Idx) : after hostOps0_13 W (Proc.devRef .tc main_cst_2) y = (0 : EReal) := by
  rw [solve_split]
  generalize after opsSweeps (after opsRight W) = U
  simp only [opsParts, hostOps0_13, List.drop_succ_cons, List.drop_zero]
  after_reads_simp
  change Ideal.ofBits .f32 0#32 = 0
  simp [Ideal.ofBits, Ideal.ieee]

/-- The weights of the queries on the keys. -/
theorem solved_weights : after hostOps0_14 (after hostOps0_13 W) (Proc.devRef .tc main_v198) (ix6 (side lo) b h n i j) =
    (((along X lo b h n).weights scale true i j : ℝ) : EReal) := by
  have e1 := solved_products H lo b h n i j
  have e2 := solved_zero (W := W) ix0
  have e3 := (congrFun (solve_keep W main_v45 (by decide +kernel)) (ix2 i j)).trans (H.lower i j)
  generalize after hostOps0_13 W = U at e1 e2 e3 ⊢
  simp only [hostOps0_14]
  after_reads_at
  rw [e1, e3]
  refine (congrArg (Scalar.select _ _) e2).trans ?_
  change _ = ((if i < j then 0 else _ : ℝ) : EReal)
  by_cases hij : i < j
  · rw [if_neg (not_le.2 hij), if_pos hij, if_pos hij]; rfl
  · rw [if_pos (not_lt.1 hij), if_neg hij, if_neg hij]
    change ((_ : ℝ) : EReal) = _
    congr 1
    rw [Finset.sum_mul, Finset.sum_mul, Finset.sum_mul]
    exact Finset.sum_congr rfl fun d _ => by ring

/-- What the operations up to the solutions leave. -/
structure Solved (V : Valuation τ sig (Elt Ideal)) (X : Input) : Prop where
  k : ∀ lo b h n i d, V (Proc.devRef .tc main_v13) (ix6 (side lo) b h n i d) = (((along X lo b h n).k i d : ℝ) : EReal)
  g : ∀ lo b h n i, V (Proc.devRef .tc main_v30) (ix5 (side lo) b h n i) = (((along X lo b h n).g i : ℝ) : EReal)
  scaled : ∀ lo b h n i d, V (Proc.devRef .tc main_v42) (ix6 (side lo) b h n i d) =
    (((along X lo b h n).q i d * scale : ℝ) : EReal)
  fwd : ∀ b h d e, V (Proc.devRef .tc main_arg5) (ix4 b h d e) = ((X.s true b h d e : ℝ) : EReal)
  bwd : ∀ b h d e, V (Proc.devRef .tc main_arg6) (ix4 b h d e) = ((X.s false b h d e : ℝ) : EReal)
  values : ∀ lo b h n i d, V (Proc.devRef .tc main_v194) (ix6 (side lo) b h n i d) =
    ((((1 + (along X lo b h n).system true)⁻¹ * (along X lo b h n).values) i d : ℝ) : EReal)
  keys : ∀ lo b h n i d, V (Proc.devRef .tc main_v195) (ix6 (side lo) b h n i d) =
    ((((1 + (along X lo b h n).system true)⁻¹ * (along X lo b h n).keys) i d : ℝ) : EReal)
  weights : ∀ lo b h n i j, V (Proc.devRef .tc main_v198) (ix6 (side lo) b h n i j) =
    (((along X lo b h n).weights scale true i j : ℝ) : EReal)

omit H in
theorem weights_keep (V : Valuation τ sig (Elt Ideal)) (r : Ref sig .tc) (hr : r ∉ hostOps0_14_W) :
    after hostOps0_14 V (Proc.devRef .tc r) = V (Proc.devRef .tc r) := after_of_writes_sub _ V hostOps0_14_writes hr

omit H in
theorem solve_keeps (V : Valuation τ sig (Elt Ideal)) (r : Ref sig .tc) (hr : r ∉ hostOps0_13_W) (hr' : r ∉ hostOps0_14_W) :
    after hostOps0_14 (after hostOps0_13 V) (Proc.devRef .tc r) = V (Proc.devRef .tc r) :=
  (weights_keep _ r hr').trans (solve_keep V r hr)

theorem solved : Solved (after hostOps0_14 (after hostOps0_13 W)) X where
  k := fun lo b h n i d => (congrFun (solve_keeps W main_v13 (by decide +kernel) (by decide +kernel)) _).trans (H.k lo b h n i d)
  g := fun lo b h n i => (congrFun (solve_keeps W main_v30 (by decide +kernel) (by decide +kernel)) _).trans (H.g lo b h n i)
  scaled := fun lo b h n i d =>
    (congrFun (solve_keeps W main_v42 (by decide +kernel) (by decide +kernel)) _).trans (H.scaled lo b h n i d)
  fwd := fun b h d e => (congrFun (solve_keeps W main_arg5 (by decide +kernel) (by decide +kernel)) _).trans (H.fwd b h d e)
  bwd := fun b h d e => (congrFun (solve_keeps W main_arg6 (by decide +kernel) (by decide +kernel)) _).trans (H.bwd b h d e)
  values := fun lo b h n i d => (congrFun (weights_keep _ main_v194 (by decide +kernel)) _).trans (solved_values H lo b h n i d)
  keys := fun lo b h n i d => (congrFun (weights_keep _ main_v195 (by decide +kernel)) _).trans (solved_keys H lo b h n i d)
  weights := solved_weights H

end Cert.ReferenceIdeal.Parts

end
-- ==== Proof.RefEnter.lean ====
/- What the reference's loop over the chunks starts from: the chunks' arrays with the chunk on the leading axis. -/
module

public import proofs.«01_k».proof.Proof.RefSolve

@[expose] public section

set_option maxRecDepth 16384

noncomputable section

namespace Cert.ReferenceIdeal.Parts

open Cert.KernelIdeal.Chain (scale scale_coe coe_sum coe_dot)
open Cert.Delta Cert.ReferenceIdeal Cert.ReferenceIdeal.Gen Cert.ReferenceIdeal.Value
open Idealize.ShloMosaic Idealize.ShloMosaic.TcCoe Idealize.ShloMosaic.StableHlo Idealize.SL.Sem

variable {W : Valuation τ sig (Elt Ideal)} {X : Input}

/-- The loop's buffers before step `0`, as real arrays; only the last three change. -/
structure Fixed (V : Valuation τ sig (Elt Ideal)) (X : Input) : Prop where
  queries : ∀ lo b h n i d, V (Proc.devRef .tc main_v222_0) (ix6 n (side lo) b h i d) =
    (((along X lo b h n).queries scale i d : ℝ) : EReal)
  keys : ∀ lo b h n i d, V (Proc.devRef .tc main_v222_1) (ix6 n (side lo) b h i d) =
    ((((1 + (along X lo b h n).system true)⁻¹ * (along X lo b h n).keys) i d : ℝ) : EReal)
  values : ∀ lo b h n i d, V (Proc.devRef .tc main_v222_2) (ix6 n (side lo) b h i d) =
    ((((1 + (along X lo b h n).system true)⁻¹ * (along X lo b h n).values) i d : ℝ) : EReal)
  tails : ∀ lo b h n i d, V (Proc.devRef .tc main_v222_3) (ix6 n (side lo) b h i d) =
    (((along X lo b h n).tails true i d : ℝ) : EReal)
  weights : ∀ lo b h n i j, V (Proc.devRef .tc main_v222_4) (ix6 n (side lo) b h i j) =
    (((along X lo b h n).weights scale true i j : ℝ) : EReal)
  last : ∀ lo b h n, V (Proc.devRef .tc main_v222_5) (ix4 n (side lo) b h) =
    (((along X lo b h n).g (Chunk.last true) : ℝ) : EReal)

section Enter

theorem of_id {S : Shape} {x : FVec Ideal S .f32} {y : S.Idx} {r : EReal} (h : x y = r) : id x y = r := h

variable (S : Solved W X) (lo : Bool) (b : Fin 4) (h : Fin 16) (n i j : Fin 64) (d e : Fin 128)

include S

theorem enter_queries : after hostOps0_15 W (Proc.devRef .tc main_v222_0) (ix6 n (side lo) b h i d) =
    (((along X lo b h n).queries scale i d : ℝ) : EReal) := by
  simp only [hostOps0_15]
  after_reads_at
  refine of_id ?_
  pointwise
  refine (congrArg₂ (fun x y : EReal => x * Ideal.exp y) (S.scaled lo b h n i d) (S.g lo b h n i)).trans ?_
  refine (EReal.coe_mul _ (Real.exp _)).symm.trans (congrArg _ ?_)
  unfold Chunk.queries
  ring

theorem enter_keys : after hostOps0_15 W (Proc.devRef .tc main_v222_1) (ix6 n (side lo) b h i d) =
    ((((1 + (along X lo b h n).system true)⁻¹ * (along X lo b h n).keys) i d : ℝ) : EReal) := by
  simp only [hostOps0_15]
  after_reads_at
  refine of_id ?_
  pointwise
  exact S.keys lo b h n i d

theorem enter_values : after hostOps0_15 W (Proc.devRef .tc main_v222_2) (ix6 n (side lo) b h i d) =
    ((((1 + (along X lo b h n).system true)⁻¹ * (along X lo b h n).values) i d : ℝ) : EReal) := by
  simp only [hostOps0_15]
  after_reads_at
  refine of_id ?_
  pointwise
  exact S.values lo b h n i d

theorem enter_tails : after hostOps0_15 W (Proc.devRef .tc main_v222_3) (ix6 n (side lo) b h i d) =
    (((along X lo b h n).tails true i d : ℝ) : EReal) := by
  simp only [hostOps0_15]
  after_reads_at
  refine of_id ?_
  pointwise
  refine (congrArg₂ (fun x y : EReal => x * Ideal.exp y) (S.k lo b h n i d) ((congrArg₂ (fun x y : EReal => x - y)
    (S.g lo b h n 63) (S.g lo b h n i)).trans (EReal.coe_sub _ _).symm)).trans ?_
  exact (EReal.coe_mul _ (Real.exp _)).symm

theorem enter_weights : after hostOps0_15 W (Proc.devRef .tc main_v222_4) (ix6 n (side lo) b h i j) =
    (((along X lo b h n).weights scale true i j : ℝ) : EReal) := by
  simp only [hostOps0_15]
  after_reads_at
  refine of_id ?_
  pointwise
  exact S.weights lo b h n i j

theorem enter_last : after hostOps0_15 W (Proc.devRef .tc main_v222_5) (ix4 n (side lo) b h) =
    (((along X lo b h n).g (Chunk.last true) : ℝ) : EReal) := by
  simp only [hostOps0_15]
  after_reads_at
  exact S.g lo b h n 63

omit S in
theorem enter_state_all : after hostOps0_15 W (Proc.devRef .tc main_v222_7) =
    (concatenate S2x4x16x128x128 0
      [⟨S1x4x16x128x128, broadcastInDim S1x4x16x128x128 ![1, 2, 3, 4] bcast_S4x16x128x128_S1x4x16x128x128_1_2_3_4
        (W (Proc.devRef .tc main_arg5))⟩,
       ⟨S1x4x16x128x128, broadcastInDim S1x4x16x128x128 ![1, 2, 3, 4] bcast_S4x16x128x128_S1x4x16x128x128_1_2_3_4
        (W (Proc.devRef .tc main_arg6))⟩]
      concatenates_S1x4x16x128x128_S1x4x16x128x128_S2x4x16x128x128_d0 : FVec Ideal S2x4x16x128x128 .f32) := by
  simp only [hostOps0_15]
  after_reads_simp
  rfl

theorem enter_state : after hostOps0_15 W (Proc.devRef .tc main_v222_7) (ix5 (side lo) b h d e) =
    ((X.s lo b h d e : ℝ) : EReal) := by
  rw [enter_state_all]
  cases lo
  · refine Eq.trans ?_ (S.bwd b h d e)
    simp only [side, cond_false]
    pointwise
  · refine Eq.trans ?_ (S.fwd b h d e)
    simp only [side, cond_true]
    pointwise

omit S in
theorem enter_count (y : S_.Idx) : after hostOps0_15 W (Proc.devRef .tc main_v222_6) y = 0#32 := by
  simp only [hostOps0_15]
  after_reads_simp
  rfl

theorem fixed : Fixed (after hostOps0_15 W) X where
  queries := enter_queries S
  keys := enter_keys S
  values := enter_values S
  tails := enter_tails S
  weights := enter_weights S
  last := enter_last S

end Enter

end Cert.ReferenceIdeal.Parts

end
-- ==== Proof.RefStep.lean ====
/- One step of the reference's loop, read at an entry: the slices at the step's number, the new values, the output rows
   and the next state. -/
module

public import proofs.«01_k».proof.Proof.RefEnter
public import Idealize.ShloMosaic.Lib.DynamicIndex

@[expose] public section

set_option maxRecDepth 16384

noncomputable section

namespace Cert.ReferenceIdeal.Parts

open Cert.KernelIdeal.Chain (scale scale_coe coe_sum coe_dot)
open Cert.Delta Cert.ReferenceIdeal Cert.ReferenceIdeal.Gen Cert.ReferenceIdeal.Value
open Idealize.ShloMosaic Idealize.ShloMosaic.TcCoe Idealize.ShloMosaic.StableHlo Idealize.SL.Sem

abbrev Word := (⟨S_, .i32⟩ : BufTy).Contents (Elt Ideal)

/-- The start of step `n`'s block, and where it lies. -/
abbrev start6 (c : Word) : Fin 6 → Int := fun k =>
  (((![c, constantI S_ 32 0#32, constantI S_ 32 0#32, constantI S_ 32 0#32, constantI S_ 32 0#32, constantI S_ 32 0#32] :
    Fin 6 → Word)) k (Shape.Idx.first h_S_)).toInt

abbrev start4 (c : Word) : Fin 4 → Int := fun k =>
  (((![c, constantI S_ 32 0#32, constantI S_ 32 0#32, constantI S_ 32 0#32] : Fin 4 → Word)) k (Shape.Idx.first h_S_)).toInt

variable {c : Word} {n : Fin 64}

theorem count_at (hc : c = fun _ => BitVec.ofNat 32 n.val) (y) : (c y).toInt = (n.val : Int) := by
  subst hc
  exact toInt_ofNat_of_lt (by omega)

theorem start6_at (hc : c = fun _ => BitVec.ofNat 32 n.val) (k : Fin 6) : start6 c k = ((![n.val, 0, 0, 0, 0, 0] : Fin 6 → ℕ) k : Int) := by
  match k with
  | 0 => exact count_at hc _
  | 1 => rfl
  | 2 => rfl
  | 3 => rfl
  | 4 => rfl
  | 5 => rfl

theorem start4_at (hc : c = fun _ => BitVec.ofNat 32 n.val) (k : Fin 4) : start4 c k = ((![n.val, 0, 0, 0] : Fin 4 → ℕ) k : Int) := by
  match k with
  | 0 => exact count_at hc _
  | 1 => rfl
  | 2 => rfl
  | 3 => rfl

variable (t : Fin 2) (b : Fin 4) (h : Fin 16) (i j : Fin 64) (d e : Fin 128)

theorem slice_rows (hc : c = fun _ => BitVec.ofNat 32 n.val) (x : FVec Ideal S64x2x4x16x64x128 .f32) :
    shapeCast S2x4x16x64x128 (Host.dynamicSlice S1x2x4x16x64x128 x (start6 c) sliceFits_S64x2x4x16x64x128_S1x2x4x16x64x128)
      shapeCasts_S1x2x4x16x64x128_S2x4x16x64x128 (ix5 t b h i d) = x (ix6 n t b h i d) := by
  rw [Host.dynamicSlice_eq_extractStridedSlice S1x2x4x16x64x128 x _ ![n.val, 0, 0, 0, 0, 0] _ ⟨rfl, by
    intro a; fin_cases a <;> simp <;> omega⟩ (start6_at hc)]
  pointwise

theorem slice_squares (hc : c = fun _ => BitVec.ofNat 32 n.val) (x : FVec Ideal S64x2x4x16x64x64 .f32) :
    shapeCast S2x4x16x64x64 (Host.dynamicSlice S1x2x4x16x64x64 x (start6 c) sliceFits_S64x2x4x16x64x64_S1x2x4x16x64x64)
      shapeCasts_S1x2x4x16x64x64_S2x4x16x64x64 (ix5 t b h i j) = x (ix6 n t b h i j) := by
  rw [Host.dynamicSlice_eq_extractStridedSlice S1x2x4x16x64x64 x _ ![n.val, 0, 0, 0, 0, 0] _ ⟨rfl, by
    intro a; fin_cases a <;> simp <;> omega⟩ (start6_at hc)]
  pointwise

theorem slice_numbers (hc : c = fun _ => BitVec.ofNat 32 n.val) (x : FVec Ideal S64x2x4x16 .f32) :
    shapeCast S2x4x16 (Host.dynamicSlice S1x2x4x16 x (start4 c) sliceFits_S64x2x4x16_S1x2x4x16)
      shapeCasts_S1x2x4x16_S2x4x16 (ix3 t b h) = x (ix4 n t b h) := by
  rw [Host.dynamicSlice_eq_extractStridedSlice S1x2x4x16 x _ ![n.val, 0, 0, 0] _ ⟨rfl, by
    intro a; fin_cases a <;> simp <;> omega⟩ (start4_at hc)]
  pointwise

theorem update_rows (hc : c = fun _ => BitVec.ofNat 32 n.val) (x : FVec Ideal S64x2x4x16x64x128 .f32)
    (u : FVec Ideal S1x2x4x16x64x128 .f32) (p : Fin 64) :
    Host.dynamicUpdateSlice x u (start6 c) updateFits_S64x2x4x16x64x128_S1x2x4x16x64x128 (ix6 p t b h i d) =
      if p = n then u (ix6 0 t b h i d) else x (ix6 p t b h i d) := by
  rw [Host.dynamicUpdateSlice_eq_updateSlice x u _ _ ![n.val, 0, 0, 0, 0, 0] (fun a => by
    rw [start6_at hc]; fin_cases a <;> simp <;> omega) ⟨rfl, by intro a; fin_cases a <;> simp <;> omega⟩]
  pointwise
  by_cases hp : p = n
  · subst hp
    rw [dif_pos ⟨le_refl _, Nat.lt_succ_self _⟩, if_pos rfl]
    exact congrArg (fun z : Fin 1 => u (ix6 z t b h i d)) (Subsingleton.elim _ _)
  · rw [dif_neg (fun hn => hp (Fin.ext (by omega))), if_neg hp]

/-- The new values, the output rows and the next state, over the arrays they are made of. -/
theorem fresh_at (U K : FVec Ideal S2x4x16x64x128 .f32) (s : FVec Ideal S2x4x16x128x128 .f32) :
    subf U (Host.dotGeneral dot_S2x4x16x64x128_S2x4x16x128x128_S2x4x16x64x128_4_3_3_4_012_012 none K s) (ix5 t b h i d) =
      U (ix5 t b h i d) - ∑ e, K (ix5 t b h i e) * s (ix5 t b h e d) := by
  pointwise

theorem rows_at (Q V : FVec Ideal S2x4x16x64x128 .f32) (s : FVec Ideal S2x4x16x128x128 .f32) (M : FVec Ideal S2x4x16x64x64 .f32) :
    broadcastInDim S1x2x4x16x64x128 ![1, 2, 3, 4, 5] bcast_S2x4x16x64x128_S1x2x4x16x64x128_1_2_3_4_5 (addf
      (Host.dotGeneral dot_S2x4x16x64x128_S2x4x16x128x128_S2x4x16x64x128_4_3_3_4_012_012 none Q s)
      (Host.dotGeneral dot_S2x4x16x64x64_S2x4x16x64x128_S2x4x16x64x128_4_3_3_4_012_012 none M V)) (ix6 0 t b h i d) =
      (∑ e, Q (ix5 t b h i e) * s (ix5 t b h e d)) + ∑ j, M (ix5 t b h i j) * V (ix5 t b h j d) := by
  pointwise

theorem state_at (T V : FVec Ideal S2x4x16x64x128 .f32) (s : FVec Ideal S2x4x16x128x128 .f32) (g : FVec Ideal S2x4x16 .f32) :
    addf (mulf s (broadcastInDim S2x4x16x128x128 ![0, 1, 2, 3, 4] bcast_S2x4x16x1x1_S2x4x16x128x128_0_1_2_3_4
      (broadcastInDim S2x4x16x1x1 ![0, 1, 2] bcast_S2x4x16_S2x4x16x1x1_0_1_2 (Host.exp g))))
      (Host.dotGeneral dot_S2x4x16x64x128_S2x4x16x64x128_S2x4x16x128x128_3_3_4_4_012_012 none T V) (ix5 t b h d e) =
      s (ix5 t b h d e) * Ideal.exp (g (ix3 t b h)) + ∑ i, T (ix5 t b h i d) * V (ix5 t b h i e) := by
  pointwise

end Cert.ReferenceIdeal.Parts

end
-- ==== Proof.RefLoop.lean ====
/- The reference's loop over the chunks: before step `n` the state is the one that `n` chunks leave, and the output rows of
   these chunks are written. -/
module

public import proofs.«01_k».proof.Proof.RefStep

@[expose] public section

set_option maxRecDepth 16384

noncomputable section

namespace Cert.ReferenceIdeal.Parts

open Cert.KernelIdeal.Chain (scale scale_coe coe_sum coe_dot)
open Cert.Delta Cert.ReferenceIdeal Cert.ReferenceIdeal.Gen Cert.ReferenceIdeal.Value
open Idealize.ShloMosaic Idealize.ShloMosaic.TcCoe Idealize.ShloMosaic.StableHlo Idealize.SL.Sem

variable {X : Input}

theorem along_next (X : Input) (lo : Bool) (b : Fin 4) (h : Fin 16) (n : Fin 64) (s : State) :
    (along X lo b h n).next true s = (X.chunk lo b h (Delta.place lo n)).next lo s := by
  cases lo
  · rw [along_false, Chunk.next_rev]
  · rw [along_true]

theorem along_out (X : Input) (lo : Bool) (b : Fin 4) (h : Fin 16) (n : Fin 64) (s : State) (i : Fin 64) (d : Fin 128) :
    (along X lo b h n).out scale true s i d = (X.chunk lo b h (Delta.place lo n)).out scale lo s (Delta.place lo i) d := by
  cases lo
  · rw [along_false, Chunk.out_rev]; rfl
  · rw [along_true]; rfl

/-- The loop's buffers before step `n`. -/
structure Step (V : Valuation τ sig (Elt Ideal)) (X : Input) (n : ℕ) : Prop where
  fixed : Fixed V X
  count : V (Proc.devRef .tc main_v222_6) = fun _ => BitVec.ofNat 32 n
  state : ∀ lo b h d e, V (Proc.devRef .tc main_v222_7) (ix5 (side lo) b h d e) = ((X.state lo b h n d e : ℝ) : EReal)
  rows : ∀ (p : Fin 64), p.val < n → ∀ lo b h i d, V (Proc.devRef .tc main_v222_8) (ix6 p (side lo) b h i d) =
    (((along X lo b h p).out scale true (X.state lo b h p) i d : ℝ) : EReal)

theorem step_zero {W : Valuation τ sig (Elt Ideal)} (S : Solved W X) : Step (after hostOps0_15 W) X 0 where
  fixed := Parts.fixed S
  count := funext enter_count
  state := enter_state S
  rows := fun p hp => absurd hp (Nat.not_lt_zero _)

section One

variable {V : Valuation τ sig (Elt Ideal)} {n : Fin 64} (S : Step V X n.val) (lo : Bool) (b : Fin 4) (h : Fin 16)
  (i j : Fin 64) (d e : Fin 128)

include S

theorem fresh_one : res_main_while0b_v245 V (ix5 (side lo) b h i d) =
    (((along X lo b h n).fresh true (X.state lo b h n) i d : ℝ) : EReal) := by
  unfold res_main_while0b_v245
  refine (fresh_at _ _ _ _ _ _ _ _).trans ?_
  refine (congrArg₂ (fun x y : EReal => x - y)
    ((slice_rows (n := n) _ _ _ _ _ S.count _).trans (S.fixed.values lo b h n i d))
    ((Finset.sum_congr rfl fun e _ => congrArg₂ (fun x y : EReal => x * y)
      ((slice_rows (n := n) _ _ _ _ _ S.count _).trans (S.fixed.keys lo b h n i e)) (S.state lo b h e d)).trans
      (coe_dot _ _))).trans ?_
  exact (EReal.coe_sub _ _).symm

theorem state_one : step_main_v222_7 V (ix5 (side lo) b h d e) = ((X.state lo b h (n.val + 1) d e : ℝ) : EReal) := by
  unfold step_main_v222_7
  refine of_id ((state_at _ _ _ _ _ _ _ _ _).trans ?_)
  refine (congrArg₂ (fun x y : EReal => x + y)
    (congrArg₂ (fun x y : EReal => x * Ideal.exp y) (S.state lo b h d e)
      ((slice_numbers (n := n) _ _ _ S.count _).trans (S.fixed.last lo b h n)))
    ((Finset.sum_congr rfl fun i _ => congrArg₂ (fun x y : EReal => x * y)
      ((slice_rows (n := n) _ _ _ _ _ S.count _).trans (S.fixed.tails lo b h n i d)) (fresh_one S lo b h i e)).trans
      (coe_dot _ _))).trans ?_
  rw [X.state_succ lo b h n, ← along_next]
  unfold Chunk.next
  rw [EReal.coe_add, EReal.coe_mul]
  rfl

theorem rows_one (p : Fin 64) (hp : p.val < n.val + 1) : step_main_v222_8 V (ix6 p (side lo) b h i d) =
    (((along X lo b h p).out scale true (X.state lo b h p) i d : ℝ) : EReal) := by
  unfold step_main_v222_8
  refine of_id ((update_rows (n := n) _ _ _ _ _ S.count _ _ p).trans ?_)
  by_cases e : p = n
  · subst e
    rw [if_pos rfl]
    refine (rows_at _ _ _ _ _ _ _ _ _).trans ?_
    refine (congrArg₂ (fun x y : EReal => x + y)
      ((Finset.sum_congr rfl fun e _ => congrArg₂ (fun x y : EReal => x * y)
        ((slice_rows (n := p) _ _ _ _ _ S.count _).trans (S.fixed.queries lo b h p i e)) (S.state lo b h e d)).trans
        (coe_dot _ _))
      ((Finset.sum_congr rfl fun j _ => congrArg₂ (fun x y : EReal => x * y)
        ((slice_squares (n := p) _ _ _ _ _ S.count _).trans (S.fixed.weights lo b h p i j)) (fresh_one S lo b h j d)).trans
        (coe_dot _ _))).trans ?_
    exact (EReal.coe_add _ _).symm
  · rw [if_neg e]
    exact S.rows p (by have := fun e' => e (Fin.ext e'); omega) lo b h i d

theorem step_one : Step (STEP V) X (n.val + 1) where
  fixed :=
    { queries := fun lo b h n i d => by rw [STEP_main_v222_0]; exact S.fixed.queries lo b h n i d
      keys := fun lo b h n i d => by rw [STEP_main_v222_1]; exact S.fixed.keys lo b h n i d
      values := fun lo b h n i d => by rw [STEP_main_v222_2]; exact S.fixed.values lo b h n i d
      tails := fun lo b h n i d => by rw [STEP_main_v222_3]; exact S.fixed.tails lo b h n i d
      weights := fun lo b h n i j => by rw [STEP_main_v222_4]; exact S.fixed.weights lo b h n i j
      last := fun lo b h n => by rw [STEP_main_v222_5]; exact S.fixed.last lo b h n }
  count := by
    rw [STEP_main_v222_6]
    unfold step_main_v222_6
    rw [S.count]
    funext y
    change BitVec.ofNat 32 n.val + 1#32 = _
    rw [BitVec.ofNat_add]
  state := fun lo b h d e => by rw [STEP_main_v222_7]; exact state_one S lo b h d e
  rows := fun p hp lo b h i d => by rw [STEP_main_v222_8]; exact rows_one S lo b h i d p hp

end One

theorem step_all {V : Valuation τ sig (Elt Ideal)} (S : Step V X 0) : ∀ n, n ≤ 64 → Step (STEP^[n] V) X n
  | 0, _ => S
  | n + 1, hn => by
    rw [Function.iterate_succ_apply']
    exact step_one (n := ⟨n, hn⟩) (step_all S n (by omega))

end Cert.ReferenceIdeal.Parts

end
-- ==== Proof.RefArrays.lean ====
/- The reference's results as arrays of reals: both directions' output rows and states. -/
module

public import proofs.«01_k».proof.Proof.RefLoop

@[expose] public section

set_option maxRecDepth 16384

noncomputable section

namespace Cert.ReferenceIdeal.Parts

open Cert.KernelIdeal.Chain (scale scale_coe coe_sum coe_dot)
open Cert.Delta Cert.ReferenceIdeal Cert.ReferenceIdeal.Gen Cert.ReferenceIdeal.Value
open Idealize.ShloMosaic Idealize.ShloMosaic.TcCoe Idealize.ShloMosaic.StableHlo Idealize.SL.Sem

variable {X : Input} {V : Valuation τ sig (Elt Ideal)} (S : Step V X 64)

include S

theorem result_fwd : out_main_v228 V = fun y => ((X.outs scale true (y 0) (y 1) : ℝ) : EReal) := by
  funext y
  obtain ⟨r, e, rfl⟩ : ∃ r e, y = ix2 r e := ⟨y 0, y 1, by funext k; fin_cases k <;> rfl⟩
  unfold out_main_v228
  pointwise
  refine (S.rows _ (Fin.isLt _) true _ _ _ _).trans (congrArg _ ?_)
  rw [along_out]
  exact (X.outs_at scale true _ _ _ _ _ _ _ (by simp only [Delta.place, cond_true]; omega) (by dsimp only; omega)).symm

theorem result_bwd : out_main_v233 V = fun y => ((X.outs scale false (y 0) (y 1) : ℝ) : EReal) := by
  funext y
  obtain ⟨r, e, rfl⟩ : ∃ r e, y = ix2 r e := ⟨y 0, y 1, by funext k; fin_cases k <;> rfl⟩
  unfold out_main_v233
  pointwise
  simp only [List.mem_singleton, Fin.reduceEq, Fin.isValue, reduceIte, Fin.val_rev]
  refine (S.rows ⟨_, _⟩ (by dsimp only; omega) false ⟨r.val / 4096, by omega⟩ _ _ _).trans (congrArg _ ?_)
  rw [along_out]
  exact (X.outs_at scale false _ _ _ _ _ _ _ (by simp only [Delta.place, cond_false, Fin.val_rev]; omega) (by dsimp only; omega)).symm

theorem result_state_fwd : out_main_v235 V = fun y => ((X.state true (y 0) (y 1) 64 (y 2) (y 3) : ℝ) : EReal) := by
  funext y
  obtain ⟨b, h, d, e, rfl⟩ : ∃ b h d e, y = ix4 b h d e := ⟨y 0, y 1, y 2, y 3, by funext k; fin_cases k <;> rfl⟩
  unfold out_main_v235
  pointwise
  exact S.state true b h d e

theorem result_state_bwd : out_main_v237 V = fun y => ((X.state false (y 0) (y 1) 64 (y 2) (y 3) : ℝ) : EReal) := by
  funext y
  obtain ⟨b, h, d, e, rfl⟩ : ∃ b h d e, y = ix4 b h d e := ⟨y 0, y 1, y 2, y 3, by funext k; fin_cases k <;> rfl⟩
  unfold out_main_v237
  pointwise
  exact S.state false b h d e

omit S

variable {m : (ℓ : Loc nD τ sig) → Buf (Elt Ideal) ℓ} {c : Dev nD}

/-- The loop's last contents, from arguments that hold `X`. -/
theorem step_last (E : Entry (StableHlo.launchContents m c) X) : Step (STEP^[64] (entryContents preI m c)) X 64 := by
  refine step_all ?_ 64 le_rfl
  have h := step_zero (solved (systems (cut _ E)))
  simp only [opsChunks, opsSystem, after_append] at h
  exact h

end Cert.ReferenceIdeal.Parts

end
-- ==== Proof.Finite.lean ====
/- The precondition read back: every entry of the seven arguments is a real number. -/
module

public import proofs.«01_k».proof.Pre_finite
public import Idealize.ShloMosaic.PureOps.Ideal
public import Idealize.ShloMosaic.Lib.ReduceAll

@[expose] public section

noncomputable section

namespace Cert.Pre_finite

open Idealize.ShloMosaic

instance facts : Facts where
  bitsLt_bf16_f32 := by decide
  bcast_S_S4x4096x16x128 := by decide
  reducesTo_S4x4096x16x128_S_d0_1_2_3 := by decide
  h_S_ := by decide
  bcast_S_S4x4096x2x16 := by decide
  reducesTo_S4x4096x2x16_S_d0_1_2_3 := by decide
  bcast_S_S4x16x128x128 := by decide
  reducesTo_S4x16x128x128_S_d0_1_2_3 := by decide

/-- The result of the precondition has one index. -/
instance : Subsingleton S_.Idx := ⟨fun _ _ => funext fun k => k.elim0⟩

/-- A value whose magnitude is below infinity is a real number. -/
theorem real_of_lt (x : EReal) (h : max x (-x) < ⊤) : x = ((x.toReal : ℝ) : EReal) := by
  refine (EReal.coe_toReal ?_ ?_).symm <;> rintro rfl <;> simp at h

/-- An array that passes the test holds real numbers. -/
theorem real_of_test {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    (x i : EReal) = (((x i : EReal).toReal : ℝ) : EReal) := by
  have htop : Ideal.ofBits .f32 0x7F800000#32 = ⊤ := by simp [Ideal.ofBits, Ideal.ieee]
  refine real_of_lt _ ?_
  have h' : Ideal.cmp .olt (max (x i : EReal) (-(x i : EReal))) (Ideal.ofBits .f32 0x7F800000#32) = 1#1 := h
  rw [htop] at h'
  by_contra hn
  simp [Ideal.cmp, hn] at h'

variable {q k v : FVec Ideal S4x4096x16x128 .bf16} {b g : FVec Ideal S4x4096x2x16 .f32}
  {s t : FVec Ideal S4x16x128x128 .f32}

/-- The precondition makes every entry of every argument a real number. -/
theorem reals (h : fn (F := Ideal) q k v b g s t = fun _ => 1#1) :
    (∀ i, (q i : EReal) = (((q i : EReal).toReal : ℝ) : EReal)) ∧ (∀ i, (k i : EReal) = (((k i : EReal).toReal : ℝ) : EReal))
      ∧ (∀ i, (v i : EReal) = (((v i : EReal).toReal : ℝ) : EReal)) ∧ (∀ i, (b i : EReal) = (((b i : EReal).toReal : ℝ) : EReal))
      ∧ (∀ i, (g i : EReal) = (((g i : EReal).toReal : ℝ) : EReal)) ∧ (∀ i, (s i : EReal) = (((s i : EReal).toReal : ℝ) : EReal))
      ∧ (∀ i, (t i : EReal) = (((t i : EReal).toReal : ℝ) : EReal)) := by
  have e := congrFun h (Shape.Idx.first Facts.h_S_)
  unfold fn fn_part1 fn_part2 at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun i => real_of_test _ _ i (Host.reduce_andi_all _ _ _ _ _ h0 i),
    fun i => real_of_test _ _ i (Host.reduce_andi_all _ _ _ _ _ h1 i),
    fun i => real_of_test _ _ i (Host.reduce_andi_all _ _ _ _ _ h2 i),
    fun i => real_of_test _ _ i (Host.reduce_andi_all _ _ _ _ _ h3 i),
    fun i => real_of_test _ _ i (Host.reduce_andi_all _ _ _ _ _ h4 i),
    fun i => real_of_test _ _ i (Host.reduce_andi_all _ _ _ _ _ h5 i),
    fun i => real_of_test _ _ i (Host.reduce_andi_all _ _ _ _ _ h6 i)⟩

end Cert.Pre_finite

end
-- ==== Proof.Arguments.lean ====
/- The arguments of both programs as one sequence of real numbers, under the precondition. -/
module

public import proofs.«01_k».proof.Defs
public import proofs.«01_k».proof.Proof.KernelArrays
public import proofs.«01_k».proof.Proof.RefArrays
public import proofs.«01_k».proof.Proof.Finite

@[expose] public section

noncomputable section

namespace Cert.Proof

open Cert.Delta Idealize.ShloMosaic Idealize.ShloMosaic.TcCoe Idealize.SL.Sem

variable (m : (ℓ : Loc Cert.KernelIdeal.nD Cert.KernelIdeal.τ Cert.KernelIdeal.sig) → Buf (Elt Ideal) ℓ)
  (c : Dev Cert.KernelIdeal.nD)

/-- The real number at an entry of an argument. -/
def input : Input where
  q := fun b p j d => EReal.toReal (m ((c.tc : Thread Cert.KernelIdeal.nD Cert.KernelIdeal.τ).loc Cert.KernelIdeal.main_arg0) (ix4 b p j d))
  k := fun b p j d => EReal.toReal (m ((c.tc : Thread Cert.KernelIdeal.nD Cert.KernelIdeal.τ).loc Cert.KernelIdeal.main_arg1) (ix4 b p j d))
  v := fun b p j d => EReal.toReal (m ((c.tc : Thread Cert.KernelIdeal.nD Cert.KernelIdeal.τ).loc Cert.KernelIdeal.main_arg2) (ix4 b p j d))
  b := fun b p l j => EReal.toReal (m ((c.tc : Thread Cert.KernelIdeal.nD Cert.KernelIdeal.τ).loc Cert.KernelIdeal.main_arg3) (ix4 b p l j))
  g := fun b p l j => EReal.toReal (m ((c.tc : Thread Cert.KernelIdeal.nD Cert.KernelIdeal.τ).loc Cert.KernelIdeal.main_arg4) (ix4 b p l j))
  s := fun lo b j d e => cond lo
    (EReal.toReal (m ((c.tc : Thread Cert.KernelIdeal.nD Cert.KernelIdeal.τ).loc Cert.KernelIdeal.main_arg5) (ix4 b j d e)))
    (EReal.toReal (m ((c.tc : Thread Cert.KernelIdeal.nD Cert.KernelIdeal.τ).loc Cert.KernelIdeal.main_arg6) (ix4 b j d e)))

variable {m} (h : Cert.Pre_KernelIdeal_finite m)
include h

/-- The kernel's arguments hold it. -/
theorem holds : Cert.KernelIdeal.Heads.Holds m c (input m c) where
  q := fun _ _ _ _ => (Cert.Pre_finite.reals (h c)).1 _
  k := fun _ _ _ _ => (Cert.Pre_finite.reals (h c)).2.1 _
  v := fun _ _ _ _ => (Cert.Pre_finite.reals (h c)).2.2.1 _
  b := fun _ _ _ _ => (Cert.Pre_finite.reals (h c)).2.2.2.1 _
  g := fun _ _ _ _ => (Cert.Pre_finite.reals (h c)).2.2.2.2.1 _
  fwd := fun _ _ _ _ => (Cert.Pre_finite.reals (h c)).2.2.2.2.2.1 _
  bwd := fun _ _ _ _ => (Cert.Pre_finite.reals (h c)).2.2.2.2.2.2 _

variable {m' : (ℓ : Loc Cert.ReferenceIdeal.nD Cert.ReferenceIdeal.τ Cert.ReferenceIdeal.sig) → Buf (Elt Ideal) ℓ}

/-- The reference's arguments, equal to the kernel's, hold it. -/
theorem entry
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Parts.Entry (StableHlo.launchContents m' c) (input m c) where
  q := fun _ _ _ _ => (congrFun e0 _).trans ((holds c h).q _ _ _ _)
  k := fun _ _ _ _ => (congrFun e1 _).trans ((holds c h).k _ _ _ _)
  v := fun _ _ _ _ => (congrFun e2 _).trans ((holds c h).v _ _ _ _)
  b := fun _ _ _ _ => (congrFun e3 _).trans ((holds c h).b _ _ _ _)
  g := fun _ _ _ _ => (congrFun e4 _).trans ((holds c h).g _ _ _ _)
  fwd := fun _ _ _ _ => (congrFun e5 _).trans ((holds c h).fwd _ _ _ _)
  bwd := fun _ _ _ _ => (congrFun e6 _).trans ((holds c h).bwd _ _ _ _)

end Cert.Proof

end
-- ==== Proof.DownReference.lean ====
/- The second half of the feed-forward layer as the reference computes it, read at an entry. -/
module

public import proofs.«01_k».proof.Proof.Gen.Reference2Ideal.Run
public import Idealize.ShloMosaic.Lib.Pipeline.ValueKit
public import Idealize.ShloMosaic.Lib.ValueIdxCore
public import Idealize.ShloMosaic.Lib.StableHlo.ReadAt

@[expose] public section

set_option maxRecDepth 16384

noncomputable section

namespace Cert.Reference2Ideal.Value

open Cert.Reference2Ideal Cert.Reference2Ideal.Gen Idealize.ShloMosaic Idealize.ShloMosaic.TcCoe Idealize.SL.Sem Idealize.ShloMosaic.StableHlo

variable {F : FTy → Type} [FloatOps F]

/-- The stream after the feed-forward layer is added to it. -/
def stream (a : FVec F S16384x5632 .bf16) (x : FVec F S4x4096x2048 .f32) (md : FVec F S8x12288 .f32)
    (w : FVec F S5632x2048 .f32) : FVec F S4x4096x2048 .f32 :=
  addf x (mulf (broadcastInDim S4x4096x2048 ![0, 1, 2] bcast_S4x1x2048_S4x4096x2048_0_1_2 (extractStridedSlice S4x1x2048 ![0, 0, 10240] (broadcastInDim S4x1x12288 ![0, 2] bcast_S4x12288_S4x1x12288_0_2 (extractStridedSlice S4x12288 ![0, 0] md slices_S8x12288_S4x12288_0_0)) slices_S4x1x12288_S4x1x2048_0_0_10240)) (Host.dotGeneral dot_S4x4096x5632_S5632x2048_S4x4096x2048_2_0_01_1_n_n none (extf .f32 (shapeCast _ a shapeCasts_S16384x5632_S4x4096x5632) bitsLt_bf16_f32) w))

/-- The stream over its root mean square, scaled. -/
def normed (g : FVec F S2048 .f32) (y : FVec F S4x4096x2048 .f32) : FVec F S16384x2048 .f32 :=
  shapeCast _ (mulf (mulf y (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf y y) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) shapeCasts_S4x4096x2048_S16384x2048

variable (a : FVec Ideal S16384x5632 .bf16) (x : FVec Ideal S4x4096x2048 .f32) (md : FVec Ideal S8x12288 .f32)
  (w : FVec Ideal S5632x2048 .f32) (g : FVec Ideal S2048 .f32)

theorem stream_at (b : Fin 4) (p : Fin 4096) (e : Fin 2048) :
    stream a x md w (ix3 b p e) = (x (ix3 b p e) + md (ix2 (⟨b.val, by omega⟩ : Fin 8) (⟨10240 + e.val, by omega⟩ : Fin 12288)) *
      ∑ k : Fin 5632, a (ix2 (⟨b.val * 4096 + p.val, by omega⟩ : Fin 16384) k) * w (ix2 k e) : EReal) := by
  unfold stream
  pointwise

theorem normed_row (y : FVec Ideal S4x4096x2048 .f32) (b : Fin 4) (p : Fin 4096) (e : Fin 2048) :
    normed g y (ix2 (⟨4096 * b.val + p.val, by omega⟩ : Fin 16384) e) = (y (ix3 b p e) *
      Ideal.rsqrt (Ideal.div (∑ o : Fin 2048, y (ix3 b p o) * y (ix3 b p o)) (Ideal.ofBits FTy.f32 0x45000000#32) +
        Ideal.ofBits FTy.f32 0x358637BD#32) * g (ix1 e) : EReal) := by
  unfold normed
  pointwise

/-- The result at an index whose coordinates are those of row `p` of sequence `b` and column `e`. -/
theorem normed_at (y : FVec Ideal S4x4096x2048 .f32) (b : Fin 4) (p : Fin 4096) (e : Fin 2048) (q : S16384x2048.Idx)
    (hr : (q 0).val = 4096 * b.val + p.val) (he : (q 1).val = e.val) :
    normed g y q = (y (ix3 b p e) *
      Ideal.rsqrt (Ideal.div (∑ o : Fin 2048, y (ix3 b p o) * y (ix3 b p o)) (Ideal.ofBits FTy.f32 0x45000000#32) +
        Ideal.ofBits FTy.f32 0x358637BD#32) * g (ix1 e) : EReal) := by
  refine .trans (congrArg _ ?_) (normed_row g y b p e)
  funext d
  fin_cases d
  · exact Fin.ext hr
  · exact Fin.ext he

end Cert.Reference2Ideal.Value

end
-- ==== Proof.DownKernel.lean ====
/- The second half of the feed-forward layer as the kernel computes it: each grid point's block of rows is the
   reference's rows. -/
module

public import proofs.«01_k».proof.Proof.Gen.Kernel2Ideal.Value
public import proofs.«01_k».proof.Proof.DownReference

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The grid point whose rows are block `n` of sequence `b`. -/
def pt (b : Fin 4) (n : Fin 8) : Fin cfg0.N := ⟨8 * b.val + n.val, lt_of_lt_of_eq (by omega : 8 * b.val + n.val < 32) N_0.symm⟩

theorem point_eq (t : Fin cfg0.N) : ∃ b n, t = pt b n := by
  have ht : t.val < 32 := lt_of_lt_of_eq t.isLt N_0
  exact ⟨⟨t.val / 8, by omega⟩, ⟨t.val % 8, by omega⟩, Fin.ext (by show t.val = 8 * (t.val / 8) + t.val % 8; omega)⟩

theorem index : ∀ (b : Fin 4) (n : Fin 8),
    win0_0.index (pt b n) = ![8 * b.val + n.val, 0] ∧ win0_1.index (pt b n) = ![0, 0] ∧
    win0_2.index (pt b n) = ![8 * b.val + n.val, 0] ∧ win0_3.index (pt b n) = ![b.val, 0, 5] ∧
    win0_4.index (pt b n) = ![0, 0] ∧ win0_5.index (pt b n) = ![8 * b.val + n.val, 0] := by decide +kernel

/-- Row `i` of block `n` in its sequence. -/
def rowIn (n : Fin 8) (i : Fin 512) : Fin 4096 := ⟨512 * n.val + i.val, by omega⟩

theorem host_act (r : Fin 16384) (k : Fin 5632) :
    V m c (Pipeline.arrRef spec0 0) (ix2 r k) = m ((c : Thread nD τ).loc main_arg0) (ix2 r k) := by
  unfold V
  after_reads_at

theorem host_weight (k : Fin 5632) (e : Fin 2048) :
    V m c (Pipeline.arrRef spec0 1) (ix2 k e) = m ((c : Thread nD τ).loc main_arg3) (ix2 k e) := by
  unfold V
  after_reads_at

theorem host_stream (b : Fin 4) (p : Fin 4096) (e : Fin 2048) :
    V m c (Pipeline.arrRef spec0 2) (ix2 (⟨4096 * b.val + p.val, by omega⟩ : Fin 16384) e) =
      m ((c : Thread nD τ).loc main_arg1) (ix3 b p e) := by
  unfold V
  after_reads_at

theorem host_mod (b : Fin 8) (e : Fin 12288) :
    V m c (Pipeline.arrRef spec0 3) (ix3 b (0 : Fin 1) e) = m ((c : Thread nD τ).loc main_arg2) (ix2 b e) := by
  unfold V
  after_reads_at

theorem host_scale (e : Fin 2048) :
    V m c (Pipeline.arrRef spec0 4) (ix2 (0 : Fin 1) e) = m ((c : Thread nD τ).loc main_arg4) (ix1 e) := by
  unfold V
  after_reads_at

variable (b : Fin 4) (n : Fin 8) (i : Fin 512) (e : Fin 2048)

theorem block_act (k : Fin 5632) : iblk m c 0 (pt b n) (ix2 i k) =
    m ((c : Thread nD τ).loc main_arg0) (ix2 (⟨b.val * 4096 + (rowIn n i).val, by omega⟩ : Fin 16384) k) := by
  refine .trans ?_ (host_act m c _ k)
  unfold rowIn
  blk_ext [iblk, (index b n).1]

theorem block_weight (k : Fin 5632) : iblk m c 1 (pt b n) (ix2 k e) = m ((c : Thread nD τ).loc main_arg3) (ix2 k e) := by
  refine .trans ?_ (host_weight m c k e)
  blk_ext [iblk, (index b n).2.1]

theorem block_stream : iblk m c 2 (pt b n) (ix2 i e) = m ((c : Thread nD τ).loc main_arg1) (ix3 b (rowIn n i) e) := by
  refine .trans ?_ (host_stream m c b (rowIn n i) e)
  unfold rowIn
  blk_ext [iblk, (index b n).2.2.1]

theorem block_mod : iblk m c 3 (pt b n) (ix3 (0 : Fin 1) (0 : Fin 1) e) =
    m ((c : Thread nD τ).loc main_arg2) (ix2 (⟨b.val, by omega⟩ : Fin 8) (⟨10240 + e.val, by omega⟩ : Fin 12288)) := by
  refine .trans ?_ (host_mod m c _ _)
  blk_ext [iblk, (index b n).2.2.2.1]

theorem block_scale : iblk m c 4 (pt b n) (ix2 (0 : Fin 1) e) = m ((c : Thread nD τ).loc main_arg4) (ix1 e) := by
  refine .trans ?_ (host_scale m c e)
  blk_ext [iblk, (index b n).2.2.2.2.1]

/-- What the kernel puts at an entry of a block, from the blocks it loads. -/
theorem payload_at (x : Vec Ideal S512x2048 .f32) (ga : Vec Ideal S1x1x2048 .f32) (a : Vec Ideal S512x5632 .bf16)
    (w : Vec Ideal S5632x2048 .bf16) (g : Vec Ideal S1x2048 .f32) (y : Fin 2048 → EReal)
    (hy : ∀ o, (x (ix2 i o) + ga (ix3 (0 : Fin 1) (0 : Fin 1) o) * ∑ k : Fin 5632, a (ix2 i k) * w (ix2 k o) : EReal) = y o) :
    k0_pay1 x ga a w g (ix2 i e) = (y e * Ideal.rsqrt (Ideal.div (∑ o : Fin 2048, y o * y o) (Ideal.ofBits FTy.f32 0x45000000#32) +
        Ideal.ofBits FTy.f32 0x358637BD#32) * g (ix2 (0 : Fin 1) e) : EReal) := by
  obtain rfl : _ = y := funext hy
  unfold k0_pay1
  pointwise

theorem zeros2 : (![0, 0] : Fin 2 → Nat) = fun _ => 0 := by funext d; fin_cases d <;> rfl

theorem zeros3 : (![0, 0, 0] : Fin 3 → Nat) = fun _ => 0 := by funext d; fin_cases d <;> rfl

/-- The reference's result over the kernel's arguments. -/
def result : Vec Ideal S16384x2048 .f32 :=
  Reference2Ideal.Value.normed (F := Ideal) (m ((c : Thread nD τ).loc main_arg4)) (Reference2Ideal.Value.stream (F := Ideal) (m ((c : Thread nD τ).loc main_arg0))
    (m ((c : Thread nD τ).loc main_arg1)) (m ((c : Thread nD τ).loc main_arg2)) (m ((c : Thread nD τ).loc main_arg3)))

theorem block_at (q : S16384x2048.Idx) (hr : (q 0).val = 4096 * b.val + (rowIn n i).val) (he : (q 1).val = e.val) :
    out0_5 (iblk m c 0 (pt b n)) (iblk m c 1 (pt b n)) (iblk m c 2 (pt b n)) (iblk m c 3 (pt b n)) (iblk m c 4 (pt b n)) (ix2 i e) =
      result m c q := by
  refine .trans ?_ (Reference2Ideal.Value.normed_at _ _ b (rowIn n i) e q hr he).symm
  unfold out0_5
  rw [View.canon_unit_zero zeros2, View.ld_unit_zero zeros2, View.ld_unit_zero zeros3, View.ld_unit_zero zeros2,
    View.ld_unit_zero zeros2, View.ld_unit_zero zeros2]
  refine (payload_at i e _ _ _ _ _ (fun o => Reference2Ideal.Value.stream (F := Ideal) _ _ _ _ (ix3 b (rowIn n i) o)) fun o => ?_).trans
    (congrArg₂ (fun u v : EReal => u * v) rfl (block_scale m c b n e))
  refine .trans ?_ (Reference2Ideal.Value.stream_at _ _ _ _ b (rowIn n i) o).symm
  refine congrArg₂ (fun u v : EReal => u + v) (block_stream m c b n i o) (congrArg₂ (fun u v : EReal => u * v) (block_mod m c b n o) ?_)
  exact Finset.sum_congr rfl fun k _ => congrArg₂ (fun u v : EReal => u * v) (block_act m c b n i k) (block_weight m c b n o k)

theorem block_eq (y : S512x2048.Idx) (q : S16384x2048.Idx) (hr : (q 0).val = 4096 * b.val + (512 * n.val + (y 0).val))
    (he : (q 1).val = (y 1).val) :
    (dats m 0 c).after 5 (pt b n) y = result m c q := by
  rw [after0_5, ← ix2_eta y]
  exact block_at m c b n (y 0) (y 1) q hr he

attribute [irreducible] result

/-- The kernel's result is the reference's. -/
theorem array : (dats m 0 c).arrAt 5 cfg0.N = result m c := by
  refine (dats m 0 c).arrAt_eq_of_covers 5 (result m c) (by decide +kernel) fun t hf y => ?_
  obtain ⟨b, n, rfl⟩ := point_eq t
  refine block_eq m c b n y _ ?_ ?_
  · blk_simp [(index b n).2.2.2.2.2]
    try omega
  · blk_simp [(index b n).2.2.2.2.2]

end Cert.Kernel2Ideal.Value

end
-- ==== Proof.UpReference.lean ====
/- The first half of the feed-forward layer as the reference computes it, read at an entry. -/
module

public import proofs.«01_k».proof.Proof.Gen.Reference3Ideal.Run
public import Idealize.ShloMosaic.Lib.Pipeline.ValueKit
public import Idealize.ShloMosaic.Lib.ValueIdxCore
public import Idealize.ShloMosaic.Lib.StableHlo.ReadAt

@[expose] public section

set_option maxRecDepth 16384

noncomputable section

namespace Cert.Reference3Ideal.Value

open Cert.Reference3Ideal Cert.Reference3Ideal.Gen Idealize.ShloMosaic Idealize.ShloMosaic.TcCoe Idealize.SL.Sem Idealize.ShloMosaic.StableHlo

section

variable {F : FTy → Type} [FloatOps F]

/-- The stream over its root mean square, scaled, then modulated. -/
def modulated (x : FVec F S4x4096x2048 .f32) (md : FVec F S8x12288 .f32) (g : FVec F S2048 .f32) : FVec F S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) (extractStridedSlice S4x1x2048 ![0, 0, 8192] (broadcastInDim S4x1x12288 ![0, 2] bcast_S4x12288_S4x1x12288_0_2 (extractStridedSlice S4x12288 ![0, 0] md slices_S8x12288_S4x12288_0_0)) slices_S4x1x12288_S4x1x2048_0_0_8192)))) (broadcastInDim S4x4096x2048 ![0, 1, 2] bcast_S4x1x2048_S4x4096x2048_0_1_2 (extractStridedSlice S4x1x2048 ![0, 0, 6144] (broadcastInDim S4x1x12288 ![0, 2] bcast_S4x12288_S4x1x12288_0_2 (extractStridedSlice S4x12288 ![0, 0] md slices_S8x12288_S4x12288_0_0)) slices_S4x1x12288_S4x1x2048_0_0_6144))

/-- The gates and the values: one product. -/
def product (h : FVec F S4x4096x2048 .f32) (w : FVec F S2048x11264 .f32) : FVec F S4x4096x11264 .f32 :=
  Host.dotGeneral dot_S4x4096x2048_S2048x11264_S4x4096x11264_2_0_01_1_n_n none h w

/-- The values times the smoothly rectified gates. -/
def gated (p : FVec F S4x4096x11264 .f32) : FVec F S16384x5632 .bf16 :=
  truncf .bf16 (shapeCast _ (mulf (mulf (extractStridedSlice S4x4096x5632 ![0, 0, 0] p slices_S4x4096x11264_S4x4096x5632_0_0_0) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (extractStridedSlice S4x4096x5632 ![0, 0, 0] p slices_S4x4096x11264_S4x4096x5632_0_0_0)))))) (extractStridedSlice S4x4096x5632 ![0, 0, 5632] p slices_S4x4096x11264_S4x4096x5632_0_0_5632)) shapeCasts_S4x4096x5632_S16384x5632) bitsLt_bf16_f32

theorem result_eq (m : (ℓ : Loc nD τ sig) → Buf (Elt F) ℓ) (c : Dev nD) : res_main_v33 m c =
    gated (product (modulated (m ((c.tc : Thread nD τ).loc main_arg0)) (m ((c.tc : Thread nD τ).loc main_arg1))
      (m ((c.tc : Thread nD τ).loc main_arg2))) (m ((c.tc : Thread nD τ).loc main_arg3))) := rfl

end

variable (x : FVec Ideal S4x4096x2048 .f32) (md : FVec Ideal S8x12288 .f32)
  (w : FVec Ideal S2048x11264 .f32) (g : FVec Ideal S2048 .f32)

theorem modulated_at (b : Fin 4) (p : Fin 4096) (e : Fin 2048) :
    modulated x md g (ix3 b p e) = (x (ix3 b p e) *
      Ideal.rsqrt (Ideal.div (∑ o : Fin 2048, x (ix3 b p o) * x (ix3 b p o)) (Ideal.ofBits FTy.f32 0x45000000#32) +
        Ideal.ofBits FTy.f32 0x358637BD#32) * g (ix1 e) *
      (Ideal.ofBits FTy.f32 0x3F800000#32 + md (ix2 (⟨b.val, by omega⟩ : Fin 8) (⟨8192 + e.val, by omega⟩ : Fin 12288))) +
        md (ix2 (⟨b.val, by omega⟩ : Fin 8) (⟨6144 + e.val, by omega⟩ : Fin 12288)) : EReal) := by
  unfold modulated
  pointwise

theorem product_at (h : FVec Ideal S4x4096x2048 .f32) (b : Fin 4) (p : Fin 4096) (e : Fin 11264) :
    product h w (ix3 b p e) = (∑ k : Fin 2048, h (ix3 b p k) * w (ix2 k e) : EReal) := by
  unfold product
  pointwise

/-- The smoothly rectified `u` times `v`. -/
def gate (u v : EReal) : EReal := u * Ideal.div 1 (1 + Ideal.exp (-u)) * v

theorem gated_row (q : FVec Ideal S4x4096x11264 .f32) (b : Fin 4) (p : Fin 4096) (e : Fin 5632) :
    gated q (ix2 (⟨4096 * b.val + p.val, by omega⟩ : Fin 16384) e) =
      gate (q (ix3 b p (⟨e.val, by omega⟩ : Fin 11264))) (q (ix3 b p (⟨5632 + e.val, by omega⟩ : Fin 11264))) := by
  unfold gated gate
  pointwise

end Cert.Reference3Ideal.Value

end
-- ==== Proof.UpKernel.lean ====
/- The first half of the feed-forward layer as the kernel computes it. -/
module

public import proofs.«01_k».proof.Proof.Gen.Kernel3Ideal.Frame
public import proofs.«01_k».proof.Proof.UpReference

@[expose] public section

set_option maxRecDepth 16384

noncomputable section

namespace Cert.Kernel3Ideal.Gen

open Cert.Kernel3Ideal Idealize.ShloMosaic Idealize.ShloMosaic.TcCoe Idealize.SL.Sem

section
variable {F : FTy → Type} [FloatOps F]

/-- A tile of the result from a tile's rows of the modulated stream and its columns of the two weights. -/
def tile (h : Vec F S512x2048 .bf16) (wg wu : Vec F S2048x256 .bf16) : FVec F S512x256 .bf16 := k0_pay5 h wg wu

theorem tile_second (h : Vec F S512x2048 .bf16) (wg wu : Vec F S2048x256 .bf16) :
    k0_pay6 (k0_pay3 h wg) (k0_pay4 h wu) = tile h wg wu := rfl

theorem tile_third (h : Vec F S512x2048 .bf16) (wg wu : Vec F S2048x256 .bf16) : k0_pay9 h wg wu = tile h wg wu := rfl

theorem tile_last (h : Vec F S512x2048 .bf16) (wg wu : Vec F S2048x256 .bf16) :
    k0_pay1 (k0_pay7 h wg) (k0_pay8 h wu) (Scalar.ofBits .f32 0x00000000#32) = tile h wg wu := rfl

/-- The tile's rows of the modulated stream, and its columns of a weight. -/
def rowPart (h : Vec F S1024x2048 .bf16) (i : Fin 2) : Vec F S512x2048 .bf16 :=
  match i with
  | 0 => View.ld h (Rect.unit ![0, 0] S512x2048.size inb_S1024x2048_S512x2048_0_0)
  | 1 => View.ld h (Rect.unit ![512, 0] S512x2048.size inb_S1024x2048_S512x2048_512_0)

def colPart (w : Vec F S2048x512 .bf16) (j : Fin 2) : Vec F S2048x256 .bf16 :=
  match j with
  | 0 => View.ld w (Rect.unit ![0, 0] S2048x256.size inb_S2048x512_S2048x256_0_0)
  | 1 => View.ld w (Rect.unit ![0, 256] S2048x256.size inb_S2048x512_S2048x256_0_256)

/-- The stores of a block of the result, the last one's first. -/
def pieces (h : Fin 2 → Vec F S512x2048 .bf16) (wg wu : Vec F S2048x512 .bf16) : List (View.Piece (Elt F) S1024x512 .bf16) :=
  [⟨Rect.unit ![512, 256] S512x256.size inb_S1024x512_S512x256_512_256, tile (h 1) (colPart wg 1) (colPart wu 1)⟩,
   ⟨Rect.unit ![0, 256] S512x256.size inb_S1024x512_S512x256_0_256, tile (h 0) (colPart wg 1) (colPart wu 1)⟩,
   ⟨Rect.unit ![512, 0] S512x256.size inb_S1024x512_S512x256_512_0, tile (h 1) (colPart wg 0) (colPart wu 0)⟩,
   ⟨Rect.unit ![0, 0] S512x256.size inb_S1024x512_S512x256_0_0, tile (h 0) (colPart wg 0) (colPart wu 0)⟩]

theorem pieces_cover (h : Fin 2 → Vec F S512x2048 .bf16) (wg wu : Vec F S2048x512 .bf16) (y : S1024x512.Idx) :
    ∃ p ∈ pieces h wg wu, y ∈ p.1.set :=
  View.cover_of_tiledL (pieces h wg wu) S512x256.size (by sl_kernel_rfl) y

end

open Reference3Ideal.Value (gate)

theorem tile_at (h : Vec Ideal S512x2048 .bf16) (wg wu : Vec Ideal S2048x256 .bf16) (i : Fin 512) (e : Fin 256) :
    tile h wg wu (ix2 i e) = gate (∑ k : Fin 2048, h (ix2 i k) * wg (ix2 k e) : EReal) (∑ k : Fin 2048, h (ix2 i k) * wu (ix2 k e) : EReal) := by
  unfold tile k0_pay5 gate
  pointwise
  rw [zero_sub]

theorem normed_at (x : Vec Ideal S1024x2048 .f32) (g : Vec Ideal S1x2048 .f32) (sc sh : Vec Ideal S1x1x2048 .f32) (i : Fin 1024) (e : Fin 2048) :
    k0_pay2 x g sc sh (ix2 i e) = (x (ix2 i e) *
      Ideal.rsqrt (Ideal.div (∑ o : Fin 2048, x (ix2 i o) * x (ix2 i o)) (Ideal.ofBits FTy.f32 0x45000000#32) +
        Ideal.ofBits FTy.f32 0x358637BD#32) * g (ix2 (0 : Fin 1) e) *
      (Ideal.ofBits FTy.f32 0x3F800000#32 + sc (ix3 (0 : Fin 1) (0 : Fin 1) e)) + sh (ix3 (0 : Fin 1) (0 : Fin 1) e) : EReal) := by
  unfold k0_pay2
  pointwise

/-- An entry of a block of the result. -/
def entry (h : Vec Ideal S1024x2048 .bf16) (wg wu : Vec Ideal S2048x512 .bf16) : Vec Ideal S1024x512 .bf16 := fun y =>
  gate (∑ k : Fin 2048, h (ix2 (y 0) k) * wg (ix2 k (y 1)) : EReal) (∑ k : Fin 2048, h (ix2 (y 0) k) * wu (ix2 k (y 1)) : EReal)

theorem tile_entry (h : Vec Ideal S1024x2048 .bf16) (wg wu : Vec Ideal S2048x512 .bf16) (i j : Fin 2) (x : S512x256.Idx) (y : S1024x512.Idx)
    (h0 : (y 0).val = 512 * i.val + (x 0).val) (h1 : (y 1).val = 256 * j.val + (x 1).val) :
    tile (rowPart h i) (colPart wg j) (colPart wu j) x = entry h wg wu y := by
  have hrow : ∀ k : Fin 2048, rowPart h i (ix2 (x 0) k) = h (ix2 (y 0) k) := fun k => by
    unfold rowPart
    fin_cases i <;> refine congrArg h (funext fun d => ?_) <;> fin_cases d <;> apply Fin.ext <;>
      simp [Rect.unit, ix2, h0] <;> omega
  have hcol : ∀ (w : Vec Ideal S2048x512 .bf16) (k : Fin 2048), colPart w j (ix2 k (x 1)) = w (ix2 k (y 1)) := fun w k => by
    unfold colPart
    fin_cases j <;> refine congrArg w (funext fun d => ?_) <;> fin_cases d <;> apply Fin.ext <;>
      simp [Rect.unit, ix2, h1] <;> omega
  rw [← ix2_eta x]
  refine (tile_at _ _ _ _ _).trans ?_
  unfold entry
  exact congrArg₂ gate (Finset.sum_congr rfl fun k _ => congrArg₂ (fun u v : EReal => u * v) (hrow k) (hcol wg k))
    (Finset.sum_congr rfl fun k _ => congrArg₂ (fun u v : EReal => u * v) (hrow k) (hcol wu k))

theorem pieces_at (h : Vec Ideal S1024x2048 .bf16) (wg wu : Vec Ideal S2048x512 .bf16) :
    View.canon (pieces (rowPart h) wg wu) = entry h wg wu := by
  funext y
  refine View.canon_apply_of_pieces (Val := Elt Ideal) (entry h wg wu) _ ?_ y (pieces_cover _ _ _ y)
  intro p hp x
  simp only [pieces, List.mem_cons, List.not_mem_nil, or_false] at hp
  obtain rfl | rfl | rfl | rfl := hp
  · exact tile_entry h wg wu 1 1 x _ (congrArg (512 + ·) (Nat.one_mul _)) (congrArg (256 + ·) (Nat.one_mul _))
  · exact tile_entry h wg wu 0 1 x _ (congrArg (0 + ·) (Nat.one_mul _)) (congrArg (256 + ·) (Nat.one_mul _))
  · exact tile_entry h wg wu 1 0 x _ (congrArg (512 + ·) (Nat.one_mul _)) (congrArg (0 + ·) (Nat.one_mul _))
  · exact tile_entry h wg wu 0 0 x _ (congrArg (0 + ·) (Nat.one_mul _)) (congrArg (0 + ·) (Nat.one_mul _))

end Cert.Kernel3Ideal.Gen

end
-- ==== Proof.UpStores.lean ====
/- The stores of the first half of the feed-forward layer, point by point. -/
module

public import proofs.«01_k».proof.Proof.UpKernel

@[expose] public section

set_option maxRecDepth 16384

noncomputable section

namespace Cert.Kernel3Ideal.Gen

open Cert.Kernel3Ideal Idealize.ShloMosaic Idealize.ShloMosaic.TcCoe Idealize.SL.Sem

variable {F : FTy → Type} [FloatOps F]

section

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1024x512 .bf16) (harg8 : arg8.IsWhole) (arg9 : Memref sig .tc .vmem S1024x2048 .bf16) (harg9 : arg9.IsWhole)
  (x0 : Vec F S1024x2048 .f32) (x1 : Vec F S1x2048 .f32) (x2 : Vec F S1x1x2048 .f32) (x3 : Vec F S1x1x2048 .f32) (x4 : Vec F S2048x512 .bf16) (x5 : Vec F S2048x512 .bf16)

/-- The store of the modulated stream. -/
def carried (x0 : Vec F S1024x2048 .f32) (x1 : Vec F S1x2048 .f32) (x2 : Vec F S1x1x2048 .f32) (x3 : Vec F S1x1x2048 .f32) :
    List (View.Piece (Elt F) S1024x2048 .bf16) :=
  [⟨Rect.unit ![0, 0] S1024x2048.size inb_S1024x2048_S1024x2048_0_0,
    k0_pay2 (View.ld x0 (Rect.unit ![0, 0] S1024x2048.size inb_S1024x2048_S1024x2048_0_0))
      (View.ld x1 (Rect.unit ![0, 0] S1x2048.size inb_S1x2048_S1x2048_0_0))
      (View.ld x2 (Rect.unit ![0, 0, 0] S1x1x2048.size inb_S1x1x2048_S1x1x2048_0_0_0))
      (View.ld x3 (Rect.unit ![0, 0, 0] S1x1x2048.size inb_S1x1x2048_S1x1x2048_0_0_0))⟩]

theorem carried_eq [∀ e, Nonempty (Elt F e)] : View.canon (carried x0 x1 x2 x3) = k0_pay2 x0 x1 x2 x3 := by
  have z2 : (![0, 0] : Fin 2 → Nat) = fun _ => 0 := by funext d; fin_cases d <;> rfl
  have z3 : (![0, 0, 0] : Fin 3 → Nat) = fun _ => 0 := by funext d; fin_cases d <;> rfl
  unfold carried
  rw [View.canon_unit_zero z2, View.ld_unit_zero z2, View.ld_unit_zero z2, View.ld_unit_zero z3, View.ld_unit_zero z3]

/-- What a point reads back of the modulated stream that it has just stored. -/
def readBack (v : View sig .tc .vmem S1024x2048 .bf16) (L : List (View.Piece (Elt F) S1024x2048 .bf16)) (i : Fin 2) : Vec F S512x2048 .bf16 :=
  match i with
  | 0 => v.readCov L (Rect.unit (s := S1024x2048) ![0, 0] S512x2048.size inb_S1024x2048_S512x2048_0_0).toLoadRect
  | 1 => v.readCov L (Rect.unit (s := S1024x2048) ![512, 0] S512x2048.size inb_S1024x2048_S512x2048_512_0).toLoadRect

theorem readBack_eq [∀ e, Nonempty (Elt F e)] (v : View sig .tc .vmem S1024x2048 .bf16) (L : List (View.Piece (Elt F) S1024x2048 .bf16)) :
    readBack v L = rowPart (View.canon L) := by
  funext i
  unfold readBack rowPart
  fin_cases i
  · exact View.readCov_eq_canon' v L _
  · exact View.readCov_eq_canon' v L _

theorem storesA (hc0 : cond0_0 i) : (kernelRun0_A (F := F) c i arg2 harg2 arg3 harg3 arg4 harg4 arg5 harg5 arg6 harg6 arg7 harg7 arg8 harg8 arg9 harg9 hc0 x0 x1 x2 x3 x4 x5).1 =
    pieces (readBack arg9.view (carried (arg2.view.read (Elt F) (harg2.unread x0)) (arg3.view.read (Elt F) (harg3.unread x1))
      (arg4.view.read (Elt F) (harg4.unread x2)) (arg5.view.read (Elt F) (harg5.unread x3))))
      (arg6.view.read (Elt F) (harg6.unread x4)) (arg7.view.read (Elt F) (harg7.unread x5)) := by
  sl_kernel_rfl

theorem carriedA (hc0 : cond0_0 i) : (kernelRun0_A (F := F) c i arg2 harg2 arg3 harg3 arg4 harg4 arg5 harg5 arg6 harg6 arg7 harg7 arg8 harg8 arg9 harg9 hc0 x0 x1 x2 x3 x4 x5).2.1 =
    carried (arg2.view.read (Elt F) (harg2.unread x0)) (arg3.view.read (Elt F) (harg3.unread x1))
      (arg4.view.read (Elt F) (harg4.unread x2)) (arg5.view.read (Elt F) (harg5.unread x3)) := by
  sl_kernel_rfl

theorem storesB (hc0 : ¬cond0_0 i) (xs0 : Vec F S1024x2048 .bf16) : (kernelRun0_B (F := F) c i arg2 harg2 arg3 harg3 arg4 harg4 arg5 harg5 arg6 harg6 arg7 harg7 arg8 harg8 arg9 harg9 hc0 x0 x1 x2 x3 x4 x5 xs0).1 =
    pieces (rowPart (arg9.view.read (Elt F) (harg9.unread xs0)))
      (arg6.view.read (Elt F) (harg6.unread x4)) (arg7.view.read (Elt F) (harg7.unread x5)) := by
  sl_kernel_rfl

end

variable (m : (ℓ : Loc nD τ sig) → Buf (Elt Ideal) ℓ) (c : Dev nD)

/-- The modulated rows of point `t`. -/
def rows (t : Fin cfg0.N) : Vec Ideal S1024x2048 .bf16 :=
  k0_pay2 (F := Ideal) (iblk m c 0 t) (iblk m c 1 t) (iblk m c 2 t) (iblk m c 3 t)

/-- A first point of a row stores the modulated rows and uses them. -/
theorem outs_first (t : Fin cfg0.N) (h0 : t.val % 11 = 0) :
    outsAt0 m c t.val t.isLt = (entry (rows m c t) (iblk m c 4 t) (iblk m c 5 t), rows m c t) := by
  rw [outsAt0_A m c t h0]
  refine Prod.ext ?_ ?_
  · dsimp only
    unfold out0_A_6
    refine (View.read_writes_junk_eq_canon _ _).trans ?_
    rw [storesA, readBack_eq, carried_eq, pieces_at]
    simp only [Memref.IsWhole.read_unread]
    rfl
  · dsimp only
    unfold sout0_A_0
    refine (View.read_writes_junk_eq_canon _ _).trans ?_
    rw [carriedA, carried_eq]
    simp only [Memref.IsWhole.read_unread]
    rfl

/-- A later point uses what the point before left, and leaves it. -/
theorem outs_later (t : Fin cfg0.N) (h0 : ¬t.val % 11 = 0) (h : Vec Ideal S1024x2048 .bf16)
    (hh : (outsAt0 m c (t.val - 1) (Nat.lt_of_le_of_lt (Nat.sub_le _ _) t.isLt)).2 = h) :
    outsAt0 m c t.val t.isLt = (entry h (iblk m c 4 t) (iblk m c 5 t), h) := by
  rw [outsAt0_B m c t h0, hh]
  refine Prod.ext ?_ rfl
  dsimp only
  unfold out0_B_6
  refine (View.read_writes_junk_eq_canon _ _).trans ?_
  rw [storesB, pieces_at]
  simp only [Memref.IsWhole.read_unread]
  exact congrArg (fun z => entry z (iblk m c 4 t) (iblk m c 5 t)) ((Memref.isWhole_whole cc0_scratch0).read_unread h)

end Cert.Kernel3Ideal.Gen

end
-- ==== Proof.UpArrays.lean ====
/- The first half of the feed-forward layer: each grid point's block of the kernel's result is the reference's. -/
module

public import proofs.«01_k».proof.Proof.UpStores
public import proofs.«01_k».proof.Proof.Gen.Kernel3Ideal.Value

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Reference3Ideal.Value (gate gated product modulated gated_row product_at modulated_at)

variable (m : (ℓ : Loc nD τ sig) → Buf (Elt Ideal) ℓ) (c : Dev nD)

/-- The grid point whose rows are block `n` of sequence `b` and whose columns are block `j`. -/
def pt (b n : Fin 4) (j : Fin 11) : Fin cfg0.N :=
  ⟨11 * (4 * b.val + n.val) + j.val, lt_of_lt_of_eq (by omega : 11 * (4 * b.val + n.val) + j.val < 176) N_0.symm⟩

theorem point_eq (t : Fin cfg0.N) : ∃ b n j, t = pt b n j := by
  have ht : t.val < 176 := lt_of_lt_of_eq t.isLt N_0
  exact ⟨⟨t.val / 44, by omega⟩, ⟨t.val / 11 % 4, by omega⟩, ⟨t.val % 11, by omega⟩,
    Fin.ext (by show t.val = 11 * (4 * (t.val / 44) + t.val / 11 % 4) + t.val % 11; omega)⟩

theorem index : ∀ (b n : Fin 4) (j : Fin 11),
    win0_0.index (pt b n j) = ![4 * b.val + n.val, 0] ∧ win0_1.index (pt b n j) = ![0, 0] ∧
    win0_2.index (pt b n j) = ![b.val, 0, 4] ∧ win0_3.index (pt b n j) = ![b.val, 0, 3] ∧
    win0_4.index (pt b n j) = ![0, j.val] ∧ win0_5.index (pt b n j) = ![0, 11 + j.val] ∧
    win0_6.index (pt b n j) = ![4 * b.val + n.val, j.val] := by decide +kernel

/-- Row `i` of block `n` in its sequence, and column `e` of block `j`. -/
def rowIn (n : Fin 4) (i : Fin 1024) : Fin 4096 := ⟨1024 * n.val + i.val, by omega⟩
def colIn (j : Fin 11) (e : Fin 512) : Fin 5632 := ⟨512 * j.val + e.val, by omega⟩

theorem host_stream (b : Fin 4) (p : Fin 4096) (e : Fin 2048) :
    V m c (Pipeline.arrRef spec0 0) (ix2 (⟨4096 * b.val + p.val, by omega⟩ : Fin 16384) e) =
      m ((c : Thread nD τ).loc main_arg0) (ix3 b p e) := by
  unfold V
  after_reads_at

theorem host_scale (e : Fin 2048) :
    V m c (Pipeline.arrRef spec0 1) (ix2 (0 : Fin 1) e) = m ((c : Thread nD τ).loc main_arg2) (ix1 e) := by
  unfold V
  after_reads_at

theorem host_mod (b : Fin 8) (e : Fin 12288) :
    V m c (Pipeline.arrRef spec0 2) (ix3 b (0 : Fin 1) e) = m ((c : Thread nD τ).loc main_arg1) (ix2 b e) := by
  unfold V
  after_reads_at

theorem host_weight (k : Fin 2048) (e : Fin 11264) :
    V m c (Pipeline.arrRef spec0 4) (ix2 k e) = m ((c : Thread nD τ).loc main_arg3) (ix2 k e) := by
  unfold V
  after_reads_at

variable (b n : Fin 4) (j : Fin 11) (i : Fin 1024) (k : Fin 2048) (e : Fin 512)

theorem block_stream : iblk m c 0 (pt b n j) (ix2 i k) = m ((c : Thread nD τ).loc main_arg0) (ix3 b (rowIn n i) k) := by
  refine .trans ?_ (host_stream m c b (rowIn n i) k)
  unfold rowIn
  blk_ext [iblk, (index b n j).1]

theorem block_scale : iblk m c 1 (pt b n j) (ix2 (0 : Fin 1) k) = m ((c : Thread nD τ).loc main_arg2) (ix1 k) := by
  refine .trans ?_ (host_scale m c k)
  blk_ext [iblk, (index b n j).2.1]

theorem block_factor : iblk m c 2 (pt b n j) (ix3 (0 : Fin 1) (0 : Fin 1) k) =
    m ((c : Thread nD τ).loc main_arg1) (ix2 (⟨b.val, by omega⟩ : Fin 8) (⟨8192 + k.val, by omega⟩ : Fin 12288)) := by
  refine .trans ?_ (host_mod m c _ _)
  blk_ext [iblk, (index b n j).2.2.1]

theorem block_shift : iblk m c 3 (pt b n j) (ix3 (0 : Fin 1) (0 : Fin 1) k) =
    m ((c : Thread nD τ).loc main_arg1) (ix2 (⟨b.val, by omega⟩ : Fin 8) (⟨6144 + k.val, by omega⟩ : Fin 12288)) := by
  refine .trans ?_ (host_mod m c _ _)
  blk_ext [iblk, (index b n j).2.2.2.1]

theorem block_gates : iblk m c 4 (pt b n j) (ix2 k e) =
    m ((c : Thread nD τ).loc main_arg3) (ix2 k (⟨(colIn j e).val, by omega⟩ : Fin 11264)) := by
  refine .trans ?_ (host_weight m c k _)
  unfold colIn
  blk_ext [iblk, (index b n j).2.2.2.2.1]

theorem block_values : iblk m c 5 (pt b n j) (ix2 k e) =
    m ((c : Thread nD τ).loc main_arg3) (ix2 k (⟨5632 + (colIn j e).val, by omega⟩ : Fin 11264)) := by
  refine .trans ?_ (host_weight m c k _)
  unfold colIn
  blk_ext [iblk, (index b n j).2.2.2.2.2.1]

/-- The reference's modulated stream over the kernel's arguments. -/
def stream : FVec Ideal Reference3Ideal.S4x4096x2048 .f32 :=
  modulated (F := Ideal) (m ((c : Thread nD τ).loc main_arg0)) (m ((c : Thread nD τ).loc main_arg1)) (m ((c : Thread nD τ).loc main_arg2))

theorem rows_at : rows m c (pt b n j) (ix2 i k) = stream m c (ix3 b (rowIn n i) k) := by
  unfold rows
  refine (normed_at _ _ _ _ i k).trans (.trans ?_ (modulated_at _ _ _ b (rowIn n i) k).symm)
  refine congrArg₂ (fun u v : EReal => u + v) (congrArg₂ (fun u v : EReal => u * v) (congrArg₂ (fun u v : EReal => u * v)
    (congrArg₂ (fun u v : EReal => u * v) (block_stream m c b n j i k) ?_) (block_scale m c b n j k))
    (congrArg (fun u : EReal => Ideal.ofBits FTy.f32 0x3F800000#32 + u) (block_factor m c b n j k))) (block_shift m c b n j k)
  exact congrArg (fun u : EReal => Ideal.rsqrt (Ideal.div u (Ideal.ofBits FTy.f32 0x45000000#32) + Ideal.ofBits FTy.f32 0x358637BD#32))
    (Finset.sum_congr rfl fun o _ => congrArg₂ (fun u v : EReal => u * v) (block_stream m c b n j i o) (block_stream m c b n j i o))

/-- The rows carried along a row of blocks are the same ones. -/
theorem carried_at (b n : Fin 4) : ∀ (j : ℕ) (hj : j < 11),
    (outsAt0 m c (pt b n ⟨j, hj⟩).val (pt b n ⟨j, hj⟩).isLt).2 = rows m c (pt b n 0)
  | 0, hj => congrArg Prod.snd (outs_first m c (pt b n 0) (by show (11 * (4 * b.val + n.val) + 0) % 11 = 0; omega))
  | j + 1, hj => by
    refine congrArg Prod.snd (outs_later m c (pt b n ⟨j + 1, hj⟩) ?_ (rows m c (pt b n 0)) ?_)
    · show ¬ (11 * (4 * b.val + n.val) + (j + 1)) % 11 = 0
      omega
    · exact carried_at b n j (by omega)

theorem block_out : (outsAt0 m c (pt b n j).val (pt b n j).isLt).1 =
    entry (rows m c (pt b n 0)) (iblk m c 4 (pt b n j)) (iblk m c 5 (pt b n j)) := by
  obtain ⟨j, hj⟩ := j
  cases j with
  | zero => exact congrArg Prod.fst (outs_first m c (pt b n 0) (by show (11 * (4 * b.val + n.val) + 0) % 11 = 0; omega))
  | succ j =>
    refine congrArg Prod.fst (outs_later m c (pt b n ⟨j + 1, hj⟩) ?_ (rows m c (pt b n 0)) ?_)
    · show ¬ (11 * (4 * b.val + n.val) + (j + 1)) % 11 = 0
      omega
    · exact carried_at m c b n j (by omega)

/-- The reference's result over the kernel's arguments. -/
def result : FVec Ideal Reference3Ideal.S16384x5632 .bf16 :=
  gated (F := Ideal) (product (stream m c) (m ((c : Thread nD τ).loc main_arg3)))

theorem block_eq (y : S1024x512.Idx) (q : S16384x5632.Idx) (hr : (q 0).val = 4096 * b.val + (1024 * n.val + (y 0).val))
    (he : (q 1).val = 512 * j.val + (y 1).val) :
    (dats m 0 c).after 6 (pt b n j) y = result m c q := by
  rw [after0_6, block_out m c b n j]
  have hq : q = ix2 (⟨4096 * b.val + (rowIn n (y 0)).val, by omega⟩ : Fin 16384) (colIn j (y 1)) := by
    funext d
    fin_cases d
    · exact Fin.ext hr
    · exact Fin.ext he
  rw [hq]
  refine .trans ?_ (gated_row _ b (rowIn n (y 0)) (colIn j (y 1))).symm
  unfold entry
  refine congrArg₂ gate (.trans ?_ (product_at _ _ b (rowIn n (y 0)) _).symm) (.trans ?_ (product_at _ _ b (rowIn n (y 0)) _).symm)
  · exact Finset.sum_congr rfl fun k _ => congrArg₂ (fun u v : EReal => u * v) (rows_at m c b n 0 (y 0) k) (block_gates m c b n j k (y 1))
  · exact Finset.sum_congr rfl fun k _ => congrArg₂ (fun u v : EReal => u * v) (rows_at m c b n 0 (y 0) k) (block_values m c b n j k (y 1))

attribute [irreducible] result

/-- The kernel's result is the reference's. -/
theorem array : (dats m 0 c).arrAt 6 cfg0.N = result m c := by
  refine (dats m 0 c).arrAt_eq_of_covers 6 (result m c) (by decide +kernel) fun t hf y => ?_
  obtain ⟨b, n, j, rfl⟩ := point_eq t
  refine block_eq m c b n j y _ ?_ ?_
  · blk_simp [(index b n j).2.2.2.2.2.2]
    try omega
  · blk_simp [(index b n j).2.2.2.2.2.2]
    try omega

end Cert.Kernel3Ideal.Value

end
-- ==== Proof.OutReference.lean ====
/- The output projection of the token mixers as the reference computes it, read at an entry. -/
module

public import proofs.«01_k».proof.Proof.Gen.Reference4Ideal.Run
public import Idealize.ShloMosaic.Lib.Pipeline.ValueKit
public import Idealize.ShloMosaic.Lib.ValueIdxCore
public import Idealize.ShloMosaic.Lib.StableHlo.ReadAt

@[expose] public section

set_option maxRecDepth 16384

noncomputable section

namespace Cert.Reference4Ideal.Value

open Cert.Reference4Ideal Cert.Reference4Ideal.Gen Idealize.ShloMosaic Idealize.ShloMosaic.TcCoe Idealize.SL.Sem Idealize.ShloMosaic.StableHlo

variable {F : FTy → Type} [FloatOps F]

/-- The stream after the mixers' projected output, gated, is added to it. -/
def projected (y : FVec F S16384x2048 .bf16) (x : FVec F S4x4096x2048 .f32) (md : FVec F S8x12288 .f32)
    (w : FVec F S2048x2048 .f32) : FVec F S16384x2048 .f32 :=
  shapeCast _ (addf x (mulf (broadcastInDim S4x4096x2048 ![0, 1, 2] bcast_S4x1x2048_S4x4096x2048_0_1_2 (extractStridedSlice S4x1x2048 ![0, 0, 4096] (broadcastInDim S4x1x12288 ![0, 2] bcast_S4x12288_S4x1x12288_0_2 (extractStridedSlice S4x12288 ![0, 0] md slices_S8x12288_S4x12288_0_0)) slices_S4x1x12288_S4x1x2048_0_0_4096)) (Host.dotGeneral dot_S4x4096x2048_S2048x2048_S4x4096x2048_2_0_01_1_n_n none (extf .f32 (shapeCast _ y shapeCasts_S16384x2048_S4x4096x2048) bitsLt_bf16_f32) w))) shapeCasts_S4x4096x2048_S16384x2048

theorem projected_row (y : FVec Ideal S16384x2048 .bf16) (x : FVec Ideal S4x4096x2048 .f32) (md : FVec Ideal S8x12288 .f32)
    (w : FVec Ideal S2048x2048 .f32) (b : Fin 4) (p : Fin 4096) (e : Fin 2048) :
    projected y x md w (ix2 (⟨4096 * b.val + p.val, by omega⟩ : Fin 16384) e) =
      (x (ix3 b p e) + md (ix2 (⟨b.val, by omega⟩ : Fin 8) (⟨4096 + e.val, by omega⟩ : Fin 12288)) *
        ∑ k : Fin 2048, y (ix2 (⟨b.val * 4096 + p.val, by omega⟩ : Fin 16384) k) * w (ix2 k e) : EReal) := by
  unfold projected
  pointwise

/-- The result at an index whose coordinates are those of row `p` of sequence `b` and column `e`. -/
theorem projected_at (y : FVec Ideal S16384x2048 .bf16) (x : FVec Ideal S4x4096x2048 .f32) (md : FVec Ideal S8x12288 .f32)
    (w : FVec Ideal S2048x2048 .f32) (b : Fin 4) (p : Fin 4096) (e : Fin 2048) (q : S16384x2048.Idx)
    (hr : (q 0).val = 4096 * b.val + p.val) (he : (q 1).val = e.val) :
    projected y x md w q = (x (ix3 b p e) + md (ix2 (⟨b.val, by omega⟩ : Fin 8) (⟨4096 + e.val, by omega⟩ : Fin 12288)) *
      ∑ k : Fin 2048, y (ix2 (⟨b.val * 4096 + p.val, by omega⟩ : Fin 16384) k) * w (ix2 k e) : EReal) := by
  refine .trans (congrArg _ ?_) (projected_row y x md w b p e)
  funext d
  fin_cases d
  · exact Fin.ext hr
  · exact Fin.ext he

end Cert.Reference4Ideal.Value

end
-- ==== Proof.OutKernel.lean ====
/- The output projection of the token mixers as the kernel computes it: each grid point's block of rows is the
   reference's rows. -/
module

public import proofs.«01_k».proof.Proof.Gen.Kernel4Ideal.Value
public import proofs.«01_k».proof.Proof.OutReference

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The grid point whose rows are block `n` of sequence `b`. -/
def pt (b : Fin 4) (n : Fin 8) : Fin cfg0.N := ⟨8 * b.val + n.val, lt_of_lt_of_eq (by omega : 8 * b.val + n.val < 32) N_0.symm⟩

theorem point_eq (t : Fin cfg0.N) : ∃ b n, t = pt b n := by
  have ht : t.val < 32 := lt_of_lt_of_eq t.isLt N_0
  exact ⟨⟨t.val / 8, by omega⟩, ⟨t.val % 8, by omega⟩, Fin.ext (by show t.val = 8 * (t.val / 8) + t.val % 8; omega)⟩

theorem index : ∀ (b : Fin 4) (n : Fin 8),
    win0_0.index (pt b n) = ![8 * b.val + n.val, 0] ∧ win0_1.index (pt b n) = ![0, 0] ∧
    win0_2.index (pt b n) = ![8 * b.val + n.val, 0] ∧ win0_3.index (pt b n) = ![b.val, 0, 2] ∧
    win0_4.index (pt b n) = ![8 * b.val + n.val, 0] := by decide +kernel

/-- Row `i` of block `n` in its sequence. -/
def rowIn (n : Fin 8) (i : Fin 512) : Fin 4096 := ⟨512 * n.val + i.val, by omega⟩

theorem host_act (r : Fin 16384) (k : Fin 2048) :
    V m c (Pipeline.arrRef spec0 0) (ix2 r k) = m ((c : Thread nD τ).loc main_arg0) (ix2 r k) := by
  unfold V
  after_reads_at

theorem host_weight (k : Fin 2048) (e : Fin 2048) :
    V m c (Pipeline.arrRef spec0 1) (ix2 k e) = m ((c : Thread nD τ).loc main_arg3) (ix2 k e) := by
  unfold V
  after_reads_at

theorem host_stream (b : Fin 4) (p : Fin 4096) (e : Fin 2048) :
    V m c (Pipeline.arrRef spec0 2) (ix2 (⟨4096 * b.val + p.val, by omega⟩ : Fin 16384) e) =
      m ((c : Thread nD τ).loc main_arg1) (ix3 b p e) := by
  unfold V
  after_reads_at

theorem host_mod (b : Fin 8) (e : Fin 12288) :
    V m c (Pipeline.arrRef spec0 3) (ix3 b (0 : Fin 1) e) = m ((c : Thread nD τ).loc main_arg2) (ix2 b e) := by
  unfold V
  after_reads_at

variable (b : Fin 4) (n : Fin 8) (i : Fin 512) (e : Fin 2048)

theorem block_act (k : Fin 2048) : iblk m c 0 (pt b n) (ix2 i k) =
    m ((c : Thread nD τ).loc main_arg0) (ix2 (⟨b.val * 4096 + (rowIn n i).val, by omega⟩ : Fin 16384) k) := by
  refine .trans ?_ (host_act m c _ k)
  unfold rowIn
  blk_ext [iblk, (index b n).1]

theorem block_weight (k : Fin 2048) : iblk m c 1 (pt b n) (ix2 k e) = m ((c : Thread nD τ).loc main_arg3) (ix2 k e) := by
  refine .trans ?_ (host_weight m c k e)
  blk_ext [iblk, (index b n).2.1]

theorem block_stream : iblk m c 2 (pt b n) (ix2 i e) = m ((c : Thread nD τ).loc main_arg1) (ix3 b (rowIn n i) e) := by
  refine .trans ?_ (host_stream m c b (rowIn n i) e)
  unfold rowIn
  blk_ext [iblk, (index b n).2.2.1]

theorem block_mod : iblk m c 3 (pt b n) (ix3 (0 : Fin 1) (0 : Fin 1) e) =
    m ((c : Thread nD τ).loc main_arg2) (ix2 (⟨b.val, by omega⟩ : Fin 8) (⟨4096 + e.val, by omega⟩ : Fin 12288)) := by
  refine .trans ?_ (host_mod m c _ _)
  blk_ext [iblk, (index b n).2.2.2.1]

/-- What the kernel puts at an entry of a block, from the blocks it loads. -/
theorem payload_at (x : Vec Ideal S512x2048 .f32) (ga : Vec Ideal S1x1x2048 .f32) (a : Vec Ideal S512x2048 .bf16)
    (w : Vec Ideal S2048x2048 .bf16) :
    k0_pay1 x ga a w (ix2 i e) =
      (x (ix2 i e) + ga (ix3 (0 : Fin 1) (0 : Fin 1) e) * ∑ k : Fin 2048, a (ix2 i k) * w (ix2 k e) : EReal) := by
  unfold k0_pay1
  pointwise

theorem zeros2 : (![0, 0] : Fin 2 → Nat) = fun _ => 0 := by funext d; fin_cases d <;> rfl

theorem zeros3 : (![0, 0, 0] : Fin 3 → Nat) = fun _ => 0 := by funext d; fin_cases d <;> rfl

/-- The reference's result over the kernel's arguments. -/
def result : Vec Ideal S16384x2048 .f32 :=
  Reference4Ideal.Value.projected (F := Ideal) (m ((c : Thread nD τ).loc main_arg0))
    (m ((c : Thread nD τ).loc main_arg1)) (m ((c : Thread nD τ).loc main_arg2)) (m ((c : Thread nD τ).loc main_arg3))

theorem block_at (q : S16384x2048.Idx) (hr : (q 0).val = 4096 * b.val + (rowIn n i).val) (he : (q 1).val = e.val) :
    out0_4 (iblk m c 0 (pt b n)) (iblk m c 1 (pt b n)) (iblk m c 2 (pt b n)) (iblk m c 3 (pt b n)) (ix2 i e) = result m c q := by
  refine .trans ?_ (Reference4Ideal.Value.projected_at _ _ _ _ b (rowIn n i) e q hr he).symm
  unfold out0_4
  rw [View.canon_unit_zero zeros2, View.ld_unit_zero zeros2, View.ld_unit_zero zeros3, View.ld_unit_zero zeros2,
    View.ld_unit_zero zeros2]
  refine (payload_at i e _ _ _ _).trans ?_
  refine congrArg₂ (fun u v : EReal => u + v) (block_stream m c b n i e) (congrArg₂ (fun u v : EReal => u * v) (block_mod m c b n e) ?_)
  exact Finset.sum_congr rfl fun k _ => congrArg₂ (fun u v : EReal => u * v) (block_act m c b n i k) (block_weight m c b n e k)

theorem block_eq (y : S512x2048.Idx) (q : S16384x2048.Idx) (hr : (q 0).val = 4096 * b.val + (512 * n.val + (y 0).val))
    (he : (q 1).val = (y 1).val) :
    (dats m 0 c).after 4 (pt b n) y = result m c q := by
  rw [after0_4, ← ix2_eta y]
  exact block_at m c b n (y 0) (y 1) q hr he

attribute [irreducible] result

/-- The kernel's result is the reference's. -/
theorem array : (dats m 0 c).arrAt 4 cfg0.N = result m c := by
  refine (dats m 0 c).arrAt_eq_of_covers 4 (result m c) (by decide +kernel) fun t hf y => ?_
  obtain ⟨b, n, rfl⟩ := point_eq t
  refine block_eq m c b n y _ ?_ ?_
  · blk_simp [(index b n).2.2.2.2]
    try omega
  · blk_simp [(index b n).2.2.2.2]

end Cert.Kernel4Ideal.Value

end
-- ==== Proof.GatesReference.lean ====
/- The gates of the two mixers as the reference computes it, read at an entry. -/
module

public import proofs.«01_k».proof.Proof.Gen.Reference5Ideal.Run
public import Idealize.ShloMosaic.Lib.Pipeline.ValueKit
public import Idealize.ShloMosaic.Lib.ValueIdxCore
public import Idealize.ShloMosaic.Lib.StableHlo.ReadAt

@[expose] public section

set_option maxRecDepth 16384

noncomputable section

namespace Cert.Reference5Ideal.Value

open Cert.Reference5Ideal Cert.Reference5Ideal.Gen Idealize.ShloMosaic Idealize.ShloMosaic.TcCoe Idealize.SL.Sem Idealize.ShloMosaic.StableHlo

section

variable {F : FTy → Type} [FloatOps F]

/-- The product of the modulated stream and the whole weight. -/
def product (h : FVec F S16384x2048 .bf16) (w : FVec F S2048x18496 .f32) : FVec F S16384x18496 .f32 :=
  Host.dotGeneral dot_S16384x2048_S2048x18496_S16384x18496_1_0_0_1_n_n none (extf .f32 h bitsLt_bf16_f32) w

/-- The gates of the two mixers: its columns of the product, through the nonlinearity. -/
def gates (h : FVec F S16384x2048 .bf16) (w : FVec F S2048x18496 .f32) : FVec F S16384x4096 .bf16 :=
  truncf .bf16 (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extractStridedSlice S16384x4096 ![0, 14400] (product h w) slices_S16384x18496_S16384x4096_0_14400))))) bitsLt_bf16_f32

end

/-- The gate of `u`. -/
def gate (u : EReal) : EReal := Ideal.div 1 (1 + Ideal.exp (-u))

theorem product_at (h : FVec Ideal S16384x2048 .bf16) (w : FVec Ideal S2048x18496 .f32) (r : Fin 16384) (e : Fin 18496) :
    product h w (ix2 r e) = (∑ k : Fin 2048, h (ix2 r k) * w (ix2 k e) : EReal) := by
  unfold product
  pointwise

theorem gates_at (h : FVec Ideal S16384x2048 .bf16) (w : FVec Ideal S2048x18496 .f32) (r : Fin 16384) (e : Fin 4096) :
    gates h w (ix2 r e) = gate (∑ k : Fin 2048, h (ix2 r k) * w (ix2 k (⟨14400 + e.val, by omega⟩ : Fin 18496)) : EReal) := by
  refine .trans ?_ (congrArg gate (product_at h w r _))
  unfold gates gate
  pointwise

end Cert.Reference5Ideal.Value

end
-- ==== Proof.GatesKernel.lean ====
/- The gates of the two mixers as the kernel computes it: each tile of a grid point's block is the reference's. -/
module

public import proofs.«01_k».proof.Proof.Gen.Kernel5Ideal.Value
public import proofs.«01_k».proof.Proof.GatesReference

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)
open Reference5Ideal.Value (gate gates gates_at)

section
variable {F : FTy → Type} [FloatOps F]

/-- A tile from its rows of the modulated stream and its columns of the weight. -/
def tile (h : Vec F S128x2048 .bf16) (w : Vec F S2048x256 .bf16) : FVec F S128x256 .bf16 := k0_pay1 h w

/-- The tile's rows of the modulated stream, its columns of the weight, and its place in the block. -/
def rowRect (i : Fin 8) : Rect S1024x2048 := Rect.unit (s := S1024x2048) ![128 * i.val, 0] S128x2048.size
  (by intro a; fin_cases a <;> simp <;> omega)

def colRect (j : Fin 4) : Rect S2048x1024 := Rect.unit (s := S2048x1024) ![0, 256 * j.val] S2048x256.size
  (by intro a; fin_cases a <;> simp <;> omega)

def tileRect (i : Fin 8) (j : Fin 4) : Rect S1024x1024 := Rect.unit (s := S1024x1024) ![128 * i.val, 256 * j.val] S128x256.size
  (by intro a; fin_cases a <;> simp <;> omega)

def rowPart (h : Vec F S1024x2048 .bf16) (i : Fin 8) : Vec F S128x2048 .bf16 := View.ld h (rowRect i)

def colPart (w : Vec F S2048x1024 .bf16) (j : Fin 4) : Vec F S2048x256 .bf16 := View.ld w (colRect j)

/-- The store of tile `(i, j)`. -/
def piece (h : Vec F S1024x2048 .bf16) (w : Vec F S2048x1024 .bf16) (i : Fin 8) (j : Fin 4) : View.Piece (Elt F) S1024x1024 .bf16 :=
  ⟨tileRect i j, tile (rowPart h i) (colPart w j)⟩

/-- The stores of a block, the last one's first. -/
def pieces (h : Vec F S1024x2048 .bf16) (w : Vec F S2048x1024 .bf16) : List (View.Piece (Elt F) S1024x1024 .bf16) :=
  List.ofFn fun n : Fin 32 => piece h w ⟨7 - n.val % 8, by omega⟩ ⟨3 - n.val / 8, by omega⟩

theorem out_eq (h : Vec F S1024x2048 .bf16) (w : Vec F S2048x1024 .bf16) : out0_2 h w = View.canon (pieces h w) := by
  sl_kernel_rfl

theorem pieces_cover (h : Vec F S1024x2048 .bf16) (w : Vec F S2048x1024 .bf16) (y : S1024x1024.Idx) :
    ∃ p ∈ pieces h w, y ∈ p.1.set :=
  View.cover_of_tiledL (pieces h w) S128x256.size (by sl_kernel_rfl) y

end

theorem tile_at (h : Vec Ideal S128x2048 .bf16) (w : Vec Ideal S2048x256 .bf16) (i : Fin 128) (e : Fin 256) :
    tile h w (ix2 i e) = gate (∑ k : Fin 2048, h (ix2 i k) * w (ix2 k e) : EReal) := by
  unfold tile k0_pay1 gate
  pointwise
  rw [zero_sub]

/-- An entry of a block. -/
def entry (h : Vec Ideal S1024x2048 .bf16) (w : Vec Ideal S2048x1024 .bf16) : Vec Ideal S1024x1024 .bf16 := fun y =>
  gate (∑ k : Fin 2048, h (ix2 (y 0) k) * w (ix2 k (y 1)) : EReal)

theorem tile_entry (h : Vec Ideal S1024x2048 .bf16) (w : Vec Ideal S2048x1024 .bf16) (i : Fin 8) (j : Fin 4) (x : S128x256.Idx)
    (y : S1024x1024.Idx) (h0 : (y 0).val = 128 * i.val + (x 0).val) (h1 : (y 1).val = 256 * j.val + (x 1).val) :
    tile (rowPart h i) (colPart w j) x = entry h w y := by
  have hrow : ∀ k : Fin 2048, rowPart h i (ix2 (x 0) k) = h (ix2 (y 0) k) := fun k => by
    refine congrArg h (funext fun d => ?_)
    fin_cases d <;> apply Fin.ext <;> simp [rowRect, Rect.unit, ix2, h0]
  have hcol : ∀ k : Fin 2048, colPart w j (ix2 k (x 1)) = w (ix2 k (y 1)) := fun k => by
    refine congrArg w (funext fun d => ?_)
    fin_cases d <;> apply Fin.ext <;> simp [colRect, Rect.unit, ix2, h1]
  rw [← ix2_eta x]
  refine (tile_at _ _ _ _).trans ?_
  unfold entry
  exact congrArg gate (Finset.sum_congr rfl fun k _ => congrArg₂ (fun u v : EReal => u * v) (hrow k) (hcol k))

theorem pieces_at (h : Vec Ideal S1024x2048 .bf16) (w : Vec Ideal S2048x1024 .bf16) : View.canon (pieces h w) = entry h w := by
  funext y
  refine View.canon_apply_of_pieces (Val := Elt Ideal) (entry h w) _ ?_ y (pieces_cover _ _ y)
  intro p hp x
  obtain ⟨n, rfl⟩ := (List.mem_ofFn).1 hp
  exact tile_entry h w _ _ x _ (congrArg (128 * (7 - n.val % 8) + ·) (Nat.one_mul _)) (congrArg (256 * (3 - n.val / 8) + ·) (Nat.one_mul _))

variable (m : (ℓ : Loc nD τ sig) → Buf (Elt Ideal) ℓ) (c : Dev nD)

/-- The grid point of column block `j` and row block `n`. -/
def pt (j : Fin 4) (n : Fin 16) : Fin cfg0.N := ⟨16 * j.val + n.val, lt_of_lt_of_eq (by omega : 16 * j.val + n.val < 64) N_0.symm⟩

theorem point_eq (t : Fin cfg0.N) : ∃ j n, t = pt j n := by
  have ht : t.val < 64 := lt_of_lt_of_eq t.isLt N_0
  exact ⟨⟨t.val / 16, by omega⟩, ⟨t.val % 16, by omega⟩, Fin.ext (by show t.val = 16 * (t.val / 16) + t.val % 16; omega)⟩

theorem index : ∀ (j : Fin 4) (n : Fin 16),
    win0_0.index (pt j n) = ![n.val, 0] ∧ win0_1.index (pt j n) = ![0, 0 + j.val] ∧
    win0_2.index (pt j n) = ![n.val, j.val] := by decide +kernel

/-- Row `i` of row block `n`, and column `e` of column block `j`. -/
def rowIn (n : Fin 16) (i : Fin 1024) : Fin 16384 := ⟨1024 * n.val + i.val, by omega⟩

def colIn (j : Fin 4) (e : Fin 1024) : Fin 4096 := ⟨1024 * j.val + e.val, by omega⟩

theorem host_stream (r : Fin 16384) (k : Fin 2048) :
    V m c (Pipeline.arrRef spec0 0) (ix2 r k) = m ((c : Thread nD τ).loc main_arg0) (ix2 r k) := by
  unfold V
  after_reads_at

theorem host_weight (k : Fin 2048) (e : Fin 4096) :
    V m c (Pipeline.arrRef spec0 1) (ix2 k e) = m ((c : Thread nD τ).loc main_arg1) (ix2 k (⟨14400 + e.val, by omega⟩ : Fin 18496)) := by
  unfold V
  after_reads_at

variable (j : Fin 4) (n : Fin 16) (i e : Fin 1024) (k : Fin 2048)

theorem block_stream : iblk m c 0 (pt j n) (ix2 i k) = m ((c : Thread nD τ).loc main_arg0) (ix2 (rowIn n i) k) := by
  refine .trans ?_ (host_stream m c _ k)
  unfold rowIn
  blk_ext [iblk, (index j n).1]

theorem block_weight : iblk m c 1 (pt j n) (ix2 k e) =
    m ((c : Thread nD τ).loc main_arg1) (ix2 k (⟨14400 + (colIn j e).val, by omega⟩ : Fin 18496)) := by
  refine .trans ?_ (host_weight m c k _)
  unfold colIn
  blk_ext [iblk, (index j n).2.1]

/-- The reference's result over the kernel's arguments. -/
def result : FVec Ideal Reference5Ideal.S16384x4096 .bf16 :=
  gates (F := Ideal) (m ((c : Thread nD τ).loc main_arg0)) (m ((c : Thread nD τ).loc main_arg1))

theorem block_eq (y : S1024x1024.Idx) (q : S16384x4096.Idx) (hr : (q 0).val = 1024 * n.val + (y 0).val)
    (he : (q 1).val = 1024 * j.val + (y 1).val) :
    (dats m 0 c).after 2 (pt j n) y = result m c q := by
  have hq : q = ix2 (rowIn n (y 0)) (colIn j (y 1)) := by
    funext d
    fin_cases d
    · exact Fin.ext hr
    · exact Fin.ext he
  rw [after0_2, out_eq, pieces_at, hq]
  refine .trans ?_ (gates_at _ _ (rowIn n (y 0)) (colIn j (y 1))).symm
  unfold entry
  exact congrArg gate (Finset.sum_congr rfl fun k _ => congrArg₂ (fun u v : EReal => u * v) (block_stream m c j n (y 0) k)
    (block_weight m c j n (y 1) k))

attribute [irreducible] result

/-- The kernel's result is the reference's. -/
theorem array : (dats m 0 c).arrAt 2 cfg0.N = result m c := by
  refine (dats m 0 c).arrAt_eq_of_covers 2 (result m c) (by decide +kernel) fun t hf y => ?_
  obtain ⟨j, n, rfl⟩ := point_eq t
  refine block_eq m c j n y _ ?_ ?_
  · blk_simp [(index j n).2.2]
    try omega
  · blk_simp [(index j n).2.2]
    try omega

end Cert.Kernel5Ideal.Value

end
-- ==== Proof.MixReference.lean ====
/- The merging of the two token mixers as the reference computes it, read at an entry. -/
module

public import proofs.«01_k».proof.Proof.Gen.Reference7Ideal.Run
public import Idealize.ShloMosaic.Lib.Pipeline.ValueKit
public import Idealize.ShloMosaic.Lib.ValueIdxCore
public import Idealize.ShloMosaic.Lib.StableHlo.ReadAt

@[expose] public section

set_option maxRecDepth 16384

noncomputable section

namespace Cert.Reference7Ideal.Value

open Cert.Reference7Ideal Cert.Reference7Ideal.Gen Idealize.ShloMosaic Idealize.ShloMosaic.TcCoe Idealize.SL.Sem Idealize.ShloMosaic.StableHlo

section

variable {F : FTy → Type} [FloatOps F]

/-- The long convolution's output with its skip connection, gated. -/
def convolved (y x0 z : FVec F S16384x2048 .bf16) (bias : FVec F S2048 .f32) : FVec F S16384x2048 .f32 :=
  mulf (extf .f32 x0 bitsLt_bf16_f32) (addf (extf .f32 y bitsLt_bf16_f32) (mulf (extf .f32 z bitsLt_bf16_f32) (broadcastInDim S16384x2048 ![0, 1] bcast_S1x2048_S16384x2048_0_1 (broadcastInDim S1x2048 ![1] bcast_S2048_S1x2048_1 bias))))

/-- The delta rule's outputs of both directions, a head at a time. -/
def summed (p q : FVec F S16384x2048 .bf16) : FVec F S16384x16x128 .f32 :=
  shapeCast _ (addf (extf .f32 p bitsLt_bf16_f32) (extf .f32 q bitsLt_bf16_f32)) shapeCasts_S16384x2048_S16384x16x128

/-- Each head over its root mean square, scaled and gated. -/
def headed (o : FVec F S16384x16x128 .f32) (gz : FVec F S16384x2048 .bf16) (g : FVec F S128 .f32) : FVec F S16384x2048 .f32 :=
  shapeCast _ (mulf (mulf (mulf o (broadcastInDim S16384x16x128 ![0, 1, 2] bcast_S16384x16x1_S16384x16x128_0_1_2 (Host.rsqrt (addf (Host.divf (broadcastInDim S16384x16x1 ![0, 1] bcast_S16384x16_S16384x16x1_0_1 (Host.reduceAdd (mulf o o) (constant S_ .f32 0x00000000#32) reducesTo_S16384x16x128_S16384x16_d2 h_S_)) (broadcastInDim S16384x16x1 ![] bcast_S_S16384x16x1 (constant S_ .f32 0x43000000#32))) (broadcastInDim S16384x16x1 ![] bcast_S_S16384x16x1 (constant S_ .f32 0x358637BD#32)))))) (broadcastInDim S16384x16x128 ![0, 1, 2] bcast_S1x1x128_S16384x16x128_0_1_2 (broadcastInDim S1x1x128 ![2] bcast_S128_S1x1x128_2 g))) (shapeCast _ (extf .f32 gz bitsLt_bf16_f32) shapeCasts_S16384x2048_S16384x16x128)) shapeCasts_S16384x16x128_S16384x2048

/-- The two outputs, projected and merged by their gates. -/
def merged (u v : FVec F S16384x2048 .f32) (gates : FVec F S16384x4096 .bf16) (wu wv : FVec F S2048x2048 .f32) : FVec F S16384x2048 .bf16 :=
  truncf .bf16 (addf (mulf (extractStridedSlice S16384x2048 ![0, 0] (extf .f32 gates bitsLt_bf16_f32) slices_S16384x4096_S16384x2048_0_0) (Host.dotGeneral dot_S16384x2048_S2048x2048_S16384x2048_1_0_0_1_n_n none u wu)) (mulf (extractStridedSlice S16384x2048 ![0, 2048] (extf .f32 gates bitsLt_bf16_f32) slices_S16384x4096_S16384x2048_0_2048) (Host.dotGeneral dot_S16384x2048_S2048x2048_S16384x2048_1_0_0_1_n_n none v wv))) bitsLt_bf16_f32

end

theorem convolved_at (y x0 z : FVec Ideal S16384x2048 .bf16) (bias : FVec Ideal S2048 .f32) (r : Fin 16384) (e : Fin 2048) :
    convolved y x0 z bias (ix2 r e) = (x0 (ix2 r e) * (y (ix2 r e) + z (ix2 r e) * bias (ix1 e)) : EReal) := by
  unfold convolved
  pointwise

/-- Column `d` of head `h`. -/
def colOf (h : Fin 16) (d : Fin 128) : Fin 2048 := ⟨128 * h.val + d.val, by omega⟩

theorem summed_at (p q : FVec Ideal S16384x2048 .bf16) (r : Fin 16384) (h : Fin 16) (d : Fin 128) :
    summed p q (ix3 r h d) = (p (ix2 r (colOf h d)) + q (ix2 r (colOf h d)) : EReal) := by
  unfold summed colOf
  pointwise
  simp only [Nat.mul_comm h.val 128]

/-- An entry of a head over its root mean square, scaled and gated. -/
def headEntry (o : Fin 128 → EReal) (d : Fin 128) (g z : EReal) : EReal :=
  o d * Ideal.rsqrt (Ideal.div (∑ x : Fin 128, o x * o x) (Ideal.ofBits FTy.f32 0x43000000#32) + Ideal.ofBits FTy.f32 0x358637BD#32) * g * z

theorem headed_at (o : FVec Ideal S16384x16x128 .f32) (gz : FVec Ideal S16384x2048 .bf16) (g : FVec Ideal S128 .f32)
    (r : Fin 16384) (h : Fin 16) (d : Fin 128) :
    headed o gz g (ix2 r (colOf h d)) = headEntry (fun x => o (ix3 r h x)) d (g (ix1 d)) (gz (ix2 r (colOf h d))) := by
  unfold headed headEntry colOf
  pointwise
  simp only [Nat.mul_comm h.val 128]

theorem merged_at (u v : FVec Ideal S16384x2048 .f32) (gates : FVec Ideal S16384x4096 .bf16) (wu wv : FVec Ideal S2048x2048 .f32)
    (r : Fin 16384) (e : Fin 2048) :
    merged u v gates wu wv (ix2 r e) =
      (gates (ix2 r (⟨e.val, by omega⟩ : Fin 4096)) * (∑ k : Fin 2048, u (ix2 r k) * wu (ix2 k e)) +
        gates (ix2 r (⟨2048 + e.val, by omega⟩ : Fin 4096)) * (∑ k : Fin 2048, v (ix2 r k) * wv (ix2 k e)) : EReal) := by
  unfold merged
  pointwise

end Cert.Reference7Ideal.Value

end
-- ==== Proof.MixKernel.lean ====
/- The merging of the two token mixers as the kernel's body computes it: each half of a block of rows. -/
module

public import proofs.«01_k».proof.Proof.Gen.Kernel7Ideal.Frame
public import proofs.«01_k».proof.Proof.MixReference

@[expose] public section

set_option maxRecDepth 16384

noncomputable section

namespace Cert.Kernel7Ideal.Gen

open Cert.Kernel7Ideal Idealize.ShloMosaic Idealize.ShloMosaic.TcCoe Idealize.SL.Sem
open Reference7Ideal.Value (colOf headEntry)

section
variable {F : FTy → Type} [FloatOps F]

/-- A half's rows of a block, and its rows of a head's columns. -/
def rowRect (i : Fin 2) : Rect S256x2048 := Rect.unit (s := S256x2048) ![128 * i.val, 0] S128x2048.size
  (by intro a; fin_cases a <;> simp <;> omega)

def headRect (i : Fin 2) (h : Fin 16) : Rect S256x2048 := Rect.unit (s := S256x2048) ![128 * i.val, 128 * h.val] S128x128.size
  (by intro a; fin_cases a <;> simp <;> omega)

def rowPart (v : Vec F S256x2048 .bf16) (i : Fin 2) : Vec F S128x2048 .bf16 := View.ld v (rowRect i)

def headPart (v : Vec F S256x2048 .bf16) (i : Fin 2) (h : Fin 16) : Vec F S128x128 .bf16 := View.ld v (headRect i h)

/-- The long convolution's output with its skip connection, gated. -/
def convolved (bias : Vec F S1x2048 .f32) (z x0 y : Vec F S128x2048 .bf16) : FVec F S128x2048 .bf16 := k0_pay5 bias z x0 y

/-- A head over its root mean square, scaled and gated. -/
def head (g : Vec F S1x128 .f32) (p q z : Vec F S128x128 .bf16) : FVec F S128x128 .bf16 := k0_pay6 g p q z

/-- The heads of a half, side by side. -/
def heads (g : Vec F S1x128 .f32) (p q z : Vec F S256x2048 .bf16) (i : Fin 2) : FVec F S128x2048 .bf16 :=
  concatenate S128x2048 1 (List.ofFn fun h : Fin 16 => (⟨S128x128, head g (headPart p i h) (headPart q i h) (headPart z i h)⟩ :
    (s : Shape) × (s.Idx → F .bf16))) concatenates_S128x128_S128x128_S128x128_S128x128_S128x128_S128x128_S128x128_S128x128_S128x128_S128x128_S128x128_S128x128_S128x128_S128x128_S128x128_S128x128_S128x2048_d1

/-- Both projected and merged by their gates. -/
def merged (u v : FVec F S128x2048 .bf16) (wu wv : Vec F S2048x2048 .bf16) (gu gv : Vec F S128x2048 .bf16) : FVec F S128x2048 .bf16 :=
  k0_pay2 u v wu wv gu gv

variable (x0 x1 x2 : Vec F S256x2048 .bf16) (x3 : Vec F S1x2048 .f32) (x4 x5 x6 : Vec F S256x2048 .bf16) (x7 : Vec F S1x128 .f32)
  (x8 x9 : Vec F S256x2048 .bf16) (x10 x11 : Vec F S2048x2048 .bf16)

/-- The store of a half. -/
def half (i : Fin 2) : FVec F S128x2048 .bf16 :=
  merged (convolved (View.ld x3 r0_0) (rowPart x2 i) (rowPart x1 i) (rowPart x0 i)) (heads (View.ld x7 r0_1) x4 x5 x6 i)
    (View.ld x10 r0_36) (View.ld x11 r0_36) (rowPart x8 i) (rowPart x9 i)

/-- The stores of a block, the last one's first. -/
def pieces : List (View.Piece (Elt F) S256x2048 .bf16) :=
  [⟨rowRect 1, half x0 x1 x2 x3 x4 x5 x6 x7 x8 x9 x10 x11 1⟩, ⟨rowRect 0, half x0 x1 x2 x3 x4 x5 x6 x7 x8 x9 x10 x11 0⟩]

theorem out_eq : out0_12 x0 x1 x2 x3 x4 x5 x6 x7 x8 x9 x10 x11 = View.canon (pieces x0 x1 x2 x3 x4 x5 x6 x7 x8 x9 x10 x11) := by
  sl_kernel_rfl

theorem pieces_cover (y : S256x2048.Idx) : ∃ p ∈ pieces x0 x1 x2 x3 x4 x5 x6 x7 x8 x9 x10 x11, y ∈ p.1.set :=
  View.cover_of_tiledL (pieces x0 x1 x2 x3 x4 x5 x6 x7 x8 x9 x10 x11) S128x2048.size (by sl_kernel_rfl) y

end

theorem convolved_at (bias : Vec Ideal S1x2048 .f32) (z x0 y : Vec Ideal S128x2048 .bf16) (i : Fin 128) (e : Fin 2048) :
    convolved bias z x0 y (ix2 i e) = (x0 (ix2 i e) * (y (ix2 i e) + z (ix2 i e) * bias (ix2 (0 : Fin 1) e)) : EReal) := by
  unfold convolved k0_pay5 k0_pay3
  pointwise

theorem head_at (g : Vec Ideal S1x128 .f32) (p q z : Vec Ideal S128x128 .bf16) (i d : Fin 128) :
    head g p q z (ix2 i d) = headEntry (fun x => (p (ix2 i x) + q (ix2 i x) : EReal)) d (g (ix2 (0 : Fin 1) d)) (z (ix2 i d)) := by
  unfold head k0_pay6 k0_pay4 headEntry
  pointwise

theorem heads_at (g : Vec Ideal S1x128 .f32) (p q z : Vec Ideal S256x2048 .bf16) (n : Fin 2) (i : Fin 128) (h : Fin 16) (d : Fin 128) :
    heads g p q z n (ix2 i (colOf h d)) = head g (headPart p n h) (headPart q n h) (headPart z n h) (ix2 i d) := by
  unfold heads
  refine concatenate_ofFn_apply (t := S128x2048) (s₁ := S128x128) 1 (fun h : Fin 16 => head g (headPart p n h) (headPart q n h) (headPart z n h)) _ rfl 128 rfl
    (ix2 (n0 := 128) (n1 := 2048) i (colOf h d)) h ?_ (ix2 (n0 := 128) (n1 := 128) i d) ?_ ?_
  · show (128 * h.val + d.val) / 128 = h.val
    omega
  · show d.val = (128 * h.val + d.val) % 128
    omega
  · intro b hb
    fin_cases b
    · rfl
    · exact absurd rfl hb

theorem merged_at (u v : FVec Ideal S128x2048 .bf16) (wu wv : Vec Ideal S2048x2048 .bf16) (gu gv : Vec Ideal S128x2048 .bf16)
    (i : Fin 128) (e : Fin 2048) :
    merged u v wu wv gu gv (ix2 i e) = (gu (ix2 i e) * (∑ k : Fin 2048, u (ix2 i k) * wu (ix2 k e)) +
      gv (ix2 i e) * (∑ k : Fin 2048, v (ix2 i k) * wv (ix2 k e)) : EReal) := by
  unfold merged k0_pay2
  pointwise

theorem rowPart_at (v : Vec Ideal S256x2048 .bf16) (n : Fin 2) (i : Fin 128) (e : Fin 2048) :
    rowPart v n (ix2 i e) = v (ix2 (⟨128 * n.val + i.val, by omega⟩ : Fin 256) e) := by
  refine congrArg v (funext fun d => ?_)
  fin_cases d <;> apply Fin.ext <;> simp [rowRect, Rect.unit, ix2]

theorem headPart_at (v : Vec Ideal S256x2048 .bf16) (n : Fin 2) (h : Fin 16) (i d : Fin 128) :
    headPart v n h (ix2 i d) = v (ix2 (⟨128 * n.val + i.val, by omega⟩ : Fin 256) (colOf h d)) := by
  refine congrArg v (funext fun d => ?_)
  fin_cases d <;> apply Fin.ext <;> simp [headRect, Rect.unit, ix2, colOf]

/-- Every column is a head's. -/
theorem colOf_eq (k : Fin 2048) : ∃ h d, k = colOf h d :=
  ⟨⟨k.val / 128, by omega⟩, ⟨k.val % 128, by omega⟩, Fin.ext (by show k.val = 128 * (k.val / 128) + k.val % 128; omega)⟩

theorem zeros2 : (![0, 0] : Fin 2 → Nat) = fun _ => 0 := by funext d; fin_cases d <;> rfl

variable (x0 x1 x2 : Vec Ideal S256x2048 .bf16) (x3 : Vec Ideal S1x2048 .f32) (x4 x5 x6 : Vec Ideal S256x2048 .bf16)
  (x7 : Vec Ideal S1x128 .f32) (x8 x9 : Vec Ideal S256x2048 .bf16) (x10 x11 : Vec Ideal S2048x2048 .bf16)

/-- An entry of a block, of an array whose rows are the heads' outputs `v`. -/
def entry (v : Fin 256 → Fin 2048 → EReal) : Vec Ideal S256x2048 .bf16 := fun y =>
  (x8 (ix2 (y 0) (y 1)) * (∑ k : Fin 2048, (x1 (ix2 (y 0) k) * (x0 (ix2 (y 0) k) + x2 (ix2 (y 0) k) * x3 (ix2 (0 : Fin 1) k))) * x10 (ix2 k (y 1))) +
    x9 (ix2 (y 0) (y 1)) * (∑ k : Fin 2048, v (y 0) k * x11 (ix2 k (y 1))) : EReal)

theorem half_entry (v : Fin 256 → Fin 2048 → EReal)
    (hv : ∀ r h d, headEntry (fun x => (x4 (ix2 r (colOf h x)) + x5 (ix2 r (colOf h x)) : EReal)) d (x7 (ix2 (0 : Fin 1) d))
      (x6 (ix2 r (colOf h d))) = v r (colOf h d))
    (n : Fin 2) (i : Fin 128) (e : Fin 2048) :
    half x0 x1 x2 x3 x4 x5 x6 x7 x8 x9 x10 x11 n (ix2 i e) =
      entry x0 x1 x2 x3 x8 x9 x10 x11 v (ix2 (⟨128 * n.val + i.val, by omega⟩ : Fin 256) e) := by
  have hr : ∀ (w : Vec Ideal S256x2048 .bf16) (k : Fin 2048),
      rowPart w n (ix2 i k) = w (ix2 (⟨128 * n.val + i.val, by omega⟩ : Fin 256) k) := fun w k => rowPart_at w n i k
  refine (merged_at _ _ _ _ _ _ i e).trans ?_
  unfold entry
  refine congrArg₂ (fun u v : EReal => u + v) (congrArg₂ (fun u v : EReal => u * v) (hr x8 _) ?_)
    (congrArg₂ (fun u v : EReal => u * v) (hr x9 _) ?_)
  · refine Finset.sum_congr rfl fun k _ => congrArg₂ (fun u v : EReal => u * v) ?_ ?_
    · refine (convolved_at _ _ _ _ i k).trans ?_
      rw [View.ld_unit_zero zeros2]
      exact congrArg₂ (fun u v : EReal => u * v) (hr x1 k) (congrArg₂ (fun u v : EReal => u + v) (hr x0 k)
        (congrArg (fun u : EReal => u * x3 (ix2 (0 : Fin 1) k)) (hr x2 k)))
    · rw [View.ld_unit_zero zeros2]
      rfl
  · refine Finset.sum_congr rfl fun k _ => congrArg₂ (fun u v : EReal => u * v) ?_ ?_
    · obtain ⟨h, d, rfl⟩ := colOf_eq k
      refine (heads_at _ _ _ _ n i h d).trans ((head_at _ _ _ _ i d).trans (.trans ?_ (hv _ h d)))
      rw [View.ld_unit_zero zeros2, headPart_at x6]
      exact congrArg (fun o : Fin 128 → EReal => headEntry o d _ _) (funext fun z =>
        congrArg₂ (fun u v : EReal => u + v) (headPart_at x4 n h i z) (headPart_at x5 n h i z))
    · rw [View.ld_unit_zero zeros2]
      rfl

theorem half_store (v : Fin 256 → Fin 2048 → EReal)
    (hv : ∀ r h d, headEntry (fun x => (x4 (ix2 r (colOf h x)) + x5 (ix2 r (colOf h x)) : EReal)) d (x7 (ix2 (0 : Fin 1) d))
      (x6 (ix2 r (colOf h d))) = v r (colOf h d))
    (n : Fin 2) (x : S128x2048.Idx) (y : S256x2048.Idx) (h0 : (y 0).val = 128 * n.val + (x 0).val) (h1 : (y 1).val = (x 1).val) :
    half x0 x1 x2 x3 x4 x5 x6 x7 x8 x9 x10 x11 n x = entry x0 x1 x2 x3 x8 x9 x10 x11 v y := by
  refine ((congrArg _ (ix2_eta x).symm).trans (half_entry x0 x1 x2 x3 x4 x5 x6 x7 x8 x9 x10 x11 v hv n (x 0) (x 1))).trans (congrArg _ ?_)
  funext d
  fin_cases d
  · exact Fin.ext h0.symm
  · exact Fin.ext h1.symm

theorem pieces_at (v : Fin 256 → Fin 2048 → EReal)
    (hv : ∀ r h d, headEntry (fun x => (x4 (ix2 r (colOf h x)) + x5 (ix2 r (colOf h x)) : EReal)) d (x7 (ix2 (0 : Fin 1) d))
      (x6 (ix2 r (colOf h d))) = v r (colOf h d)) :
    View.canon (pieces x0 x1 x2 x3 x4 x5 x6 x7 x8 x9 x10 x11) = entry x0 x1 x2 x3 x8 x9 x10 x11 v := by
  funext y
  refine View.canon_apply_of_pieces (Val := Elt Ideal) (entry x0 x1 x2 x3 x8 x9 x10 x11 v) _ ?_ y (pieces_cover _ _ _ _ _ _ _ _ _ _ _ _ y)
  intro p hp x
  simp only [pieces, List.mem_cons, List.not_mem_nil, or_false] at hp
  obtain rfl | rfl := hp
  · exact half_store x0 x1 x2 x3 x4 x5 x6 x7 x8 x9 x10 x11 v hv 1 x _ (congrArg (128 + ·) (Nat.one_mul _))
      ((congrArg (0 + ·) (Nat.one_mul _)).trans (Nat.zero_add _))
  · exact half_store x0 x1 x2 x3 x4 x5 x6 x7 x8 x9 x10 x11 v hv 0 x _ (congrArg (0 + ·) (Nat.one_mul _))
      ((congrArg (0 + ·) (Nat.one_mul _)).trans (Nat.zero_add _))

end Cert.Kernel7Ideal.Gen

end
-- ==== Proof.MixArrays.lean ====
/- The merging of the two token mixers: the kernel's result is the reference's. -/
module

public import proofs.«01_k».proof.Proof.Gen.Kernel7Ideal.Value
public import proofs.«01_k».proof.Proof.MixKernel

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)
open Reference7Ideal.Value (colOf headEntry summed headed_at summed_at convolved_at merged_at)

variable (m : (ℓ : Loc nD τ sig) → Buf (Elt Ideal) ℓ) (c : Dev nD)

theorem index : ∀ n : Fin cfg0.N,
    win0_0.index n = ![n.val, 0] ∧ win0_1.index n = ![n.val, 0] ∧ win0_2.index n = ![n.val, 0] ∧ win0_3.index n = ![0, 0] ∧
    win0_4.index n = ![n.val, 0] ∧ win0_5.index n = ![n.val, 0] ∧ win0_6.index n = ![n.val, 0] ∧ win0_7.index n = ![0, 0] ∧
    win0_8.index n = ![n.val, 0] ∧ win0_9.index n = ![n.val, 1] ∧ win0_10.index n = ![0, 0] ∧ win0_11.index n = ![0, 0] ∧
    win0_12.index n = ![n.val, 0] := by decide +kernel

/-- Row `i` of block `n`. -/
def rowIn (n : Fin cfg0.N) (i : Fin 256) : Fin 16384 := ⟨256 * n.val + i.val, by have : n.val < 64 := lt_of_lt_of_eq n.isLt N_0; omega⟩

theorem host_conv (r : Fin 16384) (e : Fin 2048) :
    V m c (Pipeline.arrRef spec0 0) (ix2 r e) = m ((c : Thread nD τ).loc main_arg0) (ix2 r e) := by
  unfold V
  after_reads_at

theorem host_gate (r : Fin 16384) (e : Fin 2048) :
    V m c (Pipeline.arrRef spec0 1) (ix2 r e) = m ((c : Thread nD τ).loc main_arg1) (ix2 r e) := by
  unfold V
  after_reads_at

theorem host_skip (r : Fin 16384) (e : Fin 2048) :
    V m c (Pipeline.arrRef spec0 2) (ix2 r e) = m ((c : Thread nD τ).loc main_arg2) (ix2 r e) := by
  unfold V
  after_reads_at

theorem host_forward (r : Fin 16384) (e : Fin 2048) :
    V m c (Pipeline.arrRef spec0 4) (ix2 r e) = m ((c : Thread nD τ).loc main_arg4) (ix2 r e) := by
  unfold V
  after_reads_at

theorem host_backward (r : Fin 16384) (e : Fin 2048) :
    V m c (Pipeline.arrRef spec0 5) (ix2 r e) = m ((c : Thread nD τ).loc main_arg5) (ix2 r e) := by
  unfold V
  after_reads_at

theorem host_headGate (r : Fin 16384) (e : Fin 2048) :
    V m c (Pipeline.arrRef spec0 6) (ix2 r e) = m ((c : Thread nD τ).loc main_arg6) (ix2 r e) := by
  unfold V
  after_reads_at

theorem host_gates8 (r : Fin 16384) (e : Fin 4096) :
    V m c (Pipeline.arrRef spec0 8) (ix2 r e) = m ((c : Thread nD τ).loc main_arg8) (ix2 r e) := by
  unfold V
  after_reads_at

theorem host_gates9 (r : Fin 16384) (e : Fin 4096) :
    V m c (Pipeline.arrRef spec0 9) (ix2 r e) = m ((c : Thread nD τ).loc main_arg8) (ix2 r e) := by
  unfold V
  after_reads_at

theorem host_bias (e : Fin 2048) :
    V m c (Pipeline.arrRef spec0 3) (ix2 (0 : Fin 1) e) = m ((c : Thread nD τ).loc main_arg3) (ix1 e) := by
  unfold V
  after_reads_at

theorem host_scale (e : Fin 128) :
    V m c (Pipeline.arrRef spec0 7) (ix2 (0 : Fin 1) e) = m ((c : Thread nD τ).loc main_arg7) (ix1 e) := by
  unfold V
  after_reads_at

theorem host_weight10 (k e : Fin 2048) :
    V m c (Pipeline.arrRef spec0 10) (ix2 k e) = m ((c : Thread nD τ).loc main_arg9) (ix2 k e) := by
  unfold V
  after_reads_at

theorem host_weight11 (k e : Fin 2048) :
    V m c (Pipeline.arrRef spec0 11) (ix2 k e) = m ((c : Thread nD τ).loc main_arg10) (ix2 k e) := by
  unfold V
  after_reads_at

variable (n : Fin cfg0.N) (i : Fin 256) (k e : Fin 2048) (d : Fin 128)

theorem block_conv : iblk m c 0 n (ix2 i k) = m ((c : Thread nD τ).loc main_arg0) (ix2 (rowIn n i) k) := by
  refine .trans ?_ (host_conv m c _ k)
  unfold rowIn
  blk_ext [iblk, (index n).1]

theorem block_gate : iblk m c 1 n (ix2 i k) = m ((c : Thread nD τ).loc main_arg1) (ix2 (rowIn n i) k) := by
  refine .trans ?_ (host_gate m c _ k)
  unfold rowIn
  blk_ext [iblk, (index n).2.1]

theorem block_skip : iblk m c 2 n (ix2 i k) = m ((c : Thread nD τ).loc main_arg2) (ix2 (rowIn n i) k) := by
  refine .trans ?_ (host_skip m c _ k)
  unfold rowIn
  blk_ext [iblk, (index n).2.2.1]

theorem block_forward : iblk m c 4 n (ix2 i k) = m ((c : Thread nD τ).loc main_arg4) (ix2 (rowIn n i) k) := by
  refine .trans ?_ (host_forward m c _ k)
  unfold rowIn
  blk_ext [iblk, (index n).2.2.2.2.1]

theorem block_backward : iblk m c 5 n (ix2 i k) = m ((c : Thread nD τ).loc main_arg5) (ix2 (rowIn n i) k) := by
  refine .trans ?_ (host_backward m c _ k)
  unfold rowIn
  blk_ext [iblk, (index n).2.2.2.2.2.1]

theorem block_headGate : iblk m c 6 n (ix2 i k) = m ((c : Thread nD τ).loc main_arg6) (ix2 (rowIn n i) k) := by
  refine .trans ?_ (host_headGate m c _ k)
  unfold rowIn
  blk_ext [iblk, (index n).2.2.2.2.2.2.1]

theorem block_gates8 : iblk m c 8 n (ix2 i e) =
    m ((c : Thread nD τ).loc main_arg8) (ix2 (rowIn n i) (⟨e.val, by omega⟩ : Fin 4096)) := by
  refine .trans ?_ (host_gates8 m c _ _)
  unfold rowIn
  blk_ext [iblk, (index n).2.2.2.2.2.2.2.2.1]

theorem block_gates9 : iblk m c 9 n (ix2 i e) =
    m ((c : Thread nD τ).loc main_arg8) (ix2 (rowIn n i) (⟨2048 + e.val, by omega⟩ : Fin 4096)) := by
  refine .trans ?_ (host_gates9 m c _ _)
  unfold rowIn
  blk_ext [iblk, (index n).2.2.2.2.2.2.2.2.2.1]

theorem block_bias : iblk m c 3 n (ix2 (0 : Fin 1) k) = m ((c : Thread nD τ).loc main_arg3) (ix1 k) := by
  refine .trans ?_ (host_bias m c k)
  blk_ext [iblk, (index n).2.2.2.1]

theorem block_scale : iblk m c 7 n (ix2 (0 : Fin 1) d) = m ((c : Thread nD τ).loc main_arg7) (ix1 d) := by
  refine .trans ?_ (host_scale m c d)
  blk_ext [iblk, (index n).2.2.2.2.2.2.2.1]

theorem block_weight10 : iblk m c 10 n (ix2 k e) = m ((c : Thread nD τ).loc main_arg9) (ix2 k e) := by
  refine .trans ?_ (host_weight10 m c k e)
  blk_ext [iblk, (index n).2.2.2.2.2.2.2.2.2.2.1]

theorem block_weight11 : iblk m c 11 n (ix2 k e) = m ((c : Thread nD τ).loc main_arg10) (ix2 k e) := by
  refine .trans ?_ (host_weight11 m c k e)
  blk_ext [iblk, (index n).2.2.2.2.2.2.2.2.2.2.2.1]

/-- The reference's heads over the kernel's arguments. -/
def headed : FVec Ideal Reference7Ideal.S16384x2048 .f32 :=
  Reference7Ideal.Value.headed (F := Ideal) (summed (m ((c : Thread nD τ).loc main_arg4)) (m ((c : Thread nD τ).loc main_arg5)))
    (m ((c : Thread nD τ).loc main_arg6)) (m ((c : Thread nD τ).loc main_arg7))

theorem heads_eq (r : Fin 256) (h : Fin 16) (d : Fin 128) :
    headEntry (fun x => (fun u v : EReal => u + v) (iblk m c 4 n (ix2 r (colOf h x))) (iblk m c 5 n (ix2 r (colOf h x)))) d (iblk m c 7 n (ix2 (0 : Fin 1) d))
      (iblk m c 6 n (ix2 r (colOf h d))) = headed m c (ix2 (rowIn n r) (colOf h d)) := by
  refine .trans ?_ (headed_at _ _ _ (rowIn n r) h d).symm
  have ho : (fun x => (fun u v : EReal => u + v) (iblk m c 4 n (ix2 r (colOf h x))) (iblk m c 5 n (ix2 r (colOf h x)))) =
      fun x => summed (F := Ideal) (m ((c : Thread nD τ).loc main_arg4)) (m ((c : Thread nD τ).loc main_arg5)) (ix3 (rowIn n r) h x) :=
    funext fun x => .trans (congrArg₂ (fun u v : EReal => u + v) (block_forward m c n r _) (block_backward m c n r _))
      (summed_at _ _ (rowIn n r) h x).symm
  rw [ho]
  exact congrArg₂ (fun u v : EReal => headEntry _ d u v) (block_scale m c n d) (block_headGate m c n r _)

/-- The reference's result over the kernel's arguments. -/
def result : FVec Ideal Reference7Ideal.S16384x2048 .bf16 :=
  Reference7Ideal.Value.merged (F := Ideal) (Reference7Ideal.Value.convolved (m ((c : Thread nD τ).loc main_arg0)) (m ((c : Thread nD τ).loc main_arg1))
    (m ((c : Thread nD τ).loc main_arg2)) (m ((c : Thread nD τ).loc main_arg3))) (headed m c) (m ((c : Thread nD τ).loc main_arg8))
    (m ((c : Thread nD τ).loc main_arg9)) (m ((c : Thread nD τ).loc main_arg10))

theorem entry_eq : entry (iblk m c 0 n) (iblk m c 1 n) (iblk m c 2 n) (iblk m c 3 n) (iblk m c 8 n) (iblk m c 9 n) (iblk m c 10 n)
    (iblk m c 11 n) (fun r k => headed m c (ix2 (rowIn n r) k)) (ix2 i e) = result m c (ix2 (rowIn n i) e) := by
  refine .trans ?_ (merged_at _ _ _ _ _ (rowIn n i) e).symm
  unfold entry
  refine congrArg₂ (fun u v : EReal => u + v) (congrArg₂ (fun u v : EReal => u * v) (block_gates8 m c n i e) ?_)
    (congrArg₂ (fun u v : EReal => u * v) (block_gates9 m c n i e) ?_)
  · refine Finset.sum_congr rfl fun k _ => congrArg₂ (fun u v : EReal => u * v) (.trans ?_ (convolved_at _ _ _ _ (rowIn n i) k).symm)
      (block_weight10 m c n k e)
    exact congrArg₂ (fun u v : EReal => u * v) (block_gate m c n i k) (congrArg₂ (fun u v : EReal => u + v) (block_conv m c n i k)
      (congrArg₂ (fun u v : EReal => u * v) (block_skip m c n i k) (block_bias m c n k)))
  · exact Finset.sum_congr rfl fun k _ => congrArg₂ (fun u v : EReal => u * v) rfl (block_weight11 m c n k e)

theorem block_eq (y : S256x2048.Idx) (q : S16384x2048.Idx) (hr : (q 0).val = 256 * n.val + (y 0).val) (he : (q 1).val = (y 1).val) :
    (dats m 0 c).after 12 n y = result m c q := by
  have hq : q = ix2 (rowIn n (y 0)) (y 1) := by
    funext d
    fin_cases d
    · exact Fin.ext hr
    · exact Fin.ext he
  rw [after0_12, out_eq, pieces_at _ _ _ _ _ _ _ _ _ _ _ _ (fun r k => headed m c (ix2 (rowIn n r) k)) (heads_eq m c n), hq]
  exact (congrArg _ (ix2_eta y).symm).trans (entry_eq m c n (y 0) (y 1))

attribute [irreducible] result

/-- The kernel's result is the reference's. -/
theorem array : (dats m 0 c).arrAt 12 cfg0.N = result m c := by
  refine (dats m 0 c).arrAt_eq_of_covers 12 (result m c) (by decide +kernel) fun n hf y => ?_
  refine block_eq m c n y _ ?_ ?_
  · blk_simp [(index n).2.2.2.2.2.2.2.2.2.2.2.2]
    try omega
  · blk_simp [(index n).2.2.2.2.2.2.2.2.2.2.2.2]

end Cert.Kernel7Ideal.Value

end
-- ==== Proof.HyenaReference.lean ====
/- The Hyena branch's projections and short convolution as the reference computes them, read at an entry. -/
module

public import proofs.«01_k».proof.Proof.Gen.Reference8Ideal.Run
public import Idealize.ShloMosaic.Lib.Pipeline.ValueKit
public import Idealize.ShloMosaic.Lib.ValueIdxCore
public import Idealize.ShloMosaic.Lib.StableHlo.ReadAt
public import Idealize.ShloMosaic.Lib.KernelVsHost

@[expose] public section

set_option maxRecDepth 16384

noncomputable section

namespace Cert.Reference8Ideal.Value

open Cert.Reference8Ideal Cert.Reference8Ideal.Gen Idealize.ShloMosaic Idealize.ShloMosaic.TcCoe Idealize.SL.Sem Idealize.ShloMosaic.StableHlo

section

variable {F : FTy → Type} [FloatOps F]

/-- The three projections, side by side. -/
def product (h : FVec F S16384x2048 .bf16) (w : FVec F S2048x18496 .f32) : FVec F S16384x6144 .f32 :=
  extractStridedSlice S16384x6144 ![0, 0] (Host.dotGeneral dot_S16384x2048_S2048x18496_S16384x18496_1_0_0_1_n_n none (extf .f32 h bitsLt_bf16_f32) w) slices_S16384x18496_S16384x6144_0_0

/-- The rows of the grid, with a zero row before and after each. -/
def padded (p : FVec F S16384x6144 .f32) : FVec F S256x66x6144 .f32 :=
  pad S256x66x6144 ![0, 1, 0] ![0, 1, 0] ![0, 0, 0] (shapeCast _ p shapeCasts_S16384x6144_S256x64x6144) (sitofp .f32 (constantI S_ 32 0#32)) pads_S256x64x6144_S256x66x6144_000_110_000 h_S_

/-- The convolution of a padded array with three taps, along the rows of the grid. -/
def convolved (u : FVec F S256x66x6144 .f32) (c : FVec F S3x6144 .f32) : FVec F S16384x6144 .f32 :=
  shapeCast _ (addf (addf
    (mulf (extractStridedSlice S256x64x6144 ![0, 0, 0] u slices_S256x66x6144_S256x64x6144_0_0_0) (broadcastInDim S256x64x6144 ![0, 1, 2] bcast_S1x1x6144_S256x64x6144_0_1_2 (broadcastInDim S1x1x6144 ![2] bcast_S6144_S1x1x6144_2 (shapeCast _ (extractStridedSlice S1x6144 ![0, 0] c slices_S3x6144_S1x6144_0_0) shapeCasts_S1x6144_S6144))))
    (mulf (extractStridedSlice S256x64x6144 ![0, 1, 0] u slices_S256x66x6144_S256x64x6144_0_1_0) (broadcastInDim S256x64x6144 ![0, 1, 2] bcast_S1x1x6144_S256x64x6144_0_1_2 (broadcastInDim S1x1x6144 ![2] bcast_S6144_S1x1x6144_2 (shapeCast _ (extractStridedSlice S1x6144 ![1, 0] c slices_S3x6144_S1x6144_1_0) shapeCasts_S1x6144_S6144)))))
    (mulf (extractStridedSlice S256x64x6144 ![0, 2, 0] u slices_S256x66x6144_S256x64x6144_0_2_0) (broadcastInDim S256x64x6144 ![0, 1, 2] bcast_S1x1x6144_S256x64x6144_0_1_2 (broadcastInDim S1x1x6144 ![2] bcast_S6144_S1x1x6144_2 (shapeCast _ (extractStridedSlice S1x6144 ![2, 0] c slices_S3x6144_S1x6144_2_0) shapeCasts_S1x6144_S6144))))) shapeCasts_S256x64x6144_S16384x6144

/-- The first of the three. -/
def first (u : FVec F S16384x6144 .f32) : FVec F S16384x2048 .bf16 :=
  truncf .bf16 (extractStridedSlice S16384x2048 ![0, 0] u slices_S16384x6144_S16384x2048_0_0) bitsLt_bf16_f32

/-- The product of the second and the third. -/
def others (u : FVec F S16384x6144 .f32) : FVec F S16384x2048 .bf16 :=
  truncf .bf16 (mulf (extractStridedSlice S16384x2048 ![0, 2048] u slices_S16384x6144_S16384x2048_0_2048)
    (extractStridedSlice S16384x2048 ![0, 4096] u slices_S16384x6144_S16384x2048_0_4096)) bitsLt_bf16_f32

theorem result_eq (m : (ℓ : Loc nD τ sig) → Buf (Elt F) ℓ) (c : Dev nD) : res_main_v35 m c =
    others (convolved (padded (product (m ((c.tc : Thread nD τ).loc main_arg0)) (m ((c.tc : Thread nD τ).loc main_arg1))))
      (m ((c.tc : Thread nD τ).loc main_arg2))) := rfl

end

variable (h : FVec Ideal S16384x2048 .bf16) (w : FVec Ideal S2048x18496 .f32) (c : FVec Ideal S3x6144 .f32)

theorem product_at (r : Fin 16384) (e : Fin 6144) :
    product h w (ix2 r e) = (∑ k : Fin 2048, h (ix2 r k) * w (ix2 k (⟨e.val, by omega⟩ : Fin 18496)) : EReal) := by
  unfold product
  pointwise

/-- Three taps at place `q` of a row of the grid, with zeros beyond its ends. -/
def taps (f : Fin 64 → EReal) (q : Fin 64) (u v w : EReal) : EReal :=
  (if q.val = 0 then 0 else f (⟨q.val - 1, by omega⟩ : Fin 64)) * u + f q * v +
    (if h : q.val = 63 then 0 else f (⟨q.val + 1, by omega⟩ : Fin 64)) * w

theorem padded_inside (p : FVec Ideal S16384x6144 .f32) (b : Fin 256) (q : Fin 66) (e : Fin 6144) (k : Fin 64) (hk : q.val = 1 + k.val) :
    padded p (ix3 b q e) = p (ix2 (⟨64 * b.val + k.val, by omega⟩ : Fin 16384) e) := by
  unfold padded
  rw [pad_apply_of_inside _ _ _ _ _ _ _ _ (ix3 b k e) (fun a => by fin_cases a <;> simp [ix3, hk])]
  pointwise
  exact congrArg p (congrArg (fun z => ix2 z e) (Fin.ext (by simp [Nat.mul_comm])))

theorem padded_outside (p : FVec Ideal S16384x6144 .f32) (b : Fin 256) (q : Fin 66) (e : Fin 6144) (hq : q.val = 0 ∨ q.val = 65) :
    padded p (ix3 b q e) = (0 : EReal) := by
  unfold padded
  rw [pad_apply_of_not_inside _ _ _ _ _ _ _ _ (1 : Fin 3) (by simp [ix3]; omega)]
  pointwise
  simp [FloatOps.sitofp]

theorem convolved_at (p : FVec Ideal S16384x6144 .f32) (b : Fin 256) (q : Fin 64) (e : Fin 6144) :
    convolved (padded p) c (ix2 (⟨64 * b.val + q.val, by omega⟩ : Fin 16384) e) =
      taps (fun k => p (ix2 (⟨64 * b.val + k.val, by omega⟩ : Fin 16384) e)) q
        (c (ix2 (0 : Fin 3) e)) (c (ix2 (1 : Fin 3) e)) (c (ix2 (2 : Fin 3) e)) := by
  have hm := padded_inside p b (⟨1 + q.val, by omega⟩ : Fin 66) e q rfl
  have hp : padded p (ix3 b (⟨q.val, by omega⟩ : Fin 66) e) =
      if q.val = 0 then (0 : EReal) else p (ix2 (⟨64 * b.val + (q.val - 1), by omega⟩ : Fin 16384) e) := by
    split
    · exact padded_outside p b _ e (.inl ‹_›)
    · exact padded_inside p b _ e (⟨q.val - 1, by omega⟩ : Fin 64) (by simp; omega)
  have hn : padded p (ix3 b (⟨2 + q.val, by omega⟩ : Fin 66) e) =
      if h : q.val = 63 then (0 : EReal) else p (ix2 (⟨64 * b.val + (q.val + 1), by omega⟩ : Fin 16384) e) := by
    split
    · exact padded_outside p b _ e (.inr (by simp; omega))
    · exact padded_inside p b _ e (⟨q.val + 1, by omega⟩ : Fin 64) (by simp; omega)
  have key : convolved (padded p) c (ix2 (⟨64 * b.val + q.val, by omega⟩ : Fin 16384) e) =
      (padded p (ix3 b (⟨q.val, by omega⟩ : Fin 66) e) * c (ix2 (0 : Fin 3) e) +
        padded p (ix3 b (⟨1 + q.val, by omega⟩ : Fin 66) e) * c (ix2 (1 : Fin 3) e) +
        padded p (ix3 b (⟨2 + q.val, by omega⟩ : Fin 66) e) * c (ix2 (2 : Fin 3) e) : EReal) := by
    generalize padded p = u
    unfold convolved
    pointwise
  rw [key, hm, hp, hn]
  rfl

theorem first_at (u : FVec Ideal S16384x6144 .f32) (r : Fin 16384) (e : Fin 2048) :
    first u (ix2 r e) = u (ix2 r (⟨e.val, by omega⟩ : Fin 6144)) := by
  unfold first
  pointwise

theorem others_at (u : FVec Ideal S16384x6144 .f32) (r : Fin 16384) (e : Fin 2048) :
    others u (ix2 r e) = (u (ix2 r (⟨2048 + e.val, by omega⟩ : Fin 6144)) * u (ix2 r (⟨4096 + e.val, by omega⟩ : Fin 6144)) : EReal) := by
  unfold others
  pointwise

end Cert.Reference8Ideal.Value

end
-- ==== Proof.HyenaKernel.lean ====
/- The Hyena branch's projections and short convolution as the kernel computes them, a tile at a time. -/
module

public import proofs.«01_k».proof.Proof.Gen.Kernel8Ideal.Frame
public import proofs.«01_k».proof.Proof.HyenaReference

@[expose] public section

set_option maxRecDepth 16384

noncomputable section

namespace Cert.Kernel8Ideal.Gen

open Cert.Kernel8Ideal Idealize.ShloMosaic Idealize.ShloMosaic.TcCoe Idealize.SL.Sem

open Reference8Ideal.Value (taps)

/-- The place in its row of the grid that a tile's row has. -/
theorem place_at : ∀ r : Fin 256, k0_pay32 (ix2 r (0 : Fin 1)) = BitVec.ofNat 32 (r.val % 64) := by
  decide +kernel

theorem starts_at : ∀ r : Fin 256, IntOp.cmpi .eq (BitVec.ofNat 32 (r.val % 64)) 0#32 = if r.val % 64 = 0 then 1#1 else 0#1 := by
  decide +kernel

theorem ends_at : ∀ r : Fin 256, IntOp.cmpi .eq (BitVec.ofNat 32 (r.val % 64)) 63#32 = if r.val % 64 = 63 then 1#1 else 0#1 := by
  decide +kernel

theorem product_at (h : Vec Ideal S256x2048 .bf16) (w : Vec Ideal S2048x256 .bf16) (r e : Fin 256) :
    k0_pay4 h w (ix4 (0 : Fin 1) (0 : Fin 1) r e) = (∑ k : Fin 2048, h (ix2 r k) * w (ix2 k e) : EReal) := by
  unfold k0_pay4
  pointwise

theorem conv_at (cw : Vec Ideal S3x256 .f32) (p prev nxt : Vec Ideal S1x1x256x256 .f32) (r e : Fin 256) :
    k0_pay33 cw k0_pay32 p prev nxt (ix2 r e) =
      ((if r.val % 64 = 0 then 0 else prev (ix4 (0 : Fin 1) (0 : Fin 1) r e)) * cw (ix2 (0 : Fin 3) e) +
        p (ix4 (0 : Fin 1) (0 : Fin 1) r e) * cw (ix2 (1 : Fin 3) e) +
        (if r.val % 64 = 63 then 0 else nxt (ix4 (0 : Fin 1) (0 : Fin 1) r e)) * cw (ix2 (2 : Fin 3) e) : EReal) := by
  have h := place_at r
  generalize k0_pay32 = z at h ⊢
  unfold k0_pay33
  pointwise
  rw [h, starts_at, ends_at]
  split <;> split <;> simp [Scalar.select]

section
variable {F : FTy → Type} [FloatOps F]

theorem kept_inb (s : Fin 2) (j : Fin 3) (o n : Nat) (ho : o + n ≤ 272) :
    ∀ a : Fin 4, (![s.val, j.val, o, 0] : Fin 4 → Nat) a + (![1, 1, n, 256] : Fin 4 → Nat) a ≤ S2x3x272x256.size a := by
  intro a
  fin_cases a <;> simp [S2x3x272x256] <;> omega

/-- A projection's tile kept in the scratch memory, between its two rows of zeros. -/
def kept (s : Fin 2) (j : Fin 3) (p : Vec F S1x1x256x256 .f32) (L : List (View.Piece (Elt F) S2x3x272x256 .f32)) :
    List (View.Piece (Elt F) S2x3x272x256 .f32) :=
  ⟨Rect.unit ![s.val, j.val, 264, 0] S1x1x1x256.size (kept_inb s j 264 1 (by omega)), k0_pay3⟩ ::
  ⟨Rect.unit ![s.val, j.val, 8, 0] S1x1x256x256.size (kept_inb s j 8 256 (by omega)), p⟩ ::
  ⟨Rect.unit ![s.val, j.val, 7, 0] S1x1x1x256.size (kept_inb s j 7 1 (by omega)), k0_pay3⟩ :: L

/-- The three projections' tiles. -/
def keptAll (s : Fin 2) (p : Fin 3 → Vec F S1x1x256x256 .f32) (L : List (View.Piece (Elt F) S2x3x272x256 .f32)) :
    List (View.Piece (Elt F) S2x3x272x256 .f32) :=
  kept s 2 (p 2) (kept s 1 (p 1) (kept s 0 (p 0) L))

/-- What the scratch memory holds after tile `k`. -/
def hist (p : Nat → Fin 3 → Vec F S1x1x256x256 .f32) : Nat → List (View.Piece (Elt F) S2x3x272x256 .f32)
  | 0 => keptAll 0 (p 0) []
  | k + 1 => keptAll ⟨(k + 1) % 2, Nat.mod_lt _ (by omega)⟩ (p (k + 1)) (hist p k)

/-- A tile's rows of the stream, its columns of a weight, and of the taps. -/
def rowPart (h : Vec F S1024x2048 .bf16) (i : Fin 4) : Vec F S256x2048 .bf16 :=
  View.ld h (Rect.unit ![256 * i.val, 0] S256x2048.size (fun a => by fin_cases a <;> simp [S1024x2048, S256x2048] <;> omega))

def colPart (w : Vec F S2048x512 .bf16) (j : Fin 2) : Vec F S2048x256 .bf16 :=
  View.ld w (Rect.unit ![0, 256 * j.val] S2048x256.size (fun a => by fin_cases a <;> simp [S2048x512, S2048x256] <;> omega))

def tapPart (c : Vec F S3x512 .f32) (j : Fin 2) : Vec F S3x256 .f32 :=
  View.ld c (Rect.unit ![0, 256 * j.val] S3x256.size (fun a => by fin_cases a <;> simp [S3x512, S3x256] <;> omega))

/-- The row and the column of tile `k` of a block. -/
def rowOf (k : Nat) : Fin 4 := ⟨k % 4, Nat.mod_lt _ (by omega)⟩
def colOf (k : Nat) : Fin 2 := ⟨k / 4 % 2, Nat.mod_lt _ (by omega)⟩

/-- Tile `k` of projection `j`. -/
def products (h : Vec F S1024x2048 .bf16) (w : Fin 3 → Vec F S2048x512 .bf16) (k : Nat) (j : Fin 3) : Vec F S1x1x256x256 .f32 :=
  k0_pay4 (rowPart h (rowOf k)) (colPart (w j) (colOf k))

/-- A tile read back from the scratch memory, from row `o`. -/
def readBack (v : View sig .tc .vmem S2x3x272x256 .f32) (L : List (View.Piece (Elt F) S2x3x272x256 .f32)) (s : Fin 2) (j : Fin 3) (o : Nat)
    (ho : o + 256 ≤ 272) : Vec F S1x1x256x256 .f32 :=
  v.readCov L (Rect.unit (s := S2x3x272x256) ![s.val, j.val, o, 0] S1x1x256x256.size (kept_inb s j o 256 ho)).toLoadRect

/-- The convolved tile. -/
def convTile (v : View sig .tc .vmem S2x3x272x256 .f32) (L : List (View.Piece (Elt F) S2x3x272x256 .f32)) (cw : Vec F S3x256 .f32) (s : Fin 2) (j : Fin 3) :
    FVec F S256x256 .f32 :=
  k0_pay33 cw k0_pay32 (readBack v L s j 8 (by omega)) (readBack v L s j 7 (by omega)) (readBack v L s j 9 (by omega))

/-- Convolved tile `k` of projection `j`: the next tile's products are kept before it is read. -/
def conv (v : View sig .tc .vmem S2x3x272x256 .f32) (h : Vec F S1024x2048 .bf16) (w : Fin 3 → Vec F S2048x512 .bf16) (c : Fin 3 → Vec F S3x512 .f32)
    (k : Nat) (j : Fin 3) : FVec F S256x256 .f32 :=
  convTile v (hist (products h w) (min (k + 1) 7)) (tapPart (c j) (colOf k)) ⟨k % 2, Nat.mod_lt _ (by omega)⟩ j

/-- Where tile `k` goes. -/
def place (k : Nat) : Rect S1024x512 :=
  Rect.unit ![256 * (rowOf k).val, 256 * (colOf k).val] S256x256.size
    (fun a => by fin_cases a <;> simp [S1024x512, S256x256] <;> omega)

/-- The stores of a block of the first result, and of the second, the last one's first. -/
def firstPieces (v : View sig .tc .vmem S2x3x272x256 .f32) (h : Vec F S1024x2048 .bf16) (w : Fin 3 → Vec F S2048x512 .bf16) (c : Fin 3 → Vec F S3x512 .f32) :
    List (View.Piece (Elt F) S1024x512 .bf16) :=
  [⟨place 7, k0_pay37 (conv v h w c 7 0)⟩, ⟨place 6, k0_pay37 (conv v h w c 6 0)⟩, ⟨place 5, k0_pay37 (conv v h w c 5 0)⟩,
   ⟨place 4, k0_pay37 (conv v h w c 4 0)⟩, ⟨place 3, k0_pay37 (conv v h w c 3 0)⟩, ⟨place 2, k0_pay37 (conv v h w c 2 0)⟩,
   ⟨place 1, k0_pay37 (conv v h w c 1 0)⟩, ⟨place 0, k0_pay37 (conv v h w c 0 0)⟩]

def otherPieces (v : View sig .tc .vmem S2x3x272x256 .f32) (h : Vec F S1024x2048 .bf16) (w : Fin 3 → Vec F S2048x512 .bf16) (c : Fin 3 → Vec F S3x512 .f32) :
    List (View.Piece (Elt F) S1024x512 .bf16) :=
  [⟨place 7, k0_pay1 (conv v h w c 7 1) (conv v h w c 7 2)⟩, ⟨place 6, k0_pay1 (conv v h w c 6 1) (conv v h w c 6 2)⟩,
   ⟨place 5, k0_pay1 (conv v h w c 5 1) (conv v h w c 5 2)⟩, ⟨place 4, k0_pay1 (conv v h w c 4 1) (conv v h w c 4 2)⟩,
   ⟨place 3, k0_pay1 (conv v h w c 3 1) (conv v h w c 3 2)⟩, ⟨place 2, k0_pay1 (conv v h w c 2 1) (conv v h w c 2 2)⟩,
   ⟨place 1, k0_pay1 (conv v h w c 1 1) (conv v h w c 1 2)⟩, ⟨place 0, k0_pay1 (conv v h w c 0 1) (conv v h w c 0 2)⟩]

/-- Three arrays, by number. -/
def three {α : Type} (a b d : α) : Fin 3 → α
  | 0 => a
  | 1 => b
  | 2 => d

theorem firstPieces_cover (v : View sig .tc .vmem S2x3x272x256 .f32) (h : Vec F S1024x2048 .bf16) (w : Fin 3 → Vec F S2048x512 .bf16)
    (c : Fin 3 → Vec F S3x512 .f32) (y : S1024x512.Idx) : ∃ p ∈ firstPieces v h w c, y ∈ p.1.set :=
  View.cover_of_tiledL (firstPieces v h w c) S256x256.size (by sl_kernel_rfl) y

theorem otherPieces_cover (v : View sig .tc .vmem S2x3x272x256 .f32) (h : Vec F S1024x2048 .bf16) (w : Fin 3 → Vec F S2048x512 .bf16)
    (c : Fin 3 → Vec F S3x512 .f32) (y : S1024x512.Idx) : ∃ p ∈ otherPieces v h w c, y ∈ p.1.set :=
  View.cover_of_tiledL (otherPieces v h w c) S256x256.size (by sl_kernel_rfl) y

end

end Cert.Kernel8Ideal.Gen

end
-- ==== Proof.HyenaStores.lean ====
/- The stores of a grid point of the Hyena branch's projections. -/
module

public import proofs.«01_k».proof.Proof.HyenaKernel

@[expose] public section

set_option maxRecDepth 16384

noncomputable section

namespace Cert.Kernel8Ideal.Gen

open Cert.Kernel8Ideal Idealize.ShloMosaic Idealize.ShloMosaic.TcCoe Idealize.SL.Sem

variable {F : FTy → Type} [FloatOps F]

variable (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S3x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S2x3x272x256 .f32) (harg11 : arg11.IsWhole)
  (x0 : Vec F S1024x2048 .bf16) (x1 : Vec F S2048x512 .bf16) (x2 : Vec F S2048x512 .bf16) (x3 : Vec F S2048x512 .bf16) (x4 : Vec F S3x512 .f32) (x5 : Vec F S3x512 .f32) (x6 : Vec F S3x512 .f32)

theorem first_stores : (kernelRun0_A (F := F) c i arg2 harg2 arg3 harg3 arg4 harg4 arg5 harg5 arg6 harg6 arg7 harg7 arg8 harg8 arg9 harg9 arg10 harg10 arg11 harg11 x0 x1 x2 x3 x4 x5 x6).1 =
    firstPieces arg11.view (arg2.view.read (Elt F) (harg2.unread x0))
      (three (arg3.view.read (Elt F) (harg3.unread x1)) (arg4.view.read (Elt F) (harg4.unread x2)) (arg5.view.read (Elt F) (harg5.unread x3)))
      (three (arg6.view.read (Elt F) (harg6.unread x4)) (arg7.view.read (Elt F) (harg7.unread x5)) (arg8.view.read (Elt F) (harg8.unread x6))) := by
  sl_kernel_rfl

theorem other_stores : (kernelRun0_A (F := F) c i arg2 harg2 arg3 harg3 arg4 harg4 arg5 harg5 arg6 harg6 arg7 harg7 arg8 harg8 arg9 harg9 arg10 harg10 arg11 harg11 x0 x1 x2 x3 x4 x5 x6).2.1 =
    otherPieces arg11.view (arg2.view.read (Elt F) (harg2.unread x0))
      (three (arg3.view.read (Elt F) (harg3.unread x1)) (arg4.view.read (Elt F) (harg4.unread x2)) (arg5.view.read (Elt F) (harg5.unread x3)))
      (three (arg6.view.read (Elt F) (harg6.unread x4)) (arg7.view.read (Elt F) (harg7.unread x5)) (arg8.view.read (Elt F) (harg8.unread x6))) := by
  sl_kernel_rfl

end Cert.Kernel8Ideal.Gen

end
-- ==== Proof.HyenaTiles.lean ====
/- The kernel's tiles of the Hyena branch: the products kept in scratch memory, read back, are the convolution of a block. -/
module

public import proofs.«01_k».proof.Proof.HyenaKernel

@[expose] public section

set_option maxRecDepth 16384

noncomputable section

namespace Cert.Kernel8Ideal.Gen

open Cert.Kernel8Ideal Idealize.ShloMosaic Idealize.ShloMosaic.TcCoe Idealize.SL.Sem

open Reference8Ideal.Value (taps)

section

variable (s : Fin 2) (j : Fin 3) (p : Vec Ideal S1x1x256x256 .f32) (L : List (View.Piece (Elt Ideal) S2x3x272x256 .f32))

omit s j p in
/-- A store elsewhere along axis `a` leaves an entry. -/
theorem skip (o n : Fin S2x3x272x256.rank → Nat) (inb : ∀ a, o a + n a ≤ S2x3x272x256.size a)
    (z : (Rect.unit (s := S2x3x272x256) o n inb).shape.Idx → Elt Ideal .f32) (y : S2x3x272x256.Idx) (a : Fin S2x3x272x256.rank)
    (h : ¬(o a ≤ (y a).val ∧ (y a).val < o a + n a)) :
    View.canon ((⟨Rect.unit o n inb, z⟩ : View.Piece (Elt Ideal) S2x3x272x256 .f32) :: L) y = View.canon L y :=
  View.canon_cons_of_not_mem _ _ fun hm => h ((Rect.mem_set_unit (inb := inb)).mp hm a)

/-- Entries of another slot or another projection are as before. -/
theorem kept_other (s' : Fin 2) (j' : Fin 3) (r : Fin 272) (e : Fin 256) (hne : s' ≠ s ∨ j' ≠ j) :
    View.canon (kept s j p L) (ix4 s' j' r e) = View.canon L (ix4 s' j' r e) := by
  have h : ¬(s.val ≤ s'.val ∧ s'.val < s.val + 1) ∨ ¬(j.val ≤ j'.val ∧ j'.val < j.val + 1) := by
    rcases hne with hne | hne
    · exact .inl fun h => hne (Fin.ext (by omega))
    · exact .inr fun h => hne (Fin.ext (by omega))
  unfold kept
  rcases h with h | h
  · refine (skip _ _ _ _ _ _ 0 h).trans ?_
    refine (skip _ _ _ _ _ _ 0 h).trans ?_
    exact skip _ _ _ _ _ _ 0 h
  · refine (skip _ _ _ _ _ _ 1 h).trans ?_
    refine (skip _ _ _ _ _ _ 1 h).trans ?_
    exact skip _ _ _ _ _ _ 1 h

/-- A kept tile's own entries. -/
theorem kept_own (r e : Fin 256) :
    View.canon (kept s j p L) (ix4 s j (⟨8 + r.val, by omega⟩ : Fin 272) e) = p (ix4 (0 : Fin 1) (0 : Fin 1) r e) := by
  unfold kept
  refine (skip _ _ _ _ _ _ 2 ?_).trans ?_
  · show ¬(264 ≤ 8 + r.val ∧ 8 + r.val < 264 + 1)
    omega
  · have hi : (ix4 s j (⟨8 + r.val, by omega⟩ : Fin 272) e : S2x3x272x256.Idx) =
        (Rect.unit (s := S2x3x272x256) ![s.val, j.val, 8, 0] S1x1x256x256.size (kept_inb s j 8 256 (by omega))).emb
          (ix4 (0 : Fin 1) (0 : Fin 1) r e) := by
      funext d
      fin_cases d <;> apply Fin.ext <;> simp [ix4, Rect.emb, Rect.unit]
    rw [hi]
    exact View.canon_cons_emb _ _ _ _

end

variable (p : Fin 3 → Vec Ideal S1x1x256x256 .f32) (L : List (View.Piece (Elt Ideal) S2x3x272x256 .f32))

theorem keptAll_other (s s' : Fin 2) (j : Fin 3) (r : Fin 272) (e : Fin 256) (hne : s' ≠ s) :
    View.canon (keptAll s p L) (ix4 s' j r e) = View.canon L (ix4 s' j r e) := by
  unfold keptAll
  rw [kept_other _ _ _ _ _ _ _ _ (.inl hne), kept_other _ _ _ _ _ _ _ _ (.inl hne), kept_other _ _ _ _ _ _ _ _ (.inl hne)]

theorem keptAll_own (s : Fin 2) (j : Fin 3) (r e : Fin 256) :
    View.canon (keptAll s p L) (ix4 s j (⟨8 + r.val, by omega⟩ : Fin 272) e) = p j (ix4 (0 : Fin 1) (0 : Fin 1) r e) := by
  unfold keptAll
  fin_cases j
  · refine (kept_other _ _ _ _ s 0 _ _ (.inr (by decide))).trans ?_
    refine (kept_other _ _ _ _ s 0 _ _ (.inr (by decide))).trans ?_
    exact kept_own s 0 _ _ r e
  · refine (kept_other _ _ _ _ s 1 _ _ (.inr (by decide))).trans ?_
    exact kept_own s 1 _ _ r e
  · exact kept_own s 2 _ _ r e

/-- Tile `k` is still kept when it is read, after the next tile's products. -/
theorem hist_at (P : Nat → Fin 3 → Vec Ideal S1x1x256x256 .f32) (k : Nat) (hk : k < 8) (j : Fin 3) (r e : Fin 256) :
    View.canon (hist P (min (k + 1) 7)) (ix4 (⟨k % 2, Nat.mod_lt _ (by omega)⟩ : Fin 2) j (⟨8 + r.val, by omega⟩ : Fin 272) e) =
      P k j (ix4 (0 : Fin 1) (0 : Fin 1) r e) := by
  have own : ∀ k : Nat, View.canon (hist P k) (ix4 (⟨k % 2, Nat.mod_lt _ (by omega)⟩ : Fin 2) j (⟨8 + r.val, by omega⟩ : Fin 272) e) =
      P k j (ix4 (0 : Fin 1) (0 : Fin 1) r e) := fun k => by
    cases k with
    | zero => exact keptAll_own _ _ 0 j r e
    | succ k => exact keptAll_own _ _ _ j r e
  rcases (show k = 7 ∨ k < 7 by omega) with rfl | h7
  · exact own 7
  · rw [show min (k + 1) 7 = k + 1 by omega]
    refine (keptAll_other _ _ _ _ j _ e ?_).trans (own k)
    intro h
    have := congrArg Fin.val h
    simp at this
    omega

/-- Convolved from the kept tile. -/
theorem convTile_at (v : View sig .tc .vmem S2x3x272x256 .f32) (L : List (View.Piece (Elt Ideal) S2x3x272x256 .f32)) (cw : Vec Ideal S3x256 .f32)
    (s : Fin 2) (j : Fin 3) (q : Vec Ideal S1x1x256x256 .f32)
    (hq : ∀ r e : Fin 256, View.canon L (ix4 s j (⟨8 + r.val, by omega⟩ : Fin 272) e) = q (ix4 (0 : Fin 1) (0 : Fin 1) r e)) (r e : Fin 256) :
    convTile v L cw s j (ix2 r e) =
      taps (fun k => q (ix4 (0 : Fin 1) (0 : Fin 1) (⟨64 * (r.val / 64) + k.val, by omega⟩ : Fin 256) e)) (⟨r.val % 64, by omega⟩ : Fin 64)
        (cw (ix2 (0 : Fin 3) e)) (cw (ix2 (1 : Fin 3) e)) (cw (ix2 (2 : Fin 3) e)) := by
  have rd : ∀ (o : Nat) (ho : o + 256 ≤ 272) (z : Fin 256) (hz : 8 + z.val = o + r.val),
      readBack v L s j o ho (ix4 (0 : Fin 1) (0 : Fin 1) r e) = q (ix4 (0 : Fin 1) (0 : Fin 1) z e) := fun o ho z hz => by
    unfold readBack
    rw [View.readCov_eq_canon']
    refine Eq.trans (congrArg (View.canon L) ?_) (hq z e)
    funext d
    fin_cases d <;> apply Fin.ext <;> simp [ix4, LoadRect.idx, Rect.unit] <;> omega
  unfold convTile
  rw [conv_at]
  unfold taps
  refine congrArg₂ (fun a b : EReal => a + b) (congrArg₂ (fun a b : EReal => a + b) ?_ ?_) ?_
  · refine congrArg (fun a : EReal => a * _) ?_
    dsimp only
    split
    · rfl
    · exact rd 7 _ _ (by simp; omega)
  · refine congrArg (fun a : EReal => a * _) ?_
    exact rd 8 _ _ (by simp; omega)
  · refine congrArg (fun a : EReal => a * _) ?_
    dsimp only
    split
    · rfl
    · exact rd 9 _ _ (by simp; omega)

/-- An entry of a block of projection `j`, convolved. -/
def entry (h : Vec Ideal S1024x2048 .bf16) (w : Fin 3 → Vec Ideal S2048x512 .bf16) (c : Fin 3 → Vec Ideal S3x512 .f32) (j : Fin 3)
    (y : S1024x512.Idx) : EReal :=
  taps (fun q => (∑ k : Fin 2048, h (ix2 (⟨64 * ((y 0).val / 64) + q.val, by have : (y 0).val < 1024 := (y 0).isLt; omega⟩ : Fin 1024) k) * w j (ix2 k (y 1)) : EReal))
    (⟨(y 0).val % 64, by omega⟩ : Fin 64) (c j (ix2 (0 : Fin 3) (y 1))) (c j (ix2 (1 : Fin 3) (y 1))) (c j (ix2 (2 : Fin 3) (y 1)))

variable (v : View sig .tc .vmem S2x3x272x256 .f32) (h : Vec Ideal S1024x2048 .bf16) (w : Fin 3 → Vec Ideal S2048x512 .bf16)
  (c : Fin 3 → Vec Ideal S3x512 .f32)

theorem conv_entry (k : Nat) (hk : k < 8) (j : Fin 3) (x : S256x256.Idx) : conv v h w c k j x = entry h w c j ((place k).emb x) := by
  have y0 : ((place k).emb x 0).val = 256 * (rowOf k).val + (x 0).val := congrArg (256 * (rowOf k).val + ·) (Nat.one_mul _)
  have y1 : ((place k).emb x 1).val = 256 * (colOf k).val + (x 1).val := congrArg (256 * (colOf k).val + ·) (Nat.one_mul _)
  generalize (place k).emb x = y at y0 y1
  have x0 : (x 0).val < 256 := (x 0).isLt
  have htap : ∀ o : Fin 3, tapPart (c j) (colOf k) (ix2 o (x 1)) = c j (ix2 o (y 1)) := fun o => by
    unfold tapPart
    refine congrArg (c j) (funext fun d => ?_)
    fin_cases d <;> apply Fin.ext <;> simp [Rect.unit, ix2, y1]
  have hcol : ∀ o : Fin 2048, colPart (w j) (colOf k) (ix2 o (x 1)) = w j (ix2 o (y 1)) := fun o => by
    unfold colPart
    refine congrArg (w j) (funext fun d => ?_)
    fin_cases d <;> apply Fin.ext <;> simp [Rect.unit, ix2, y1]
  have hrow : ∀ (r : Fin 256) (z : Fin 1024) (hz : z.val = 256 * (rowOf k).val + r.val) (o : Fin 2048),
      rowPart h (rowOf k) (ix2 r o) = h (ix2 z o) := fun r z hz o => by
    unfold rowPart
    refine congrArg h (funext fun d => ?_)
    fin_cases d <;> apply Fin.ext <;> simp [Rect.unit, ix2, hz]
  rw [← ix2_eta x]
  unfold conv
  refine (convTile_at v _ _ _ j (products h w k j) (fun r e => hist_at (products h w) k hk j r e) (x 0) (x 1)).trans ?_
  unfold entry
  rw [htap, htap, htap, show (⟨(y 0).val % 64, by omega⟩ : Fin 64) = ⟨(x 0).val % 64, by omega⟩ from Fin.ext (by simp [y0]; omega)]
  refine congrArg (fun f => taps f _ _ _ _) (funext fun q => ?_)
  unfold products
  refine (product_at _ _ _ _).trans (Finset.sum_congr rfl fun o _ => ?_)
  exact congrArg₂ (fun u v : EReal => u * v) (hrow _ _ (by simp [y0]; omega) o) (hcol o)

/-- A block of the first result, and of the second. -/
def firstEntry : Vec Ideal S1024x512 .bf16 := fun y => entry h w c 0 y
def otherEntry : Vec Ideal S1024x512 .bf16 := fun y => (entry h w c 1 y * entry h w c 2 y : EReal)

theorem first_tile (k : Nat) (hk : k < 8) (x : S256x256.Idx) : k0_pay37 (conv v h w c k 0) x = firstEntry h w c ((place k).emb x) :=
  conv_entry v h w c k hk 0 x

theorem other_tile (k : Nat) (hk : k < 8) (x : S256x256.Idx) :
    k0_pay1 (conv v h w c k 1) (conv v h w c k 2) x = otherEntry h w c ((place k).emb x) :=
  congrArg₂ (fun u v : EReal => u * v) (conv_entry v h w c k hk 1 x) (conv_entry v h w c k hk 2 x)

theorem firstPieces_at : View.canon (firstPieces v h w c) = firstEntry h w c := by
  funext y
  refine View.canon_apply_of_pieces (Val := Elt Ideal) (firstEntry h w c) _ ?_ y (firstPieces_cover v h w c y)
  intro p hp x
  simp only [firstPieces, List.mem_cons, List.not_mem_nil, or_false] at hp
  obtain rfl | rfl | rfl | rfl | rfl | rfl | rfl | rfl := hp
  all_goals exact first_tile v h w c _ (by omega) x

theorem otherPieces_at : View.canon (otherPieces v h w c) = otherEntry h w c := by
  funext y
  refine View.canon_apply_of_pieces (Val := Elt Ideal) (otherEntry h w c) _ ?_ y (otherPieces_cover v h w c y)
  intro p hp x
  simp only [otherPieces, List.mem_cons, List.not_mem_nil, or_false] at hp
  obtain rfl | rfl | rfl | rfl | rfl | rfl | rfl | rfl := hp
  all_goals exact other_tile v h w c _ (by omega) x

end Cert.Kernel8Ideal.Gen

end
-- ==== Proof.HyenaArrays.lean ====
/- The Hyena branch's projections: each grid point's blocks of the kernel's results are the reference's. -/
module

public import proofs.«01_k».proof.Proof.HyenaStores
public import proofs.«01_k».proof.Proof.HyenaTiles
public import proofs.«01_k».proof.Proof.Gen.Kernel8Ideal.Value

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)
open Reference8Ideal.Value (taps product padded convolved first others convolved_at first_at others_at)

variable (m : (ℓ : Loc nD τ sig) → Buf (Elt Ideal) ℓ) (c : Dev nD)

/-- A point's blocks of the three weights, and of the taps. -/
def weights (t : Fin cfg0.N) : Fin 3 → Vec Ideal S2048x512 .bf16 := three (X0_1 m c t) (X0_2 m c t) (X0_3 m c t)
def tapBlocks (t : Fin cfg0.N) : Fin 3 → Vec Ideal S3x512 .f32 := three (iblk m c 4 t) (iblk m c 5 t) (iblk m c 6 t)

theorem outs_first (t : Fin cfg0.N) : (outsAt0 m c t).1 = firstEntry (iblk m c 0 t) (weights m c t) (tapBlocks m c t) := by
  unfold outsAt0
  dsimp only
  unfold out0_A_7
  refine (View.read_writes_junk_eq_canon _ _).trans ?_
  rw [first_stores, firstPieces_at]
  simp only [Memref.IsWhole.read_unread]
  rfl

theorem outs_other (t : Fin cfg0.N) : (outsAt0 m c t).2 = otherEntry (iblk m c 0 t) (weights m c t) (tapBlocks m c t) := by
  unfold outsAt0
  dsimp only
  unfold out0_A_8
  refine (View.read_writes_junk_eq_canon _ _).trans ?_
  rw [other_stores, otherPieces_at]
  simp only [Memref.IsWhole.read_unread]
  rfl

/-- The grid point whose columns are block `j` and whose rows are block `n`. -/
def pt (j : Fin 4) (n : Fin 16) : Fin cfg0.N :=
  ⟨16 * j.val + n.val, lt_of_lt_of_eq (by omega : 16 * j.val + n.val < 64) N_0.symm⟩

theorem point_eq (t : Fin cfg0.N) : ∃ j n, t = pt j n := by
  have ht : t.val < 64 := lt_of_lt_of_eq t.isLt N_0
  exact ⟨⟨t.val / 16, by omega⟩, ⟨t.val % 16, by omega⟩, Fin.ext (by show t.val = 16 * (t.val / 16) + t.val % 16; omega)⟩

theorem index : ∀ (j : Fin 4) (n : Fin 16),
    win0_0.index (pt j n) = ![n.val, 0] ∧ win0_1.index (pt j n) = ![0, j.val] ∧ win0_2.index (pt j n) = ![0, 4 + j.val] ∧
    win0_3.index (pt j n) = ![0, 8 + j.val] ∧ win0_4.index (pt j n) = ![0, j.val] ∧ win0_5.index (pt j n) = ![0, 4 + j.val] ∧
    win0_6.index (pt j n) = ![0, 8 + j.val] ∧ win0_7.index (pt j n) = ![n.val, j.val] ∧ win0_8.index (pt j n) = ![n.val, j.val] := by
  decide +kernel

/-- Row `i` of row block `n`, and column `e` of column block `j` of projection `s`. -/
def rowIn (n : Fin 16) (i : Fin 1024) : Fin 16384 := ⟨1024 * n.val + i.val, by omega⟩
def colIn (j : Fin 4) (e : Fin 512) : Fin 2048 := ⟨512 * j.val + e.val, by omega⟩
def colOfAll (s : Fin 3) (j : Fin 4) (e : Fin 512) : Fin 6144 := ⟨2048 * s.val + (colIn j e).val, by omega⟩

theorem host_stream (r : Fin 16384) (k : Fin 2048) :
    V m c (Pipeline.arrRef spec0 0) (ix2 r k) = m ((c : Thread nD τ).loc main_arg0) (ix2 r k) := by
  unfold V
  after_reads_at

theorem host_weight (k : Fin 2048) (e : Fin 18496) :
    V m c (Pipeline.arrRef spec0 1) (ix2 k e) = m ((c : Thread nD τ).loc main_arg1) (ix2 k e) := by
  unfold V
  after_reads_at

theorem host_taps (o : Fin 3) (e : Fin 6144) :
    V m c (Pipeline.arrRef spec0 4) (ix2 o e) = m ((c : Thread nD τ).loc main_arg2) (ix2 o e) := by
  unfold V
  after_reads_at

variable (j : Fin 4) (n : Fin 16) (i : Fin 1024) (e : Fin 512) (k : Fin 2048) (o : Fin 3)

theorem block_stream : iblk m c 0 (pt j n) (ix2 i k) = m ((c : Thread nD τ).loc main_arg0) (ix2 (rowIn n i) k) := by
  refine .trans ?_ (host_stream m c _ k)
  unfold rowIn
  blk_ext [iblk, (index j n).1]

theorem weight_0 : X0_1 m c (pt j n) (ix2 k e) =
    m ((c : Thread nD τ).loc main_arg1) (ix2 k (⟨(colOfAll 0 j e).val, by omega⟩ : Fin 18496)) := by
  refine .trans ?_ (host_weight m c k _)
  unfold X0_1 Pipeline.Window.fill
  rw [dif_pos (moved0_1 (pt j n) (ix2 k e))]
  unfold colOfAll colIn
  blk_ext [iblk, (index j n).2.1]

theorem taps_0 : iblk m c 4 (pt j n) (ix2 o e) = m ((c : Thread nD τ).loc main_arg2) (ix2 o (colOfAll 0 j e)) := by
  refine .trans ?_ (host_taps m c o _)
  unfold colOfAll colIn
  blk_ext [iblk, (index j n).2.2.2.2.1]

theorem weight_1 : X0_2 m c (pt j n) (ix2 k e) =
    m ((c : Thread nD τ).loc main_arg1) (ix2 k (⟨(colOfAll 1 j e).val, by omega⟩ : Fin 18496)) := by
  refine .trans ?_ (host_weight m c k _)
  unfold X0_2 Pipeline.Window.fill
  rw [dif_pos (moved0_2 (pt j n) (ix2 k e))]
  unfold colOfAll colIn
  blk_ext [iblk, (index j n).2.2.1]

theorem taps_1 : iblk m c 5 (pt j n) (ix2 o e) = m ((c : Thread nD τ).loc main_arg2) (ix2 o (colOfAll 1 j e)) := by
  refine .trans ?_ (host_taps m c o _)
  unfold colOfAll colIn
  blk_ext [iblk, (index j n).2.2.2.2.2.1]

theorem weight_2 : X0_3 m c (pt j n) (ix2 k e) =
    m ((c : Thread nD τ).loc main_arg1) (ix2 k (⟨(colOfAll 2 j e).val, by omega⟩ : Fin 18496)) := by
  refine .trans ?_ (host_weight m c k _)
  unfold X0_3 Pipeline.Window.fill
  rw [dif_pos (moved0_3 (pt j n) (ix2 k e))]
  unfold colOfAll colIn
  blk_ext [iblk, (index j n).2.2.2.1]

theorem taps_2 : iblk m c 6 (pt j n) (ix2 o e) = m ((c : Thread nD τ).loc main_arg2) (ix2 o (colOfAll 2 j e)) := by
  refine .trans ?_ (host_taps m c o _)
  unfold colOfAll colIn
  blk_ext [iblk, (index j n).2.2.2.2.2.2.1]

theorem weights_at (s : Fin 3) : weights m c (pt j n) s (ix2 k e) =
    m ((c : Thread nD τ).loc main_arg1) (ix2 k (⟨(colOfAll s j e).val, by omega⟩ : Fin 18496)) := by
  unfold weights three
  fin_cases s
  · exact weight_0 m c j n e k
  · exact weight_1 m c j n e k
  · exact weight_2 m c j n e k

theorem taps_at (s : Fin 3) : tapBlocks m c (pt j n) s (ix2 o e) = m ((c : Thread nD τ).loc main_arg2) (ix2 o (colOfAll s j e)) := by
  unfold tapBlocks three
  fin_cases s
  · exact taps_0 m c j n e o
  · exact taps_1 m c j n e o
  · exact taps_2 m c j n e o

/-- The reference's three convolved projections over the kernel's arguments. -/
def whole : FVec Ideal Reference8Ideal.S16384x6144 .f32 :=
  convolved (F := Ideal) (padded (product (m ((c : Thread nD τ).loc main_arg0)) (m ((c : Thread nD τ).loc main_arg1))))
    (m ((c : Thread nD τ).loc main_arg2))

theorem taps_congr {f f' : Fin 64 → EReal} {q : Fin 64} {u u' v v' w w' : EReal} (hf : f = f') (hu : u = u') (hv : v = v') (hw : w = w') :
    taps f q u v w = taps f' q u' v' w' := by
  rw [hf, hu, hv, hw]

theorem entry_at (s : Fin 3) (y : S1024x512.Idx) :
    entry (iblk m c 0 (pt j n)) (weights m c (pt j n)) (tapBlocks m c (pt j n)) s y =
      whole m c (ix2 (rowIn n (y 0)) (colOfAll s j (y 1))) := by
  have y0 : (y 0).val < 1024 := (y 0).isLt
  have hr : rowIn n (y 0) = (⟨64 * (⟨16 * n.val + (y 0).val / 64, by omega⟩ : Fin 256).val + (⟨(y 0).val % 64, by omega⟩ : Fin 64).val, by
      dsimp only; omega⟩ : Fin 16384) := Fin.ext (by unfold rowIn; dsimp only; omega)
  unfold whole
  rw [hr]
  refine .trans ?_ (convolved_at _ _ _ (⟨(y 0).val % 64, by omega⟩ : Fin 64) (colOfAll s j (y 1))).symm
  unfold entry
  refine taps_congr (funext fun q => ?_) (taps_at m c j n (y 1) 0 s) (taps_at m c j n (y 1) 1 s) (taps_at m c j n (y 1) 2 s)
  refine .trans ?_ (Reference8Ideal.Value.product_at _ _ _ _).symm
  refine Finset.sum_congr rfl fun k _ => congrArg₂ (fun u v : EReal => u * v) ?_ (weights_at m c j n (y 1) k s)
  refine (block_stream m c j n _ k).trans ?_
  refine congrArg (fun r => m ((c : Thread nD τ).loc main_arg0) (ix2 r k)) (Fin.ext ?_)
  unfold rowIn
  dsimp only
  omega

/-- The reference's results over the kernel's arguments. -/
def result : FVec Ideal Reference8Ideal.S16384x2048 .bf16 := first (F := Ideal) (whole m c)
def resultOther : FVec Ideal Reference8Ideal.S16384x2048 .bf16 := others (F := Ideal) (whole m c)

theorem entry_of (y : S1024x512.Idx) (q : S16384x2048.Idx) (hr : (q 0).val = 1024 * n.val + (y 0).val)
    (he : (q 1).val = 512 * j.val + (y 1).val) : q = ix2 (rowIn n (y 0)) (colIn j (y 1)) := by
  funext d
  fin_cases d
  · exact Fin.ext hr
  · exact Fin.ext he

theorem block_first (y : S1024x512.Idx) (q : S16384x2048.Idx) (hr : (q 0).val = 1024 * n.val + (y 0).val)
    (he : (q 1).val = 512 * j.val + (y 1).val) : (dats m 0 c).after 7 (pt j n) y = result m c q := by
  rw [after0_7, outs_first, entry_of j n y q hr he]
  refine .trans (entry_at m c j n 0 y) (.trans ?_ (first_at _ (rowIn n (y 0)) (colIn j (y 1))).symm)
  exact congrArg (fun z => whole m c (ix2 (rowIn n (y 0)) z)) (Fin.ext (by unfold colOfAll; simp))

theorem block_other (y : S1024x512.Idx) (q : S16384x2048.Idx) (hr : (q 0).val = 1024 * n.val + (y 0).val)
    (he : (q 1).val = 512 * j.val + (y 1).val) : (dats m 0 c).after 8 (pt j n) y = resultOther m c q := by
  rw [after0_8, outs_other, entry_of j n y q hr he]
  refine .trans ?_ (others_at _ (rowIn n (y 0)) (colIn j (y 1))).symm
  refine congrArg₂ (fun u v : EReal => u * v) ((entry_at m c j n 1 y).trans ?_) ((entry_at m c j n 2 y).trans ?_)
  · exact congrArg (fun z => whole m c (ix2 (rowIn n (y 0)) z)) (Fin.ext (by unfold colOfAll; simp))
  · exact congrArg (fun z => whole m c (ix2 (rowIn n (y 0)) z)) (Fin.ext (by unfold colOfAll; simp))

attribute [irreducible] result resultOther

/-- The kernel's results are the reference's. -/
theorem array_first : (dats m 0 c).arrAt 7 cfg0.N = result m c := by
  refine (dats m 0 c).arrAt_eq_of_covers 7 (result m c) (by decide +kernel) fun t hf y => ?_
  obtain ⟨j, n, rfl⟩ := point_eq t
  refine block_first m c j n y _ ?_ ?_
  · blk_simp [(index j n).2.2.2.2.2.2.2.1]
    try omega
  · blk_simp [(index j n).2.2.2.2.2.2.2.1]
    try omega

theorem array_other : (dats m 0 c).arrAt 8 cfg0.N = resultOther m c := by
  refine (dats m 0 c).arrAt_eq_of_covers 8 (resultOther m c) (by decide +kernel) fun t hf y => ?_
  obtain ⟨j, n, rfl⟩ := point_eq t
  refine block_other m c j n y _ ?_ ?_
  · blk_simp [(index j n).2.2.2.2.2.2.2.2]
    try omega
  · blk_simp [(index j n).2.2.2.2.2.2.2.2]
    try omega

end Cert.Kernel8Ideal.Value

end
-- ==== Proof.HeadGatesReference.lean ====
/- The gate of the delta rule's heads as the reference computes it, read at an entry. -/
module

public import proofs.«01_k».proof.Proof.Gen.Reference6Ideal.Run
public import Idealize.ShloMosaic.Lib.Pipeline.ValueKit
public import Idealize.ShloMosaic.Lib.ValueIdxCore
public import Idealize.ShloMosaic.Lib.StableHlo.ReadAt

@[expose] public section

set_option maxRecDepth 16384

noncomputable section

namespace Cert.Reference6Ideal.Value

open Cert.Reference6Ideal Cert.Reference6Ideal.Gen Idealize.ShloMosaic Idealize.ShloMosaic.TcCoe Idealize.SL.Sem Idealize.ShloMosaic.StableHlo

section

variable {F : FTy → Type} [FloatOps F]

/-- The product of the modulated stream and the whole weight. -/
def product (h : FVec F S16384x2048 .bf16) (w : FVec F S2048x18496 .f32) : FVec F S16384x18496 .f32 :=
  Host.dotGeneral dot_S16384x2048_S2048x18496_S16384x18496_1_0_0_1_n_n none (extf .f32 h bitsLt_bf16_f32) w

/-- The gate of the delta rule's heads: its columns of the product, through the nonlinearity. -/
def gates (h : FVec F S16384x2048 .bf16) (w : FVec F S2048x18496 .f32) : FVec F S16384x2048 .bf16 :=
  truncf .bf16 (mulf (extractStridedSlice S16384x2048 ![0, 12288] (product h w) slices_S16384x18496_S16384x2048_0_12288) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 12288] (product h w) slices_S16384x18496_S16384x2048_0_12288)))))) bitsLt_bf16_f32

end

/-- `u` smoothly rectified. -/
def gate (u : EReal) : EReal := u * Ideal.div 1 (1 + Ideal.exp (-u))

theorem product_at (h : FVec Ideal S16384x2048 .bf16) (w : FVec Ideal S2048x18496 .f32) (r : Fin 16384) (e : Fin 18496) :
    product h w (ix2 r e) = (∑ k : Fin 2048, h (ix2 r k) * w (ix2 k e) : EReal) := by
  unfold product
  pointwise

theorem gates_at (h : FVec Ideal S16384x2048 .bf16) (w : FVec Ideal S2048x18496 .f32) (r : Fin 16384) (e : Fin 2048) :
    gates h w (ix2 r e) = gate (∑ k : Fin 2048, h (ix2 r k) * w (ix2 k (⟨12288 + e.val, by omega⟩ : Fin 18496)) : EReal) := by
  refine .trans ?_ (congrArg gate (product_at h w r _))
  unfold gates gate
  pointwise

end Cert.Reference6Ideal.Value

end
-- ==== Proof.HeadGatesKernel.lean ====
/- The gate of the delta rule's heads as the kernel computes it: each tile of a grid point's block is the reference's. -/
module

public import proofs.«01_k».proof.Proof.Gen.Kernel6Ideal.Value
public import proofs.«01_k».proof.Proof.HeadGatesReference

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)
open Reference6Ideal.Value (gate gates gates_at)

section
variable {F : FTy → Type} [FloatOps F]

/-- A tile from its rows of the modulated stream and its columns of the weight. -/
def tile (h : Vec F S128x2048 .bf16) (w : Vec F S2048x256 .bf16) : FVec F S128x256 .bf16 := k0_pay3 h w

/-- The tile's rows of the modulated stream, its columns of the weight, and its place in the block. -/
def rowPart (h : Vec F S1024x2048 .bf16) (i : Fin 8) : Vec F S128x2048 .bf16 :=
  View.ld h (Rect.unit ![128 * i.val, 0] S128x2048.size (fun a => by fin_cases a <;> simp [S1024x2048, S128x2048] <;> omega))

def colPart (w : Vec F S2048x1024 .bf16) (j : Fin 4) : Vec F S2048x256 .bf16 :=
  View.ld w (Rect.unit ![0, 256 * j.val] S2048x256.size (fun a => by fin_cases a <;> simp [S2048x1024, S2048x256] <;> omega))

def place (i : Fin 8) (j : Fin 4) : Rect S1024x1024 :=
  Rect.unit ![128 * i.val, 256 * j.val] S128x256.size (fun a => by fin_cases a <;> simp [S1024x1024, S128x256] <;> omega)

/-- The stores of a block, the last one's first. -/
def pieces (h : Vec F S1024x2048 .bf16) (w : Vec F S2048x1024 .bf16) : List (View.Piece (Elt F) S1024x1024 .bf16) :=
  List.ofFn fun n : Fin 32 => ⟨place ⟨7 - n.val % 8, by omega⟩ ⟨3 - n.val / 8, by omega⟩,
    tile (rowPart h ⟨7 - n.val % 8, by omega⟩) (colPart w ⟨3 - n.val / 8, by omega⟩)⟩

theorem pieces_cover (h : Vec F S1024x2048 .bf16) (w : Vec F S2048x1024 .bf16) (y : S1024x1024.Idx) :
    ∃ p ∈ pieces h w, y ∈ p.1.set :=
  View.cover_of_tiledL (pieces h w) S128x256.size (by sl_kernel_rfl) y

theorem stores (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S1024x1024 .bf16) (harg4 : arg4.IsWhole)
    (x0 : Vec F S1024x2048 .bf16) (x1 : Vec F S2048x1024 .bf16) : (kernelRun0_A (F := F) c i arg2 harg2 arg3 harg3 arg4 harg4 x0 x1).1 =
    pieces (arg2.view.read (Elt F) (harg2.unread x0)) (arg3.view.read (Elt F) (harg3.unread x1)) := by
  sl_kernel_rfl

end

theorem tile_at (h : Vec Ideal S128x2048 .bf16) (w : Vec Ideal S2048x256 .bf16) (i : Fin 128) (e : Fin 256) :
    tile h w (ix2 i e) = gate (∑ k : Fin 2048, h (ix2 i k) * w (ix2 k e) : EReal) := by
  unfold tile k0_pay3 gate
  pointwise
  rw [zero_sub]

/-- An entry of a block. -/
def entry (h : Vec Ideal S1024x2048 .bf16) (w : Vec Ideal S2048x1024 .bf16) : Vec Ideal S1024x1024 .bf16 := fun y =>
  gate (∑ k : Fin 2048, h (ix2 (y 0) k) * w (ix2 k (y 1)) : EReal)

theorem tile_entry (h : Vec Ideal S1024x2048 .bf16) (w : Vec Ideal S2048x1024 .bf16) (i : Fin 8) (j : Fin 4) (x : S128x256.Idx)
    (y : S1024x1024.Idx) (h0 : (y 0).val = 128 * i.val + (x 0).val) (h1 : (y 1).val = 256 * j.val + (x 1).val) :
    tile (rowPart h i) (colPart w j) x = entry h w y := by
  have hrow : ∀ k : Fin 2048, rowPart h i (ix2 (x 0) k) = h (ix2 (y 0) k) := fun k => by
    unfold rowPart
    refine congrArg h (funext fun d => ?_)
    fin_cases d <;> apply Fin.ext <;> simp [Rect.unit, ix2, h0]
  have hcol : ∀ k : Fin 2048, colPart w j (ix2 k (x 1)) = w (ix2 k (y 1)) := fun k => by
    unfold colPart
    refine congrArg w (funext fun d => ?_)
    fin_cases d <;> apply Fin.ext <;> simp [Rect.unit, ix2, h1]
  rw [← ix2_eta x]
  refine (tile_at _ _ _ _).trans ?_
  unfold entry
  exact congrArg gate (Finset.sum_congr rfl fun k _ => congrArg₂ (fun u v : EReal => u * v) (hrow k) (hcol k))

theorem pieces_at (h : Vec Ideal S1024x2048 .bf16) (w : Vec Ideal S2048x1024 .bf16) : View.canon (pieces h w) = entry h w := by
  funext y
  refine View.canon_apply_of_pieces (Val := Elt Ideal) (entry h w) _ ?_ y (pieces_cover _ _ y)
  intro p hp x
  obtain ⟨n, rfl⟩ := (List.mem_ofFn).1 hp
  refine tile_entry h w _ _ x _ ?_ ?_
  · exact congrArg (fun z => 128 * (7 - n.val % 8) + z) (Nat.one_mul _)
  · exact congrArg (fun z => 256 * (3 - n.val / 8) + z) (Nat.one_mul _)

variable (m : (ℓ : Loc nD τ sig) → Buf (Elt Ideal) ℓ) (c : Dev nD)

theorem outs (t : Fin cfg0.N) : outsAt0 m c t = entry (iblk m c 0 t) (X0_1 m c t) := by
  unfold outsAt0 out0_A_2
  refine (View.read_writes_junk_eq_canon _ _).trans ?_
  rw [stores, pieces_at]
  simp only [Memref.IsWhole.read_unread]

/-- The grid point of column block `j` and row block `n`. -/
def pt (j : Fin 2) (n : Fin 16) : Fin cfg0.N := ⟨16 * j.val + n.val, lt_of_lt_of_eq (by omega : 16 * j.val + n.val < 32) N_0.symm⟩

theorem point_eq (t : Fin cfg0.N) : ∃ j n, t = pt j n := by
  have ht : t.val < 32 := lt_of_lt_of_eq t.isLt N_0
  exact ⟨⟨t.val / 16, by omega⟩, ⟨t.val % 16, by omega⟩, Fin.ext (by show t.val = 16 * (t.val / 16) + t.val % 16; omega)⟩

theorem index : ∀ (j : Fin 2) (n : Fin 16),
    win0_0.index (pt j n) = ![n.val, 0] ∧ win0_1.index (pt j n) = ![0, 12 + j.val] ∧
    win0_2.index (pt j n) = ![n.val, j.val] := by decide +kernel

/-- Row `i` of row block `n`, and column `e` of column block `j`. -/
def rowIn (n : Fin 16) (i : Fin 1024) : Fin 16384 := ⟨1024 * n.val + i.val, by omega⟩

def colIn (j : Fin 2) (e : Fin 1024) : Fin 2048 := ⟨1024 * j.val + e.val, by omega⟩

theorem host_stream (r : Fin 16384) (k : Fin 2048) :
    V m c (Pipeline.arrRef spec0 0) (ix2 r k) = m ((c : Thread nD τ).loc main_arg0) (ix2 r k) := by
  unfold V
  after_reads_at

theorem host_weight (k : Fin 2048) (e : Fin 18496) :
    V m c (Pipeline.arrRef spec0 1) (ix2 k e) = m ((c : Thread nD τ).loc main_arg1) (ix2 k e) := by
  unfold V
  after_reads_at

variable (j : Fin 2) (n : Fin 16) (i e : Fin 1024) (k : Fin 2048)

theorem block_stream : iblk m c 0 (pt j n) (ix2 i k) = m ((c : Thread nD τ).loc main_arg0) (ix2 (rowIn n i) k) := by
  refine .trans ?_ (host_stream m c _ k)
  unfold rowIn
  blk_ext [iblk, (index j n).1]

theorem block_weight : X0_1 m c (pt j n) (ix2 k e) =
    m ((c : Thread nD τ).loc main_arg1) (ix2 k (⟨12288 + (colIn j e).val, by omega⟩ : Fin 18496)) := by
  refine .trans ?_ (host_weight m c k _)
  unfold X0_1 Pipeline.Window.fill
  rw [dif_pos (moved0_1 (pt j n) (ix2 k e))]
  unfold colIn
  blk_ext [iblk, (index j n).2.1]

/-- The reference's result over the kernel's arguments. -/
def result : FVec Ideal Reference6Ideal.S16384x2048 .bf16 :=
  gates (F := Ideal) (m ((c : Thread nD τ).loc main_arg0)) (m ((c : Thread nD τ).loc main_arg1))

theorem block_eq (y : S1024x1024.Idx) (q : S16384x2048.Idx) (hr : (q 0).val = 1024 * n.val + (y 0).val)
    (he : (q 1).val = 1024 * j.val + (y 1).val) :
    (dats m 0 c).after 2 (pt j n) y = result m c q := by
  have hq : q = ix2 (rowIn n (y 0)) (colIn j (y 1)) := by
    funext d
    fin_cases d
    · exact Fin.ext hr
    · exact Fin.ext he
  rw [after0_2, outs, hq]
  refine .trans ?_ (gates_at _ _ (rowIn n (y 0)) (colIn j (y 1))).symm
  unfold entry
  exact congrArg gate (Finset.sum_congr rfl fun k _ => congrArg₂ (fun u v : EReal => u * v) (block_stream m c j n (y 0) k)
    (block_weight m c j n (y 1) k))

attribute [irreducible] result

/-- The kernel's result is the reference's. -/
theorem array : (dats m 0 c).arrAt 2 cfg0.N = result m c := by
  refine (dats m 0 c).arrAt_eq_of_covers 2 (result m c) (by decide +kernel) fun t hf y => ?_
  obtain ⟨j, n, rfl⟩ := point_eq t
  refine block_eq m c j n y _ ?_ ?_
  · blk_simp [(index j n).2.2]
    try omega
  · blk_simp [(index j n).2.2]
    try omega

end Cert.Kernel6Ideal.Value

end
-- ==== Proof.QueryKeyReference.lean ====
/- The reference of q and k of the delta rule, read at an entry. -/
module

public import proofs.«01_k».proof.Proof.Gen.Reference9Ideal.Run
public import proofs.«01_k».proof.Proof.HyenaReference
public import Idealize.ShloMosaic.Lib.Pipeline.ValueKit
public import Idealize.ShloMosaic.Lib.ValueIdxCore
public import Idealize.ShloMosaic.Lib.StableHlo.ReadAt
public import Idealize.ShloMosaic.Lib.KernelVsHost

@[expose] public section

set_option maxRecDepth 16384

noncomputable section

namespace Cert.Reference9Ideal.Value

open Cert.Reference9Ideal Cert.Reference9Ideal.Gen Idealize.ShloMosaic Idealize.ShloMosaic.TcCoe Idealize.SL.Sem Idealize.ShloMosaic.StableHlo

open Reference8Ideal.Value (taps)

section

variable {F : FTy → Type} [FloatOps F]

/-- The projections of q, k and v, side by side. -/
def product (h : FVec F S16384x2048 .bf16) (w : FVec F S2048x18496 .f32) : FVec F S16384x6144 .f32 :=
  extractStridedSlice S16384x6144 ![0, 6144] (Host.dotGeneral dot_S16384x2048_S2048x18496_S16384x18496_1_0_0_1_n_n none (extf .f32 h bitsLt_bf16_f32) w) slices_S16384x18496_S16384x6144_0_6144

/-- The rows of the grid, with a zero row before and after each. -/
def padded (p : FVec F S16384x6144 .f32) : FVec F S256x66x6144 .f32 :=
  pad S256x66x6144 ![0, 1, 0] ![0, 1, 0] ![0, 0, 0] (shapeCast _ p shapeCasts_S16384x6144_S256x64x6144) (sitofp .f32 (constantI S_ 32 0#32)) pads_S256x64x6144_S256x66x6144_000_110_000 h_S_

/-- The convolution of a padded array with three taps, along the rows of the grid. -/
def convolved (u : FVec F S256x66x6144 .f32) (c : FVec F S3x6144 .f32) : FVec F S256x64x6144 .f32 :=
  addf (addf
    (mulf (extractStridedSlice S256x64x6144 ![0, 0, 0] u slices_S256x66x6144_S256x64x6144_0_0_0) (broadcastInDim S256x64x6144 ![0, 1, 2] bcast_S1x1x6144_S256x64x6144_0_1_2 (broadcastInDim S1x1x6144 ![2] bcast_S6144_S1x1x6144_2 (shapeCast _ (extractStridedSlice S1x6144 ![0, 0] c slices_S3x6144_S1x6144_0_0) shapeCasts_S1x6144_S6144))))
    (mulf (extractStridedSlice S256x64x6144 ![0, 1, 0] u slices_S256x66x6144_S256x64x6144_0_1_0) (broadcastInDim S256x64x6144 ![0, 1, 2] bcast_S1x1x6144_S256x64x6144_0_1_2 (broadcastInDim S1x1x6144 ![2] bcast_S6144_S1x1x6144_2 (shapeCast _ (extractStridedSlice S1x6144 ![1, 0] c slices_S3x6144_S1x6144_1_0) shapeCasts_S1x6144_S6144)))))
    (mulf (extractStridedSlice S256x64x6144 ![0, 2, 0] u slices_S256x66x6144_S256x64x6144_0_2_0) (broadcastInDim S256x64x6144 ![0, 1, 2] bcast_S1x1x6144_S256x64x6144_0_1_2 (broadcastInDim S1x1x6144 ![2] bcast_S6144_S1x1x6144_2 (shapeCast _ (extractStridedSlice S1x6144 ![2, 0] c slices_S3x6144_S1x6144_2_0) shapeCasts_S1x6144_S6144))))

/-- Smoothly rectified. -/
def rectified (u : FVec F S256x64x6144 .f32) : FVec F S256x64x6144 .f32 :=
  mulf u (Host.divf (broadcastInDim S256x64x6144 ![] bcast_S_S256x64x6144 (constant S_ .f32 0x3F800000#32)) (addf (broadcastInDim S256x64x6144 ![] bcast_S_S256x64x6144 (constant S_ .f32 0x3F800000#32)) (Host.exp (Host.negf u))))

/-- The columns of q and k, by heads. -/
def heads (u : FVec F S256x64x6144 .f32) : FVec F S16384x32x128 .f32 :=
  shapeCast _ (extractStridedSlice S256x64x4096 ![0, 0, 0] u slices_S256x64x6144_S256x64x4096_0_0_0) shapeCasts_S256x64x4096_S16384x32x128

/-- Each head's row divided by its length, heads side by side. -/
def normed (p : FVec F S16384x32x128 .f32) : FVec F S16384x4096 .bf16 :=
  truncf .bf16 (shapeCast _ (mulf p (broadcastInDim S16384x32x128 ![0, 1, 2] bcast_S16384x32x1_S16384x32x128_0_1_2 (Host.rsqrt (addf (broadcastInDim S16384x32x1 ![0, 1] bcast_S16384x32_S16384x32x1_0_1 (Host.reduceAdd (mulf p p) (constant S_ .f32 0x00000000#32) reducesTo_S16384x32x128_S16384x32_d2 h_S_)) (broadcastInDim S16384x32x1 ![] bcast_S_S16384x32x1 (constant S_ .f32 0x358637BD#32)))))) shapeCasts_S16384x32x128_S16384x4096) bitsLt_bf16_f32

theorem result_eq (m : (ℓ : Loc nD τ sig) → Buf (Elt F) ℓ) (c : Dev nD) : res_main_v41 m c =
    normed (heads (rectified (convolved (padded (product (m ((c.tc : Thread nD τ).loc main_arg0)) (m ((c.tc : Thread nD τ).loc main_arg1))))
      (m ((c.tc : Thread nD τ).loc main_arg2))))) := rfl

end

variable (h : FVec Ideal S16384x2048 .bf16) (w : FVec Ideal S2048x18496 .f32) (c : FVec Ideal S3x6144 .f32)

/-- `u` smoothly rectified. -/
def gate (u : EReal) : EReal := u * Ideal.div 1 (1 + Ideal.exp (-u))

theorem rectified_at (u : FVec Ideal S256x64x6144 .f32) (b : Fin 256) (q : Fin 64) (e : Fin 6144) :
    rectified u (ix3 b q e) = gate (u (ix3 b q e)) := by
  unfold rectified gate
  pointwise

theorem product_at (r : Fin 16384) (e : Fin 6144) :
    product h w (ix2 r e) = (∑ k : Fin 2048, h (ix2 r k) * w (ix2 k (⟨6144 + e.val, by omega⟩ : Fin 18496)) : EReal) := by
  unfold product
  pointwise

theorem padded_inside (p : FVec Ideal S16384x6144 .f32) (b : Fin 256) (q : Fin 66) (e : Fin 6144) (k : Fin 64) (hk : q.val = 1 + k.val) :
    padded p (ix3 b q e) = p (ix2 (⟨64 * b.val + k.val, by omega⟩ : Fin 16384) e) := by
  unfold padded
  rw [pad_apply_of_inside _ _ _ _ _ _ _ _ (ix3 b k e) (fun a => by fin_cases a <;> simp [ix3, hk])]
  pointwise
  exact congrArg p (congrArg (fun z => ix2 z e) (Fin.ext (by simp [Nat.mul_comm])))

theorem padded_outside (p : FVec Ideal S16384x6144 .f32) (b : Fin 256) (q : Fin 66) (e : Fin 6144) (hq : q.val = 0 ∨ q.val = 65) :
    padded p (ix3 b q e) = (0 : EReal) := by
  unfold padded
  rw [pad_apply_of_not_inside _ _ _ _ _ _ _ _ (1 : Fin 3) (by simp [ix3]; omega)]
  pointwise
  simp [FloatOps.sitofp]

theorem convolved_at (p : FVec Ideal S16384x6144 .f32) (b : Fin 256) (q : Fin 64) (e : Fin 6144) :
    convolved (padded p) c (ix3 b q e) =
      taps (fun k => p (ix2 (⟨64 * b.val + k.val, by omega⟩ : Fin 16384) e)) q
        (c (ix2 (0 : Fin 3) e)) (c (ix2 (1 : Fin 3) e)) (c (ix2 (2 : Fin 3) e)) := by
  have hm := padded_inside p b (⟨1 + q.val, by omega⟩ : Fin 66) e q rfl
  have hp : padded p (ix3 b (⟨q.val, by omega⟩ : Fin 66) e) =
      if q.val = 0 then (0 : EReal) else p (ix2 (⟨64 * b.val + (q.val - 1), by omega⟩ : Fin 16384) e) := by
    split
    · exact padded_outside p b _ e (.inl ‹_›)
    · exact padded_inside p b _ e (⟨q.val - 1, by omega⟩ : Fin 64) (by simp; omega)
  have hn : padded p (ix3 b (⟨2 + q.val, by omega⟩ : Fin 66) e) =
      if h : q.val = 63 then (0 : EReal) else p (ix2 (⟨64 * b.val + (q.val + 1), by omega⟩ : Fin 16384) e) := by
    split
    · exact padded_outside p b _ e (.inr (by simp; omega))
    · exact padded_inside p b _ e (⟨q.val + 1, by omega⟩ : Fin 64) (by simp; omega)
  have key : convolved (padded p) c (ix3 b q e) =
      (padded p (ix3 b (⟨q.val, by omega⟩ : Fin 66) e) * c (ix2 (0 : Fin 3) e) +
        padded p (ix3 b (⟨1 + q.val, by omega⟩ : Fin 66) e) * c (ix2 (1 : Fin 3) e) +
        padded p (ix3 b (⟨2 + q.val, by omega⟩ : Fin 66) e) * c (ix2 (2 : Fin 3) e) : EReal) := by
    generalize padded p = u
    unfold convolved
    pointwise
  rw [key, hm, hp, hn]
  rfl

theorem heads_at (u : FVec Ideal S256x64x6144 .f32) (b : Fin 256) (q : Fin 64) (g : Fin 32) (d : Fin 128) :
    heads u (ix3 (⟨64 * b.val + q.val, by omega⟩ : Fin 16384) g d) = u (ix3 b q (⟨128 * g.val + d.val, by omega⟩ : Fin 6144)) := by
  unfold heads
  pointwise
  exact congrArg (fun z => u (ix3 b q z)) (Fin.ext (by simp [Nat.mul_comm]))

/-- Entry `d` of a row divided by the row's length. -/
def unit (o : Fin 128 → EReal) (d : Fin 128) : EReal :=
  o d * Ideal.rsqrt ((∑ x : Fin 128, o x * o x) + Ideal.ofBits FTy.f32 0x358637BD#32)

theorem normed_at (p : FVec Ideal S16384x32x128 .f32) (r : Fin 16384) (g : Fin 32) (d : Fin 128) :
    normed p (ix2 r (⟨128 * g.val + d.val, by omega⟩ : Fin 4096)) = unit (fun x => p (ix3 r g x)) d := by
  unfold normed unit
  pointwise

end Cert.Reference9Ideal.Value

end
-- ==== Proof.QueryKeyKernel.lean ====
/- The kernel of q and k of the delta rule, a tile at a time. -/
module

public import proofs.«01_k».proof.Proof.Gen.Kernel9Ideal.Frame
public import proofs.«01_k».proof.Proof.QueryKeyReference

@[expose] public section

set_option maxRecDepth 16384

noncomputable section

namespace Cert.Kernel9Ideal.Gen

open Cert.Kernel9Ideal Idealize.ShloMosaic Idealize.ShloMosaic.TcCoe Idealize.SL.Sem

open Reference8Ideal.Value (taps)
open Reference9Ideal.Value (gate unit)

/-- The place in its row of the grid that a tile's row has. -/
theorem place_at : ∀ r : Fin 128, k0_pay11 (ix2 r (0 : Fin 1)) = BitVec.ofNat 32 (r.val % 64) := by
  decide +kernel

theorem starts_at : ∀ r : Fin 128, IntOp.cmpi .eq (BitVec.ofNat 32 (r.val % 64)) 0#32 = if r.val % 64 = 0 then 1#1 else 0#1 := by
  decide +kernel

theorem ends_at : ∀ r : Fin 128, IntOp.cmpi .eq (BitVec.ofNat 32 (r.val % 64)) 63#32 = if r.val % 64 = 63 then 1#1 else 0#1 := by
  decide +kernel

theorem product_at (h : Vec Ideal S128x2048 .bf16) (w : Vec Ideal S2048x256 .bf16) (r : Fin 128) (e : Fin 256) :
    k0_pay4 h w (ix4 (0 : Fin 1) (0 : Fin 1) r e) = (∑ k : Fin 2048, h (ix2 r k) * w (ix2 k e) : EReal) := by
  unfold k0_pay4
  pointwise

/-- A convolved entry of a tile. -/
def mixed (cw : Vec Ideal S3x256 .f32) (p prev nxt : Vec Ideal S1x1x128x256 .f32) (r : Fin 128) (e : Fin 256) : EReal :=
  (if r.val % 64 = 0 then 0 else prev (ix4 (0 : Fin 1) (0 : Fin 1) r e)) * cw (ix2 (0 : Fin 3) e) +
    p (ix4 (0 : Fin 1) (0 : Fin 1) r e) * cw (ix2 (1 : Fin 3) e) +
    (if r.val % 64 = 63 then 0 else nxt (ix4 (0 : Fin 1) (0 : Fin 1) r e)) * cw (ix2 (2 : Fin 3) e)

section
variable {F : FTy → Type} [FloatOps F]

/-- A tile of the rectified convolution, from its products and those of the rows before and after. -/
def act (cw : Vec F S3x256 .f32) (z : IVec S128x1 32) (p prev nxt : Vec F S1x1x128x256 .f32) : FVec F S128x256 .f32 :=
  have v47 : FVec F S128x256 .f32 := shapeCast S128x256 p shapeCasts_S1x1x128x256_S128x256
  have v48 : IVec S128x1 32 := broadcast S128x1 0#32
  have v49 : IVec S128x1 1 := cmpi .eq z v48
  have v51 : FVec F S128x256 .f32 := shapeCast S128x256 prev shapeCasts_S1x1x128x256_S128x256
  have cst_43 : F .f32 := Scalar.ofBits .f32 0x00000000#32
  have v52 : IVec S128x1 1 := shapeCast S128x1 v49 shapeCasts_S128x1_S128x1
  have v53 : IVec S128x256 1 := broadcastTo S128x256 v52 broadcasts_S128x1_S128x256
  have v54 : FVec F S128x256 .f32 := broadcast S128x256 cst_43
  have v55 : FVec F S128x256 .f32 := select v53 v54 v51
  have v56 : IVec S128x1 32 := broadcast S128x1 63#32
  have v57 : IVec S128x1 1 := cmpi .eq z v56
  have v59 : FVec F S128x256 .f32 := shapeCast S128x256 nxt shapeCasts_S1x1x128x256_S128x256
  have cst_47 : F .f32 := Scalar.ofBits .f32 0x00000000#32
  have v60 : IVec S128x1 1 := shapeCast S128x1 v57 shapeCasts_S128x1_S128x1
  have v61 : IVec S128x256 1 := broadcastTo S128x256 v60 broadcasts_S128x1_S128x256
  have v62 : FVec F S128x256 .f32 := broadcast S128x256 cst_47
  have v63 : FVec F S128x256 .f32 := select v61 v62 v59
  have v64 : FVec F S1x256 .f32 := extractStridedSlice S1x256 ![0, 0] cw slices_S3x256_o0_0_S1x256
  have v65 : FVec F S128x256 .f32 := broadcastTo S128x256 v64 broadcasts_S1x256_S128x256
  have v66 : FVec F S128x256 .f32 := mulf v55 v65
  have v67 : FVec F S1x256 .f32 := extractStridedSlice S1x256 ![1, 0] cw slices_S3x256_o1_0_S1x256
  have v68 : FVec F S128x256 .f32 := broadcastTo S128x256 v67 broadcasts_S1x256_S128x256
  have v69 : FVec F S128x256 .f32 := mulf v47 v68
  have v70 : FVec F S128x256 .f32 := addf v66 v69
  have v71 : FVec F S1x256 .f32 := extractStridedSlice S1x256 ![2, 0] cw slices_S3x256_o2_0_S1x256
  have v72 : FVec F S128x256 .f32 := broadcastTo S128x256 v71 broadcasts_S1x256_S128x256
  have v73 : FVec F S128x256 .f32 := mulf v63 v72
  have v74 : FVec F S128x256 .f32 := addf v70 v73
  have cst_48 : F .f32 := Scalar.ofBits .f32 0x00000000#32
  have v75 : FVec F S128x256 .f32 := broadcast S128x256 cst_48
  have v76 : FVec F S128x256 .f32 := subf v75 v74
  have v77 : FVec F S128x256 .f32 := exp v76
  have cst_49 : F .f32 := Scalar.ofBits .f32 0x3F800000#32
  have v78 : FVec F S128x256 .f32 := broadcast S128x256 cst_49
  have v79 : FVec F S128x256 .f32 := addf v78 v77
  have cst_50 : F .f32 := Scalar.ofBits .f32 0x3F800000#32
  have v80 : FVec F S128x256 .f32 := broadcast S128x256 cst_50
  have v81 : FVec F S128x256 .f32 := divf v80 v79
  have v82 : FVec F S128x256 .f32 := mulf v74 v81
  v82

/-- A head's rows divided by their lengths. -/
def unitRows (u : FVec F S128x128 .f32) : FVec F S128x128 .f32 :=
  mulf u (broadcastTo S128x128 (rsqrt (addf (shapeCast S128x1 (multiReduction .add [1] S128 (mulf u u) 0x00000000#32 reduces_S128x128_S128 (.inl rfl) rfl) shapeCasts_S128_S128x1) (broadcast S128x1 (Scalar.ofBits .f32 0x358637BD#32)))) broadcasts_S128x1_S128x128)

/-- The two heads of a tile, each row divided by its length. -/
def unitTile (u : FVec F S128x256 .f32) : FVec F S128x256 .bf16 :=
  truncf .bf16 (concatenate S128x256 1 [⟨S128x128, unitRows (extractStridedSlice S128x128 ![0, 0] u slices_S128x256_o0_0_S128x128)⟩,
    ⟨S128x128, unitRows (extractStridedSlice S128x128 ![0, 128] u slices_S128x256_o0_128_S128x128)⟩] concatenates_S128x128_S128x128_S128x256_d1) bitsLt_bf16_f32

/-- A tile from its products and those of the rows before and after. -/
def tile (cw : Vec F S3x256 .f32) (p prev nxt : Vec F S1x1x128x256 .f32) : FVec F S128x256 .bf16 :=
  unitTile (act cw k0_pay11 p prev nxt)

theorem kept_inb (s : Fin 2) (o n : Nat) (ho : o + n ≤ 144) :
    ∀ a : Fin 4, (![s.val, 0, o, 0] : Fin 4 → Nat) a + (![1, 1, n, 256] : Fin 4 → Nat) a ≤ S2x1x144x256.size a := by
  intro a
  fin_cases a <;> simp [S2x1x144x256] <;> omega

/-- A tile's products kept in the scratch memory, between two rows of zeros. -/
def kept (s : Fin 2) (p : Vec F S1x1x128x256 .f32) (L : List (View.Piece (Elt F) S2x1x144x256 .f32)) :
    List (View.Piece (Elt F) S2x1x144x256 .f32) :=
  ⟨Rect.unit ![s.val, 0, 136, 0] S1x1x1x256.size (kept_inb s 136 1 (by omega)), k0_pay3⟩ ::
  ⟨Rect.unit ![s.val, 0, 8, 0] S1x1x128x256.size (kept_inb s 8 128 (by omega)), p⟩ ::
  ⟨Rect.unit ![s.val, 0, 7, 0] S1x1x1x256.size (kept_inb s 7 1 (by omega)), k0_pay3⟩ :: L

/-- What the scratch memory holds after tile `k`. -/
def hist (p : Nat → Vec F S1x1x128x256 .f32) : Nat → List (View.Piece (Elt F) S2x1x144x256 .f32)
  | 0 => kept 0 (p 0) []
  | k + 1 => kept ⟨(k + 1) % 2, Nat.mod_lt _ (by omega)⟩ (p (k + 1)) (hist p k)

/-- A tile's rows of the stream, its columns of the weight, and of the taps. -/
def rowPart (h : Vec F S1024x2048 .bf16) (i : Fin 8) : Vec F S128x2048 .bf16 :=
  View.ld h (Rect.unit ![128 * i.val, 0] S128x2048.size (fun a => by fin_cases a <;> simp [S1024x2048, S128x2048] <;> omega))

def colPart (w : Vec F S2048x512 .bf16) (j : Fin 2) : Vec F S2048x256 .bf16 :=
  View.ld w (Rect.unit ![0, 256 * j.val] S2048x256.size (fun a => by fin_cases a <;> simp [S2048x512, S2048x256] <;> omega))

def tapPart (c : Vec F S3x512 .f32) (j : Fin 2) : Vec F S3x256 .f32 :=
  View.ld c (Rect.unit ![0, 256 * j.val] S3x256.size (fun a => by fin_cases a <;> simp [S3x512, S3x256] <;> omega))

/-- The row and the column of tile `k` of a block. -/
def rowOf (k : Nat) : Fin 8 := ⟨k % 8, Nat.mod_lt _ (by omega)⟩
def colOf (k : Nat) : Fin 2 := ⟨k / 8 % 2, Nat.mod_lt _ (by omega)⟩

/-- The products of tile `k`. -/
def products (h : Vec F S1024x2048 .bf16) (w : Vec F S2048x512 .bf16) (k : Nat) : Vec F S1x1x128x256 .f32 :=
  k0_pay4 (rowPart h (rowOf k)) (colPart w (colOf k))

/-- A tile read back from the scratch memory, from row `o`. -/
def readBack (v : View sig .tc .vmem S2x1x144x256 .f32) (L : List (View.Piece (Elt F) S2x1x144x256 .f32)) (s : Fin 2) (o : Nat)
    (ho : o + 128 ≤ 144) : Vec F S1x1x128x256 .f32 :=
  v.readCov L (Rect.unit (s := S2x1x144x256) ![s.val, 0, o, 0] S1x1x128x256.size (kept_inb s o 128 ho)).toLoadRect

/-- The tile stored, from what the scratch memory holds. -/
def storedTile (v : View sig .tc .vmem S2x1x144x256 .f32) (L : List (View.Piece (Elt F) S2x1x144x256 .f32)) (cw : Vec F S3x256 .f32) (s : Fin 2) :
    FVec F S128x256 .bf16 :=
  tile cw (readBack v L s 8 (by omega)) (readBack v L s 7 (by omega)) (readBack v L s 9 (by omega))

/-- Stored tile `k`: the next tile's products are kept before it is read. -/
def stored (v : View sig .tc .vmem S2x1x144x256 .f32) (h : Vec F S1024x2048 .bf16) (w : Vec F S2048x512 .bf16) (c : Vec F S3x512 .f32)
    (k : Nat) : FVec F S128x256 .bf16 :=
  storedTile v (hist (products h w) (min (k + 1) 15)) (tapPart c (colOf k)) ⟨k % 2, Nat.mod_lt _ (by omega)⟩

/-- Where tile `k` goes. -/
def place (k : Nat) : Rect S1024x512 :=
  Rect.unit ![128 * (rowOf k).val, 256 * (colOf k).val] S128x256.size
    (fun a => by fin_cases a <;> simp [S1024x512, S128x256] <;> omega)

/-- The stores of a block, the last one's first. -/
def pieces (v : View sig .tc .vmem S2x1x144x256 .f32) (h : Vec F S1024x2048 .bf16) (w : Vec F S2048x512 .bf16) (c : Vec F S3x512 .f32) :
    List (View.Piece (Elt F) S1024x512 .bf16) :=
  List.ofFn fun n : Fin 16 => ⟨place (15 - n.val), stored v h w c (15 - n.val)⟩

theorem pieces_cover (v : View sig .tc .vmem S2x1x144x256 .f32) (h : Vec F S1024x2048 .bf16) (w : Vec F S2048x512 .bf16)
    (c : Vec F S3x512 .f32) (y : S1024x512.Idx) : ∃ p ∈ pieces v h w c, y ∈ p.1.set :=
  View.cover_of_tiledL (pieces v h w c) S128x256.size (by sl_kernel_rfl) y

end

theorem act_at (cw : Vec Ideal S3x256 .f32) (p prev nxt : Vec Ideal S1x1x128x256 .f32) (r : Fin 128) (e : Fin 256) :
    act cw k0_pay11 p prev nxt (ix2 r e) = gate (mixed cw p prev nxt r e) := by
  have h := place_at r
  generalize k0_pay11 = z at h ⊢
  unfold act gate mixed
  pointwise
  rw [h, starts_at, ends_at, zero_sub]
  split <;> split <;> simp [Scalar.select]

theorem unitRows_at (u : FVec Ideal S128x128 .f32) (r d : Fin 128) : unitRows u (ix2 r d) = unit (fun x => u (ix2 r x)) d := by
  unfold unitRows unit
  pointwise

theorem unitTile_at (u : FVec Ideal S128x256 .f32) (r : Fin 128) (g : Fin 2) (d : Fin 128) :
    unitTile u (ix2 r (⟨128 * g.val + d.val, by omega⟩ : Fin 256)) =
      unit (fun x => u (ix2 r (⟨128 * g.val + x.val, by omega⟩ : Fin 256))) d := by
  have h0 := unitRows_at (extractStridedSlice S128x128 ![0, 0] u slices_S128x256_o0_0_S128x128) r d
  have h1 := unitRows_at (extractStridedSlice S128x128 ![0, 128] u slices_S128x256_o0_128_S128x128) r d
  unfold unitTile
  generalize unitRows (extractStridedSlice S128x128 ![0, 0] u slices_S128x256_o0_0_S128x128) = a at h0 ⊢
  generalize unitRows (extractStridedSlice S128x128 ![0, 128] u slices_S128x256_o0_128_S128x128) = b at h1 ⊢
  fin_cases g
  · refine .trans ?_ (h0.trans ?_)
    · pointwise
    · refine congrArg (fun o => unit o d) (funext fun x => ?_)
      pointwise
  · refine .trans ?_ (h1.trans ?_)
    · pointwise
    · refine congrArg (fun o => unit o d) (funext fun x => ?_)
      pointwise

end Cert.Kernel9Ideal.Gen

end
-- ==== Proof.QueryKeyStores.lean ====
/- The stores of a grid point of the kernel of q and k of the delta rule. -/
module

public import proofs.«01_k».proof.Proof.QueryKeyKernel

@[expose] public section

set_option maxRecDepth 16384

noncomputable section

namespace Cert.Kernel9Ideal.Gen

open Cert.Kernel9Ideal Idealize.ShloMosaic Idealize.ShloMosaic.TcCoe Idealize.SL.Sem

variable {F : FTy → Type} [FloatOps F]

theorem stores (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S3x512 .f32) (harg4 : arg4.IsWhole) (arg5 : Memref sig .tc .vmem S1024x512 .bf16) (harg5 : arg5.IsWhole) (arg6 : Memref sig .tc .vmem S2x1x144x256 .f32) (harg6 : arg6.IsWhole)
    (x0 : Vec F S1024x2048 .bf16) (x1 : Vec F S2048x512 .bf16) (x2 : Vec F S3x512 .f32) :
    (kernelRun0_A (F := F) c i arg2 harg2 arg3 harg3 arg4 harg4 arg5 harg5 arg6 harg6 x0 x1 x2).1 =
    pieces arg6.view (arg2.view.read (Elt F) (harg2.unread x0)) (arg3.view.read (Elt F) (harg3.unread x1)) (arg4.view.read (Elt F) (harg4.unread x2)) := by
  sl_kernel_rfl

end Cert.Kernel9Ideal.Gen

end
-- ==== Proof.QueryKeyTiles.lean ====
/- The tiles of q and k of the delta rule: the products kept in scratch memory, read back, are a block of the result. -/
module

public import proofs.«01_k».proof.Proof.QueryKeyKernel

@[expose] public section

set_option maxRecDepth 16384

noncomputable section

namespace Cert.Kernel9Ideal.Gen

open Cert.Kernel9Ideal Idealize.ShloMosaic Idealize.ShloMosaic.TcCoe Idealize.SL.Sem

open Reference8Ideal.Value (taps)
open Reference9Ideal.Value (gate unit)

section

variable (s : Fin 2) (p : Vec Ideal S1x1x128x256 .f32) (L : List (View.Piece (Elt Ideal) S2x1x144x256 .f32))

omit s p in
/-- A store elsewhere along axis `a` leaves an entry. -/
theorem skip (o n : Fin S2x1x144x256.rank → Nat) (inb : ∀ a, o a + n a ≤ S2x1x144x256.size a)
    (z : (Rect.unit (s := S2x1x144x256) o n inb).shape.Idx → Elt Ideal .f32) (y : S2x1x144x256.Idx) (a : Fin S2x1x144x256.rank)
    (h : ¬(o a ≤ (y a).val ∧ (y a).val < o a + n a)) :
    View.canon ((⟨Rect.unit o n inb, z⟩ : View.Piece (Elt Ideal) S2x1x144x256 .f32) :: L) y = View.canon L y :=
  View.canon_cons_of_not_mem _ _ fun hm => h ((Rect.mem_set_unit (inb := inb)).mp hm a)

/-- Entries of the other slot are as before. -/
theorem kept_other (s' : Fin 2) (r : Fin 144) (e : Fin 256) (hne : s' ≠ s) :
    View.canon (kept s p L) (ix4 s' (0 : Fin 1) r e) = View.canon L (ix4 s' (0 : Fin 1) r e) := by
  have h : ¬(s.val ≤ s'.val ∧ s'.val < s.val + 1) := fun h => hne (Fin.ext (by omega))
  unfold kept
  refine (skip _ _ _ _ _ _ 0 h).trans ?_
  refine (skip _ _ _ _ _ _ 0 h).trans ?_
  exact skip _ _ _ _ _ _ 0 h

/-- A kept tile's own entries. -/
theorem kept_own (r : Fin 128) (e : Fin 256) :
    View.canon (kept s p L) (ix4 s (0 : Fin 1) (⟨8 + r.val, by omega⟩ : Fin 144) e) = p (ix4 (0 : Fin 1) (0 : Fin 1) r e) := by
  unfold kept
  refine (skip _ _ _ _ _ _ 2 ?_).trans ?_
  · show ¬(136 ≤ 8 + r.val ∧ 8 + r.val < 136 + 1)
    omega
  · have hi : (ix4 s (0 : Fin 1) (⟨8 + r.val, by omega⟩ : Fin 144) e : S2x1x144x256.Idx) =
        (Rect.unit (s := S2x1x144x256) ![s.val, 0, 8, 0] S1x1x128x256.size (kept_inb s 8 128 (by omega))).emb
          (ix4 (0 : Fin 1) (0 : Fin 1) r e) := by
      funext d
      fin_cases d <;> apply Fin.ext <;> simp [ix4, Rect.emb, Rect.unit]
    rw [hi]
    exact View.canon_cons_emb _ _ _ _

end

/-- Tile `k` is still kept when it is read, after the next tile's products. -/
theorem hist_at (P : Nat → Vec Ideal S1x1x128x256 .f32) (k : Nat) (hk : k < 16) (r : Fin 128) (e : Fin 256) :
    View.canon (hist P (min (k + 1) 15)) (ix4 (⟨k % 2, Nat.mod_lt _ (by omega)⟩ : Fin 2) (0 : Fin 1) (⟨8 + r.val, by omega⟩ : Fin 144) e) =
      P k (ix4 (0 : Fin 1) (0 : Fin 1) r e) := by
  have own : ∀ k : Nat, View.canon (hist P k) (ix4 (⟨k % 2, Nat.mod_lt _ (by omega)⟩ : Fin 2) (0 : Fin 1) (⟨8 + r.val, by omega⟩ : Fin 144) e) =
      P k (ix4 (0 : Fin 1) (0 : Fin 1) r e) := fun k => by
    cases k with
    | zero => exact kept_own 0 _ _ r e
    | succ k => exact kept_own _ _ _ r e
  rcases (show k = 15 ∨ k < 15 by omega) with rfl | h7
  · exact own 15
  · rw [show min (k + 1) 15 = k + 1 by omega]
    refine (kept_other _ _ _ _ _ e ?_).trans (own k)
    intro h
    have := congrArg Fin.val h
    simp at this
    omega

/-- Convolved from the kept tile. -/
theorem mixed_at (v : View sig .tc .vmem S2x1x144x256 .f32) (L : List (View.Piece (Elt Ideal) S2x1x144x256 .f32)) (cw : Vec Ideal S3x256 .f32)
    (s : Fin 2) (q : Vec Ideal S1x1x128x256 .f32)
    (hq : ∀ (r : Fin 128) (e : Fin 256), View.canon L (ix4 s (0 : Fin 1) (⟨8 + r.val, by omega⟩ : Fin 144) e) = q (ix4 (0 : Fin 1) (0 : Fin 1) r e))
    (r : Fin 128) (e : Fin 256) :
    mixed cw (readBack v L s 8 (by omega)) (readBack v L s 7 (by omega)) (readBack v L s 9 (by omega)) r e =
      taps (fun k => q (ix4 (0 : Fin 1) (0 : Fin 1) (⟨64 * (r.val / 64) + k.val, by omega⟩ : Fin 128) e)) (⟨r.val % 64, by omega⟩ : Fin 64)
        (cw (ix2 (0 : Fin 3) e)) (cw (ix2 (1 : Fin 3) e)) (cw (ix2 (2 : Fin 3) e)) := by
  have rd : ∀ (o : Nat) (ho : o + 128 ≤ 144) (z : Fin 128) (hz : 8 + z.val = o + r.val),
      readBack v L s o ho (ix4 (0 : Fin 1) (0 : Fin 1) r e) = q (ix4 (0 : Fin 1) (0 : Fin 1) z e) := fun o ho z hz => by
    unfold readBack
    rw [View.readCov_eq_canon']
    refine Eq.trans (congrArg (View.canon L) ?_) (hq z e)
    funext d
    fin_cases d <;> apply Fin.ext <;> simp [ix4, LoadRect.idx, Rect.unit] <;> omega
  unfold mixed taps
  refine congrArg₂ (fun a b : EReal => a + b) (congrArg₂ (fun a b : EReal => a + b) ?_ ?_) ?_
  · refine congrArg (fun a : EReal => a * _) ?_
    dsimp only
    split
    · rfl
    · exact rd 7 _ _ (by simp; omega)
  · refine congrArg (fun a : EReal => a * _) ?_
    exact rd 8 _ _ (by simp; omega)
  · refine congrArg (fun a : EReal => a * _) ?_
    dsimp only
    split
    · rfl
    · exact rd 9 _ _ (by simp; omega)

/-- An entry of a block, convolved. -/
def entry (h : Vec Ideal S1024x2048 .bf16) (w : Vec Ideal S2048x512 .bf16) (c : Vec Ideal S3x512 .f32) (i : Fin 1024) (e : Fin 512) : EReal :=
  taps (fun q => (∑ k : Fin 2048, h (ix2 (⟨64 * (i.val / 64) + q.val, by omega⟩ : Fin 1024) k) * w (ix2 k e) : EReal))
    (⟨i.val % 64, by omega⟩ : Fin 64) (c (ix2 (0 : Fin 3) e)) (c (ix2 (1 : Fin 3) e)) (c (ix2 (2 : Fin 3) e))

variable (v : View sig .tc .vmem S2x1x144x256 .f32) (h : Vec Ideal S1024x2048 .bf16) (w : Vec Ideal S2048x512 .bf16)
  (c : Vec Ideal S3x512 .f32)

/-- The convolved entry of tile `k` that the scratch memory gives. -/
def mixedOf (k : Nat) (r : Fin 128) (e : Fin 256) : EReal :=
  mixed (tapPart c (colOf k)) (readBack v (hist (products h w) (min (k + 1) 15)) ⟨k % 2, Nat.mod_lt _ (by omega)⟩ 8 (by omega))
    (readBack v (hist (products h w) (min (k + 1) 15)) ⟨k % 2, Nat.mod_lt _ (by omega)⟩ 7 (by omega))
    (readBack v (hist (products h w) (min (k + 1) 15)) ⟨k % 2, Nat.mod_lt _ (by omega)⟩ 9 (by omega)) r e

theorem mixed_entry (k : Nat) (hk : k < 16) (r : Fin 128) (e : Fin 256) (i : Fin 1024) (x : Fin 512)
    (y0 : i.val = 128 * (rowOf k).val + r.val) (y1 : x.val = 256 * (colOf k).val + e.val) :
    mixedOf v h w c k r e = entry h w c i x := by
  have htap : ∀ o : Fin 3, tapPart c (colOf k) (ix2 o e) = c (ix2 o x) := fun o => by
    unfold tapPart
    refine congrArg c (funext fun d => ?_)
    fin_cases d <;> apply Fin.ext <;> simp [Rect.unit, ix2, y1]
  have hcol : ∀ o : Fin 2048, colPart w (colOf k) (ix2 o e) = w (ix2 o x) := fun o => by
    unfold colPart
    refine congrArg w (funext fun d => ?_)
    fin_cases d <;> apply Fin.ext <;> simp [Rect.unit, ix2, y1]
  have hrow : ∀ (r : Fin 128) (z : Fin 1024) (hz : z.val = 128 * (rowOf k).val + r.val) (o : Fin 2048),
      rowPart h (rowOf k) (ix2 r o) = h (ix2 z o) := fun r z hz o => by
    unfold rowPart
    refine congrArg h (funext fun d => ?_)
    fin_cases d <;> apply Fin.ext <;> simp [Rect.unit, ix2, hz]
  unfold mixedOf
  refine (mixed_at v _ _ _ (products h w k) (fun r e => hist_at (products h w) k hk r e) r e).trans ?_
  unfold entry
  rw [htap, htap, htap, show (⟨i.val % 64, by omega⟩ : Fin 64) = ⟨r.val % 64, by omega⟩ from Fin.ext (by simp [y0]; omega)]
  refine congrArg (fun f => taps f _ _ _ _) (funext fun q => ?_)
  unfold products
  refine (product_at _ _ _ _).trans (Finset.sum_congr rfl fun o _ => ?_)
  exact congrArg₂ (fun u v : EReal => u * v) (hrow _ _ (by simp [y0]; omega) o) (hcol o)

/-- A block of the result. -/
def block : Vec Ideal S1024x512 .bf16 := fun y =>
  unit (fun x => gate (entry h w c (y 0) (⟨128 * ((y 1).val / 128) + x.val, by have : (y 1).val < 512 := (y 1).isLt; omega⟩ : Fin 512)))
    (⟨(y 1).val % 128, by omega⟩ : Fin 128)

theorem tile_block (k : Nat) (hk : k < 16) (x : S128x256.Idx) : stored v h w c k x = block h w c ((place k).emb x) := by
  have y0 : ((place k).emb x 0).val = 128 * (rowOf k).val + (x 0).val := congrArg (fun z => 128 * (rowOf k).val + z) (Nat.one_mul _)
  have y1 : ((place k).emb x 1).val = 256 * (colOf k).val + (x 1).val := congrArg (fun z => 256 * (colOf k).val + z) (Nat.one_mul _)
  generalize (place k).emb x = y at y0 y1
  have x1 : (x 1).val < 256 := (x 1).isLt
  rw [← ix2_eta x, show x 1 = (⟨128 * (⟨(x 1).val / 128, by omega⟩ : Fin 2).val + (⟨(x 1).val % 128, by omega⟩ : Fin 128).val, by dsimp only; omega⟩ : Fin 256) from
    Fin.ext (by dsimp only; omega)]
  refine (unitTile_at _ (x 0) _ _).trans ?_
  unfold block
  rw [show (⟨(y 1).val % 128, by omega⟩ : Fin 128) = ⟨(x 1).val % 128, by omega⟩ from Fin.ext (by simp [y1]; omega)]
  refine congrArg (fun o => unit o _) (funext fun z => ?_)
  refine (act_at _ _ _ _ (x 0) _).trans (congrArg gate ?_)
  exact mixed_entry v h w c k hk (x 0) _ (y 0) _ y0 (by dsimp only; omega)

theorem pieces_at : View.canon (pieces v h w c) = block h w c := by
  funext y
  refine View.canon_apply_of_pieces (Val := Elt Ideal) (block h w c) _ ?_ y (pieces_cover v h w c y)
  intro p hp x
  unfold pieces at hp
  obtain ⟨n, rfl⟩ := List.mem_ofFn.mp hp
  exact tile_block v h w c _ (by omega) x

end Cert.Kernel9Ideal.Gen

end
-- ==== Proof.QueryKeyArrays.lean ====
/- The kernel of q and k of the delta rule: each grid point's block of the result is the reference's. -/
module

public import proofs.«01_k».proof.Proof.QueryKeyStores
public import proofs.«01_k».proof.Proof.QueryKeyTiles
public import proofs.«01_k».proof.Proof.Gen.Kernel9Ideal.Value

@[expose] public section

set_option maxRecDepth 16384

noncomputable section

namespace Cert.Kernel9Ideal.Value

open Cert.Kernel9Ideal Cert.Kernel9Ideal.Gen Idealize.ShloMosaic Idealize.ShloMosaic.TcCoe Idealize.SL.Sem
open Idealize.ShloMosaic.Pipeline (Dat)
open Reference8Ideal.Value (taps)
open Reference9Ideal.Value (product padded convolved rectified gate unit heads normed heads_at normed_at)

variable (m : (ℓ : Loc nD τ sig) → Buf (Elt Ideal) ℓ) (c : Dev nD)

theorem outs (t : Fin cfg0.N) : outsAt0 m c t = block (iblk m c 0 t) (X0_1 m c t) (iblk m c 2 t) := by
  unfold outsAt0
  unfold out0_A_3
  refine (View.read_writes_junk_eq_canon _ _).trans ?_
  rw [stores, pieces_at]
  simp only [Memref.IsWhole.read_unread]

/-- The grid point whose columns are block `j` and whose rows are block `n`. -/
def pt (j : Fin 8) (n : Fin 16) : Fin cfg0.N :=
  ⟨16 * j.val + n.val, lt_of_lt_of_eq (by omega : 16 * j.val + n.val < 128) N_0.symm⟩

theorem point_eq (t : Fin cfg0.N) : ∃ j n, t = pt j n := by
  have ht : t.val < 128 := lt_of_lt_of_eq t.isLt N_0
  exact ⟨⟨t.val / 16, by omega⟩, ⟨t.val % 16, by omega⟩, Fin.ext (by show t.val = 16 * (t.val / 16) + t.val % 16; omega)⟩

theorem index : ∀ (j : Fin 8) (n : Fin 16),
    win0_0.index (pt j n) = ![n.val, 0] ∧ win0_1.index (pt j n) = ![0, 12 + j.val] ∧
    win0_2.index (pt j n) = ![0, j.val] ∧ win0_3.index (pt j n) = ![n.val, j.val] := by
  decide +kernel

/-- Row `i` of row block `n`, column `e` of column block `j`, and that column among those of q, k and v. -/
def rowIn (n : Fin 16) (i : Fin 1024) : Fin 16384 := ⟨1024 * n.val + i.val, by omega⟩
def colIn (j : Fin 8) (e : Fin 512) : Fin 4096 := ⟨512 * j.val + e.val, by omega⟩
def colOfAll (j : Fin 8) (e : Fin 512) : Fin 6144 := ⟨512 * j.val + e.val, by omega⟩

theorem host_stream (r : Fin 16384) (k : Fin 2048) :
    V m c (Pipeline.arrRef spec0 0) (ix2 r k) = m ((c : Thread nD τ).loc main_arg0) (ix2 r k) := by
  unfold V
  after_reads_at

theorem host_weight (k : Fin 2048) (e : Fin 18496) :
    V m c (Pipeline.arrRef spec0 1) (ix2 k e) = m ((c : Thread nD τ).loc main_arg1) (ix2 k e) := by
  unfold V
  after_reads_at

theorem host_taps (o : Fin 3) (e : Fin 6144) :
    V m c (Pipeline.arrRef spec0 2) (ix2 o e) = m ((c : Thread nD τ).loc main_arg2) (ix2 o e) := by
  unfold V
  after_reads_at

variable (j : Fin 8) (n : Fin 16) (i : Fin 1024) (e : Fin 512) (k : Fin 2048) (o : Fin 3)

theorem block_stream : iblk m c 0 (pt j n) (ix2 i k) = m ((c : Thread nD τ).loc main_arg0) (ix2 (rowIn n i) k) := by
  refine .trans ?_ (host_stream m c _ k)
  unfold rowIn
  blk_ext [iblk, (index j n).1]

theorem block_weight : X0_1 m c (pt j n) (ix2 k e) =
    m ((c : Thread nD τ).loc main_arg1) (ix2 k (⟨6144 + (colOfAll j e).val, by omega⟩ : Fin 18496)) := by
  refine .trans ?_ (host_weight m c k _)
  unfold X0_1 Pipeline.Window.fill
  rw [dif_pos (moved0_1 (pt j n) (ix2 k e))]
  unfold colOfAll
  blk_ext [iblk, (index j n).2.1]

theorem block_taps : iblk m c 2 (pt j n) (ix2 o e) = m ((c : Thread nD τ).loc main_arg2) (ix2 o (colOfAll j e)) := by
  refine .trans ?_ (host_taps m c o _)
  unfold colOfAll
  blk_ext [iblk, (index j n).2.2.1]

/-- The reference's rectified convolution over the kernel's arguments. -/
def whole : FVec Ideal Reference9Ideal.S256x64x6144 .f32 :=
  rectified (F := Ideal) (convolved (padded (product (m ((c : Thread nD τ).loc main_arg0)) (m ((c : Thread nD τ).loc main_arg1))))
    (m ((c : Thread nD τ).loc main_arg2)))

theorem taps_congr {f f' : Fin 64 → EReal} {q : Fin 64} {u u' v v' w w' : EReal} (hf : f = f') (hu : u = u') (hv : v = v') (hw : w = w') :
    taps f q u v w = taps f' q u' v' w' := by
  rw [hf, hu, hv, hw]

theorem entry_at : gate (entry (iblk m c 0 (pt j n)) (X0_1 m c (pt j n)) (iblk m c 2 (pt j n)) i e) =
    whole m c (ix3 (⟨16 * n.val + i.val / 64, by omega⟩ : Fin 256) (⟨i.val % 64, by omega⟩ : Fin 64) (colOfAll j e)) := by
  unfold whole
  refine .trans (congrArg gate ?_) (Reference9Ideal.Value.rectified_at _ _ _ _).symm
  refine .trans ?_ (Reference9Ideal.Value.convolved_at _ _ _ (⟨i.val % 64, by omega⟩ : Fin 64) (colOfAll j e)).symm
  unfold entry
  refine taps_congr (funext fun q => ?_) (block_taps m c j n e 0) (block_taps m c j n e 1) (block_taps m c j n e 2)
  refine .trans ?_ (Reference9Ideal.Value.product_at _ _ _ _).symm
  refine Finset.sum_congr rfl fun k _ => congrArg₂ (fun u v : EReal => u * v) ?_ (block_weight m c j n e k)
  refine (block_stream m c j n _ k).trans ?_
  refine congrArg (fun r => m ((c : Thread nD τ).loc main_arg0) (ix2 r k)) (Fin.ext ?_)
  unfold rowIn
  dsimp only
  omega

/-- The reference's result over the kernel's arguments. -/
def result : FVec Ideal Reference9Ideal.S16384x4096 .bf16 := normed (F := Ideal) (heads (whole m c))

theorem entry_of (y : S1024x512.Idx) (q : S16384x4096.Idx) (hr : (q 0).val = 1024 * n.val + (y 0).val)
    (he : (q 1).val = 512 * j.val + (y 1).val) : q = ix2 (rowIn n (y 0)) (colIn j (y 1)) := by
  funext d
  fin_cases d
  · exact Fin.ext hr
  · exact Fin.ext he

theorem row_split (y0 : Fin 1024) : rowIn n y0 = (⟨64 * (⟨16 * n.val + y0.val / 64, by omega⟩ : Fin 256).val +
    (⟨y0.val % 64, by omega⟩ : Fin 64).val, by dsimp only; omega⟩ : Fin 16384) :=
  Fin.ext (by unfold rowIn; dsimp only; omega)

theorem block_result (y : S1024x512.Idx) (q : S16384x4096.Idx) (hr : (q 0).val = 1024 * n.val + (y 0).val)
    (he : (q 1).val = 512 * j.val + (y 1).val) : (dats m 0 c).after 3 (pt j n) y = result m c q := by
  rw [after0_3, outs, entry_of j n y q hr he]
  have y1 : (y 1).val < 512 := (y 1).isLt
  unfold block result
  rw [row_split n (y 0), show colIn j (y 1) = (⟨128 * (⟨4 * j.val + (y 1).val / 128, by omega⟩ : Fin 32).val +
      (⟨(y 1).val % 128, by omega⟩ : Fin 128).val, by dsimp only; omega⟩ : Fin 4096) from Fin.ext (by unfold colIn; dsimp only; omega)]
  refine .trans ?_ (normed_at _ _ _ (⟨(y 1).val % 128, by omega⟩ : Fin 128)).symm
  refine congrArg (fun o => unit o _) (funext fun x => ?_)
  refine .trans (entry_at m c j n (y 0) _) (.trans ?_ (heads_at _ _ (⟨(y 0).val % 64, by omega⟩ : Fin 64) _ x).symm)
  exact congrArg (fun z => whole m c (ix3 _ _ z)) (Fin.ext (by unfold colOfAll; dsimp only; omega))

attribute [irreducible] result

/-- The kernel's result is the reference's. -/
theorem array : (dats m 0 c).arrAt 3 cfg0.N = result m c := by
  refine (dats m 0 c).arrAt_eq_of_covers 3 (result m c) (by decide +kernel) fun t hf y => ?_
  obtain ⟨j, n, rfl⟩ := point_eq t
  refine block_result m c j n y _ ?_ ?_
  · blk_simp [(index j n).2.2.2]
    try omega
  · blk_simp [(index j n).2.2.2]
    try omega

end Cert.Kernel9Ideal.Value

end
-- ==== Proof.ValuesReference.lean ====
/- The reference of v of the delta rule, read at an entry. -/
module

public import proofs.«01_k».proof.Proof.Gen.Reference10Ideal.Run
public import proofs.«01_k».proof.Proof.HyenaReference
public import Idealize.ShloMosaic.Lib.Pipeline.ValueKit
public import Idealize.ShloMosaic.Lib.ValueIdxCore
public import Idealize.ShloMosaic.Lib.StableHlo.ReadAt
public import Idealize.ShloMosaic.Lib.KernelVsHost

@[expose] public section

set_option maxRecDepth 16384

noncomputable section

namespace Cert.Reference10Ideal.Value

open Cert.Reference10Ideal Cert.Reference10Ideal.Gen Idealize.ShloMosaic Idealize.ShloMosaic.TcCoe Idealize.SL.Sem Idealize.ShloMosaic.StableHlo

open Reference8Ideal.Value (taps)

section

variable {F : FTy → Type} [FloatOps F]

/-- The projections of q, k and v, side by side. -/
def product (h : FVec F S16384x2048 .bf16) (w : FVec F S2048x18496 .f32) : FVec F S16384x6144 .f32 :=
  extractStridedSlice S16384x6144 ![0, 6144] (Host.dotGeneral dot_S16384x2048_S2048x18496_S16384x18496_1_0_0_1_n_n none (extf .f32 h bitsLt_bf16_f32) w) slices_S16384x18496_S16384x6144_0_6144

/-- The rows of the grid, with a zero row before and after each. -/
def padded (p : FVec F S16384x6144 .f32) : FVec F S256x66x6144 .f32 :=
  pad S256x66x6144 ![0, 1, 0] ![0, 1, 0] ![0, 0, 0] (shapeCast _ p shapeCasts_S16384x6144_S256x64x6144) (sitofp .f32 (constantI S_ 32 0#32)) pads_S256x64x6144_S256x66x6144_000_110_000 h_S_

/-- The convolution of a padded array with three taps, along the rows of the grid. -/
def convolved (u : FVec F S256x66x6144 .f32) (c : FVec F S3x6144 .f32) : FVec F S256x64x6144 .f32 :=
  addf (addf
    (mulf (extractStridedSlice S256x64x6144 ![0, 0, 0] u slices_S256x66x6144_S256x64x6144_0_0_0) (broadcastInDim S256x64x6144 ![0, 1, 2] bcast_S1x1x6144_S256x64x6144_0_1_2 (broadcastInDim S1x1x6144 ![2] bcast_S6144_S1x1x6144_2 (shapeCast _ (extractStridedSlice S1x6144 ![0, 0] c slices_S3x6144_S1x6144_0_0) shapeCasts_S1x6144_S6144))))
    (mulf (extractStridedSlice S256x64x6144 ![0, 1, 0] u slices_S256x66x6144_S256x64x6144_0_1_0) (broadcastInDim S256x64x6144 ![0, 1, 2] bcast_S1x1x6144_S256x64x6144_0_1_2 (broadcastInDim S1x1x6144 ![2] bcast_S6144_S1x1x6144_2 (shapeCast _ (extractStridedSlice S1x6144 ![1, 0] c slices_S3x6144_S1x6144_1_0) shapeCasts_S1x6144_S6144)))))
    (mulf (extractStridedSlice S256x64x6144 ![0, 2, 0] u slices_S256x66x6144_S256x64x6144_0_2_0) (broadcastInDim S256x64x6144 ![0, 1, 2] bcast_S1x1x6144_S256x64x6144_0_1_2 (broadcastInDim S1x1x6144 ![2] bcast_S6144_S1x1x6144_2 (shapeCast _ (extractStridedSlice S1x6144 ![2, 0] c slices_S3x6144_S1x6144_2_0) shapeCasts_S1x6144_S6144))))

/-- Smoothly rectified. -/
def rectified (u : FVec F S256x64x6144 .f32) : FVec F S256x64x6144 .f32 :=
  mulf u (Host.divf (broadcastInDim S256x64x6144 ![] bcast_S_S256x64x6144 (constant S_ .f32 0x3F800000#32)) (addf (broadcastInDim S256x64x6144 ![] bcast_S_S256x64x6144 (constant S_ .f32 0x3F800000#32)) (Host.exp (Host.negf u))))

/-- The columns of v, as rows of the stream. -/
def values (u : FVec F S256x64x6144 .f32) : FVec F S16384x2048 .bf16 :=
  truncf .bf16 (shapeCast _ (extractStridedSlice S256x64x2048 ![0, 0, 4096] u slices_S256x64x6144_S256x64x2048_0_0_4096) shapeCasts_S256x64x2048_S16384x2048) bitsLt_bf16_f32

theorem result_eq (m : (ℓ : Loc nD τ sig) → Buf (Elt F) ℓ) (c : Dev nD) : res_main_v32 m c =
    values (rectified (convolved (padded (product (m ((c.tc : Thread nD τ).loc main_arg0)) (m ((c.tc : Thread nD τ).loc main_arg1))))
      (m ((c.tc : Thread nD τ).loc main_arg2)))) := rfl

end

variable (h : FVec Ideal S16384x2048 .bf16) (w : FVec Ideal S2048x18496 .f32) (c : FVec Ideal S3x6144 .f32)

/-- `u` smoothly rectified. -/
def gate (u : EReal) : EReal := u * Ideal.div 1 (1 + Ideal.exp (-u))

theorem rectified_at (u : FVec Ideal S256x64x6144 .f32) (b : Fin 256) (q : Fin 64) (e : Fin 6144) :
    rectified u (ix3 b q e) = gate (u (ix3 b q e)) := by
  unfold rectified gate
  pointwise

theorem product_at (r : Fin 16384) (e : Fin 6144) :
    product h w (ix2 r e) = (∑ k : Fin 2048, h (ix2 r k) * w (ix2 k (⟨6144 + e.val, by omega⟩ : Fin 18496)) : EReal) := by
  unfold product
  pointwise

theorem padded_inside (p : FVec Ideal S16384x6144 .f32) (b : Fin 256) (q : Fin 66) (e : Fin 6144) (k : Fin 64) (hk : q.val = 1 + k.val) :
    padded p (ix3 b q e) = p (ix2 (⟨64 * b.val + k.val, by omega⟩ : Fin 16384) e) := by
  unfold padded
  rw [pad_apply_of_inside _ _ _ _ _ _ _ _ (ix3 b k e) (fun a => by fin_cases a <;> simp [ix3, hk])]
  pointwise
  exact congrArg p (congrArg (fun z => ix2 z e) (Fin.ext (by simp [Nat.mul_comm])))

theorem padded_outside (p : FVec Ideal S16384x6144 .f32) (b : Fin 256) (q : Fin 66) (e : Fin 6144) (hq : q.val = 0 ∨ q.val = 65) :
    padded p (ix3 b q e) = (0 : EReal) := by
  unfold padded
  rw [pad_apply_of_not_inside _ _ _ _ _ _ _ _ (1 : Fin 3) (by simp [ix3]; omega)]
  pointwise
  simp [FloatOps.sitofp]

theorem convolved_at (p : FVec Ideal S16384x6144 .f32) (b : Fin 256) (q : Fin 64) (e : Fin 6144) :
    convolved (padded p) c (ix3 b q e) =
      taps (fun k => p (ix2 (⟨64 * b.val + k.val, by omega⟩ : Fin 16384) e)) q
        (c (ix2 (0 : Fin 3) e)) (c (ix2 (1 : Fin 3) e)) (c (ix2 (2 : Fin 3) e)) := by
  have hm := padded_inside p b (⟨1 + q.val, by omega⟩ : Fin 66) e q rfl
  have hp : padded p (ix3 b (⟨q.val, by omega⟩ : Fin 66) e) =
      if q.val = 0 then (0 : EReal) else p (ix2 (⟨64 * b.val + (q.val - 1), by omega⟩ : Fin 16384) e) := by
    split
    · exact padded_outside p b _ e (.inl ‹_›)
    · exact padded_inside p b _ e (⟨q.val - 1, by omega⟩ : Fin 64) (by simp; omega)
  have hn : padded p (ix3 b (⟨2 + q.val, by omega⟩ : Fin 66) e) =
      if h : q.val = 63 then (0 : EReal) else p (ix2 (⟨64 * b.val + (q.val + 1), by omega⟩ : Fin 16384) e) := by
    split
    · exact padded_outside p b _ e (.inr (by simp; omega))
    · exact padded_inside p b _ e (⟨q.val + 1, by omega⟩ : Fin 64) (by simp; omega)
  have key : convolved (padded p) c (ix3 b q e) =
      (padded p (ix3 b (⟨q.val, by omega⟩ : Fin 66) e) * c (ix2 (0 : Fin 3) e) +
        padded p (ix3 b (⟨1 + q.val, by omega⟩ : Fin 66) e) * c (ix2 (1 : Fin 3) e) +
        padded p (ix3 b (⟨2 + q.val, by omega⟩ : Fin 66) e) * c (ix2 (2 : Fin 3) e) : EReal) := by
    generalize padded p = u
    unfold convolved
    pointwise
  rw [key, hm, hp, hn]
  rfl

theorem values_at (u : FVec Ideal S256x64x6144 .f32) (b : Fin 256) (q : Fin 64) (e : Fin 2048) :
    values u (ix2 (⟨64 * b.val + q.val, by omega⟩ : Fin 16384) e) = u (ix3 b q (⟨4096 + e.val, by omega⟩ : Fin 6144)) := by
  unfold values
  pointwise

end Cert.Reference10Ideal.Value

end
-- ==== Proof.ValuesKernel.lean ====
/- The kernel of v of the delta rule, a tile at a time. -/
module

public import proofs.«01_k».proof.Proof.Gen.Kernel10Ideal.Frame
public import proofs.«01_k».proof.Proof.ValuesReference

@[expose] public section

set_option maxRecDepth 16384

noncomputable section

namespace Cert.Kernel10Ideal.Gen

open Cert.Kernel10Ideal Idealize.ShloMosaic Idealize.ShloMosaic.TcCoe Idealize.SL.Sem

open Reference8Ideal.Value (taps)
open Reference10Ideal.Value (gate)

/-- The place in its row of the grid that a tile's row has. -/
theorem place_at : ∀ r : Fin 128, k0_pay11 (ix2 r (0 : Fin 1)) = BitVec.ofNat 32 (r.val % 64) := by
  decide +kernel

theorem starts_at : ∀ r : Fin 128, IntOp.cmpi .eq (BitVec.ofNat 32 (r.val % 64)) 0#32 = if r.val % 64 = 0 then 1#1 else 0#1 := by
  decide +kernel

theorem ends_at : ∀ r : Fin 128, IntOp.cmpi .eq (BitVec.ofNat 32 (r.val % 64)) 63#32 = if r.val % 64 = 63 then 1#1 else 0#1 := by
  decide +kernel

theorem product_at (h : Vec Ideal S128x2048 .bf16) (w : Vec Ideal S2048x256 .bf16) (r : Fin 128) (e : Fin 256) :
    k0_pay4 h w (ix4 (0 : Fin 1) (0 : Fin 1) r e) = (∑ k : Fin 2048, h (ix2 r k) * w (ix2 k e) : EReal) := by
  unfold k0_pay4
  pointwise

/-- A convolved entry of a tile. -/
def mixed (cw : Vec Ideal S3x256 .f32) (p prev nxt : Vec Ideal S1x1x128x256 .f32) (r : Fin 128) (e : Fin 256) : EReal :=
  (if r.val % 64 = 0 then 0 else prev (ix4 (0 : Fin 1) (0 : Fin 1) r e)) * cw (ix2 (0 : Fin 3) e) +
    p (ix4 (0 : Fin 1) (0 : Fin 1) r e) * cw (ix2 (1 : Fin 3) e) +
    (if r.val % 64 = 63 then 0 else nxt (ix4 (0 : Fin 1) (0 : Fin 1) r e)) * cw (ix2 (2 : Fin 3) e)

section
variable {F : FTy → Type} [FloatOps F]

/-- A tile from its products and those of the rows before and after. -/
def tile (cw : Vec F S3x256 .f32) (p prev nxt : Vec F S1x1x128x256 .f32) : FVec F S128x256 .bf16 :=
  k0_pay15 cw k0_pay11 (k0_pay12 p) (k0_pay13 prev) k0_pay14 nxt

theorem kept_inb (s : Fin 2) (o n : Nat) (ho : o + n ≤ 144) :
    ∀ a : Fin 4, (![s.val, 0, o, 0] : Fin 4 → Nat) a + (![1, 1, n, 256] : Fin 4 → Nat) a ≤ S2x1x144x256.size a := by
  intro a
  fin_cases a <;> simp [S2x1x144x256] <;> omega

/-- A tile's products kept in the scratch memory, between two rows of zeros. -/
def kept (s : Fin 2) (p : Vec F S1x1x128x256 .f32) (L : List (View.Piece (Elt F) S2x1x144x256 .f32)) :
    List (View.Piece (Elt F) S2x1x144x256 .f32) :=
  ⟨Rect.unit ![s.val, 0, 136, 0] S1x1x1x256.size (kept_inb s 136 1 (by omega)), k0_pay3⟩ ::
  ⟨Rect.unit ![s.val, 0, 8, 0] S1x1x128x256.size (kept_inb s 8 128 (by omega)), p⟩ ::
  ⟨Rect.unit ![s.val, 0, 7, 0] S1x1x1x256.size (kept_inb s 7 1 (by omega)), k0_pay3⟩ :: L

/-- What the scratch memory holds after tile `k`. -/
def hist (p : Nat → Vec F S1x1x128x256 .f32) : Nat → List (View.Piece (Elt F) S2x1x144x256 .f32)
  | 0 => kept 0 (p 0) []
  | k + 1 => kept ⟨(k + 1) % 2, Nat.mod_lt _ (by omega)⟩ (p (k + 1)) (hist p k)

/-- A tile's rows of the stream, its columns of the weight, and of the taps. -/
def rowPart (h : Vec F S1024x2048 .bf16) (i : Fin 8) : Vec F S128x2048 .bf16 :=
  View.ld h (Rect.unit ![128 * i.val, 0] S128x2048.size (fun a => by fin_cases a <;> simp [S1024x2048, S128x2048] <;> omega))

def colPart (w : Vec F S2048x512 .bf16) (j : Fin 2) : Vec F S2048x256 .bf16 :=
  View.ld w (Rect.unit ![0, 256 * j.val] S2048x256.size (fun a => by fin_cases a <;> simp [S2048x512, S2048x256] <;> omega))

def tapPart (c : Vec F S3x512 .f32) (j : Fin 2) : Vec F S3x256 .f32 :=
  View.ld c (Rect.unit ![0, 256 * j.val] S3x256.size (fun a => by fin_cases a <;> simp [S3x512, S3x256] <;> omega))

/-- The row and the column of tile `k` of a block. -/
def rowOf (k : Nat) : Fin 8 := ⟨k % 8, Nat.mod_lt _ (by omega)⟩
def colOf (k : Nat) : Fin 2 := ⟨k / 8 % 2, Nat.mod_lt _ (by omega)⟩

/-- The products of tile `k`. -/
def products (h : Vec F S1024x2048 .bf16) (w : Vec F S2048x512 .bf16) (k : Nat) : Vec F S1x1x128x256 .f32 :=
  k0_pay4 (rowPart h (rowOf k)) (colPart w (colOf k))

/-- A tile read back from the scratch memory, from row `o`. -/
def readBack (v : View sig .tc .vmem S2x1x144x256 .f32) (L : List (View.Piece (Elt F) S2x1x144x256 .f32)) (s : Fin 2) (o : Nat)
    (ho : o + 128 ≤ 144) : Vec F S1x1x128x256 .f32 :=
  v.readCov L (Rect.unit (s := S2x1x144x256) ![s.val, 0, o, 0] S1x1x128x256.size (kept_inb s o 128 ho)).toLoadRect

/-- The tile stored, from what the scratch memory holds. -/
def storedTile (v : View sig .tc .vmem S2x1x144x256 .f32) (L : List (View.Piece (Elt F) S2x1x144x256 .f32)) (cw : Vec F S3x256 .f32) (s : Fin 2) :
    FVec F S128x256 .bf16 :=
  tile cw (readBack v L s 8 (by omega)) (readBack v L s 7 (by omega)) (readBack v L s 9 (by omega))

/-- Stored tile `k`: the next tile's products are kept before it is read. -/
def stored (v : View sig .tc .vmem S2x1x144x256 .f32) (h : Vec F S1024x2048 .bf16) (w : Vec F S2048x512 .bf16) (c : Vec F S3x512 .f32)
    (k : Nat) : FVec F S128x256 .bf16 :=
  storedTile v (hist (products h w) (min (k + 1) 15)) (tapPart c (colOf k)) ⟨k % 2, Nat.mod_lt _ (by omega)⟩

/-- Where tile `k` goes. -/
def place (k : Nat) : Rect S1024x512 :=
  Rect.unit ![128 * (rowOf k).val, 256 * (colOf k).val] S128x256.size
    (fun a => by fin_cases a <;> simp [S1024x512, S128x256] <;> omega)

/-- The stores of a block, the last one's first. -/
def pieces (v : View sig .tc .vmem S2x1x144x256 .f32) (h : Vec F S1024x2048 .bf16) (w : Vec F S2048x512 .bf16) (c : Vec F S3x512 .f32) :
    List (View.Piece (Elt F) S1024x512 .bf16) :=
  List.ofFn fun n : Fin 16 => ⟨place (15 - n.val), stored v h w c (15 - n.val)⟩

theorem pieces_cover (v : View sig .tc .vmem S2x1x144x256 .f32) (h : Vec F S1024x2048 .bf16) (w : Vec F S2048x512 .bf16)
    (c : Vec F S3x512 .f32) (y : S1024x512.Idx) : ∃ p ∈ pieces v h w c, y ∈ p.1.set :=
  View.cover_of_tiledL (pieces v h w c) S128x256.size (by sl_kernel_rfl) y

end

theorem tile_at (cw : Vec Ideal S3x256 .f32) (p prev nxt : Vec Ideal S1x1x128x256 .f32) (r : Fin 128) (e : Fin 256) :
    tile cw p prev nxt (ix2 r e) = gate (mixed cw p prev nxt r e) := by
  have h := place_at r
  unfold tile k0_pay13
  generalize k0_pay11 = z at h ⊢
  unfold k0_pay15 k0_pay12 k0_pay14 gate mixed
  pointwise
  rw [h, starts_at, ends_at, zero_sub]
  split <;> split <;> simp [Scalar.select]

end Cert.Kernel10Ideal.Gen

end
-- ==== Proof.ValuesStores.lean ====
/- The stores of a grid point of the kernel of v of the delta rule. -/
module

public import proofs.«01_k».proof.Proof.ValuesKernel

@[expose] public section

set_option maxRecDepth 16384

noncomputable section

namespace Cert.Kernel10Ideal.Gen

open Cert.Kernel10Ideal Idealize.ShloMosaic Idealize.ShloMosaic.TcCoe Idealize.SL.Sem

variable {F : FTy → Type} [FloatOps F]

theorem stores (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S3x512 .f32) (harg4 : arg4.IsWhole) (arg5 : Memref sig .tc .vmem S1024x512 .bf16) (harg5 : arg5.IsWhole) (arg6 : Memref sig .tc .vmem S2x1x144x256 .f32) (harg6 : arg6.IsWhole)
    (x0 : Vec F S1024x2048 .bf16) (x1 : Vec F S2048x512 .bf16) (x2 : Vec F S3x512 .f32) :
    (kernelRun0_A (F := F) c i arg2 harg2 arg3 harg3 arg4 harg4 arg5 harg5 arg6 harg6 x0 x1 x2).1 =
    pieces arg6.view (arg2.view.read (Elt F) (harg2.unread x0)) (arg3.view.read (Elt F) (harg3.unread x1)) (arg4.view.read (Elt F) (harg4.unread x2)) := by
  sl_kernel_rfl

end Cert.Kernel10Ideal.Gen

end
-- ==== Proof.ValuesTiles.lean ====
/- The tiles of v of the delta rule: the products kept in scratch memory, read back, are a block of the result. -/
module

public import proofs.«01_k».proof.Proof.ValuesKernel

@[expose] public section

set_option maxRecDepth 16384

noncomputable section

namespace Cert.Kernel10Ideal.Gen

open Cert.Kernel10Ideal Idealize.ShloMosaic Idealize.ShloMosaic.TcCoe Idealize.SL.Sem

open Reference8Ideal.Value (taps)
open Reference10Ideal.Value (gate)

section

variable (s : Fin 2) (p : Vec Ideal S1x1x128x256 .f32) (L : List (View.Piece (Elt Ideal) S2x1x144x256 .f32))

omit s p in
/-- A store elsewhere along axis `a` leaves an entry. -/
theorem skip (o n : Fin S2x1x144x256.rank → Nat) (inb : ∀ a, o a + n a ≤ S2x1x144x256.size a)
    (z : (Rect.unit (s := S2x1x144x256) o n inb).shape.Idx → Elt Ideal .f32) (y : S2x1x144x256.Idx) (a : Fin S2x1x144x256.rank)
    (h : ¬(o a ≤ (y a).val ∧ (y a).val < o a + n a)) :
    View.canon ((⟨Rect.unit o n inb, z⟩ : View.Piece (Elt Ideal) S2x1x144x256 .f32) :: L) y = View.canon L y :=
  View.canon_cons_of_not_mem _ _ fun hm => h ((Rect.mem_set_unit (inb := inb)).mp hm a)

/-- Entries of the other slot are as before. -/
theorem kept_other (s' : Fin 2) (r : Fin 144) (e : Fin 256) (hne : s' ≠ s) :
    View.canon (kept s p L) (ix4 s' (0 : Fin 1) r e) = View.canon L (ix4 s' (0 : Fin 1) r e) := by
  have h : ¬(s.val ≤ s'.val ∧ s'.val < s.val + 1) := fun h => hne (Fin.ext (by omega))
  unfold kept
  refine (skip _ _ _ _ _ _ 0 h).trans ?_
  refine (skip _ _ _ _ _ _ 0 h).trans ?_
  exact skip _ _ _ _ _ _ 0 h

/-- A kept tile's own entries. -/
theorem kept_own (r : Fin 128) (e : Fin 256) :
    View.canon (kept s p L) (ix4 s (0 : Fin 1) (⟨8 + r.val, by omega⟩ : Fin 144) e) = p (ix4 (0 : Fin 1) (0 : Fin 1) r e) := by
  unfold kept
  refine (skip _ _ _ _ _ _ 2 ?_).trans ?_
  · show ¬(136 ≤ 8 + r.val ∧ 8 + r.val < 136 + 1)
    omega
  · have hi : (ix4 s (0 : Fin 1) (⟨8 + r.val, by omega⟩ : Fin 144) e : S2x1x144x256.Idx) =
        (Rect.unit (s := S2x1x144x256) ![s.val, 0, 8, 0] S1x1x128x256.size (kept_inb s 8 128 (by omega))).emb
          (ix4 (0 : Fin 1) (0 : Fin 1) r e) := by
      funext d
      fin_cases d <;> apply Fin.ext <;> simp [ix4, Rect.emb, Rect.unit]
    rw [hi]
    exact View.canon_cons_emb _ _ _ _

end

/-- Tile `k` is still kept when it is read, after the next tile's products. -/
theorem hist_at (P : Nat → Vec Ideal S1x1x128x256 .f32) (k : Nat) (hk : k < 16) (r : Fin 128) (e : Fin 256) :
    View.canon (hist P (min (k + 1) 15)) (ix4 (⟨k % 2, Nat.mod_lt _ (by omega)⟩ : Fin 2) (0 : Fin 1) (⟨8 + r.val, by omega⟩ : Fin 144) e) =
      P k (ix4 (0 : Fin 1) (0 : Fin 1) r e) := by
  have own : ∀ k : Nat, View.canon (hist P k) (ix4 (⟨k % 2, Nat.mod_lt _ (by omega)⟩ : Fin 2) (0 : Fin 1) (⟨8 + r.val, by omega⟩ : Fin 144) e) =
      P k (ix4 (0 : Fin 1) (0 : Fin 1) r e) := fun k => by
    cases k with
    | zero => exact kept_own 0 _ _ r e
    | succ k => exact kept_own _ _ _ r e
  rcases (show k = 15 ∨ k < 15 by omega) with rfl | h7
  · exact own 15
  · rw [show min (k + 1) 15 = k + 1 by omega]
    refine (kept_other _ _ _ _ _ e ?_).trans (own k)
    intro h
    have := congrArg Fin.val h
    simp at this
    omega

/-- Convolved from the kept tile. -/
theorem mixed_at (v : View sig .tc .vmem S2x1x144x256 .f32) (L : List (View.Piece (Elt Ideal) S2x1x144x256 .f32)) (cw : Vec Ideal S3x256 .f32)
    (s : Fin 2) (q : Vec Ideal S1x1x128x256 .f32)
    (hq : ∀ (r : Fin 128) (e : Fin 256), View.canon L (ix4 s (0 : Fin 1) (⟨8 + r.val, by omega⟩ : Fin 144) e) = q (ix4 (0 : Fin 1) (0 : Fin 1) r e))
    (r : Fin 128) (e : Fin 256) :
    mixed cw (readBack v L s 8 (by omega)) (readBack v L s 7 (by omega)) (readBack v L s 9 (by omega)) r e =
      taps (fun k => q (ix4 (0 : Fin 1) (0 : Fin 1) (⟨64 * (r.val / 64) + k.val, by omega⟩ : Fin 128) e)) (⟨r.val % 64, by omega⟩ : Fin 64)
        (cw (ix2 (0 : Fin 3) e)) (cw (ix2 (1 : Fin 3) e)) (cw (ix2 (2 : Fin 3) e)) := by
  have rd : ∀ (o : Nat) (ho : o + 128 ≤ 144) (z : Fin 128) (hz : 8 + z.val = o + r.val),
      readBack v L s o ho (ix4 (0 : Fin 1) (0 : Fin 1) r e) = q (ix4 (0 : Fin 1) (0 : Fin 1) z e) := fun o ho z hz => by
    unfold readBack
    rw [View.readCov_eq_canon']
    refine Eq.trans (congrArg (View.canon L) ?_) (hq z e)
    funext d
    fin_cases d <;> apply Fin.ext <;> simp [ix4, LoadRect.idx, Rect.unit] <;> omega
  unfold mixed taps
  refine congrArg₂ (fun a b : EReal => a + b) (congrArg₂ (fun a b : EReal => a + b) ?_ ?_) ?_
  · refine congrArg (fun a : EReal => a * _) ?_
    dsimp only
    split
    · rfl
    · exact rd 7 _ _ (by simp; omega)
  · refine congrArg (fun a : EReal => a * _) ?_
    exact rd 8 _ _ (by simp; omega)
  · refine congrArg (fun a : EReal => a * _) ?_
    dsimp only
    split
    · rfl
    · exact rd 9 _ _ (by simp; omega)

/-- An entry of a block, convolved. -/
def entry (h : Vec Ideal S1024x2048 .bf16) (w : Vec Ideal S2048x512 .bf16) (c : Vec Ideal S3x512 .f32) (i : Fin 1024) (e : Fin 512) : EReal :=
  taps (fun q => (∑ k : Fin 2048, h (ix2 (⟨64 * (i.val / 64) + q.val, by omega⟩ : Fin 1024) k) * w (ix2 k e) : EReal))
    (⟨i.val % 64, by omega⟩ : Fin 64) (c (ix2 (0 : Fin 3) e)) (c (ix2 (1 : Fin 3) e)) (c (ix2 (2 : Fin 3) e))

variable (v : View sig .tc .vmem S2x1x144x256 .f32) (h : Vec Ideal S1024x2048 .bf16) (w : Vec Ideal S2048x512 .bf16)
  (c : Vec Ideal S3x512 .f32)

/-- The convolved entry of tile `k` that the scratch memory gives. -/
def mixedOf (k : Nat) (r : Fin 128) (e : Fin 256) : EReal :=
  mixed (tapPart c (colOf k)) (readBack v (hist (products h w) (min (k + 1) 15)) ⟨k % 2, Nat.mod_lt _ (by omega)⟩ 8 (by omega))
    (readBack v (hist (products h w) (min (k + 1) 15)) ⟨k % 2, Nat.mod_lt _ (by omega)⟩ 7 (by omega))
    (readBack v (hist (products h w) (min (k + 1) 15)) ⟨k % 2, Nat.mod_lt _ (by omega)⟩ 9 (by omega)) r e

theorem mixed_entry (k : Nat) (hk : k < 16) (r : Fin 128) (e : Fin 256) (i : Fin 1024) (x : Fin 512)
    (y0 : i.val = 128 * (rowOf k).val + r.val) (y1 : x.val = 256 * (colOf k).val + e.val) :
    mixedOf v h w c k r e = entry h w c i x := by
  have htap : ∀ o : Fin 3, tapPart c (colOf k) (ix2 o e) = c (ix2 o x) := fun o => by
    unfold tapPart
    refine congrArg c (funext fun d => ?_)
    fin_cases d <;> apply Fin.ext <;> simp [Rect.unit, ix2, y1]
  have hcol : ∀ o : Fin 2048, colPart w (colOf k) (ix2 o e) = w (ix2 o x) := fun o => by
    unfold colPart
    refine congrArg w (funext fun d => ?_)
    fin_cases d <;> apply Fin.ext <;> simp [Rect.unit, ix2, y1]
  have hrow : ∀ (r : Fin 128) (z : Fin 1024) (hz : z.val = 128 * (rowOf k).val + r.val) (o : Fin 2048),
      rowPart h (rowOf k) (ix2 r o) = h (ix2 z o) := fun r z hz o => by
    unfold rowPart
    refine congrArg h (funext fun d => ?_)
    fin_cases d <;> apply Fin.ext <;> simp [Rect.unit, ix2, hz]
  unfold mixedOf
  refine (mixed_at v _ _ _ (products h w k) (fun r e => hist_at (products h w) k hk r e) r e).trans ?_
  unfold entry
  rw [htap, htap, htap, show (⟨i.val % 64, by omega⟩ : Fin 64) = ⟨r.val % 64, by omega⟩ from Fin.ext (by simp [y0]; omega)]
  refine congrArg (fun f => taps f _ _ _ _) (funext fun q => ?_)
  unfold products
  refine (product_at _ _ _ _).trans (Finset.sum_congr rfl fun o _ => ?_)
  exact congrArg₂ (fun u v : EReal => u * v) (hrow _ _ (by simp [y0]; omega) o) (hcol o)

/-- A block of the result. -/
def block : Vec Ideal S1024x512 .bf16 := fun y => gate (entry h w c (y 0) (y 1))

theorem tile_block (k : Nat) (hk : k < 16) (x : S128x256.Idx) : stored v h w c k x = block h w c ((place k).emb x) := by
  have y0 : ((place k).emb x 0).val = 128 * (rowOf k).val + (x 0).val := congrArg (fun z => 128 * (rowOf k).val + z) (Nat.one_mul _)
  have y1 : ((place k).emb x 1).val = 256 * (colOf k).val + (x 1).val := congrArg (fun z => 256 * (colOf k).val + z) (Nat.one_mul _)
  generalize (place k).emb x = y at y0 y1
  rw [← ix2_eta x]
  refine (tile_at _ _ _ _ (x 0) (x 1)).trans ?_
  exact congrArg gate (mixed_entry v h w c k hk (x 0) (x 1) (y 0) (y 1) y0 y1)

theorem pieces_at : View.canon (pieces v h w c) = block h w c := by
  funext y
  refine View.canon_apply_of_pieces (Val := Elt Ideal) (block h w c) _ ?_ y (pieces_cover v h w c y)
  intro p hp x
  unfold pieces at hp
  obtain ⟨n, rfl⟩ := List.mem_ofFn.mp hp
  exact tile_block v h w c _ (by omega) x

end Cert.Kernel10Ideal.Gen

end
-- ==== Proof.ValuesArrays.lean ====
/- The kernel of v of the delta rule: each grid point's block of the result is the reference's. -/
module

public import proofs.«01_k».proof.Proof.ValuesStores
public import proofs.«01_k».proof.Proof.ValuesTiles
public import proofs.«01_k».proof.Proof.Gen.Kernel10Ideal.Value

@[expose] public section

set_option maxRecDepth 16384

noncomputable section

namespace Cert.Kernel10Ideal.Value

open Cert.Kernel10Ideal Cert.Kernel10Ideal.Gen Idealize.ShloMosaic Idealize.ShloMosaic.TcCoe Idealize.SL.Sem
open Idealize.ShloMosaic.Pipeline (Dat)
open Reference8Ideal.Value (taps)
open Reference10Ideal.Value (product padded convolved rectified gate values values_at)

variable (m : (ℓ : Loc nD τ sig) → Buf (Elt Ideal) ℓ) (c : Dev nD)

theorem outs (t : Fin cfg0.N) : outsAt0 m c t = block (iblk m c 0 t) (X0_1 m c t) (iblk m c 2 t) := by
  unfold outsAt0
  unfold out0_A_3
  refine (View.read_writes_junk_eq_canon _ _).trans ?_
  rw [stores, pieces_at]
  simp only [Memref.IsWhole.read_unread]

/-- The grid point whose columns are block `j` and whose rows are block `n`. -/
def pt (j : Fin 4) (n : Fin 16) : Fin cfg0.N :=
  ⟨16 * j.val + n.val, lt_of_lt_of_eq (by omega : 16 * j.val + n.val < 64) N_0.symm⟩

theorem point_eq (t : Fin cfg0.N) : ∃ j n, t = pt j n := by
  have ht : t.val < 64 := lt_of_lt_of_eq t.isLt N_0
  exact ⟨⟨t.val / 16, by omega⟩, ⟨t.val % 16, by omega⟩, Fin.ext (by show t.val = 16 * (t.val / 16) + t.val % 16; omega)⟩

theorem index : ∀ (j : Fin 4) (n : Fin 16),
    win0_0.index (pt j n) = ![n.val, 0] ∧ win0_1.index (pt j n) = ![0, 20 + j.val] ∧
    win0_2.index (pt j n) = ![0, 8 + j.val] ∧ win0_3.index (pt j n) = ![n.val, j.val] := by
  decide +kernel

/-- Row `i` of row block `n`, column `e` of column block `j`, and that column among those of q, k and v. -/
def rowIn (n : Fin 16) (i : Fin 1024) : Fin 16384 := ⟨1024 * n.val + i.val, by omega⟩
def colIn (j : Fin 4) (e : Fin 512) : Fin 2048 := ⟨512 * j.val + e.val, by omega⟩
def colOfAll (j : Fin 4) (e : Fin 512) : Fin 6144 := ⟨4096 + 512 * j.val + e.val, by omega⟩

theorem host_stream (r : Fin 16384) (k : Fin 2048) :
    V m c (Pipeline.arrRef spec0 0) (ix2 r k) = m ((c : Thread nD τ).loc main_arg0) (ix2 r k) := by
  unfold V
  after_reads_at

theorem host_weight (k : Fin 2048) (e : Fin 18496) :
    V m c (Pipeline.arrRef spec0 1) (ix2 k e) = m ((c : Thread nD τ).loc main_arg1) (ix2 k e) := by
  unfold V
  after_reads_at

theorem host_taps (o : Fin 3) (e : Fin 6144) :
    V m c (Pipeline.arrRef spec0 2) (ix2 o e) = m ((c : Thread nD τ).loc main_arg2) (ix2 o e) := by
  unfold V
  after_reads_at

variable (j : Fin 4) (n : Fin 16) (i : Fin 1024) (e : Fin 512) (k : Fin 2048) (o : Fin 3)

theorem block_stream : iblk m c 0 (pt j n) (ix2 i k) = m ((c : Thread nD τ).loc main_arg0) (ix2 (rowIn n i) k) := by
  refine .trans ?_ (host_stream m c _ k)
  unfold rowIn
  blk_ext [iblk, (index j n).1]

theorem block_weight : X0_1 m c (pt j n) (ix2 k e) =
    m ((c : Thread nD τ).loc main_arg1) (ix2 k (⟨6144 + (colOfAll j e).val, by omega⟩ : Fin 18496)) := by
  refine .trans ?_ (host_weight m c k _)
  unfold X0_1 Pipeline.Window.fill
  rw [dif_pos (moved0_1 (pt j n) (ix2 k e))]
  unfold colOfAll
  blk_ext [iblk, (index j n).2.1]

theorem block_taps : iblk m c 2 (pt j n) (ix2 o e) = m ((c : Thread nD τ).loc main_arg2) (ix2 o (colOfAll j e)) := by
  refine .trans ?_ (host_taps m c o _)
  unfold colOfAll
  blk_ext [iblk, (index j n).2.2.1]

/-- The reference's rectified convolution over the kernel's arguments. -/
def whole : FVec Ideal Reference10Ideal.S256x64x6144 .f32 :=
  rectified (F := Ideal) (convolved (padded (product (m ((c : Thread nD τ).loc main_arg0)) (m ((c : Thread nD τ).loc main_arg1))))
    (m ((c : Thread nD τ).loc main_arg2)))

theorem taps_congr {f f' : Fin 64 → EReal} {q : Fin 64} {u u' v v' w w' : EReal} (hf : f = f') (hu : u = u') (hv : v = v') (hw : w = w') :
    taps f q u v w = taps f' q u' v' w' := by
  rw [hf, hu, hv, hw]

theorem entry_at : gate (entry (iblk m c 0 (pt j n)) (X0_1 m c (pt j n)) (iblk m c 2 (pt j n)) i e) =
    whole m c (ix3 (⟨16 * n.val + i.val / 64, by omega⟩ : Fin 256) (⟨i.val % 64, by omega⟩ : Fin 64) (colOfAll j e)) := by
  unfold whole
  refine .trans (congrArg gate ?_) (Reference10Ideal.Value.rectified_at _ _ _ _).symm
  refine .trans ?_ (Reference10Ideal.Value.convolved_at _ _ _ (⟨i.val % 64, by omega⟩ : Fin 64) (colOfAll j e)).symm
  unfold entry
  refine taps_congr (funext fun q => ?_) (block_taps m c j n e 0) (block_taps m c j n e 1) (block_taps m c j n e 2)
  refine .trans ?_ (Reference10Ideal.Value.product_at _ _ _ _).symm
  refine Finset.sum_congr rfl fun k _ => congrArg₂ (fun u v : EReal => u * v) ?_ (block_weight m c j n e k)
  refine (block_stream m c j n _ k).trans ?_
  refine congrArg (fun r => m ((c : Thread nD τ).loc main_arg0) (ix2 r k)) (Fin.ext ?_)
  unfold rowIn
  dsimp only
  omega

/-- The reference's result over the kernel's arguments. -/
def result : FVec Ideal Reference10Ideal.S16384x2048 .bf16 := values (F := Ideal) (whole m c)

theorem entry_of (y : S1024x512.Idx) (q : S16384x2048.Idx) (hr : (q 0).val = 1024 * n.val + (y 0).val)
    (he : (q 1).val = 512 * j.val + (y 1).val) : q = ix2 (rowIn n (y 0)) (colIn j (y 1)) := by
  funext d
  fin_cases d
  · exact Fin.ext hr
  · exact Fin.ext he

theorem row_split (y0 : Fin 1024) : rowIn n y0 = (⟨64 * (⟨16 * n.val + y0.val / 64, by omega⟩ : Fin 256).val +
    (⟨y0.val % 64, by omega⟩ : Fin 64).val, by dsimp only; omega⟩ : Fin 16384) :=
  Fin.ext (by unfold rowIn; dsimp only; omega)

theorem block_result (y : S1024x512.Idx) (q : S16384x2048.Idx) (hr : (q 0).val = 1024 * n.val + (y 0).val)
    (he : (q 1).val = 512 * j.val + (y 1).val) : (dats m 0 c).after 3 (pt j n) y = result m c q := by
  rw [after0_3, outs, entry_of j n y q hr he]
  have y1 : (y 1).val < 512 := (y 1).isLt
  unfold block result
  rw [row_split n (y 0)]
  refine .trans (entry_at m c j n (y 0) (y 1)) (.trans ?_ (values_at _ _ (⟨(y 0).val % 64, by omega⟩ : Fin 64) (colIn j (y 1))).symm)
  exact congrArg (fun z => whole m c (ix3 _ _ z)) (Fin.ext (by unfold colOfAll colIn; dsimp only; omega))

attribute [irreducible] result

/-- The kernel's result is the reference's. -/
theorem array : (dats m 0 c).arrAt 3 cfg0.N = result m c := by
  refine (dats m 0 c).arrAt_eq_of_covers 3 (result m c) (by decide +kernel) fun t hf y => ?_
  obtain ⟨j, n, rfl⟩ := point_eq t
  refine block_result m c j n y _ ?_ ?_
  · blk_simp [(index j n).2.2.2]
    try omega
  · blk_simp [(index j n).2.2.2]
    try omega

end Cert.Kernel10Ideal.Value

end
-- ==== Proof.lean ====
/- The claim: every kernel's frame, its idealization's and its reference's; and that kernel and reference, of the same
   arguments, give the same results. -/
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Arguments
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.DownKernel
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.UpArrays
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.OutKernel
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.GatesKernel
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.MixArrays
public import Idealize.ShloMosaic.Lib.Claim
public import Idealize.ShloMosaic.Lib.Quiescent
public import Idealize.ShloMosaic.Adequacy
public import Idealize.ShloMosaic.Init
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.HyenaArrays
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.HeadGatesReference
public import proofs.«01_k».proof.Proof.HeadGatesKernel
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.QueryKeyArrays
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal.Run
public import proofs.«01_k».proof.Proof.ValuesArrays

@[expose] public section

set_option maxRecDepth 16384

noncomputable section

namespace Cert.Proof

open Idealize.ShloMosaic Idealize.ShloMosaic.TcCoe Idealize.SL.Sem

theorem frame_kernel : Cert.quiescent_Kernel := fun m g _ => Cert.Kernel.Gen.frame m g

theorem frame_ideal : Cert.quiescent_KernelIdeal := fun m g _ => Cert.KernelIdeal.Gen.frame m g

/-- The reference uses no semaphore. -/
theorem frame_reference : Cert.quiescent_ReferenceIdeal := fun m g _ =>
  (θ_run Cert.ReferenceIdeal.defs _ _).mono
    (fun r h => ⟨fun c => (h c).2.2.2.2, sem_eq_zero_of_no_sems (by decide) r.2⟩) (Cert.ReferenceIdeal.Value.run m g)

/-- Both programs end with the model's output rows and states of both directions. -/
theorem equal : Cert.algebraic_KernelIdeal_ReferenceIdeal_pre_finite := fun m g m' g' hp he => by
  refine ⟨_, _, _, _, (θ_run Cert.KernelIdeal.defs _ _).mono
      (fun r h c => ⟨(h c).1.trans (Cert.KernelIdeal.Heads.array_fwd (holds c hp)),
        (h c).2.1.trans (Cert.KernelIdeal.Heads.array_bwd (holds c hp)),
        (h c).2.2.1.trans (Cert.KernelIdeal.Heads.state_fwd (holds c hp)),
        (h c).2.2.2.1.trans (Cert.KernelIdeal.Heads.state_bwd (holds c hp)), (h c).2.2.2.2⟩)
      (Cert.KernelIdeal.Value.run_blocks m g),
    (θ_run Cert.ReferenceIdeal.defs _ _).mono (fun r h c => ?_) (Cert.ReferenceIdeal.Value.run m' g')⟩
  obtain ⟨e0, e1, e2, e3, e4, e5, e6⟩ := he c
  have S := Cert.ReferenceIdeal.Parts.step_last (entry c hp e0 e1 e2 e3 e4 e5 e6)
  exact ⟨(h c).1.trans (Cert.ReferenceIdeal.Parts.result_fwd S), (h c).2.1.trans (Cert.ReferenceIdeal.Parts.result_bwd S),
    (h c).2.2.1.trans (Cert.ReferenceIdeal.Parts.result_state_fwd S),
    (h c).2.2.2.1.trans (Cert.ReferenceIdeal.Parts.result_state_bwd S), (h c).2.2.2.2⟩

theorem frame_down : Cert.quiescent_Kernel2 := fun m g _ => Cert.Kernel2.Gen.frame m g

theorem frame_down_ideal : Cert.quiescent_Kernel2Ideal := fun m g _ => Cert.Kernel2Ideal.Gen.frame m g

theorem frame_down_reference : Cert.quiescent_Reference2Ideal := fun m g _ =>
  (θ_run Cert.Reference2Ideal.defs _ _).mono
    (fun r h => ⟨fun c => (h c).2, sem_eq_zero_of_no_sems (by decide) r.2⟩) (Cert.Reference2Ideal.Value.run m g)

/-- Both programs end with the network's second product, the residual and the last norm. -/
theorem equal_down : Cert.algebraic_Kernel2Ideal_Reference2Ideal := fun m g m' g' _ he => by
  refine ⟨_, (θ_run Cert.Kernel2Ideal.defs _ _).mono
      (fun r h c => ⟨(h c).1.trans (Cert.Kernel2Ideal.Value.array m c), (h c).2⟩) (Cert.Kernel2Ideal.Value.run_blocks m g),
    (θ_run Cert.Reference2Ideal.defs _ _).mono (fun r h c => ⟨(h c).1.trans ?_, (h c).2⟩) (Cert.Reference2Ideal.Value.run m' g')⟩
  obtain ⟨e0, e1, e2, e3, e4⟩ := he c
  rw [e0, e1, e2, e3, e4]
  unfold Cert.Kernel2Ideal.Value.result
  rfl

theorem frame_up : Cert.quiescent_Kernel3 := fun m g _ => Cert.Kernel3.Gen.frame m g

theorem frame_up_ideal : Cert.quiescent_Kernel3Ideal := fun m g _ => Cert.Kernel3Ideal.Gen.frame m g

theorem frame_up_reference : Cert.quiescent_Reference3Ideal := fun m g _ =>
  (θ_run Cert.Reference3Ideal.defs _ _).mono
    (fun r h => ⟨fun c => (h c).2, sem_eq_zero_of_no_sems (by decide) r.2⟩) (Cert.Reference3Ideal.Value.run m g)

/-- Both programs end with the network's gated activations. -/
theorem equal_up : Cert.algebraic_Kernel3Ideal_Reference3Ideal := fun m g m' g' _ he => by
  refine ⟨_, (θ_run Cert.Kernel3Ideal.defs _ _).mono
      (fun r h c => ⟨(h c).1.trans (Cert.Kernel3Ideal.Value.array m c), (h c).2⟩) (Cert.Kernel3Ideal.Value.run_blocks m g),
    (θ_run Cert.Reference3Ideal.defs _ _).mono (fun r h c => ⟨(h c).1.trans ?_, (h c).2⟩) (Cert.Reference3Ideal.Value.run m' g')⟩
  obtain ⟨e0, e1, e2, e3⟩ := he c
  rw [Cert.Reference3Ideal.Value.result_eq, e0, e1, e2, e3]
  unfold Cert.Kernel3Ideal.Value.result
  rfl

theorem frame_out : Cert.quiescent_Kernel4 := fun m g _ => Cert.Kernel4.Gen.frame m g

theorem frame_out_ideal : Cert.quiescent_Kernel4Ideal := fun m g _ => Cert.Kernel4Ideal.Gen.frame m g

theorem frame_out_reference : Cert.quiescent_Reference4Ideal := fun m g _ =>
  (θ_run Cert.Reference4Ideal.defs _ _).mono
    (fun r h => ⟨fun c => (h c).2, sem_eq_zero_of_no_sems (by decide) r.2⟩) (Cert.Reference4Ideal.Value.run m g)

/-- Both programs end with the mixers' output product and the residual. -/
theorem equal_out : Cert.algebraic_Kernel4Ideal_Reference4Ideal := fun m g m' g' _ he => by
  refine ⟨_, (θ_run Cert.Kernel4Ideal.defs _ _).mono
      (fun r h c => ⟨(h c).1.trans (Cert.Kernel4Ideal.Value.array m c), (h c).2⟩) (Cert.Kernel4Ideal.Value.run_blocks m g),
    (θ_run Cert.Reference4Ideal.defs _ _).mono (fun r h c => ⟨(h c).1.trans ?_, (h c).2⟩) (Cert.Reference4Ideal.Value.run m' g')⟩
  obtain ⟨e0, e1, e2, e3⟩ := he c
  rw [e0, e1, e2, e3]
  unfold Cert.Kernel4Ideal.Value.result
  rfl

theorem frame_gates : Cert.quiescent_Kernel5 := fun m g _ => Cert.Kernel5.Gen.frame m g

theorem frame_gates_ideal : Cert.quiescent_Kernel5Ideal := fun m g _ => Cert.Kernel5Ideal.Gen.frame m g

theorem frame_gates_reference : Cert.quiescent_Reference5Ideal := fun m g _ =>
  (θ_run Cert.Reference5Ideal.defs _ _).mono
    (fun r h => ⟨fun c => (h c).2, sem_eq_zero_of_no_sems (by decide) r.2⟩) (Cert.Reference5Ideal.Value.run m g)

/-- Both programs end with the mixers' gates. -/
theorem equal_gates : Cert.algebraic_Kernel5Ideal_Reference5Ideal := fun m g m' g' _ he => by
  refine ⟨_, (θ_run Cert.Kernel5Ideal.defs _ _).mono
      (fun r h c => ⟨(h c).1.trans (Cert.Kernel5Ideal.Value.array m c), (h c).2⟩) (Cert.Kernel5Ideal.Value.run_blocks m g),
    (θ_run Cert.Reference5Ideal.defs _ _).mono (fun r h c => ⟨(h c).1.trans ?_, (h c).2⟩) (Cert.Reference5Ideal.Value.run m' g')⟩
  obtain ⟨e0, e1⟩ := he c
  rw [e0, e1]
  unfold Cert.Kernel5Ideal.Value.result
  rfl

theorem frame_mix : Cert.quiescent_Kernel7 := fun m g _ => Cert.Kernel7.Gen.frame m g

theorem frame_mix_ideal : Cert.quiescent_Kernel7Ideal := fun m g _ => Cert.Kernel7Ideal.Gen.frame m g

theorem frame_mix_reference : Cert.quiescent_Reference7Ideal := fun m g _ =>
  (θ_run Cert.Reference7Ideal.defs _ _).mono
    (fun r h => ⟨fun c => (h c).2, sem_eq_zero_of_no_sems (by decide) r.2⟩) (Cert.Reference7Ideal.Value.run m g)

/-- Both programs end with the merged mixers. -/
theorem equal_mix : Cert.algebraic_Kernel7Ideal_Reference7Ideal := fun m g m' g' _ he => by
  refine ⟨_, (θ_run Cert.Kernel7Ideal.defs _ _).mono
      (fun r h c => ⟨(h c).1.trans (Cert.Kernel7Ideal.Value.array m c), (h c).2⟩) (Cert.Kernel7Ideal.Value.run_blocks m g),
    (θ_run Cert.Reference7Ideal.defs _ _).mono (fun r h c => ⟨(h c).1.trans ?_, (h c).2⟩) (Cert.Reference7Ideal.Value.run m' g')⟩
  obtain ⟨e0, e1, e2, e3, e4, e5, e6, e7, e8, e9, e10⟩ := he c
  rw [e0, e1, e2, e3, e4, e5, e6, e7, e8, e9, e10]
  unfold Cert.Kernel7Ideal.Value.result
  rfl

theorem frame_hyena : Cert.quiescent_Kernel8 := fun m g _ => Cert.Kernel8.Gen.frame m g

theorem frame_hyena_ideal : Cert.quiescent_Kernel8Ideal := fun m g _ => Cert.Kernel8Ideal.Gen.frame m g

theorem frame_hyena_reference : Cert.quiescent_Reference8Ideal := fun m g _ =>
  (θ_run Cert.Reference8Ideal.defs _ _).mono
    (fun r h => ⟨fun c => (h c).2.2, sem_eq_zero_of_no_sems (by decide) r.2⟩) (Cert.Reference8Ideal.Value.run m g)

/-- Both programs end with the Hyena branch's convolved projections. -/
theorem equal_hyena : Cert.algebraic_Kernel8Ideal_Reference8Ideal := fun m g m' g' _ he => by
  refine ⟨_, _, (θ_run Cert.Kernel8Ideal.defs _ _).mono
      (fun r h c => ⟨(h c).1.trans (Cert.Kernel8Ideal.Value.array_first m c), (h c).2.1.trans (Cert.Kernel8Ideal.Value.array_other m c), (h c).2.2⟩)
      (Cert.Kernel8Ideal.Value.run_blocks m g),
    (θ_run Cert.Reference8Ideal.defs _ _).mono (fun r h c => ⟨(h c).1.trans ?_, (h c).2.1.trans ?_, (h c).2.2⟩)
      (Cert.Reference8Ideal.Value.run m' g')⟩
  · obtain ⟨e0, e1, e2⟩ := he c
    rw [e0, e1, e2]
    unfold Cert.Kernel8Ideal.Value.result
    rfl
  · obtain ⟨e0, e1, e2⟩ := he c
    rw [Cert.Reference8Ideal.Value.result_eq, e0, e1, e2]
    unfold Cert.Kernel8Ideal.Value.resultOther
    rfl

theorem frame_head_gates : Cert.quiescent_Kernel6 := fun m g _ => Cert.Kernel6.Gen.frame m g

theorem frame_head_gates_ideal : Cert.quiescent_Kernel6Ideal := fun m g _ => Cert.Kernel6Ideal.Gen.frame m g

theorem frame_head_gates_reference : Cert.quiescent_Reference6Ideal := fun m g _ =>
  (θ_run Cert.Reference6Ideal.defs _ _).mono
    (fun r h => ⟨fun c => (h c).2, sem_eq_zero_of_no_sems (by decide) r.2⟩) (Cert.Reference6Ideal.Value.run m g)

/-- Both programs end with the output gate of the heads. -/
theorem equal_head_gates : Cert.algebraic_Kernel6Ideal_Reference6Ideal := fun m g m' g' _ he => by
  refine ⟨_, (θ_run Cert.Kernel6Ideal.defs _ _).mono
      (fun r h c => ⟨(h c).1.trans (Cert.Kernel6Ideal.Value.array m c), (h c).2⟩) (Cert.Kernel6Ideal.Value.run_blocks m g),
    (θ_run Cert.Reference6Ideal.defs _ _).mono (fun r h c => ⟨(h c).1.trans ?_, (h c).2⟩) (Cert.Reference6Ideal.Value.run m' g')⟩
  obtain ⟨e0, e1⟩ := he c
  rw [e0, e1]
  unfold Cert.Kernel6Ideal.Value.result
  rfl

theorem frame_query_key : Cert.quiescent_Kernel9 := fun m g _ => Cert.Kernel9.Gen.frame m g

theorem frame_query_key_ideal : Cert.quiescent_Kernel9Ideal := fun m g _ => Cert.Kernel9Ideal.Gen.frame m g

theorem frame_query_key_reference : Cert.quiescent_Reference9Ideal := fun m g _ =>
  (θ_run Cert.Reference9Ideal.defs _ _).mono
    (fun r h => ⟨fun c => (h c).2, sem_eq_zero_of_no_sems (by decide) r.2⟩) (Cert.Reference9Ideal.Value.run m g)

/-- Both programs end with q and k, projected, convolved and normed. -/
theorem equal_query_key : Cert.algebraic_Kernel9Ideal_Reference9Ideal := fun m g m' g' _ he => by
  refine ⟨_, (θ_run Cert.Kernel9Ideal.defs _ _).mono
      (fun r h c => ⟨(h c).1.trans (Cert.Kernel9Ideal.Value.array m c), (h c).2⟩) (Cert.Kernel9Ideal.Value.run_blocks m g),
    (θ_run Cert.Reference9Ideal.defs _ _).mono (fun r h c => ⟨(h c).1.trans ?_, (h c).2⟩) (Cert.Reference9Ideal.Value.run m' g')⟩
  obtain ⟨e0, e1, e2⟩ := he c
  rw [Cert.Reference9Ideal.Value.result_eq, e0, e1, e2]
  unfold Cert.Kernel9Ideal.Value.result
  rfl

theorem frame_values : Cert.quiescent_Kernel10 := fun m g _ => Cert.Kernel10.Gen.frame m g

theorem frame_values_ideal : Cert.quiescent_Kernel10Ideal := fun m g _ => Cert.Kernel10Ideal.Gen.frame m g

theorem frame_values_reference : Cert.quiescent_Reference10Ideal := fun m g _ =>
  (θ_run Cert.Reference10Ideal.defs _ _).mono
    (fun r h => ⟨fun c => (h c).2, sem_eq_zero_of_no_sems (by decide) r.2⟩) (Cert.Reference10Ideal.Value.run m g)

/-- Both programs end with v, projected and convolved. -/
theorem equal_values : Cert.algebraic_Kernel10Ideal_Reference10Ideal := fun m g m' g' _ he => by
  refine ⟨_, (θ_run Cert.Kernel10Ideal.defs _ _).mono
      (fun r h c => ⟨(h c).1.trans (Cert.Kernel10Ideal.Value.array m c), (h c).2⟩) (Cert.Kernel10Ideal.Value.run_blocks m g),
    (θ_run Cert.Reference10Ideal.defs _ _).mono (fun r h c => ⟨(h c).1.trans ?_, (h c).2⟩) (Cert.Reference10Ideal.Value.run m' g')⟩
  obtain ⟨e0, e1, e2⟩ := he c
  rw [Cert.Reference10Ideal.Value.result_eq, e0, e1, e2]
  unfold Cert.Kernel10Ideal.Value.result
  rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel6.Gen.facts, Cert.Kernel6Ideal.Gen.facts, Cert.Reference6Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.facts,
    frame_kernel, frame_ideal, fun m g _ => frame_ideal m g trivial, frame_reference, fun m g _ => frame_reference m g trivial,
    frame_down, frame_down_ideal, frame_down_reference,
    frame_up, frame_up_ideal, frame_up_reference,
    frame_out, frame_out_ideal, frame_out_reference,
    frame_gates, frame_gates_ideal, frame_gates_reference,
    frame_mix, frame_mix_ideal, frame_mix_reference,
    frame_hyena, frame_hyena_ideal, frame_hyena_reference,
    frame_head_gates, frame_head_gates_ideal, frame_head_gates_reference,
    frame_query_key, frame_query_key_ideal, frame_query_key_reference,
    frame_values, frame_values_ideal, frame_values_reference,
    trivial, equal, trivial, equal_down, trivial, equal_up, trivial, equal_out, trivial, equal_gates, trivial, equal_mix,
    trivial, equal_hyena,
    trivial, equal_head_gates,
    trivial, equal_query_key,
    trivial, equal_values⟩

end Cert.Proof

end
